-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v70) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_v72) = v3 c
          ∧ r.2.mem ((c.tc : Thread Cert.Reference3Ideal.nD Cert.Reference3Ideal.τ).loc Cert.Reference3Ideal.main_v73) = v4 c
          ∧ r.2.mem ((c.tc : Thread Cert.Reference3Ideal.nD Cert.Reference3Ideal.τ).loc Cert.Reference3Ideal.main_v55) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_v87) = v1 c
          ∧ r.2.mem ((c.tc : Thread Cert.Reference5Ideal.nD Cert.Reference5Ideal.τ).loc Cert.Reference5Ideal.main_v34) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v30) = v2 c
          ∧ r.2.mem ((c.tc : Thread Cert.Reference6Ideal.nD Cert.Reference6Ideal.τ).loc Cert.Reference6Ideal.main_v33) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v33) = v0 c
          ∧ r.2.mem ((c.tc : Thread Cert.Reference13Ideal.nD Cert.Reference13Ideal.τ).loc Cert.Reference13Ideal.main_v32) = v1 c
          ∧ r.2.mem ((c.tc : Thread Cert.Reference13Ideal.nD Cert.Reference13Ideal.τ).loc Cert.Reference13Ideal.main_v46) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn_part1 {F : FTy → Type} [FloatOps F] (main_v16 : IVec S_ 1) (main_v17 : FVec F S4096x1024 .f32) : IVec S_ 1 :=
  let main_cst_4 : FVec F S_ .f32 := constant S_ .f32 0x7F800000#32
  let main_v18 : FVec F S4096x1024 .f32 := broadcastInDim S4096x1024 ![] bcast_S_S4096x1024 main_cst_4
  let main_v19 : IVec S4096x1024 1 := cmpf .olt main_v17 main_v18
  let main_c_5 : IVec S_ 1 := constantI S_ 1 1#1
  let main_v20 : IVec S_ 1 := (fun x v => Host.reduce IntOp.andi x v reducesTo_S4096x1024_S_d0_1 h_S_) main_v19 main_c_5
  let main_v21 : IVec S_ 1 := andi main_v16 main_v20
  main_v21

def fn {F : FTy → Type} [FloatOps F] (main_arg0 : FVec F S4096x1024 .bf16) (main_arg1 : FVec F S4096x1024 .bf16) (main_arg2 : FVec F S4096x1024 .bf16) (main_arg3 : FVec F S4096x1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  let main_v17 : FVec F S4096x1024 .f32 := Host.absf main_arg3
  fn_part1 (F := F) main_v16 main_v17
-- ==== Kernel.lean ====
abbrev S4096x1024 : Shape := ⟨2, ![4096, 1024]⟩
abbrev S36 : Shape := ⟨1, ![36]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8x1 : Shape := ⟨3, ![4096, 8, 1]⟩
abbrev S4096x8 : Shape := ⟨2, ![4096, 8]⟩
abbrev S512x512 : Shape := ⟨2, ![512, 512]⟩
abbrev S1 : Shape := ⟨1, ![1]⟩
abbrev S4096x512 : Shape := ⟨2, ![4096, 512]⟩
abbrev S4x512x128 : Shape := ⟨3, ![4, 512, 128]⟩
abbrev S512x128 : Shape := ⟨2, ![512, 128]⟩
abbrev S1x512x128 : Shape := ⟨3, ![1, 512, 128]⟩
abbrev S4x512x512 : Shape := ⟨3, ![4, 512, 512]⟩
abbrev S1x512x512 : Shape := ⟨3, ![1, 512, 512]⟩
abbrev S4x512x1 : Shape := ⟨3, ![4, 512, 1]⟩

abbrev nBuf : Space → Nat
  | .hbm => 53
  | .vmem => 20
  | .smem => 2
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x8x128, .f32⟩
  | .hbm, ⟨6, _⟩ => ⟨S4096x1024, .f32⟩
  | .hbm, ⟨7, _⟩ => ⟨S4096x8x128, .f32⟩
  | .hbm, ⟨8, _⟩ => ⟨S4096x1024, .f32⟩
  | .hbm, ⟨9, _⟩ => ⟨S4096x8x128, .f32⟩
  | .hbm, ⟨10, _⟩ => ⟨S4096x8x128, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x4096, .i32⟩
  | .hbm, ⟨17, _⟩ => ⟨S4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S8x4096x4096, .i1⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .f32⟩
  | .hbm, ⟨37, _⟩ => ⟨S8x128x4096, .f32⟩
  | .hbm, ⟨38, _⟩ => ⟨S4096x8x128, .f32⟩
  | .hbm, ⟨39, _⟩ => ⟨S8x4096x1, .f32⟩
  | .hbm, ⟨40, _⟩ => ⟨S8x4096x1, .f32⟩
  | .hbm, ⟨41, _⟩ => ⟨S4096x8x1, .f32⟩
  | .hbm, ⟨42, _⟩ => ⟨S4096x8x128, .f32⟩
  | .hbm, ⟨43, _⟩ => ⟨S4096x1024, .f32⟩
  | .hbm, ⟨44, _⟩ => ⟨S4096x8x128, .f32⟩
  | .hbm, ⟨45, _⟩ => ⟨S_, .f32⟩
  | .hbm, ⟨46, _⟩ => ⟨S4096x8, .f32⟩
  | .hbm, ⟨47, _⟩ => ⟨S4096x8x1, .f32⟩
  | .hbm, ⟨48, _⟩ => ⟨S4096x8x128, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S4096x512, .f32⟩
  | .local _ .vmem, ⟨13, _⟩ => ⟨S4096x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S4x512x128, .f32⟩
  | .local _ .vmem, ⟨19, _⟩ => ⟨S4x512x128, .f32⟩
  | .local _ .smem, ⟨0, _⟩ => ⟨S36, .i32⟩
  | .local _ .smem, ⟨1, _⟩ => ⟨S36, .i32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41_0 : Ref sig .tc := ⟨.hbm, 50, rfl⟩
abbrev main_v41_1 : Ref sig .tc := ⟨.hbm, 51, rfl⟩
abbrev main_v41_2 : Ref sig .tc := ⟨.hbm, 52, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v123 : BitVec 32 := Scalar.muli v1 c512_i32
  v123
def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def k0_off2 (v1 : BitVec 32) : Fin 2 → Nat :=
  let c512_i32 : BitVec 32 := 512#32
  let v123 : BitVec 32 := Scalar.muli v1 c512_i32
  let v124 : BitVec 32 := v123
  let v125 : Index := Scalar.indexCast v124
  let c0_75 : Index := 0#32
  ![v125.toNat, 0]
def k0_off3 (v1 : BitVec 32) : Fin 2 → Nat :=
  let c512_i32 : BitVec 32 := 512#32
  let v123 : BitVec 32 := Scalar.muli v1 c512_i32
  let v124 : BitVec 32 := v123
  let v133 : Index := Scalar.indexCast v124
  let c128_77 : Index := 128#32
  ![v133.toNat, 128]
def k0_off4 (v1 : BitVec 32) : Fin 2 → Nat :=
  let c512_i32 : BitVec 32 := 512#32
  let v123 : BitVec 32 := Scalar.muli v1 c512_i32
  let v124 : BitVec 32 := v123
  let v141 : Index := Scalar.indexCast v124
  let c256_79 : Index := 256#32
  ![v141.toNat, 256]
def k0_off5 (v1 : BitVec 32) : Fin 2 → Nat :=
  let c512_i32 : BitVec 32 := 512#32
  let v123 : BitVec 32 := Scalar.muli v1 c512_i32
  let v124 : BitVec 32 := v123
  let v149 : Index := Scalar.indexCast v124
  let c384_81 : Index := 384#32
  ![v149.toNat, 384]
def k0_mult2 (v1 : BitVec 32) : BitVec 32 :=
  let c512_i32 : BitVec 32 := 512#32
  let v108 : BitVec 32 := Scalar.muli v1 c512_i32
  v108
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off6 (v1 : BitVec 32) : Fin 2 → Nat :=
  let c512_i32 : BitVec 32 := 512#32
  let v108 : BitVec 32 := Scalar.muli v1 c512_i32
  let v109 : BitVec 32 := v108
  let v110 : Index := Scalar.indexCast v109
  let c0_66 : Index := 0#32
  ![v110.toNat, 0]
def k0_off7 (v1 : BitVec 32) : Fin 2 → Nat :=
  let c512_i32 : BitVec 32 := 512#32
  let v108 : BitVec 32 := Scalar.muli v1 c512_i32
  let v109 : BitVec 32 := v108
  let v118 : Index := Scalar.indexCast v109
  let c128_68 : Index := 128#32
  ![v118.toNat, 128]
def k0_off8 (v1 : BitVec 32) : Fin 2 → Nat :=
  let c512_i32 : BitVec 32 := 512#32
  let v108 : BitVec 32 := Scalar.muli v1 c512_i32
  let v109 : BitVec 32 := v108
  let v126 : Index := Scalar.indexCast v109
  let c256_70 : Index := 256#32
  ![v126.toNat, 256]
def k0_off9 (v1 : BitVec 32) : Fin 2 → Nat :=
  let c512_i32 : BitVec 32 := 512#32
  let v108 : BitVec 32 := Scalar.muli v1 c512_i32
  let v109 : BitVec 32 := v108
  let v134 : Index := Scalar.indexCast v109
  let c384_72 : Index := 384#32
  ![v134.toNat, 384]

def k0_chk1 (v1 : BitVec 32) (v3 : BitVec 32) : Prop :=
  (∀ (k0_h2 : k0_cond2 v1 v3 = 1#1), 512 ∣ (k0_mult1 v1).toNat) ∧
  (∀ (k0_h2 : k0_cond2 v1 v3 = 1#1), ∀ a, (k0_off2 v1) a + S512x128.size a ≤ S4096x512.size a) ∧
  (∀ (k0_h2 : k0_cond2 v1 v3 = 1#1), ∀ a, (k0_off3 v1) a + S512x128.size a ≤ S4096x512.size a) ∧
  (∀ (k0_h2 : k0_cond2 v1 v3 = 1#1), ∀ a, (k0_off4 v1) a + S512x128.size a ≤ S4096x512.size a) ∧
  (∀ (k0_h2 : k0_cond2 v1 v3 = 1#1), ∀ a, (k0_off5 v1) a + S512x128.size a ≤ S4096x512.size a) ∧
  (∀ (k0_h3 : k0_cond3 v1 v3 = 1#1), 512 ∣ (k0_mult2 v1).toNat) ∧
  (∀ (k0_h3 : k0_cond3 v1 v3 = 1#1), ∀ a, (k0_off6 v1) a + S512x128.size a ≤ S4096x512.size a) ∧
  (∀ (k0_h3 : k0_cond3 v1 v3 = 1#1), ∀ a, (k0_off7 v1) a + S512x128.size a ≤ S4096x512.size a) ∧
  (∀ (k0_h3 : k0_cond3 v1 v3 = 1#1), ∀ a, (k0_off8 v1) a + S512x128.size a ≤ S4096x512.size a) ∧
  (∀ (k0_h3 : k0_cond3 v1 v3 = 1#1), ∀ a, (k0_off9 v1) a + S512x128.size a ≤ S4096x512.size a)
theorem k0_mult1_dvd : ∀ (v1 : BitVec 32) (v3 : BitVec 32) (k0_hw1 : k0_chk1 v1 v3), ∀ (k0_h2 : k0_cond2 v1 v3 = 1#1), 512 ∣ (k0_mult1 v1).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ a, (k0_off2 v1) a + S512x128.size a ≤ S4096x512.size a := fun v1 v3 k0_hw1 k0_h2 => k0_hw1.2.1 k0_h2
theorem k0_off3_inb : ∀ (v1 : BitVec 32) (v3 : BitVec 32) (k0_hw1 : k0_chk1 v1 v3), ∀ (k0_h2 : k0_cond2 v1 v3 = 1#1), ∀ a, (k0_off3 v1) a + S512x128.size a ≤ S4096x512.size a := fun v1 v3 k0_hw1 k0_h2 => k0_hw1.2.2.1 k0_h2
theorem k0_off4_inb : ∀ (v1 : BitVec 32) (v3 : BitVec 32) (k0_hw1 : k0_chk1 v1 v3), ∀ (k0_h2 : k0_cond2 v1 v3 = 1#1), ∀ a, (k0_off4 v1) a + S512x128.size a ≤ S4096x512.size a := fun v1 v3 k0_hw1 k0_h2 => k0_hw1.2.2.2.1 k0_h2
theorem k0_off5_inb : ∀ (v1 : BitVec 32) (v3 : BitVec 32) (k0_hw1 : k0_chk1 v1 v3), ∀ (k0_h2 : k0_cond2 v1 v3 = 1#1), ∀ a, (k0_off5 v1) a + S512x128.size a ≤ S4096x512.size a := fun v1 v3 k0_hw1 k0_h2 => k0_hw1.2.2.2.2.1 k0_h2
theorem k0_mult2_dvd : ∀ (v1 : BitVec 32) (v3 : BitVec 32) (k0_hw1 : k0_chk1 v1 v3), ∀ (k0_h3 : k0_cond3 v1 v3 = 1#1), 512 ∣ (k0_mult2 v1).toNat := fun v1 v3 k0_hw1 k0_h3 => k0_hw1.2.2.2.2.2.1 k0_h3
theorem k0_off6_inb : ∀ (v1 : BitVec 32) (v3 : BitVec 32) (k0_hw1 : k0_chk1 v1 v3), ∀ (k0_h3 : k0_cond3 v1 v3 = 1#1), ∀ a, (k0_off6 v1) a + S512x128.size a ≤ S4096x512.size a := fun v1 v3 k0_hw1 k0_h3 => k0_hw1.2.2.2.2.2.2.1 k0_h3
theorem k0_off7_inb : ∀ (v1 : BitVec 32) (v3 : BitVec 32) (k0_hw1 : k0_chk1 v1 v3), ∀ (k0_h3 : k0_cond3 v1 v3 = 1#1), ∀ a, (k0_off7 v1) a + S512x128.size a ≤ S4096x512.size a := fun v1 v3 k0_hw1 k0_h3 => k0_hw1.2.2.2.2.2.2.2.1 k0_h3
theorem k0_off8_inb : ∀ (v1 : BitVec 32) (v3 : BitVec 32) (k0_hw1 : k0_chk1 v1 v3), ∀ (k0_h3 : k0_cond3 v1 v3 = 1#1), ∀ a, (k0_off8 v1) a + S512x128.size a ≤ S4096x512.size a := fun v1 v3 k0_hw1 k0_h3 => k0_hw1.2.2.2.2.2.2.2.2.1 k0_h3
theorem k0_off9_inb : ∀ (v1 : BitVec 32) (v3 : BitVec 32) (k0_hw1 : k0_chk1 v1 v3), ∀ (k0_h3 : k0_cond3 v1 v3 = 1#1), ∀ a, (k0_off9 v1) a + S512x128.size a ≤ S4096x512.size a := fun v1 v3 k0_hw1 k0_h3 => k0_hw1.2.2.2.2.2.2.2.2.2 k0_h3

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond4 (v1 : BitVec 32) : BitVec 1 :=
  let c7_i32 : BitVec 32 := 7#32
  let v13 : BitVec 1 := Scalar.cmpi .eq v1 c7_i32
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x8x128, .f32⟩
  | .hbm, ⟨6, _⟩ => ⟨S4096x1024, .f32⟩
  | .hbm, ⟨7, _⟩ => ⟨S4096x8x128, .f32⟩
  | .hbm, ⟨8, _⟩ => ⟨S4096x1024, .f32⟩
  | .hbm, ⟨9, _⟩ => ⟨S4096x8x128, .f32⟩
  | .hbm, ⟨10, _⟩ => ⟨S4096x8x128, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x4096, .i32⟩
  | .hbm, ⟨17, _⟩ => ⟨S4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S8x4096x4096, .i1⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .i1⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S_, .f32⟩
  | .hbm, ⟨37, _⟩ => ⟨S8x4096, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .i1⟩
  | .hbm, ⟨42, _⟩ => ⟨S_, .f32⟩
  | .hbm, ⟨43, _⟩ => ⟨S8x4096, .f32⟩
  | .hbm, ⟨44, _⟩ => ⟨S8x4096, .i1⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S8x4096, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S8x4096x4096, .f32⟩
  | .hbm, ⟨61, _⟩ => ⟨S8x4096x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x128x4096, .f32⟩
  | .hbm, ⟨67, _⟩ => ⟨S4096x8x128, .f32⟩
  | .hbm, ⟨68, _⟩ => ⟨S8x128x4096, .f32⟩
  | .hbm, ⟨69, _⟩ => ⟨S8x4096x4096, .f32⟩
  | .hbm, ⟨70, _⟩ => ⟨S8x128x4096, .f32⟩
  | .hbm, ⟨71, _⟩ => ⟨S4096x8x128, .f32⟩
  | .hbm, ⟨72, _⟩ => ⟨S8x4096x4096, .f32⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S8x4096x1, .f32⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096x4096, .f32⟩
  | .hbm, ⟨91, _⟩ => ⟨S8x4096x4096, .f32⟩
  | .hbm, ⟨92, _⟩ => ⟨S8x4096x128, .f32⟩
  | .hbm, ⟨93, _⟩ => ⟨S4096x8x128, .f32⟩
  | .hbm, ⟨94, _⟩ => ⟨S8x4096x128, .f32⟩
  | .hbm, ⟨95, _⟩ => ⟨S4096x8x128, .f32⟩
  | .hbm, ⟨96, _⟩ => ⟨S4096x1024, .f32⟩
  | .hbm, ⟨97, _⟩ => ⟨S4096x1024, .f32⟩
  | .hbm, ⟨98, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S8x3x352x1024 : Shape := ⟨4, ![8, 3, 352, 1024]⟩
abbrev S4096x2816 : Shape := ⟨2, ![4096, 2816]⟩
abbrev S1x128 : Shape := ⟨2, ![1, 128]⟩
abbrev S512x1024 : Shape := ⟨2, ![512, 1024]⟩
abbrev S4x1x352x1024 : Shape := ⟨4, ![4, 1, 352, 1024]⟩
abbrev S512x1408 : Shape := ⟨2, ![512, 1408]⟩
abbrev S512 : Shape := ⟨1, ![512]⟩
abbrev S512x1 : Shape := ⟨2, ![512, 1]⟩
abbrev S4x352x1024 : Shape := ⟨3, ![4, 352, 1024]⟩
abbrev S1408x1024 : Shape := ⟨2, ![1408, 1024]⟩
abbrev S512x128 : Shape := ⟨2, ![512, 128]⟩
abbrev S128 : Shape := ⟨1, ![128]⟩

abbrev nBuf : Space → Nat
  | .hbm => 11
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x3x352x1024, .bf16⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x2816, .bf16⟩
  | .hbm, ⟨8, _⟩ => ⟨S4096x2816, .bf16⟩
  | .hbm, ⟨9, _⟩ => ⟨S4096x2816, .bf16⟩
  | .hbm, ⟨10, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x352x1024, .bf16⟩
  | .local _ .vmem, ⟨4, _⟩ => ⟨S4x1x352x1024, .bf16⟩
  | .local _ .vmem, ⟨5, _⟩ => ⟨S4x1x352x1024, .bf16⟩
  | .local _ .vmem, ⟨6, _⟩ => ⟨S4x1x352x1024, .bf16⟩
  | .local _ .vmem, ⟨7, _⟩ => ⟨S4x1x352x1024, .bf16⟩
  | .local _ .vmem, ⟨8, _⟩ => ⟨S4x1x352x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S1x128, .f32⟩
  | .local _ .vmem, ⟨23, _⟩ => ⟨S512x1024, .bf16⟩
  | .local _ .vmem, ⟨24, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v41 : BitVec 1 := Scalar.cmpi .eq arg1 c1_i32
  let v42 : BitVec 32 := Scalar.extui v41
  let c0_i32_32 : BitVec 32 := 0#32
  let v43 : BitVec 1 := Scalar.cmpi .ne v42 c0_i32_32
  v43

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference3Ideal.lean ====
abbrev S4096x1024 : Shape := ⟨2, ![4096, 1024]⟩
abbrev S1x1024 : Shape := ⟨2, ![1, 1024]⟩
abbrev S8x3x352x1024 : Shape := ⟨4, ![8, 3, 352, 1024]⟩
abbrev S8x1x352x1024 : Shape := ⟨4, ![8, 1, 352, 1024]⟩
abbrev S8x352x1024 : Shape := ⟨3, ![8, 352, 1024]⟩
abbrev S2816x1024 : Shape := ⟨2, ![2816, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x8x128 : Shape := ⟨3, ![4096, 8, 128]⟩
abbrev S4096x128 : Shape := ⟨2, ![4096, 128]⟩
abbrev S128 : Shape := ⟨1, ![128]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x3x352x1024, .bf16⟩
  | .hbm, ⟨3, _⟩ => ⟨S1x1024, .f32⟩
  | .hbm, ⟨4, _⟩ => ⟨S4096x1024, .f32⟩
  | .hbm, ⟨5, _⟩ => ⟨S8x1x352x1024, .bf16⟩
  | .hbm, ⟨6, _⟩ => ⟨S8x352x1024, .bf16⟩
  | .hbm, ⟨7, _⟩ => ⟨S8x352x1024, .f32⟩
  | .hbm, ⟨8, _⟩ => ⟨S2816x1024, .f32⟩
  | .hbm, ⟨9, _⟩ => ⟨S8x1x352x1024, .bf16⟩
  | .hbm, ⟨10, _⟩ => ⟨S8x352x1024, .bf16⟩
  | .hbm, ⟨11, _⟩ => ⟨S8x352x1024, .f32⟩
  | .hbm, ⟨12, _⟩ => ⟨S2816x1024, .f32⟩
  | .hbm, ⟨13, _⟩ => ⟨S8x1x352x1024, .bf16⟩
  | .hbm, ⟨14, _⟩ => ⟨S8x352x1024, .bf16⟩
  | .hbm, ⟨15, _⟩ => ⟨S8x352x1024, .f32⟩
  | .hbm, ⟨16, _⟩ => ⟨S2816x1024, .f32⟩
  | .hbm, ⟨17, _⟩ => ⟨S1024x2816, .f32⟩
  | .hbm, ⟨18, _⟩ => ⟨S1024x2816, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S4096x8x128, .f32⟩
  | .hbm, ⟨72, _⟩ => ⟨S_, .f32⟩
  | .hbm, ⟨73, _⟩ => ⟨S4096x128, .f32⟩
  | .hbm, ⟨74, _⟩ => ⟨S_, .f32⟩
  | .hbm, ⟨75, _⟩ => ⟨S128, .f32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S1x128, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S_, .f32⟩
  | .hbm, ⟨88, _⟩ => ⟨S4096, .f32⟩
  | .hbm, ⟨89, _⟩ => ⟨S4096, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S4096, .f32⟩
  | .hbm, ⟨98, _⟩ => ⟨S_, .f32⟩
  | .hbm, ⟨99, _⟩ => ⟨S4096, .f32⟩
  | .hbm, ⟨100, _⟩ => ⟨S4096, .f32⟩
  | .hbm, ⟨101, _⟩ => ⟨S4096x1024, .f32⟩
  | .hbm, ⟨102, _⟩ => ⟨S4096x1024, .f32⟩
  | .hbm, ⟨103, _⟩ => ⟨S4096x2816, .bf16⟩
  | .hbm, ⟨104, _⟩ => ⟨S4096x2816, .bf16⟩
  | .hbm, ⟨105, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_cst_14 : Ref sig .tc := ⟨.hbm, 92, rfl⟩
abbrev main_v64 : Ref sig .tc := ⟨.hbm, 93, rfl⟩
abbrev main_cst_15 : Ref sig .tc := ⟨.hbm, 94, rfl⟩
abbrev main_cst_16 : Ref sig .tc := ⟨.hbm, 95, rfl⟩
abbrev main_v65 : Ref sig .tc := ⟨.hbm, 96, rfl⟩
abbrev main_v66 : Ref sig .tc := ⟨.hbm, 97, rfl⟩
abbrev main_cst_17 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S8x128 : Shape := ⟨2, ![8, 128]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S8x128, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S8x128 : Shape := ⟨2, ![8, 128]⟩
abbrev S_ : Shape := ⟨0, ![]⟩
abbrev S1024x2816 : Shape := ⟨2, ![1024, 2816]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S8x128, .f32⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S640x1024 : Shape := ⟨2, ![640, 1024]⟩
abbrev S3072x1024 : Shape := ⟨2, ![3072, 1024]⟩
abbrev S1024x1024 : Shape := ⟨2, ![1024, 1024]⟩
abbrev S4096x640 : Shape := ⟨2, ![4096, 640]⟩
abbrev S4096x3072 : Shape := ⟨2, ![4096, 3072]⟩
abbrev S256x1024 : Shape := ⟨2, ![256, 1024]⟩
abbrev S256x640 : Shape := ⟨2, ![256, 640]⟩
abbrev S256x3072 : Shape := ⟨2, ![256, 3072]⟩
abbrev S256 : Shape := ⟨1, ![256]⟩
abbrev S256x1 : Shape := ⟨2, ![256, 1]⟩
abbrev S1024 : Shape := ⟨1, ![1024]⟩

abbrev nBuf : Space → Nat
  | .hbm => 14
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S640x1024, .bf16⟩
  | .hbm, ⟨3, _⟩ => ⟨S3072x1024, .bf16⟩
  | .hbm, ⟨4, _⟩ => ⟨S1024x1024, .bf16⟩
  | .hbm, ⟨5, _⟩ => ⟨S4096x640, .bf16⟩
  | .hbm, ⟨6, _⟩ => ⟨S4096x3072, .bf16⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x640, .bf16⟩
  | .local _ .vmem, ⟨7, _⟩ => ⟨S256x640, .bf16⟩
  | .local _ .vmem, ⟨8, _⟩ => ⟨S256x3072, .bf16⟩
  | .local _ .vmem, ⟨9, _⟩ => ⟨S256x3072, .bf16⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S640x1024, .bf16⟩
  | .local _ .vmem, ⟨15, _⟩ => ⟨S3072x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S640x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3072x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference5Ideal.lean ====
abbrev S4096x1024 : Shape := ⟨2, ![4096, 1024]⟩
abbrev S1x1024 : Shape := ⟨2, ![1, 1024]⟩
abbrev S640x1024 : Shape := ⟨2, ![640, 1024]⟩
abbrev S3072x1024 : Shape := ⟨2, ![3072, 1024]⟩
abbrev S1024x1024 : Shape := ⟨2, ![1024, 1024]⟩
abbrev S4096x640 : Shape := ⟨2, ![4096, 640]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1024x640 : Shape := ⟨2, ![1024, 640]⟩
abbrev S1024x3072 : Shape := ⟨2, ![1024, 3072]⟩
abbrev S1024 : Shape := ⟨1, ![1024]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S640x1024, .bf16⟩
  | .hbm, ⟨3, _⟩ => ⟨S3072x1024, .bf16⟩
  | .hbm, ⟨4, _⟩ => ⟨S1024x1024, .bf16⟩
  | .hbm, ⟨5, _⟩ => ⟨S4096x640, .bf16⟩
  | .hbm, ⟨6, _⟩ => ⟨S4096x3072, .bf16⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S640x1024, .f32⟩
  | .hbm, ⟨31, _⟩ => ⟨S1024x640, .f32⟩
  | .hbm, ⟨32, _⟩ => ⟨S4096x640, .f32⟩
  | .hbm, ⟨33, _⟩ => ⟨S3072x1024, .f32⟩
  | .hbm, ⟨34, _⟩ => ⟨S1024x3072, .f32⟩
  | .hbm, ⟨35, _⟩ => ⟨S4096x3072, .f32⟩
  | .hbm, ⟨36, _⟩ => ⟨S1024x1024, .f32⟩
  | .hbm, ⟨37, _⟩ => ⟨S1024x1024, .f32⟩
  | .hbm, ⟨38, _⟩ => ⟨S4096x1024, .f32⟩
  | .hbm, ⟨39, _⟩ => ⟨S4096x640, .f32⟩
  | .hbm, ⟨40, _⟩ => ⟨S4096x3072, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S4096, .f32⟩
  | .hbm, ⟨101, _⟩ => ⟨S4096x1, .f32⟩
  | .hbm, ⟨102, _⟩ => ⟨S4096x1024, .f32⟩
  | .hbm, ⟨103, _⟩ => ⟨S4096x1024, .f32⟩
  | .hbm, ⟨104, _⟩ => ⟨S4096x1, .f32⟩
  | .hbm, ⟨105, _⟩ => ⟨S_, .f32⟩
  | .hbm, ⟨106, _⟩ => ⟨S4096x1, .f32⟩
  | .hbm, ⟨107, _⟩ => ⟨S4096x1, .f32⟩
  | .hbm, ⟨108, _⟩ => ⟨S_, .f32⟩
  | .hbm, ⟨109, _⟩ => ⟨S4096, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S640x1024 : Shape := ⟨2, ![640, 1024]⟩
abbrev S3072x1024 : Shape := ⟨2, ![3072, 1024]⟩
abbrev S1024x1024 : Shape := ⟨2, ![1024, 1024]⟩
abbrev S4096x640 : Shape := ⟨2, ![4096, 640]⟩
abbrev S4096x3072 : Shape := ⟨2, ![4096, 3072]⟩
abbrev S256x1024 : Shape := ⟨2, ![256, 1024]⟩
abbrev S256x640 : Shape := ⟨2, ![256, 640]⟩
abbrev S256x3072 : Shape := ⟨2, ![256, 3072]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S640x1024, .bf16⟩
  | .hbm, ⟨3, _⟩ => ⟨S3072x1024, .bf16⟩
  | .hbm, ⟨4, _⟩ => ⟨S1024x1024, .bf16⟩
  | .hbm, ⟨5, _⟩ => ⟨S4096x1024, .bf16⟩
  | .hbm, ⟨6, _⟩ => ⟨S4096x640, .f32⟩
  | .hbm, ⟨7, _⟩ => ⟨S4096x3072, .f32⟩
  | .hbm, ⟨8, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S640x1024, .bf16⟩
  | .local _ .vmem, ⟨4, _⟩ => ⟨S3072x1024, .bf16⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S256x640, .f32⟩
  | .local _ .vmem, ⟨9, _⟩ => ⟨S256x640, .f32⟩
  | .local _ .vmem, ⟨10, _⟩ => ⟨S256x3072, .f32⟩
  | .local _ .vmem, ⟨11, _⟩ => ⟨S256x3072, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S4096x1024 : Shape := ⟨2, ![4096, 1024]⟩
abbrev S1x1024 : Shape := ⟨2, ![1, 1024]⟩
abbrev S640x1024 : Shape := ⟨2, ![640, 1024]⟩
abbrev S3072x1024 : Shape := ⟨2, ![3072, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024x640 : Shape := ⟨2, ![1024, 640]⟩
abbrev S4096x640 : Shape := ⟨2, ![4096, 640]⟩
abbrev S1024x3072 : Shape := ⟨2, ![1024, 3072]⟩
abbrev S4096x3072 : Shape := ⟨2, ![4096, 3072]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S640x1024, .bf16⟩
  | .hbm, ⟨3, _⟩ => ⟨S3072x1024, .bf16⟩
  | .hbm, ⟨4, _⟩ => ⟨S1024x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S640x1024, .f32⟩
  | .hbm, ⟨37, _⟩ => ⟨S1024x640, .f32⟩
  | .hbm, ⟨38, _⟩ => ⟨S4096x640, .f32⟩
  | .hbm, ⟨39, _⟩ => ⟨S3072x1024, .f32⟩
  | .hbm, ⟨40, _⟩ => ⟨S1024x3072, .f32⟩
  | .hbm, ⟨41, _⟩ => ⟨S4096x3072, .f32⟩
  | .hbm, ⟨42, _⟩ => ⟨S1024x1024, .f32⟩
  | .hbm, ⟨43, _⟩ => ⟨S1024x1024, .f32⟩
  | .hbm, ⟨44, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel7.lean ====
abbrev S4096x3072 : Shape := ⟨2, ![4096, 3072]⟩
abbrev S4096x1024 : Shape := ⟨2, ![4096, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x3072 : Shape := ⟨2, ![4096, 3072]⟩
abbrev S4096x1024 : Shape := ⟨2, ![4096, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x1024 : Shape := ⟨2, ![4096, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x640 : Shape := ⟨2, ![4096, 640]⟩
abbrev S4096x1024 : Shape := ⟨2, ![4096, 1024]⟩
abbrev S640x1024 : Shape := ⟨2, ![640, 1024]⟩
abbrev S2048x640 : Shape := ⟨2, ![2048, 640]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x640, .bf16⟩
  | .hbm, ⟨1, _⟩ => ⟨S4096x1024, .bf16⟩
  | .hbm, ⟨2, _⟩ => ⟨S640x1024, .bf16⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .bf16⟩
  | .local _ .vmem, ⟨5, _⟩ => ⟨S640x1024, .f32⟩
  | _, _ => ⟨S4096x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S640x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S4096x640 : Shape := ⟨2, ![4096, 640]⟩
abbrev S4096x1024 : Shape := ⟨2, ![4096, 1024]⟩
abbrev S_ : Shape := ⟨0, ![]⟩
abbrev S1024x640 : Shape := ⟨2, ![1024, 640]⟩
abbrev S640x1024 : Shape := ⟨2, ![640, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x640, .bf16⟩
  | .hbm, ⟨1, _⟩ => ⟨S4096x1024, .bf16⟩
  | .hbm, ⟨2, _⟩ => ⟨S_, .f32⟩
  | .hbm, ⟨3, _⟩ => ⟨S1024x640, .f32⟩
  | .hbm, ⟨4, _⟩ => ⟨S4096x1024, .f32⟩
  | .hbm, ⟨5, _⟩ => ⟨S4096x640, .f32⟩
  | .hbm, ⟨6, _⟩ => ⟨S4096x640, .f32⟩
  | .hbm, ⟨7, _⟩ => ⟨S640x1024, .f32⟩
  | .hbm, ⟨8, _⟩ => ⟨S1024x640, .f32⟩
  | .hbm, ⟨9, _⟩ => ⟨S640x1024, .f32⟩
  | .hbm, ⟨10, _⟩ => ⟨S640x1024, .bf16⟩
  | _, _ => ⟨S4096x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4096x1024 : Shape := ⟨2, ![4096, 1024]⟩
abbrev S4096x256 : Shape := ⟨2, ![4096, 256]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S4096x256 : Shape := ⟨2, ![4096, 256]⟩
abbrev S_ : Shape := ⟨0, ![]⟩
abbrev S256x1024 : Shape := ⟨2, ![256, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S1024x256, .f32⟩
  | .hbm, ⟨10, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4096x2048 : Shape := ⟨2, ![4096, 2048]⟩
abbrev S4096x128 : Shape := ⟨2, ![4096, 128]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S2048x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S4096x128 : Shape := ⟨2, ![4096, 128]⟩
abbrev S_ : Shape := ⟨0, ![]⟩
abbrev S128x2048 : Shape := ⟨2, ![128, 2048]⟩
abbrev S2048x128 : Shape := ⟨2, ![2048, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S_, .f32⟩
  | .hbm, ⟨3, _⟩ => ⟨S128x2048, .f32⟩
  | .hbm, ⟨4, _⟩ => ⟨S4096x128, .f32⟩
  | .hbm, ⟨5, _⟩ => ⟨S4096x2048, .f32⟩
  | .hbm, ⟨6, _⟩ => ⟨S4096x2048, .f32⟩
  | .hbm, ⟨7, _⟩ => ⟨S2048x128, .f32⟩
  | .hbm, ⟨8, _⟩ => ⟨S128x2048, .f32⟩
  | .hbm, ⟨9, _⟩ => ⟨S2048x128, .f32⟩
  | .hbm, ⟨10, _⟩ => ⟨S2048x128, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S2048x1024 : Shape := ⟨2, ![2048, 1024]⟩
abbrev S4096x2048 : Shape := ⟨2, ![4096, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 11
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S2048x1024, .bf16⟩
  | .hbm, ⟨7, _⟩ => ⟨S1x1024, .f32⟩
  | .hbm, ⟨8, _⟩ => ⟨S4096x2048, .bf16⟩
  | .hbm, ⟨9, _⟩ => ⟨S4096x1024, .f32⟩
  | .hbm, ⟨10, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S2048x1024, .bf16⟩
  | .local _ .vmem, ⟨11, _⟩ => ⟨S1x1024, .f32⟩
  | .local _ .vmem, ⟨12, _⟩ => ⟨S256x2048, .bf16⟩
  | .local _ .vmem, ⟨13, _⟩ => ⟨S256x2048, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference13Ideal.lean ====
abbrev S4096x1024 : Shape := ⟨2, ![4096, 1024]⟩
abbrev S1x1024 : Shape := ⟨2, ![1, 1024]⟩
abbrev S2048x1024 : Shape := ⟨2, ![2048, 1024]⟩
abbrev S_ : Shape := ⟨0, ![]⟩
abbrev S4096 : Shape := ⟨1, ![4096]⟩
abbrev S4096x1 : Shape := ⟨2, ![4096, 1]⟩
abbrev S4096x8x128 : Shape := ⟨3, ![4096, 8, 128]⟩
abbrev S4096x8 : Shape := ⟨2, ![4096, 8]⟩
abbrev S4096x8x1 : Shape := ⟨3, ![4096, 8, 1]⟩
abbrev S1x8x128 : Shape := ⟨3, ![1, 8, 128]⟩
abbrev S4096x2048 : Shape := ⟨2, ![4096, 2048]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S2048x1024, .bf16⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x8x128, .f32⟩
  | .hbm, ⟨24, _⟩ => ⟨S4096x8x128, .f32⟩
  | .hbm, ⟨25, _⟩ => ⟨S_, .f32⟩
  | .hbm, ⟨26, _⟩ => ⟨S4096x8, .f32⟩
  | .hbm, ⟨27, _⟩ => ⟨S4096x8x1, .f32⟩
  | .hbm, ⟨28, _⟩ => ⟨S_, .f32⟩
  | .hbm, ⟨29, _⟩ => ⟨S4096x8x1, .f32⟩
  | .hbm, ⟨30, _⟩ => ⟨S4096x8x1, .f32⟩
  | .hbm, ⟨31, _⟩ => ⟨S_, .f32⟩
  | .hbm, ⟨32, _⟩ => ⟨S4096x8x1, .f32⟩
  | .hbm, ⟨33, _⟩ => ⟨S4096x8x1, .f32⟩
  | .hbm, ⟨34, _⟩ => ⟨S4096x8x1, .f32⟩
  | .hbm, ⟨35, _⟩ => ⟨S4096x8x128, .f32⟩
  | .hbm, ⟨36, _⟩ => ⟨S4096x8x128, .f32⟩
  | .hbm, ⟨37, _⟩ => ⟨S1x8x128, .f32⟩
  | .hbm, ⟨38, _⟩ => ⟨S4096x8x128, .f32⟩
  | .hbm, ⟨39, _⟩ => ⟨S4096x8x128, .f32⟩
  | .hbm, ⟨40, _⟩ => ⟨S4096x8x128, .f32⟩
  | .hbm, ⟨41, _⟩ => ⟨S4096x8x128, .f32⟩
  | .hbm, ⟨42, _⟩ => ⟨S4096x8x128, .f32⟩
  | .hbm, ⟨43, _⟩ => ⟨S_, .f32⟩
  | .hbm, ⟨44, _⟩ => ⟨S4096x8x128, .f32⟩
  | .hbm, ⟨45, _⟩ => ⟨S4096x8x128, .f32⟩
  | .hbm, ⟨46, _⟩ => ⟨S_, .f32⟩
  | .hbm, ⟨47, _⟩ => ⟨S4096x8x128, .f32⟩
  | .hbm, ⟨48, _⟩ => ⟨S4096x8x128, .f32⟩
  | .hbm, ⟨49, _⟩ => ⟨S4096x8x128, .f32⟩
  | .hbm, ⟨50, _⟩ => ⟨S4096x8x128, .f32⟩
  | .hbm, ⟨51, _⟩ => ⟨S4096x1024, .f32⟩
  | .hbm, ⟨52, _⟩ => ⟨S4096x2048, .f32⟩
  | .hbm, ⟨53, _⟩ => ⟨S2048x1024, .f32⟩
  | .hbm, ⟨54, _⟩ => ⟨S4096x1024, .f32⟩
  | .hbm, ⟨55, _⟩ => ⟨S4096x2048, .bf16⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩

abbrev nD : Nat := 1
abbrev τ : Topo := Topo.v7x

variable {F : FTy → Type} [FloatOps F]
-- ==== Proof.Ref.lean ====
module

public import proofs.«01_k».proof.Proof.Gen.ReferenceIdeal.Run
public import proofs.«01_k».proof.Proof.Gen.ReferenceIdeal.Read

@[expose] public section

end
-- ==== Proof.Tables.lean ====
/-
The two prefetched tables of the attention backward pass — the query tile and the key tile of each of the 36 tile
pairs on or under the diagonal — and what each of the 72 points of the grid (two head groups of 36 pairs) does:
its conditions, the rows it reads and writes, when a result's block is written back. Decided point by point.
-/
module

public import proofs.«01_k».proof.Proof.Gen.KernelIdeal.Launch
public import Idealize.ShloMosaic.Lib.Pipeline.FrameBody
public import Idealize.ShloMosaic.Lib.Pipeline.TableIdle
public import Idealize.ShloMosaic.Lib.Pipeline.Frame
public import Idealize.ShloMosaic.Lib.Tactic
public import Idealize.ShloMosaic.PureOps.Ideal

@[expose] public section

set_option maxRecDepth 16384
set_option Elab.async false

noncomputable section

namespace Cert.KernelIdeal.Attn

open Cert.KernelIdeal Cert.KernelIdeal.Gen
open Idealize.ShloMosaic Idealize.ShloMosaic.TcCoe

/-- The query tile of each pair, as the host lays the table out. -/
def qT : S36.Idx → BitVec 32 := fun i => lit0 (S36.rowMajor i)
/-- The key tile of each pair. -/
def kT : S36.Idx → BitVec 32 := fun i => lit1 (S36.rowMajor i)

/-- The tables and the two accumulators the body is handed, whole. -/
abbrev tQ : Memref sig .tc .smem S36 .i32 := Memref.whole main_c
abbrev tK : Memref sig .tc .smem S36 .i32 := Memref.whole main_c_0
abbrev mDk : Memref sig .tc .vmem S4x512x128 .f32 := Memref.whole cc0_scratch0
abbrev mDv : Memref sig .tc .vmem S4x512x128 .f32 := Memref.whole cc0_scratch1

set_option backward.proofsInPublic true in
/-- The tables' contents during the call. -/
def pf : pre0.Contents (Elt Ideal) := fun | ⟨0, _⟩ => qT | ⟨1, _⟩ => kT | ⟨_ + 2, h⟩ => absurd h (by simp)

theorem inb_0 : ∀ i : grid0.Coords, ∀ a, (cc0_transform_0 k0_off1_inb numel1_S1 pf i a + 1) * S512x512.size a ≤ S4096x1024.size a := by decide +kernel
theorem inb_1 : ∀ i : grid0.Coords, ∀ a, (cc0_transform_1 k0_off1_inb numel1_S1 pf i a + 1) * S512x512.size a ≤ S4096x1024.size a := by decide +kernel
theorem inb_2 : ∀ i : grid0.Coords, ∀ a, (cc0_transform_2 k0_off1_inb numel1_S1 pf i a + 1) * S512x512.size a ≤ S4096x1024.size a := by decide +kernel
theorem inb_3 : ∀ i : grid0.Coords, ∀ a, (cc0_transform_3 k0_off1_inb numel1_S1 pf i a + 1) * S512x512.size a ≤ S4096x1024.size a := by decide +kernel
theorem inb_4 : ∀ i : grid0.Coords, ∀ a, (cc0_transform_4 k0_off1_inb numel1_S1 pf i a + 1) * S512x512.size a ≤ S4096x1024.size a := by decide +kernel
theorem inb_5 : ∀ i : grid0.Coords, ∀ a, (cc0_transform_5 k0_off1_inb numel1_S1 pf i a + 1) * S512x512.size a ≤ S4096x1024.size a := by decide +kernel
theorem inb_7 : ∀ i : grid0.Coords, ∀ a, (cc0_transform_7 k0_off1_inb numel1_S1 pf i a + 1) * S512x512.size a ≤ S4096x1024.size a := by decide +kernel
theorem inb_8 : ∀ i : grid0.Coords, ∀ a, (cc0_transform_8 k0_off1_inb numel1_S1 pf i a + 1) * S512x512.size a ≤ S4096x1024.size a := by decide +kernel

/-- Every block the tables name lies inside its array. -/
theorem ok_pf : ok0 (F := Ideal) pf :=
  ⟨fun i => ⟨inb_0 i, .inr (Affine.block_words_dvd (s := S4096x1024) (p := EltTy.packing .bf16) (by decide) (by decide))⟩,
   fun i => ⟨inb_1 i, .inr (Affine.block_words_dvd (s := S4096x1024) (p := EltTy.packing .bf16) (by decide) (by decide))⟩,
   fun i => ⟨inb_2 i, .inr (Affine.block_words_dvd (s := S4096x1024) (p := EltTy.packing .bf16) (by decide) (by decide))⟩,
   fun i => ⟨inb_3 i, .inl rfl⟩, fun i => ⟨inb_4 i, .inl rfl⟩, fun i => ⟨inb_5 i, .inl rfl⟩,
   fun i => ⟨inb_7 i, .inl rfl⟩, fun i => ⟨inb_8 i, .inl rfl⟩⟩

/-- The pipeline at these tables. -/
def adm : (pcfg0 (F := Ideal)).Adm := ⟨pf, ok_pf⟩
abbrev cfg : Pipeline.Cfg sig Λ₀ := cfg0 (F := Ideal) adm
abbrev pcs : Fin 1 → Pipeline.Cfg sig Λ₀ := Pipeline.pin (pcfgs (F := Ideal)) fun _ => adm

/-- Point `t`'s coordinates: the head group and the pair. -/
abbrev crd (t : Fin cfg.N) : cfg.grid.Coords := cfg.grid.coords t

/-- The words the body reads at a point: the query tile and the key tile. -/
abbrev qw (i : grid0.Coords) : BitVec 32 :=
  View.readAt (Elt Ideal) tQ.view (Rect.unit (s := S36) (k0_off1 i) S1.size (k0_off1_inb i)).toLoadRect qT
    (Shape.Idx.first (numel1_S1.symm ▸ Nat.one_pos))
abbrev kw (i : grid0.Coords) : BitVec 32 :=
  View.readAt (Elt Ideal) tK.view (Rect.unit (s := S36) (k0_off1 i) S1.size (k0_off1_inb i)).toLoadRect kT
    (Shape.Idx.first (numel1_S1.symm ▸ Nat.one_pos))

/-- Query tile and key tile of point `n` of the grid, as numbers. -/
def qn (n : ℕ) : ℕ :=
  [0, 1, 2, 3, 4, 5, 6, 7, 1, 2, 3, 4, 5, 6, 7, 2, 3, 4, 5, 6, 7, 3, 4, 5, 6, 7, 4, 5, 6, 7, 5, 6, 7, 6, 7, 7].getD (n % 36) 0
def kn (n : ℕ) : ℕ :=
  [0, 0, 0, 0, 0, 0, 0, 0, 1, 1, 1, 1, 1, 1, 1, 2, 2, 2, 2, 2, 2, 3, 3, 3, 3, 3, 4, 4, 4, 4, 5, 5, 5, 6, 6, 7].getD (n % 36) 0

/-- What point `t` does. -/
def At (t : Fin cfg.N) : Prop :=
  (qw (crd t) = BitVec.ofNat 32 (qn t.val) ∧ kw (crd t) = BitVec.ofNat 32 (kn t.val))
  ∧ (crd t (0 : Fin 2)).val = t.val / 36
  ∧ k0_chk1 (qw (crd t)) (kw (crd t))
  ∧ (k0_cond1 (crd t) = 1#1 ↔ t.val % 36 = 0)
  ∧ (k0_cond2 (qw (crd t)) (kw (crd t)) = 1#1 ↔ qn t.val = kn t.val)
  ∧ (k0_cond3 (qw (crd t)) (kw (crd t)) = 1#1 ↔ qn t.val ≠ kn t.val)
  ∧ (k0_cond4 (qw (crd t)) = 1#1 ↔ qn t.val = 7)
  ∧ cfg.idle (6 : Fin 9) (crd t) = false
  ∧ cfg.idle (7 : Fin 9) (crd t) = !(decide (qn t.val = 7))
  ∧ cfg.idle (8 : Fin 9) (crd t) = !(decide (qn t.val = 7))
  ∧ (cfg.win (6 : Fin 9)).flush t = decide (t.val % 36 = 35)
  ∧ (cfg.win (7 : Fin 9)).flush t = decide (qn t.val = 7)
  ∧ (cfg.win (8 : Fin 9)).flush t = decide (qn t.val = 7)

instance (t : Fin cfg.N) : Decidable (At t) := by unfold At; infer_instance

theorem at_0 : ∀ t : Fin cfg.N, t.val < 9 → At t := by decide +kernel
theorem at_1 : ∀ t : Fin cfg.N, 9 ≤ t.val → t.val < 18 → At t := by decide +kernel
theorem at_2 : ∀ t : Fin cfg.N, 18 ≤ t.val → t.val < 27 → At t := by decide +kernel
theorem at_3 : ∀ t : Fin cfg.N, 27 ≤ t.val → t.val < 36 → At t := by decide +kernel
theorem at_4 : ∀ t : Fin cfg.N, 36 ≤ t.val → t.val < 45 → At t := by decide +kernel
theorem at_5 : ∀ t : Fin cfg.N, 45 ≤ t.val → t.val < 54 → At t := by decide +kernel
theorem at_6 : ∀ t : Fin cfg.N, 54 ≤ t.val → t.val < 63 → At t := by decide +kernel
theorem at_7 : ∀ t : Fin cfg.N, 63 ≤ t.val → t.val < 72 → At t := by decide +kernel

theorem at_all (t : Fin cfg.N) : At t := by
  rcases Nat.lt_or_ge t.val 9 with h | h; · exact at_0 t h
  rcases Nat.lt_or_ge t.val 18 with h1 | h1; · exact at_1 t h h1
  rcases Nat.lt_or_ge t.val 27 with h2 | h2; · exact at_2 t h1 h2
  rcases Nat.lt_or_ge t.val 36 with h3 | h3; · exact at_3 t h2 h3
  rcases Nat.lt_or_ge t.val 45 with h4 | h4; · exact at_4 t h3 h4
  rcases Nat.lt_or_ge t.val 54 with h5 | h5; · exact at_5 t h4 h5
  rcases Nat.lt_or_ge t.val 63 with h6 | h6; · exact at_6 t h5 h6
  exact at_7 t h6 t.isLt

/-- A head group's first point is on the diagonal and is no key tile's last. -/
theorem first_at (t : Fin cfg.N) (h1 : k0_cond1 (crd t) = 1#1) :
    k0_cond2 (qw (crd t)) (kw (crd t)) = 1#1 ∧ ¬(k0_cond3 (qw (crd t)) (kw (crd t)) = 1#1) ∧ ¬(k0_cond4 (qw (crd t)) = 1#1) := by
  have hh := at_all t
  have h0 := hh.2.2.2.1.mp h1
  have hq : qn t.val = 0 := by unfold qn; rw [h0]; rfl
  have hk : kn t.val = 0 := by unfold kn; rw [h0]; rfl
  refine ⟨hh.2.2.2.2.1.mpr (by rw [hq, hk]), fun h => hh.2.2.2.2.2.1.mp h (by rw [hq, hk]), fun h => ?_⟩
  have := hh.2.2.2.2.2.2.1.mp h
  omega

/-- Window 6 holds nothing of this head group only before the group's first point. -/
theorem fresh_6 (t : Fin cfg.N) : cfg.fresh (6 : Fin 9) t.val = decide (t.val % 36 = 0) := by
  refine Pipeline.Cfg.fresh_tab cfg (6 : Fin 9) (fun n => decide (n % 36 = 0)) rfl (fun s => ?_) t.val (Nat.le_of_lt t.isLt)
  have hs := at_all s
  rw [hs.2.2.2.2.2.2.2.2.2.2.1, hs.2.2.2.2.2.2.2.1, Bool.false_and, Bool.or_false]
  exact decide_eq_decide.mpr (by omega)

end Cert.KernelIdeal.Attn

end
-- ==== Proof.RunState.lean ====
/-
What one point of the attention backward pass holds and what it leaves — in the gradient of q, in the two accumulators
and in the blocks of dk and dv — as the type of a run of the machine.
-/
module

public import proofs.«01_k».proof.Proof.Tables
public import proofs.«01_k».proof.Proof.Gen.KernelIdeal.Skeleton
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords)
  (arg4 : Memref sig .tc .vmem S512x512 .bf16) (h4 : arg4.IsWhole) (arg5 : Memref sig .tc .vmem S512x512 .bf16) (h5 : arg5.IsWhole)
  (arg6 : Memref sig .tc .vmem S512x512 .bf16) (h6 : arg6.IsWhole) (arg7 : Memref sig .tc .vmem S512x512 .f32) (h7 : arg7.IsWhole)
  (arg8 : Memref sig .tc .vmem S512x512 .f32) (h8 : arg8.IsWhole) (arg9 : Memref sig .tc .vmem S512x512 .f32) (h9 : arg9.IsWhole)
  (arg10 : Memref sig .tc .vmem S4096x512 .f32) (h10 : arg10.IsWhole) (arg11 : Memref sig .tc .vmem S512x512 .f32) (h11 : arg11.IsWhole)
  (arg12 : Memref sig .tc .vmem S512x512 .f32) (h12 : arg12.IsWhole)
  (x0 x1 x2 : S512x512.Idx → Elt Ideal .bf16) (x3 x4 x5 : S512x512.Idx → Elt Ideal .f32)
  (dq : S4096x512.Idx → Elt Ideal .f32) (ok ov : S512x512.Idx → Elt Ideal .f32)
  (dk dv : S4x512x128.Idx → Elt Ideal .f32)

/-- The six blocks a point reads, in their staging buffers, and the body's halves of the two tables. -/
def Ins : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4 ∗ owns (c : Thread nD τ) arg9 fullShare x5
    ∗ (tQ.view.loc (c : Thread nD τ) ↦{fullShare.right} qT) ∗ (tK.view.loc (c : Thread nD τ) ↦{fullShare.right} kT))

/-- What a point writes: the gradient of q, the blocks of dk and dv, the two accumulators. -/
def Outs : sProp 𝕄 :=
  iprop(owns (c : Thread nD τ) arg10 fullShare dq ∗ owns (c : Thread nD τ) arg11 fullShare ok ∗ owns (c : Thread nD τ) arg12 fullShare ov
    ∗ (mDk.view.loc (c : Thread nD τ) ↦{fullShare} dk) ∗ (mDv.view.loc (c : Thread nD τ) ↦{fullShare} dv))

/-- A run of one point: from these contents to those. -/
structure Run where
  dq' : S4096x512.Idx → Elt Ideal .f32
  ok' : S512x512.Idx → Elt Ideal .f32
  ov' : S512x512.Idx → Elt Ideal .f32
  dk' : S4x512x128.Idx → Elt Ideal .f32
  dv' : S4x512x128.Idx → Elt Ideal .f32
  sound : ∀ K : PUnit → sProp 𝕄,
    iprop(Ins c arg4 arg5 arg6 arg7 arg8 arg9 x0 x1 x2 x3 x4 x5 ∗ Outs c arg10 arg11 arg12 dq ok ov dk dv
        ∗ (iprop(Ins c arg4 arg5 arg6 arg7 arg8 arg9 x0 x1 x2 x3 x4 x5 ∗ Outs c arg10 arg11 arg12 dq' ok' ov' dk' dv') -∗ K ⟨⟩))
      ⊢ wp frame (wpE (defs₀ (F := Ideal)) Variants.none c none) Set.univ
          (cc0_attn_bwd i tQ (Memref.isWhole_whole _) tK (Memref.isWhole_whole _) arg4 h4 arg5 h5 arg6 h6 arg7 h7 arg8 h8 arg9 h9
            arg10 h10 arg11 h11 arg12 h12 mDk (Memref.isWhole_whole _) mDv (Memref.isWhole_whole _)) K

end Cert.KernelIdeal.Attn

end
-- ==== Proof.RunOff.lean ====
/-
The runs of the points under the diagonal.
-/
module

public import proofs.«01_k».proof.Proof.RunState

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords)
  (arg4 : Memref sig .tc .vmem S512x512 .bf16) (h4 : arg4.IsWhole) (arg5 : Memref sig .tc .vmem S512x512 .bf16) (h5 : arg5.IsWhole)
  (arg6 : Memref sig .tc .vmem S512x512 .bf16) (h6 : arg6.IsWhole) (arg7 : Memref sig .tc .vmem S512x512 .f32) (h7 : arg7.IsWhole)
  (arg8 : Memref sig .tc .vmem S512x512 .f32) (h8 : arg8.IsWhole) (arg9 : Memref sig .tc .vmem S512x512 .f32) (h9 : arg9.IsWhole)
  (arg10 : Memref sig .tc .vmem S4096x512 .f32) (h10 : arg10.IsWhole) (arg11 : Memref sig .tc .vmem S512x512 .f32) (h11 : arg11.IsWhole)
  (arg12 : Memref sig .tc .vmem S512x512 .f32) (h12 : arg12.IsWhole)
  (x0 x1 x2 : S512x512.Idx → Elt Ideal .bf16) (x3 x4 x5 : S512x512.Idx → Elt Ideal .f32)
  (dq : S4096x512.Idx → Elt Ideal .f32) (ok ov : S512x512.Idx → Elt Ideal .f32)
  (dk dv : S4x512x128.Idx → Elt Ideal .f32)

set_option backward.proofsInPublic true in
set_option maxHeartbeats 8000000 in
/-- A point under the diagonal. -/
def runOff (hc : k0_chk1 (qw i) (kw i)) (c1 : ¬(k0_cond1 i = 1#1)) (c2 : ¬(k0_cond2 (qw i) (kw i) = 1#1)) (c3 : k0_cond3 (qw i) (kw i) = 1#1) (c4 : ¬(k0_cond4 (qw i) = 1#1)) :
    Run c i arg4 h4 arg5 h5 arg6 h6 arg7 h7 arg8 h8 arg9 h9 arg10 h10 arg11 h11 arg12 h12 x0 x1 x2 x3 x4 x5 dq ok ov dk dv :=
  ⟨_, _, _, _, _, fun K => by
    unfold Ins Outs owns
    rw [cc0_attn_bwd_eq_skeleton]; unfold cc0_attn_bwd_skel
    iintro ⟨⟨⟨%f4, %e4, H4⟩, ⟨%f5, %e5, H5⟩, ⟨%f6, %e6, H6⟩, ⟨%f7, %e7, H7⟩, ⟨%f8, %e8, H8⟩, ⟨%f9, %e9, H9⟩, HT0, HT1⟩,
      ⟨⟨%f10, %e10, H10⟩, ⟨%f11, %e11, H11⟩, ⟨%f12, %e12, H12⟩, HS0, HS1⟩, Hk⟩
    obtain rfl := h4.eq_unread e4; obtain rfl := h5.eq_unread e5; obtain rfl := h6.eq_unread e6
    obtain rfl := h7.eq_unread e7; obtain rfl := h8.eq_unread e8; obtain rfl := h9.eq_unread e9
    obtain rfl := h10.eq_unread e10; obtain rfl := h11.eq_unread e11; obtain rfl := h12.eq_unread e12
    have hS0 : mDk.IsWhole := Memref.isWhole_whole _
    have hS1 : mDv.IsWhole := Memref.isWhole_whole _
    have hT0 : tQ.IsWhole := Memref.isWhole_whole _
    have hT1 : tK.IsWhole := Memref.isWhole_whole _
    sl_exec! (disch := first | (guard_target = ¬(k0_cond1 _ = _); exact c1) | (guard_target = ¬(k0_cond2 _ _ = _); exact c2) | (guard_target = k0_cond3 _ _ = _; exact c3) | (guard_target = ¬(k0_cond4 _ = _); exact c4) | (guard_target = k0_chk1 _ _; exact hc))
    sl_step
    iapply Hk
    isplitl [H4 H5 H6 H7 H8 H9 HT0 HT1]
    · isplitl [H4]
      · iexists _; isplitr; swap
        · iexact H4
        · ipureintro; exact h4.read_unread _
      isplitl [H5]
      · iexists _; isplitr; swap
        · iexact H5
        · ipureintro; exact h5.read_unread _
      isplitl [H6]
      · iexists _; isplitr; swap
        · iexact H6
        · ipureintro; exact h6.read_unread _
      isplitl [H7]
      · iexists _; isplitr; swap
        · iexact H7
        · ipureintro; exact h7.read_unread _
      isplitl [H8]
      · iexists _; isplitr; swap
        · iexact H8
        · ipureintro; exact h8.read_unread _
      isplitl [H9]
      · iexists _; isplitr; swap
        · iexact H9
        · ipureintro; exact h9.read_unread _
      isplitl [HT0]; · iexact HT0
      iexact HT1
    isplitl [H10]
    · iexists _; isplitr; swap
      · iexact H10
      · ipureintro; rfl
    isplitl [H11]
    · iexists _; isplitr; swap
      · iexact H11
      · ipureintro; rfl
    isplitl [H12]
    · iexists _; isplitr; swap
      · iexact H12
      · ipureintro; rfl
    isplitl [HS0]; · iexact HS0
    iexact HS1⟩

set_option backward.proofsInPublic true in
set_option maxHeartbeats 8000000 in
/-- A key tile's last point: dk and dv are written. -/
def runOffLast (hc : k0_chk1 (qw i) (kw i)) (c1 : ¬(k0_cond1 i = 1#1)) (c2 : ¬(k0_cond2 (qw i) (kw i) = 1#1)) (c3 : k0_cond3 (qw i) (kw i) = 1#1) (c4 : k0_cond4 (qw i) = 1#1) :
    Run c i arg4 h4 arg5 h5 arg6 h6 arg7 h7 arg8 h8 arg9 h9 arg10 h10 arg11 h11 arg12 h12 x0 x1 x2 x3 x4 x5 dq ok ov dk dv :=
  ⟨_, _, _, _, _, fun K => by
    unfold Ins Outs owns
    rw [cc0_attn_bwd_eq_skeleton]; unfold cc0_attn_bwd_skel
    iintro ⟨⟨⟨%f4, %e4, H4⟩, ⟨%f5, %e5, H5⟩, ⟨%f6, %e6, H6⟩, ⟨%f7, %e7, H7⟩, ⟨%f8, %e8, H8⟩, ⟨%f9, %e9, H9⟩, HT0, HT1⟩,
      ⟨⟨%f10, %e10, H10⟩, ⟨%f11, %e11, H11⟩, ⟨%f12, %e12, H12⟩, HS0, HS1⟩, Hk⟩
    obtain rfl := h4.eq_unread e4; obtain rfl := h5.eq_unread e5; obtain rfl := h6.eq_unread e6
    obtain rfl := h7.eq_unread e7; obtain rfl := h8.eq_unread e8; obtain rfl := h9.eq_unread e9
    obtain rfl := h10.eq_unread e10; obtain rfl := h11.eq_unread e11; obtain rfl := h12.eq_unread e12
    have hS0 : mDk.IsWhole := Memref.isWhole_whole _
    have hS1 : mDv.IsWhole := Memref.isWhole_whole _
    have hT0 : tQ.IsWhole := Memref.isWhole_whole _
    have hT1 : tK.IsWhole := Memref.isWhole_whole _
    sl_exec! (disch := first | (guard_target = ¬(k0_cond1 _ = _); exact c1) | (guard_target = ¬(k0_cond2 _ _ = _); exact c2) | (guard_target = k0_cond3 _ _ = _; exact c3) | (guard_target = k0_cond4 _ = _; exact c4) | (guard_target = k0_chk1 _ _; exact hc))
    sl_step
    iapply Hk
    isplitl [H4 H5 H6 H7 H8 H9 HT0 HT1]
    · isplitl [H4]
      · iexists _; isplitr; swap
        · iexact H4
        · ipureintro; exact h4.read_unread _
      isplitl [H5]
      · iexists _; isplitr; swap
        · iexact H5
        · ipureintro; exact h5.read_unread _
      isplitl [H6]
      · iexists _; isplitr; swap
        · iexact H6
        · ipureintro; exact h6.read_unread _
      isplitl [H7]
      · iexists _; isplitr; swap
        · iexact H7
        · ipureintro; exact h7.read_unread _
      isplitl [H8]
      · iexists _; isplitr; swap
        · iexact H8
        · ipureintro; exact h8.read_unread _
      isplitl [H9]
      · iexists _; isplitr; swap
        · iexact H9
        · ipureintro; exact h9.read_unread _
      isplitl [HT0]; · iexact HT0
      iexact HT1
    isplitl [H10]
    · iexists _; isplitr; swap
      · iexact H10
      · ipureintro; rfl
    isplitl [H11]
    · iexists _; isplitr; swap
      · iexact H11
      · ipureintro; rfl
    isplitl [H12]
    · iexists _; isplitr; swap
      · iexact H12
      · ipureintro; rfl
    isplitl [HS0]; · iexact HS0
    iexact HS1⟩

end Cert.KernelIdeal.Attn

end
-- ==== Proof.RunDiag.lean ====
/-
The runs of the points on the diagonal, the first and the last of a head group apart.
-/
module

public import proofs.«01_k».proof.Proof.RunState

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords)
  (arg4 : Memref sig .tc .vmem S512x512 .bf16) (h4 : arg4.IsWhole) (arg5 : Memref sig .tc .vmem S512x512 .bf16) (h5 : arg5.IsWhole)
  (arg6 : Memref sig .tc .vmem S512x512 .bf16) (h6 : arg6.IsWhole) (arg7 : Memref sig .tc .vmem S512x512 .f32) (h7 : arg7.IsWhole)
  (arg8 : Memref sig .tc .vmem S512x512 .f32) (h8 : arg8.IsWhole) (arg9 : Memref sig .tc .vmem S512x512 .f32) (h9 : arg9.IsWhole)
  (arg10 : Memref sig .tc .vmem S4096x512 .f32) (h10 : arg10.IsWhole) (arg11 : Memref sig .tc .vmem S512x512 .f32) (h11 : arg11.IsWhole)
  (arg12 : Memref sig .tc .vmem S512x512 .f32) (h12 : arg12.IsWhole)
  (x0 x1 x2 : S512x512.Idx → Elt Ideal .bf16) (x3 x4 x5 : S512x512.Idx → Elt Ideal .f32)
  (dq : S4096x512.Idx → Elt Ideal .f32) (ok ov : S512x512.Idx → Elt Ideal .f32)
  (dk dv : S4x512x128.Idx → Elt Ideal .f32)

set_option backward.proofsInPublic true in
set_option maxHeartbeats 8000000 in
/-- A later point on the diagonal: the accumulators begin again. -/
def runDiag (hc : k0_chk1 (qw i) (kw i)) (c1 : ¬(k0_cond1 i = 1#1)) (c2 : k0_cond2 (qw i) (kw i) = 1#1) (c3 : ¬(k0_cond3 (qw i) (kw i) = 1#1)) (c4 : ¬(k0_cond4 (qw i) = 1#1)) :
    Run c i arg4 h4 arg5 h5 arg6 h6 arg7 h7 arg8 h8 arg9 h9 arg10 h10 arg11 h11 arg12 h12 x0 x1 x2 x3 x4 x5 dq ok ov dk dv :=
  ⟨_, _, _, _, _, fun K => by
    unfold Ins Outs owns
    rw [cc0_attn_bwd_eq_skeleton]; unfold cc0_attn_bwd_skel
    iintro ⟨⟨⟨%f4, %e4, H4⟩, ⟨%f5, %e5, H5⟩, ⟨%f6, %e6, H6⟩, ⟨%f7, %e7, H7⟩, ⟨%f8, %e8, H8⟩, ⟨%f9, %e9, H9⟩, HT0, HT1⟩,
      ⟨⟨%f10, %e10, H10⟩, ⟨%f11, %e11, H11⟩, ⟨%f12, %e12, H12⟩, HS0, HS1⟩, Hk⟩
    obtain rfl := h4.eq_unread e4; obtain rfl := h5.eq_unread e5; obtain rfl := h6.eq_unread e6
    obtain rfl := h7.eq_unread e7; obtain rfl := h8.eq_unread e8; obtain rfl := h9.eq_unread e9
    obtain rfl := h10.eq_unread e10; obtain rfl := h11.eq_unread e11; obtain rfl := h12.eq_unread e12
    have hS0 : mDk.IsWhole := Memref.isWhole_whole _
    have hS1 : mDv.IsWhole := Memref.isWhole_whole _
    have hT0 : tQ.IsWhole := Memref.isWhole_whole _
    have hT1 : tK.IsWhole := Memref.isWhole_whole _
    sl_exec! (disch := first | (guard_target = ¬(k0_cond1 _ = _); exact c1) | (guard_target = k0_cond2 _ _ = _; exact c2) | (guard_target = ¬(k0_cond3 _ _ = _); exact c3) | (guard_target = ¬(k0_cond4 _ = _); exact c4) | (guard_target = k0_chk1 _ _; exact hc))
    sl_step
    iapply Hk
    isplitl [H4 H5 H6 H7 H8 H9 HT0 HT1]
    · isplitl [H4]
      · iexists _; isplitr; swap
        · iexact H4
        · ipureintro; exact h4.read_unread _
      isplitl [H5]
      · iexists _; isplitr; swap
        · iexact H5
        · ipureintro; exact h5.read_unread _
      isplitl [H6]
      · iexists _; isplitr; swap
        · iexact H6
        · ipureintro; exact h6.read_unread _
      isplitl [H7]
      · iexists _; isplitr; swap
        · iexact H7
        · ipureintro; exact h7.read_unread _
      isplitl [H8]
      · iexists _; isplitr; swap
        · iexact H8
        · ipureintro; exact h8.read_unread _
      isplitl [H9]
      · iexists _; isplitr; swap
        · iexact H9
        · ipureintro; exact h9.read_unread _
      isplitl [HT0]; · iexact HT0
      iexact HT1
    isplitl [H10]
    · iexists _; isplitr; swap
      · iexact H10
      · ipureintro; rfl
    isplitl [H11]
    · iexists _; isplitr; swap
      · iexact H11
      · ipureintro; rfl
    isplitl [H12]
    · iexists _; isplitr; swap
      · iexact H12
      · ipureintro; rfl
    isplitl [HS0]; · iexact HS0
    iexact HS1⟩

end Cert.KernelIdeal.Attn

end
-- ==== Proof.RunEnds.lean ====
/-
The runs of the first and the last point of a head group.
-/
module

public import proofs.«01_k».proof.Proof.RunState

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords)
  (arg4 : Memref sig .tc .vmem S512x512 .bf16) (h4 : arg4.IsWhole) (arg5 : Memref sig .tc .vmem S512x512 .bf16) (h5 : arg5.IsWhole)
  (arg6 : Memref sig .tc .vmem S512x512 .bf16) (h6 : arg6.IsWhole) (arg7 : Memref sig .tc .vmem S512x512 .f32) (h7 : arg7.IsWhole)
  (arg8 : Memref sig .tc .vmem S512x512 .f32) (h8 : arg8.IsWhole) (arg9 : Memref sig .tc .vmem S512x512 .f32) (h9 : arg9.IsWhole)
  (arg10 : Memref sig .tc .vmem S4096x512 .f32) (h10 : arg10.IsWhole) (arg11 : Memref sig .tc .vmem S512x512 .f32) (h11 : arg11.IsWhole)
  (arg12 : Memref sig .tc .vmem S512x512 .f32) (h12 : arg12.IsWhole)
  (x0 x1 x2 : S512x512.Idx → Elt Ideal .bf16) (x3 x4 x5 : S512x512.Idx → Elt Ideal .f32)
  (dq : S4096x512.Idx → Elt Ideal .f32) (ok ov : S512x512.Idx → Elt Ideal .f32)
  (dk dv : S4x512x128.Idx → Elt Ideal .f32)

set_option backward.proofsInPublic true in
set_option maxHeartbeats 8000000 in
/-- A head group's first point: on the diagonal, dq cleared first. -/
def runFirst (hc : k0_chk1 (qw i) (kw i)) (c1 : k0_cond1 i = 1#1) (c2 : k0_cond2 (qw i) (kw i) = 1#1) (c3 : ¬(k0_cond3 (qw i) (kw i) = 1#1)) (c4 : ¬(k0_cond4 (qw i) = 1#1)) :
    Run c i arg4 h4 arg5 h5 arg6 h6 arg7 h7 arg8 h8 arg9 h9 arg10 h10 arg11 h11 arg12 h12 x0 x1 x2 x3 x4 x5 dq ok ov dk dv :=
  ⟨_, _, _, _, _, fun K => by
    unfold Ins Outs owns
    rw [cc0_attn_bwd_eq_skeleton]; unfold cc0_attn_bwd_skel
    iintro ⟨⟨⟨%f4, %e4, H4⟩, ⟨%f5, %e5, H5⟩, ⟨%f6, %e6, H6⟩, ⟨%f7, %e7, H7⟩, ⟨%f8, %e8, H8⟩, ⟨%f9, %e9, H9⟩, HT0, HT1⟩,
      ⟨⟨%f10, %e10, H10⟩, ⟨%f11, %e11, H11⟩, ⟨%f12, %e12, H12⟩, HS0, HS1⟩, Hk⟩
    obtain rfl := h4.eq_unread e4; obtain rfl := h5.eq_unread e5; obtain rfl := h6.eq_unread e6
    obtain rfl := h7.eq_unread e7; obtain rfl := h8.eq_unread e8; obtain rfl := h9.eq_unread e9
    obtain rfl := h10.eq_unread e10; obtain rfl := h11.eq_unread e11; obtain rfl := h12.eq_unread e12
    have hS0 : mDk.IsWhole := Memref.isWhole_whole _
    have hS1 : mDv.IsWhole := Memref.isWhole_whole _
    have hT0 : tQ.IsWhole := Memref.isWhole_whole _
    have hT1 : tK.IsWhole := Memref.isWhole_whole _
    sl_exec! (disch := first | (guard_target = k0_cond1 _ = _; exact c1) | (guard_target = k0_cond2 _ _ = _; exact c2) | (guard_target = ¬(k0_cond3 _ _ = _); exact c3) | (guard_target = ¬(k0_cond4 _ = _); exact c4) | (guard_target = k0_chk1 _ _; exact hc))
    sl_step
    iapply Hk
    isplitl [H4 H5 H6 H7 H8 H9 HT0 HT1]
    · isplitl [H4]
      · iexists _; isplitr; swap
        · iexact H4
        · ipureintro; exact h4.read_unread _
      isplitl [H5]
      · iexists _; isplitr; swap
        · iexact H5
        · ipureintro; exact h5.read_unread _
      isplitl [H6]
      · iexists _; isplitr; swap
        · iexact H6
        · ipureintro; exact h6.read_unread _
      isplitl [H7]
      · iexists _; isplitr; swap
        · iexact H7
        · ipureintro; exact h7.read_unread _
      isplitl [H8]
      · iexists _; isplitr; swap
        · iexact H8
        · ipureintro; exact h8.read_unread _
      isplitl [H9]
      · iexists _; isplitr; swap
        · iexact H9
        · ipureintro; exact h9.read_unread _
      isplitl [HT0]; · iexact HT0
      iexact HT1
    isplitl [H10]
    · iexists _; isplitr; swap
      · iexact H10
      · ipureintro; rfl
    isplitl [H11]
    · iexists _; isplitr; swap
      · iexact H11
      · ipureintro; rfl
    isplitl [H12]
    · iexists _; isplitr; swap
      · iexact H12
      · ipureintro; rfl
    isplitl [HS0]; · iexact HS0
    iexact HS1⟩

set_option backward.proofsInPublic true in
set_option maxHeartbeats 8000000 in
/-- The last point of a head group: on the diagonal, and dk and dv are written. -/
def runDiagLast (hc : k0_chk1 (qw i) (kw i)) (c1 : ¬(k0_cond1 i = 1#1)) (c2 : k0_cond2 (qw i) (kw i) = 1#1) (c3 : ¬(k0_cond3 (qw i) (kw i) = 1#1)) (c4 : k0_cond4 (qw i) = 1#1) :
    Run c i arg4 h4 arg5 h5 arg6 h6 arg7 h7 arg8 h8 arg9 h9 arg10 h10 arg11 h11 arg12 h12 x0 x1 x2 x3 x4 x5 dq ok ov dk dv :=
  ⟨_, _, _, _, _, fun K => by
    unfold Ins Outs owns
    rw [cc0_attn_bwd_eq_skeleton]; unfold cc0_attn_bwd_skel
    iintro ⟨⟨⟨%f4, %e4, H4⟩, ⟨%f5, %e5, H5⟩, ⟨%f6, %e6, H6⟩, ⟨%f7, %e7, H7⟩, ⟨%f8, %e8, H8⟩, ⟨%f9, %e9, H9⟩, HT0, HT1⟩,
      ⟨⟨%f10, %e10, H10⟩, ⟨%f11, %e11, H11⟩, ⟨%f12, %e12, H12⟩, HS0, HS1⟩, Hk⟩
    obtain rfl := h4.eq_unread e4; obtain rfl := h5.eq_unread e5; obtain rfl := h6.eq_unread e6
    obtain rfl := h7.eq_unread e7; obtain rfl := h8.eq_unread e8; obtain rfl := h9.eq_unread e9
    obtain rfl := h10.eq_unread e10; obtain rfl := h11.eq_unread e11; obtain rfl := h12.eq_unread e12
    have hS0 : mDk.IsWhole := Memref.isWhole_whole _
    have hS1 : mDv.IsWhole := Memref.isWhole_whole _
    have hT0 : tQ.IsWhole := Memref.isWhole_whole _
    have hT1 : tK.IsWhole := Memref.isWhole_whole _
    sl_exec! (disch := first | (guard_target = ¬(k0_cond1 _ = _); exact c1) | (guard_target = k0_cond2 _ _ = _; exact c2) | (guard_target = ¬(k0_cond3 _ _ = _); exact c3) | (guard_target = k0_cond4 _ = _; exact c4) | (guard_target = k0_chk1 _ _; exact hc))
    sl_step
    iapply Hk
    isplitl [H4 H5 H6 H7 H8 H9 HT0 HT1]
    · isplitl [H4]
      · iexists _; isplitr; swap
        · iexact H4
        · ipureintro; exact h4.read_unread _
      isplitl [H5]
      · iexists _; isplitr; swap
        · iexact H5
        · ipureintro; exact h5.read_unread _
      isplitl [H6]
      · iexists _; isplitr; swap
        · iexact H6
        · ipureintro; exact h6.read_unread _
      isplitl [H7]
      · iexists _; isplitr; swap
        · iexact H7
        · ipureintro; exact h7.read_unread _
      isplitl [H8]
      · iexists _; isplitr; swap
        · iexact H8
        · ipureintro; exact h8.read_unread _
      isplitl [H9]
      · iexists _; isplitr; swap
        · iexact H9
        · ipureintro; exact h9.read_unread _
      isplitl [HT0]; · iexact HT0
      iexact HT1
    isplitl [H10]
    · iexists _; isplitr; swap
      · iexact H10
      · ipureintro; rfl
    isplitl [H11]
    · iexists _; isplitr; swap
      · iexact H11
      · ipureintro; rfl
    isplitl [H12]
    · iexists _; isplitr; swap
      · iexact H12
      · ipureintro; rfl
    isplitl [HS0]; · iexact HS0
    iexact HS1⟩

end Cert.KernelIdeal.Attn

end
-- ==== Proof.Step.lean ====
/-
The attention backward pass, point after point: which run the point takes, what the gradient of q and the two
accumulators hold after each point, and that the body of every point does what this says.
-/
module

public import proofs.«01_k».proof.Proof.RunOff
public import proofs.«01_k».proof.Proof.RunDiag
public import proofs.«01_k».proof.Proof.RunEnds

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The staging buffers of a point. -/
abbrev ms0 (t : Fin cfg.N) : Memref sig .tc .vmem S512x512 .bf16 := spec0_0.stage (cfg.slots t (0 : Fin 9))
abbrev ms1 (t : Fin cfg.N) : Memref sig .tc .vmem S512x512 .bf16 := spec0_1.stage (cfg.slots t (1 : Fin 9))
abbrev ms2 (t : Fin cfg.N) : Memref sig .tc .vmem S512x512 .bf16 := spec0_2.stage (cfg.slots t (2 : Fin 9))
abbrev ms3 (t : Fin cfg.N) : Memref sig .tc .vmem S512x512 .f32 := spec0_3.stage (cfg.slots t (3 : Fin 9))
abbrev ms4 (t : Fin cfg.N) : Memref sig .tc .vmem S512x512 .f32 := spec0_4.stage (cfg.slots t (4 : Fin 9))
abbrev ms5 (t : Fin cfg.N) : Memref sig .tc .vmem S512x512 .f32 := spec0_5.stage (cfg.slots t (5 : Fin 9))
abbrev ms6 (t : Fin cfg.N) : Memref sig .tc .vmem S4096x512 .f32 := spec0_6.stage (cfg.slots t (6 : Fin 9))
abbrev ms7 (t : Fin cfg.N) : Memref sig .tc .vmem S512x512 .f32 := spec0_7.stage (cfg.slots t (7 : Fin 9))
abbrev ms8 (t : Fin cfg.N) : Memref sig .tc .vmem S512x512 .f32 := spec0_8.stage (cfg.slots t (8 : Fin 9))
theorem hs0 (t : Fin cfg.N) : (ms0 t).IsWhole := hstage0_0 ((cfg.slots t (0 : Fin 9)).cast nbuf0_0)
theorem hs1 (t : Fin cfg.N) : (ms1 t).IsWhole := hstage0_1 ((cfg.slots t (1 : Fin 9)).cast nbuf0_1)
theorem hs2 (t : Fin cfg.N) : (ms2 t).IsWhole := hstage0_2 ((cfg.slots t (2 : Fin 9)).cast nbuf0_2)
theorem hs3 (t : Fin cfg.N) : (ms3 t).IsWhole := hstage0_3 ((cfg.slots t (3 : Fin 9)).cast nbuf0_3)
theorem hs4 (t : Fin cfg.N) : (ms4 t).IsWhole := hstage0_4 ((cfg.slots t (4 : Fin 9)).cast nbuf0_4)
theorem hs5 (t : Fin cfg.N) : (ms5 t).IsWhole := hstage0_5 ((cfg.slots t (5 : Fin 9)).cast nbuf0_5)
theorem hs6 (t : Fin cfg.N) : (ms6 t).IsWhole := hstage0_6 ((cfg.slots t (6 : Fin 9)).cast nbuf0_6)
theorem hs7 (t : Fin cfg.N) : (ms7 t).IsWhole := hstage0_7 ((cfg.slots t (7 : Fin 9)).cast nbuf0_7)
theorem hs8 (t : Fin cfg.N) : (ms8 t).IsWhole := hstage0_8 ((cfg.slots t (8 : Fin 9)).cast nbuf0_8)

/-- The body of a point on its staging buffers. -/
abbrev bodyAt (t : Fin cfg.N) :=
  cc0_attn_bwd (F := Ideal) (crd t) tQ (Memref.isWhole_whole _) tK (Memref.isWhole_whole _) (ms0 t) (hs0 t) (ms1 t) (hs1 t) (ms2 t) (hs2 t)
    (ms3 t) (hs3 t) (ms4 t) (hs4 t) (ms5 t) (hs5 t) (ms6 t) (hs6 t) (ms7 t) (hs7 t) (ms8 t) (hs8 t)
    mDk (Memref.isWhole_whole _) mDv (Memref.isWhole_whole _)

variable (V : (c : Dev nD) → (b : Ref sig .tc) → Buf (Elt Ideal) ((c.tc : Thread nD τ).loc b))

/-- The block window `w` reads at point `t`. -/
def iblk (c : Dev nD) (w : Fin 9) (t : Fin cfg.N) : (cfg.win w).block.Idx → Elt Ideal (cfg.win w).elt :=
  ((cfg.win w).blk t).view.read (Elt Ideal) (V c (arrRef spec0 w))

/-- The type of a run of point `t` from these contents. -/
abbrev RunAt (c : Dev nD) (t : Fin cfg.N) (dq : S4096x512.Idx → Elt Ideal .f32) (ok ov : S512x512.Idx → Elt Ideal .f32)
    (dk dv : S4x512x128.Idx → Elt Ideal .f32) :=
  Run c (crd t) (ms0 t) (hs0 t) (ms1 t) (hs1 t) (ms2 t) (hs2 t) (ms3 t) (hs3 t) (ms4 t) (hs4 t) (ms5 t) (hs5 t) (ms6 t) (hs6 t)
    (ms7 t) (hs7 t) (ms8 t) (hs8 t) (iblk V c (0 : Fin 9) t) (iblk V c (1 : Fin 9) t) (iblk V c (2 : Fin 9) t)
    (iblk V c (3 : Fin 9) t) (iblk V c (4 : Fin 9) t) (iblk V c (5 : Fin 9) t) dq ok ov dk dv

/-- The run of point `t`: by where the pair lies. -/
def runAt (c : Dev nD) (t : Fin cfg.N) (dq : S4096x512.Idx → Elt Ideal .f32) (ok ov : S512x512.Idx → Elt Ideal .f32)
    (dk dv : S4x512x128.Idx → Elt Ideal .f32) : RunAt V c t dq ok ov dk dv :=
  have hh := at_all t
  have hc := hh.2.2.1
  if h1 : k0_cond1 (crd t) = 1#1 then
    if h2 : k0_cond2 (qw (crd t)) (kw (crd t)) = 1#1 ∧ ¬(k0_cond3 (qw (crd t)) (kw (crd t)) = 1#1) ∧ ¬(k0_cond4 (qw (crd t)) = 1#1) then
      runFirst c (crd t) (ms0 t) (hs0 t) (ms1 t) (hs1 t) (ms2 t) (hs2 t) (ms3 t) (hs3 t) (ms4 t) (hs4 t) (ms5 t) (hs5 t) (ms6 t) (hs6 t)
        (ms7 t) (hs7 t) (ms8 t) (hs8 t) _ _ _ _ _ _ dq ok ov dk dv hc h1 h2.1 h2.2.1 h2.2.2
    else absurd (first_at t h1) h2
  else if h2 : k0_cond2 (qw (crd t)) (kw (crd t)) = 1#1 then
    if h4 : k0_cond4 (qw (crd t)) = 1#1 then
      runDiagLast c (crd t) (ms0 t) (hs0 t) (ms1 t) (hs1 t) (ms2 t) (hs2 t) (ms3 t) (hs3 t) (ms4 t) (hs4 t) (ms5 t) (hs5 t) (ms6 t) (hs6 t)
        (ms7 t) (hs7 t) (ms8 t) (hs8 t) _ _ _ _ _ _ dq ok ov dk dv hc h1 h2 (fun h => (hh.2.2.2.2.2.1.mp h) (hh.2.2.2.2.1.mp h2)) h4
    else
      runDiag c (crd t) (ms0 t) (hs0 t) (ms1 t) (hs1 t) (ms2 t) (hs2 t) (ms3 t) (hs3 t) (ms4 t) (hs4 t) (ms5 t) (hs5 t) (ms6 t) (hs6 t)
        (ms7 t) (hs7 t) (ms8 t) (hs8 t) _ _ _ _ _ _ dq ok ov dk dv hc h1 h2 (fun h => (hh.2.2.2.2.2.1.mp h) (hh.2.2.2.2.1.mp h2)) h4
  else
    if h4 : k0_cond4 (qw (crd t)) = 1#1 then
      runOffLast c (crd t) (ms0 t) (hs0 t) (ms1 t) (hs1 t) (ms2 t) (hs2 t) (ms3 t) (hs3 t) (ms4 t) (hs4 t) (ms5 t) (hs5 t) (ms6 t) (hs6 t)
        (ms7 t) (hs7 t) (ms8 t) (hs8 t) _ _ _ _ _ _ dq ok ov dk dv hc h1 h2 (hh.2.2.2.2.2.1.mpr fun h => h2 (hh.2.2.2.2.1.mpr h)) h4
    else
      runOff c (crd t) (ms0 t) (hs0 t) (ms1 t) (hs1 t) (ms2 t) (hs2 t) (ms3 t) (hs3 t) (ms4 t) (hs4 t) (ms5 t) (hs5 t) (ms6 t) (hs6 t)
        (ms7 t) (hs7 t) (ms8 t) (hs8 t) _ _ _ _ _ _ dq ok ov dk dv hc h1 h2 (hh.2.2.2.2.2.1.mpr fun h => h2 (hh.2.2.2.2.1.mpr h)) h4

variable {V}

/-- What a head group's first point leaves does not depend on what it found. -/
theorem runAt_first {c : Dev nD} {t : Fin cfg.N} (h : t.val % 36 = 0) (dq dq₂ : S4096x512.Idx → Elt Ideal .f32)
    (ok ov ok₂ ov₂ : S512x512.Idx → Elt Ideal .f32) (dk dv dk₂ dv₂ : S4x512x128.Idx → Elt Ideal .f32) :
    (runAt V c t dq ok ov dk dv).dq' = (runAt V c t dq₂ ok₂ ov₂ dk₂ dv₂).dq'
      ∧ (runAt V c t dq ok ov dk dv).dk' = (runAt V c t dq₂ ok₂ ov₂ dk₂ dv₂).dk'
      ∧ (runAt V c t dq ok ov dk dv).dv' = (runAt V c t dq₂ ok₂ ov₂ dk₂ dv₂).dv' := by
  have h1 := (at_all t).2.2.2.1.mpr h
  unfold runAt
  simp only [dif_pos h1, dif_pos (first_at t h1)]
  exact ⟨rfl, rfl, rfl⟩

/-- The gradient of q and the accumulators do not depend on what the blocks of dk and dv held. -/
theorem runAt_outs {c : Dev nD} {t : Fin cfg.N} (dq : S4096x512.Idx → Elt Ideal .f32)
    (ok ov ok₂ ov₂ : S512x512.Idx → Elt Ideal .f32) (dk dv : S4x512x128.Idx → Elt Ideal .f32) :
    (runAt V c t dq ok ov dk dv).dq' = (runAt V c t dq ok₂ ov₂ dk dv).dq'
      ∧ (runAt V c t dq ok ov dk dv).dk' = (runAt V c t dq ok₂ ov₂ dk dv).dk'
      ∧ (runAt V c t dq ok ov dk dv).dv' = (runAt V c t dq ok₂ ov₂ dk dv).dv' := by
  unfold runAt
  by_cases h1 : k0_cond1 (crd t) = 1#1
  · simp only [dif_pos h1, dif_pos (first_at t h1)]
    exact ⟨rfl, rfl, rfl⟩
  · by_cases h2 : k0_cond2 (qw (crd t)) (kw (crd t)) = 1#1 <;> by_cases h4 : k0_cond4 (qw (crd t)) = 1#1
    · simp only [dif_neg h1, dif_pos h2, dif_pos h4]; exact ⟨rfl, rfl, rfl⟩
    · simp only [dif_neg h1, dif_pos h2, dif_neg h4]; exact ⟨rfl, rfl, rfl⟩
    · simp only [dif_neg h1, dif_neg h2, dif_pos h4]; exact ⟨rfl, rfl, rfl⟩
    · simp only [dif_neg h1, dif_neg h2, dif_neg h4]; exact ⟨rfl, rfl, rfl⟩

/-- A point that is no key tile's last leaves the blocks of dk and dv alone. -/
theorem runAt_idle {c : Dev nD} {t : Fin cfg.N} (h : qn t.val ≠ 7) (dq : S4096x512.Idx → Elt Ideal .f32)
    (ok ov : S512x512.Idx → Elt Ideal .f32) (dk dv : S4x512x128.Idx → Elt Ideal .f32) :
    (runAt V c t dq ok ov dk dv).ok' = ok ∧ (runAt V c t dq ok ov dk dv).ov' = ov := by
  have h4 : ¬ k0_cond4 (qw (crd t)) = 1#1 := fun hh => h ((at_all t).2.2.2.2.2.2.1.mp hh)
  unfold runAt
  by_cases h1 : k0_cond1 (crd t) = 1#1
  · simp only [dif_pos h1, dif_pos (first_at t h1)]
    exact ⟨(hs7 t).read_unread _, (hs8 t).read_unread _⟩
  · by_cases h2 : k0_cond2 (qw (crd t)) (kw (crd t)) = 1#1
    · simp only [dif_neg h1, dif_pos h2, dif_neg h4]; exact ⟨(hs7 t).read_unread _, (hs8 t).read_unread _⟩
    · simp only [dif_neg h1, dif_neg h2, dif_neg h4]; exact ⟨(hs7 t).read_unread _, (hs8 t).read_unread _⟩

/-- A key tile's last point writes the blocks of dk and dv whole. -/
theorem runAt_last {c : Dev nD} {t : Fin cfg.N} (h : qn t.val = 7) (dq : S4096x512.Idx → Elt Ideal .f32)
    (ok ov ok₂ ov₂ : S512x512.Idx → Elt Ideal .f32) (dk dv : S4x512x128.Idx → Elt Ideal .f32) :
    (runAt V c t dq ok ov dk dv).ok' = (runAt V c t dq ok₂ ov₂ dk dv).ok'
      ∧ (runAt V c t dq ok ov dk dv).ov' = (runAt V c t dq ok₂ ov₂ dk dv).ov' := by
  have h4 : k0_cond4 (qw (crd t)) = 1#1 := (at_all t).2.2.2.2.2.2.1.mpr h
  unfold runAt
  by_cases h1 : k0_cond1 (crd t) = 1#1
  · exact absurd h4 (first_at t h1).2.2
  · by_cases h2 : k0_cond2 (qw (crd t)) (kw (crd t)) = 1#1
    · simp only [dif_neg h1, dif_pos h2, dif_pos h4]; exact ⟨rfl, rfl⟩
    · simp only [dif_neg h1, dif_neg h2, dif_pos h4]; exact ⟨rfl, rfl⟩

variable (V)

/-- The gradient of q and the two accumulators. -/
abbrev St := (S4096x512.Idx → Elt Ideal .f32) × (S4x512x128.Idx → Elt Ideal .f32) × (S4x512x128.Idx → Elt Ideal .f32)

/-- What point `t` makes of them. -/
def stepAt (c : Dev nD) (t : Fin cfg.N) (s : St) : St :=
  ((runAt V c t s.1 default default s.2.1 s.2.2).dq', (runAt V c t s.1 default default s.2.1 s.2.2).dk',
    (runAt V c t s.1 default default s.2.1 s.2.2).dv')

/-- What they hold before point `n`. -/
def st (c : Dev nD) : ℕ → St
  | 0 => default
  | n + 1 => if h : n < cfg.N then stepAt V c ⟨n, h⟩ (st c n) else default

theorem st_succ (c : Dev nD) (t : Fin cfg.N) : st V c (t.val + 1) = stepAt V c t (st V c t.val) := by
  show (if h : t.val < cfg.N then stepAt V c ⟨t.val, h⟩ (st V c t.val) else default) = _
  rw [dif_pos t.isLt]

/-- The blocks of dk and dv after point `t`, where it writes them. -/
def okAt (c : Dev nD) (t : Fin cfg.N) : S512x512.Idx → Elt Ideal .f32 :=
  (runAt V c t (st V c t.val).1 default default (st V c t.val).2.1 (st V c t.val).2.2).ok'
def ovAt (c : Dev nD) (t : Fin cfg.N) : S512x512.Idx → Elt Ideal .f32 :=
  (runAt V c t (st V c t.val).1 default default (st V c t.val).2.1 (st V c t.val).2.2).ov'

/-- Before point `n`: the accumulators at what the points before left, the tables. -/
def Phi (c : Dev nD) (n : ℕ) : sProp 𝕄 :=
  iprop((∃ a, ⌜n ≠ 0 → a = (st V c n).2.1⌝ ∗ (mDk.view.loc (c : Thread nD τ) ↦{fullShare} a))
    ∗ (∃ a, ⌜n ≠ 0 → a = (st V c n).2.2⌝ ∗ (mDv.view.loc (c : Thread nD τ) ↦{fullShare} a))
    ∗ (tQ.view.loc (c : Thread nD τ) ↦{fullShare.right} qT) ∗ (tK.view.loc (c : Thread nD τ) ↦{fullShare.right} kT)
    ∗ ∃ r, prngReg c r)

/-- The data of the pipeline. -/
def dats (_ : Fin 1) (c : Dev nD) : Dat τ (Elt Ideal) Unit ℕ (UR sig nD τ) ℕ cfg c where
  A w := V c (arrRef spec0 w)
  after w t := match w with
    | ⟨0, _⟩ => iblk V c (0 : Fin 9) t
    | ⟨1, _⟩ => iblk V c (1 : Fin 9) t
    | ⟨2, _⟩ => iblk V c (2 : Fin 9) t
    | ⟨3, _⟩ => iblk V c (3 : Fin 9) t
    | ⟨4, _⟩ => iblk V c (4 : Fin 9) t
    | ⟨5, _⟩ => iblk V c (5 : Fin 9) t
    | ⟨6, _⟩ => (st V c (t.val + 1)).1
    | ⟨7, _⟩ => okAt V c t
    | ⟨8, _⟩ => ovAt V c t
  Φ t := Phi V c t.val
  q _ := fullShare
  owed _ := 0

theorem after_0 (c : Dev nD) (t : Fin cfg.N) : (dats V 0 c).after (0 : Fin 9) t = iblk V c (0 : Fin 9) t := rfl
theorem after_1 (c : Dev nD) (t : Fin cfg.N) : (dats V 0 c).after (1 : Fin 9) t = iblk V c (1 : Fin 9) t := rfl
theorem after_2 (c : Dev nD) (t : Fin cfg.N) : (dats V 0 c).after (2 : Fin 9) t = iblk V c (2 : Fin 9) t := rfl
theorem after_3 (c : Dev nD) (t : Fin cfg.N) : (dats V 0 c).after (3 : Fin 9) t = iblk V c (3 : Fin 9) t := rfl
theorem after_4 (c : Dev nD) (t : Fin cfg.N) : (dats V 0 c).after (4 : Fin 9) t = iblk V c (4 : Fin 9) t := rfl
theorem after_5 (c : Dev nD) (t : Fin cfg.N) : (dats V 0 c).after (5 : Fin 9) t = iblk V c (5 : Fin 9) t := rfl
theorem after_6 (c : Dev nD) (t : Fin cfg.N) : (dats V 0 c).after (6 : Fin 9) t = (st V c (t.val + 1)).1 := rfl
theorem after_7 (c : Dev nD) (t : Fin cfg.N) : (dats V 0 c).after (7 : Fin 9) t = okAt V c t := rfl
theorem after_8 (c : Dev nD) (t : Fin cfg.N) : (dats V 0 c).after (8 : Fin 9) t = ovAt V c t := rfl

/-- The six blocks read are the arrays' own, fetched at that point or before. -/
theorem before_0 (c : Dev nD) (t : Fin cfg.N) (d) : (dats V 0 c).before (0 : Fin 9) t d = iblk V c (0 : Fin 9) t :=
  ((dats V 0 c).before_in_eq_fetched (0 : Fin 9) rfl (fun _ => rfl) (fun _ _ _ => rfl) (fun t => by rw [after_0]; unfold Dat.blockOf iblk; rfl) t d).trans
    (by unfold Dat.fetched Dat.blockOf iblk; rfl)
theorem before_1 (c : Dev nD) (t : Fin cfg.N) (d) : (dats V 0 c).before (1 : Fin 9) t d = iblk V c (1 : Fin 9) t :=
  ((dats V 0 c).before_in_eq_fetched (1 : Fin 9) rfl (fun _ => rfl) (fun _ _ _ => rfl) (fun t => by rw [after_1]; unfold Dat.blockOf iblk; rfl) t d).trans
    (by unfold Dat.fetched Dat.blockOf iblk; rfl)
theorem before_2 (c : Dev nD) (t : Fin cfg.N) (d) : (dats V 0 c).before (2 : Fin 9) t d = iblk V c (2 : Fin 9) t :=
  ((dats V 0 c).before_in_eq_fetched (2 : Fin 9) rfl (fun _ => rfl) (fun _ _ _ => rfl) (fun t => by rw [after_2]; unfold Dat.blockOf iblk; rfl) t d).trans
    (by unfold Dat.fetched Dat.blockOf iblk; rfl)
theorem before_3 (c : Dev nD) (t : Fin cfg.N) (d) : (dats V 0 c).before (3 : Fin 9) t d = iblk V c (3 : Fin 9) t :=
  ((dats V 0 c).before_in_eq_fetched (3 : Fin 9) rfl (fun _ => rfl) (fun _ _ _ => rfl) (fun t => by rw [after_3]; unfold Dat.blockOf iblk; rfl) t d).trans
    (by unfold Dat.fetched Dat.blockOf iblk; rfl)
theorem before_4 (c : Dev nD) (t : Fin cfg.N) (d) : (dats V 0 c).before (4 : Fin 9) t d = iblk V c (4 : Fin 9) t :=
  ((dats V 0 c).before_in_eq_fetched (4 : Fin 9) rfl (fun _ => rfl) (fun _ _ _ => rfl) (fun t => by rw [after_4]; unfold Dat.blockOf iblk; rfl) t d).trans
    (by unfold Dat.fetched Dat.blockOf iblk; rfl)
theorem before_5 (c : Dev nD) (t : Fin cfg.N) (d) : (dats V 0 c).before (5 : Fin 9) t d = iblk V c (5 : Fin 9) t :=
  ((dats V 0 c).before_in_eq_fetched (5 : Fin 9) rfl (fun _ => rfl) (fun _ _ _ => rfl) (fun t => by rw [after_5]; unfold Dat.blockOf iblk; rfl) t d).trans
    (by unfold Dat.fetched Dat.blockOf iblk; rfl)

/-- The gradient of q is carried from point to point within a head group. -/
theorem before_6 (c : Dev nD) (t : Fin cfg.N) (d) (h : t.val % 36 ≠ 0) : (dats V 0 c).before (6 : Fin 9) t d = (st V c t.val).1 := by
  have hpos : t.val ≠ 0 := fun h0 => h (by rw [h0])
  rw [(dats V 0 c).before_out_traj (6 : Fin 9) rfl (fun _ _ => rfl)
    (fun s _ hs => absurd ((at_all s).2.2.2.2.2.2.2.1.symm.trans hs) Bool.false_ne_true) t.val t rfl d, fresh_6 t,
    decide_eq_false h, if_neg Bool.false_ne_true, after_6]
  exact congrArg (fun n => (st V c n).1) (show t.val - 1 + 1 = t.val by omega)

/-- From what a point finds to what the next one finds: the gradient of q and the accumulators, -/
theorem outs_eq (c : Dev nD) (t : Fin cfg.N) (b6 : S4096x512.Idx → Elt Ideal .f32) (b7 b8 : S512x512.Idx → Elt Ideal .f32)
    (a0 a1 : S4x512x128.Idx → Elt Ideal .f32) (h6 : t.val % 36 ≠ 0 → b6 = (st V c t.val).1)
    (h0 : t.val ≠ 0 → a0 = (st V c t.val).2.1) (h1 : t.val ≠ 0 → a1 = (st V c t.val).2.2) :
    (runAt V c t b6 b7 b8 a0 a1).dq' = (st V c (t.val + 1)).1 ∧ (runAt V c t b6 b7 b8 a0 a1).dk' = (st V c (t.val + 1)).2.1
      ∧ (runAt V c t b6 b7 b8 a0 a1).dv' = (st V c (t.val + 1)).2.2 := by
  rw [st_succ]
  by_cases h : t.val % 36 = 0
  · exact runAt_first h b6 _ b7 b8 _ _ a0 a1 _ _
  · have ht : t.val ≠ 0 := fun h0 => h (by rw [h0])
    rw [h6 h, h0 ht, h1 ht]
    exact runAt_outs _ b7 b8 _ _ _ _

theorem qn_mod {n : ℕ} (h : qn n = 7) : n % 36 ≠ 0 := by
  intro h0; unfold qn at h; rw [h0] at h; exact absurd h (by decide)

/-- and the blocks of dk and dv, where they are written. -/
theorem blocks_eq (c : Dev nD) (t : Fin cfg.N) (h : qn t.val = 7) (b6 : S4096x512.Idx → Elt Ideal .f32) (b7 b8 : S512x512.Idx → Elt Ideal .f32)
    (a0 a1 : S4x512x128.Idx → Elt Ideal .f32) (h6 : t.val % 36 ≠ 0 → b6 = (st V c t.val).1)
    (h0 : t.val ≠ 0 → a0 = (st V c t.val).2.1) (h1 : t.val ≠ 0 → a1 = (st V c t.val).2.2) :
    (runAt V c t b6 b7 b8 a0 a1).ok' = okAt V c t ∧ (runAt V c t b6 b7 b8 a0 a1).ov' = ovAt V c t := by
  have hm := qn_mod h
  have ht : t.val ≠ 0 := fun h0 => hm (by rw [h0])
  rw [h6 hm, h0 ht, h1 ht]
  exact runAt_last h _ b7 b8 _ _ _ _

set_option maxHeartbeats 4000000 in
/-- The body of every point does what the data say. -/
theorem sound_body (c : Dev nD) (t : Fin cfg.N) :
    iprop((dats V 0 c).Φ t.castSucc ∗ (dats V 0 c).owesAt () t.castSucc
        ∗ (∃ d, owns (c : Thread nD τ) (ms0 t) fullShare ((dats V 0 c).before (0 : Fin 9) t d))
        ∗ (∃ d, owns (c : Thread nD τ) (ms1 t) fullShare ((dats V 0 c).before (1 : Fin 9) t d))
        ∗ (∃ d, owns (c : Thread nD τ) (ms2 t) fullShare ((dats V 0 c).before (2 : Fin 9) t d))
        ∗ (∃ d, owns (c : Thread nD τ) (ms3 t) fullShare ((dats V 0 c).before (3 : Fin 9) t d))
        ∗ (∃ d, owns (c : Thread nD τ) (ms4 t) fullShare ((dats V 0 c).before (4 : Fin 9) t d))
        ∗ (∃ d, owns (c : Thread nD τ) (ms5 t) fullShare ((dats V 0 c).before (5 : Fin 9) t d))
        ∗ (∃ d, owns (c : Thread nD τ) (ms6 t) fullShare ((dats V 0 c).before (6 : Fin 9) t d))
        ∗ (∃ d, owns (c : Thread nD τ) (ms7 t) fullShare ((dats V 0 c).before (7 : Fin 9) t d))
        ∗ (∃ d, owns (c : Thread nD τ) (ms8 t) fullShare ((dats V 0 c).before (8 : Fin 9) t d)))
      ⊢ wp frame (wpE (defs₀ (F := Ideal)) Variants.none c none) Set.univ (bodyAt t) fun _ =>
          iprop((dats V 0 c).Φ t.succ ∗ (dats V 0 c).owesAt () t.succ
            ∗ bigSep Finset.univ fun w : Fin cfg.W =>
                match cfg.idle w (cfg.grid.coords t) with
                | true =>
                  match (cfg.win w).flush t with
                  | false => iprop(∃ d, owns (c : Thread nD τ) ((cfg.win w).stage (cfg.slots t w)) fullShare ((dats V 0 c).before w t d))
                  | true => owns (c : Thread nD τ) ((cfg.win w).stage (cfg.slots t w)) fullShare ((dats V 0 c).after w t)
                | false => owns (c : Thread nD τ) ((cfg.win w).stage (cfg.slots t w)) fullShare ((dats V 0 c).after w t)) := by
  have hh := at_all t
  have i6 := hh.2.2.2.2.2.2.2.1
  have i7 := hh.2.2.2.2.2.2.2.2.1
  have f7 := hh.2.2.2.2.2.2.2.2.2.2.2.1
  have f8 := hh.2.2.2.2.2.2.2.2.2.2.2.2
  rw [bigSep_W0]
  rewrite [i6, i7]
  simp only [before_0, before_1, before_2, before_3, before_4, before_5, after_0, after_1, after_2, after_3, after_4, after_5,
    after_6, after_7, after_8, f7, f8]
  rewrite [show (dats V 0 c).Φ t.succ = Phi V c (t.val + 1) from rfl, show (dats V 0 c).Φ t.castSucc = Phi V c t.val from rfl,
    show (dats V 0 c).owesAt () t.succ = (dats V 0 c).owesAt () t.castSucc from rfl]
  unfold Phi
  iintro ⟨⟨⟨%a0, %ha0, HS0⟩, ⟨%a1, %ha1, HS1⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have ho := outs_eq V c t ((dats V 0 c).before (6 : Fin 9) t d6) ((dats V 0 c).before (7 : Fin 9) t d7) ((dats V 0 c).before (8 : Fin 9) t d8)
    a0 a1 (before_6 V c t d6) ha0 ha1
  iapply ((runAt V c t ((dats V 0 c).before (6 : Fin 9) t d6) ((dats V 0 c).before (7 : Fin 9) t d7) ((dats V 0 c).before (8 : Fin 9) t d8)
    a0 a1).sound _)
  rw [ho.1, ho.2.1, ho.2.2]
  isplitl [H0 H1 H2 H3 H4 H5 HT0 HT1]
  · unfold Ins
    isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [H6 H7 H8 HS0 HS1]
  · unfold Outs
    isplitl [H6]; · iexact H6
    isplitl [H7]; · iexact H7
    isplitl [H8]; · iexact H8
    isplitl [HS0]; · iexact HS0
    iexact HS1
  unfold Ins Outs
  iintro ⟨⟨H0, H1, H2, H3, H4, H5, HT0, HT1⟩, ⟨H6, H7, H8, HS0, HS1⟩⟩
  isplitl [HS0 HS1 HT0 HT1 HR]
  · isplitl [HS0]
    · iexists _; isplitr; swap
      · iexact HS0
      · ipureintro; exact fun _ => rfl
    isplitl [HS1]
    · iexists _; isplitr; swap
      · iexact HS1
      · ipureintro; exact fun _ => rfl
    isplitl [HT0]; · iexact HT0
    isplitl [HT1]; · iexact HT1
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases h7 : qn t.val = 7
  · have hb := blocks_eq V c t h7 ((dats V 0 c).before (6 : Fin 9) t d6) ((dats V 0 c).before (7 : Fin 9) t d7) ((dats V 0 c).before (8 : Fin 9) t d8)
      a0 a1 (before_6 V c t d6) ha0 ha1
    rw [hb.1, hb.2]
    simp only [decide_eq_true h7, Bool.not_true]
    isplitl [H7]; · iexact H7
    iexact H8
  · have hb := runAt_idle (V := V) (c := c) h7 ((dats V 0 c).before (6 : Fin 9) t d6) ((dats V 0 c).before (7 : Fin 9) t d7) ((dats V 0 c).before (8 : Fin 9) t d8)
      a0 a1
    rw [hb.1, hb.2]
    simp only [decide_eq_false h7, Bool.not_false]
    isplitl [H7]
    · iexists d7; iexact H7
    iexists d8; iexact H8

/-- The library's body obligation, at every point. -/
theorem body_obligation (c : Dev nD) : BodyObligation (dats V 0 c) (defs₀ (F := Ideal)) Variants.none () Set.univ := fun t => by
  rw [bigSep_W0]
  exact sound_body V c t

theorem share_eq (c : Dev nD) (w : Fin cfg.W) : (dats V 0 c).share w = fullShare := by unfold Dat.share; split <;> rfl

end Cert.KernelIdeal.Attn

end
-- ==== Proof.Launch.lean ====
/-
The whole program of the attention backward pass: the host operations lay out the tables and what the forward pass
saved, and the pipeline runs. Every execution ends, the arguments are as they were, the semaphores are zero, and each
result holds what the points wrote back.
-/
module

public import proofs.«01_k».proof.Proof.Step
public import Idealize.ShloMosaic.Lib.Pipeline.Kit

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (g : Dev nD → PrngReg)

/-- What every buffer holds when the pipeline begins. -/
def VM (c : Dev nD) (b : Ref sig .tc) : Buf (Elt Ideal) ((c.tc : Thread nD τ).loc b) :=
  StableHlo.after (hostOps0 (F := Ideal)) (fun b => m (c, b)) b

theorem vm_arg0 (c : Dev nD) : VM m c main_arg0 = m ((c.tc : Thread nD τ).loc main_arg0) := by
  unfold VM; after_results_simp <;> rfl
theorem vm_arg1 (c : Dev nD) : VM m c main_arg1 = m ((c.tc : Thread nD τ).loc main_arg1) := by
  unfold VM; after_results_simp <;> rfl
theorem vm_arg2 (c : Dev nD) : VM m c main_arg2 = m ((c.tc : Thread nD τ).loc main_arg2) := by
  unfold VM; after_results_simp <;> rfl
theorem vm_arg3 (c : Dev nD) : VM m c main_arg3 = m ((c.tc : Thread nD τ).loc main_arg3) := by
  unfold VM; after_results_simp <;> rfl
theorem vm_c (c : Dev nD) : VM m c main_c = qT := by
  unfold VM; after_results_simp <;> rfl
theorem vm_c_0 (c : Dev nD) : VM m c main_c_0 = kT := by
  unfold VM; after_results_simp <;> rfl

/-- The tables as the pipeline hands them to the body, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

variable (V : (c : Dev nD) → (b : Ref sig .tc) → Buf (Elt Ideal) ((c.tc : Thread nD τ).loc b))

theorem phi_in (c : Dev nD) : iprop(ΦA spec0 c ∗ ΦT pre0 adm.1 c) ⊢ (dats V 0 c).Φ 0 := by
  unfold ΦA ΦT
  rw [prefHeld_eq, scopedRest0_eq, show (dats V 0 c).Φ 0 = Phi V c 0 from rfl]
  unfold Phi
  iintro ⟨⟨⟨⟨%a0, HS0⟩, ⟨%a1, HS1⟩⟩, HR⟩, ⟨HT0, HT1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  isplitl [HT1]
  · iexact HT1
  iexact HR

theorem phi_out (c : Dev nD) : (dats V 0 c).Φ (Fin.last cfg.N) ⊢ ΦA spec0 c := by
  unfold ΦA
  rw [scopedRest0_eq, show (dats V 0 c).Φ (Fin.last cfg.N) = Phi V c cfg.N from rfl]
  unfold Phi
  iintro ⟨⟨%a0, -, HS0⟩, ⟨%a1, -, HS1⟩, -, -, HR⟩
  isplitl [HS0 HS1]
  · isplitl [HS0]
    · iexists a0; iexact HS0
    iexists a1; iexact HS1
  iexact HR

/-- Every execution ends with the arrays as the data say and every semaphore at zero. -/
theorem run_main : θ_run (defs (F := Ideal)) (onTc (τ := τ) (main (F := Ideal))) ⟨m, fun _ => 0, g⟩
    (fun r => FramePost pcs (dats (VM m)) 0 (VM m) r ∧ r.2.sem = fun _ => 0) :=
  Pipeline.θ_run_frameP_track (pcfgs (F := Ideal)) (fun _ => adm) (dats (VM m)) 0 launch0 defs₀ Variants.none m g main
    (fun c => (body_obligation (VM m) c).loose) (share_eq (VM m)) (fun _ _ => rfl) (VM m)
    (Pipeline.hmainP_prefixes pcfgs 0 defs₀ Variants.none m main [hostOps0 (F := Ideal)] (by simpa using hostOps0_sub (F := Ideal))
      (by simp only [hostOps0, List.Forall]; repeat (first | exact rfl | refine And.intro rfl ?_)) (fun c => main_chain c))
    (fun _ _ => rfl)
    (fun c k => by fin_cases k; exacts [vm_c m c, vm_c_0 m c])
    (phi_in (VM m)) (phi_out (VM m)) _ (fun _ h => h)

/-- The frame: the arguments end as they were and the machine is quiescent. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r (h : _ ∧ _) => ⟨fun c =>
    ⟨((h.1 c).1 (0 : Fin 9)).trans (((dats (VM m) 0 c).arrAt_in (0 : Fin 9) rfl _).trans (vm_arg0 m c)),
     ((h.1 c).1 (1 : Fin 9)).trans (((dats (VM m) 0 c).arrAt_in (1 : Fin 9) rfl _).trans (vm_arg1 m c)),
     ((h.1 c).1 (2 : Fin 9)).trans (((dats (VM m) 0 c).arrAt_in (2 : Fin 9) rfl _).trans (vm_arg2 m c)),
     ((h.1 c).1 (3 : Fin 9)).trans (((dats (VM m) 0 c).arrAt_in (3 : Fin 9) rfl _).trans (vm_arg3 m c))⟩, h.2⟩) (run_main m g)

end Cert.KernelIdeal.Attn

end
-- ==== Proof.Bits.RunState.lean ====
/-
What one point of the attention backward pass holds and what it leaves — in the gradient of q, in the two accumulators
and in the blocks of dk and dv — as the type of a run of the machine.
-/
module

public import proofs.«01_k».proof.Proof.Bits.Tables
public import proofs.«01_k».proof.Proof.Gen.Kernel.Skeleton
public import Idealize.ShloMosaic.Adequacy
public import Idealize.ShloMosaic.Init

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

variable (c : Dev nD) (i : grid0.Coords)
  (arg4 : Memref sig .tc .vmem S512x512 .bf16) (h4 : arg4.IsWhole) (arg5 : Memref sig .tc .vmem S512x512 .bf16) (h5 : arg5.IsWhole)
  (arg6 : Memref sig .tc .vmem S512x512 .bf16) (h6 : arg6.IsWhole) (arg7 : Memref sig .tc .vmem S512x512 .f32) (h7 : arg7.IsWhole)
  (arg8 : Memref sig .tc .vmem S512x512 .f32) (h8 : arg8.IsWhole) (arg9 : Memref sig .tc .vmem S512x512 .f32) (h9 : arg9.IsWhole)
  (arg10 : Memref sig .tc .vmem S4096x512 .f32) (h10 : arg10.IsWhole) (arg11 : Memref sig .tc .vmem S512x512 .f32) (h11 : arg11.IsWhole)
  (arg12 : Memref sig .tc .vmem S512x512 .f32) (h12 : arg12.IsWhole)
  (x0 x1 x2 : S512x512.Idx → Elt Bits .bf16) (x3 x4 x5 : S512x512.Idx → Elt Bits .f32)
  (dq : S4096x512.Idx → Elt Bits .f32) (ok ov : S512x512.Idx → Elt Bits .f32)
  (dk dv : S4x512x128.Idx → Elt Bits .f32)

/-- The six blocks a point reads, in their staging buffers, and the body's halves of the two tables. -/
def Ins : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4 ∗ owns (c : Thread nD τ) arg9 fullShare x5
    ∗ (tQ.view.loc (c : Thread nD τ) ↦{fullShare.right} qT) ∗ (tK.view.loc (c : Thread nD τ) ↦{fullShare.right} kT))

/-- What a point writes: the gradient of q, the blocks of dk and dv, the two accumulators. -/
def Outs : sProp 𝕄 :=
  iprop(owns (c : Thread nD τ) arg10 fullShare dq ∗ owns (c : Thread nD τ) arg11 fullShare ok ∗ owns (c : Thread nD τ) arg12 fullShare ov
    ∗ (mDk.view.loc (c : Thread nD τ) ↦{fullShare} dk) ∗ (mDv.view.loc (c : Thread nD τ) ↦{fullShare} dv))

/-- A run of one point: from these contents to those. -/
structure Run where
  dq' : S4096x512.Idx → Elt Bits .f32
  ok' : S512x512.Idx → Elt Bits .f32
  ov' : S512x512.Idx → Elt Bits .f32
  dk' : S4x512x128.Idx → Elt Bits .f32
  dv' : S4x512x128.Idx → Elt Bits .f32
  sound : ∀ K : PUnit → sProp 𝕄,
    iprop(Ins c arg4 arg5 arg6 arg7 arg8 arg9 x0 x1 x2 x3 x4 x5 ∗ Outs c arg10 arg11 arg12 dq ok ov dk dv
        ∗ (iprop(Ins c arg4 arg5 arg6 arg7 arg8 arg9 x0 x1 x2 x3 x4 x5 ∗ Outs c arg10 arg11 arg12 dq' ok' ov' dk' dv') -∗ K ⟨⟩))
      ⊢ wp frame (wpE (defs₀ (F := Bits)) Variants.none c none) Set.univ
          (cc0_attn_bwd i tQ (Memref.isWhole_whole _) tK (Memref.isWhole_whole _) arg4 h4 arg5 h5 arg6 h6 arg7 h7 arg8 h8 arg9 h9
            arg10 h10 arg11 h11 arg12 h12 mDk (Memref.isWhole_whole _) mDv (Memref.isWhole_whole _)) K

end Cert.Kernel.Attn

end
-- ==== Proof.Bits.Step.lean ====
/-
The attention backward pass, point after point: which run the point takes, what the gradient of q and the two
accumulators hold after each point, and that the body of every point does what this says.
-/
module

public import proofs.«01_k».proof.Proof.Bits.RunOff
public import proofs.«01_k».proof.Proof.Bits.RunDiag
public import proofs.«01_k».proof.Proof.Bits.RunEnds

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The staging buffers of a point. -/
abbrev ms0 (t : Fin cfg.N) : Memref sig .tc .vmem S512x512 .bf16 := spec0_0.stage (cfg.slots t (0 : Fin 9))
abbrev ms1 (t : Fin cfg.N) : Memref sig .tc .vmem S512x512 .bf16 := spec0_1.stage (cfg.slots t (1 : Fin 9))
abbrev ms2 (t : Fin cfg.N) : Memref sig .tc .vmem S512x512 .bf16 := spec0_2.stage (cfg.slots t (2 : Fin 9))
abbrev ms3 (t : Fin cfg.N) : Memref sig .tc .vmem S512x512 .f32 := spec0_3.stage (cfg.slots t (3 : Fin 9))
abbrev ms4 (t : Fin cfg.N) : Memref sig .tc .vmem S512x512 .f32 := spec0_4.stage (cfg.slots t (4 : Fin 9))
abbrev ms5 (t : Fin cfg.N) : Memref sig .tc .vmem S512x512 .f32 := spec0_5.stage (cfg.slots t (5 : Fin 9))
abbrev ms6 (t : Fin cfg.N) : Memref sig .tc .vmem S4096x512 .f32 := spec0_6.stage (cfg.slots t (6 : Fin 9))
abbrev ms7 (t : Fin cfg.N) : Memref sig .tc .vmem S512x512 .f32 := spec0_7.stage (cfg.slots t (7 : Fin 9))
abbrev ms8 (t : Fin cfg.N) : Memref sig .tc .vmem S512x512 .f32 := spec0_8.stage (cfg.slots t (8 : Fin 9))
theorem hs0 (t : Fin cfg.N) : (ms0 t).IsWhole := hstage0_0 ((cfg.slots t (0 : Fin 9)).cast nbuf0_0)
theorem hs1 (t : Fin cfg.N) : (ms1 t).IsWhole := hstage0_1 ((cfg.slots t (1 : Fin 9)).cast nbuf0_1)
theorem hs2 (t : Fin cfg.N) : (ms2 t).IsWhole := hstage0_2 ((cfg.slots t (2 : Fin 9)).cast nbuf0_2)
theorem hs3 (t : Fin cfg.N) : (ms3 t).IsWhole := hstage0_3 ((cfg.slots t (3 : Fin 9)).cast nbuf0_3)
theorem hs4 (t : Fin cfg.N) : (ms4 t).IsWhole := hstage0_4 ((cfg.slots t (4 : Fin 9)).cast nbuf0_4)
theorem hs5 (t : Fin cfg.N) : (ms5 t).IsWhole := hstage0_5 ((cfg.slots t (5 : Fin 9)).cast nbuf0_5)
theorem hs6 (t : Fin cfg.N) : (ms6 t).IsWhole := hstage0_6 ((cfg.slots t (6 : Fin 9)).cast nbuf0_6)
theorem hs7 (t : Fin cfg.N) : (ms7 t).IsWhole := hstage0_7 ((cfg.slots t (7 : Fin 9)).cast nbuf0_7)
theorem hs8 (t : Fin cfg.N) : (ms8 t).IsWhole := hstage0_8 ((cfg.slots t (8 : Fin 9)).cast nbuf0_8)

/-- The body of a point on its staging buffers. -/
abbrev bodyAt (t : Fin cfg.N) :=
  cc0_attn_bwd (F := Bits) (crd t) tQ (Memref.isWhole_whole _) tK (Memref.isWhole_whole _) (ms0 t) (hs0 t) (ms1 t) (hs1 t) (ms2 t) (hs2 t)
    (ms3 t) (hs3 t) (ms4 t) (hs4 t) (ms5 t) (hs5 t) (ms6 t) (hs6 t) (ms7 t) (hs7 t) (ms8 t) (hs8 t)
    mDk (Memref.isWhole_whole _) mDv (Memref.isWhole_whole _)

variable (V : (c : Dev nD) → (b : Ref sig .tc) → Buf (Elt Bits) ((c.tc : Thread nD τ).loc b))

/-- The block window `w` reads at point `t`. -/
def iblk (c : Dev nD) (w : Fin 9) (t : Fin cfg.N) : (cfg.win w).block.Idx → Elt Bits (cfg.win w).elt :=
  ((cfg.win w).blk t).view.read (Elt Bits) (V c (arrRef spec0 w))

/-- The type of a run of point `t` from these contents. -/
abbrev RunAt (c : Dev nD) (t : Fin cfg.N) (dq : S4096x512.Idx → Elt Bits .f32) (ok ov : S512x512.Idx → Elt Bits .f32)
    (dk dv : S4x512x128.Idx → Elt Bits .f32) :=
  Run c (crd t) (ms0 t) (hs0 t) (ms1 t) (hs1 t) (ms2 t) (hs2 t) (ms3 t) (hs3 t) (ms4 t) (hs4 t) (ms5 t) (hs5 t) (ms6 t) (hs6 t)
    (ms7 t) (hs7 t) (ms8 t) (hs8 t) (iblk V c (0 : Fin 9) t) (iblk V c (1 : Fin 9) t) (iblk V c (2 : Fin 9) t)
    (iblk V c (3 : Fin 9) t) (iblk V c (4 : Fin 9) t) (iblk V c (5 : Fin 9) t) dq ok ov dk dv

/-- The run of point `t`: by where the pair lies. -/
def runAt (c : Dev nD) (t : Fin cfg.N) (dq : S4096x512.Idx → Elt Bits .f32) (ok ov : S512x512.Idx → Elt Bits .f32)
    (dk dv : S4x512x128.Idx → Elt Bits .f32) : RunAt V c t dq ok ov dk dv :=
  have hh := at_all t
  have hc := hh.2.2.1
  if h1 : k0_cond1 (crd t) = 1#1 then
    if h2 : k0_cond2 (qw (crd t)) (kw (crd t)) = 1#1 ∧ ¬(k0_cond3 (qw (crd t)) (kw (crd t)) = 1#1) ∧ ¬(k0_cond4 (qw (crd t)) = 1#1) then
      runFirst c (crd t) (ms0 t) (hs0 t) (ms1 t) (hs1 t) (ms2 t) (hs2 t) (ms3 t) (hs3 t) (ms4 t) (hs4 t) (ms5 t) (hs5 t) (ms6 t) (hs6 t)
        (ms7 t) (hs7 t) (ms8 t) (hs8 t) _ _ _ _ _ _ dq ok ov dk dv hc h1 h2.1 h2.2.1 h2.2.2
    else absurd (first_at t h1) h2
  else if h2 : k0_cond2 (qw (crd t)) (kw (crd t)) = 1#1 then
    if h4 : k0_cond4 (qw (crd t)) = 1#1 then
      runDiagLast c (crd t) (ms0 t) (hs0 t) (ms1 t) (hs1 t) (ms2 t) (hs2 t) (ms3 t) (hs3 t) (ms4 t) (hs4 t) (ms5 t) (hs5 t) (ms6 t) (hs6 t)
        (ms7 t) (hs7 t) (ms8 t) (hs8 t) _ _ _ _ _ _ dq ok ov dk dv hc h1 h2 (fun h => (hh.2.2.2.2.2.1.mp h) (hh.2.2.2.2.1.mp h2)) h4
    else
      runDiag c (crd t) (ms0 t) (hs0 t) (ms1 t) (hs1 t) (ms2 t) (hs2 t) (ms3 t) (hs3 t) (ms4 t) (hs4 t) (ms5 t) (hs5 t) (ms6 t) (hs6 t)
        (ms7 t) (hs7 t) (ms8 t) (hs8 t) _ _ _ _ _ _ dq ok ov dk dv hc h1 h2 (fun h => (hh.2.2.2.2.2.1.mp h) (hh.2.2.2.2.1.mp h2)) h4
  else
    if h4 : k0_cond4 (qw (crd t)) = 1#1 then
      runOffLast c (crd t) (ms0 t) (hs0 t) (ms1 t) (hs1 t) (ms2 t) (hs2 t) (ms3 t) (hs3 t) (ms4 t) (hs4 t) (ms5 t) (hs5 t) (ms6 t) (hs6 t)
        (ms7 t) (hs7 t) (ms8 t) (hs8 t) _ _ _ _ _ _ dq ok ov dk dv hc h1 h2 (hh.2.2.2.2.2.1.mpr fun h => h2 (hh.2.2.2.2.1.mpr h)) h4
    else
      runOff c (crd t) (ms0 t) (hs0 t) (ms1 t) (hs1 t) (ms2 t) (hs2 t) (ms3 t) (hs3 t) (ms4 t) (hs4 t) (ms5 t) (hs5 t) (ms6 t) (hs6 t)
        (ms7 t) (hs7 t) (ms8 t) (hs8 t) _ _ _ _ _ _ dq ok ov dk dv hc h1 h2 (hh.2.2.2.2.2.1.mpr fun h => h2 (hh.2.2.2.2.1.mpr h)) h4

variable {V}

/-- What a head group's first point leaves does not depend on what it found. -/
theorem runAt_first {c : Dev nD} {t : Fin cfg.N} (h : t.val % 36 = 0) (dq dq₂ : S4096x512.Idx → Elt Bits .f32)
    (ok ov ok₂ ov₂ : S512x512.Idx → Elt Bits .f32) (dk dv dk₂ dv₂ : S4x512x128.Idx → Elt Bits .f32) :
    (runAt V c t dq ok ov dk dv).dq' = (runAt V c t dq₂ ok₂ ov₂ dk₂ dv₂).dq'
      ∧ (runAt V c t dq ok ov dk dv).dk' = (runAt V c t dq₂ ok₂ ov₂ dk₂ dv₂).dk'
      ∧ (runAt V c t dq ok ov dk dv).dv' = (runAt V c t dq₂ ok₂ ov₂ dk₂ dv₂).dv' := by
  have h1 := (at_all t).2.2.2.1.mpr h
  unfold runAt
  simp only [dif_pos h1, dif_pos (first_at t h1)]
  exact ⟨rfl, rfl, rfl⟩

/-- The gradient of q and the accumulators do not depend on what the blocks of dk and dv held. -/
theorem runAt_outs {c : Dev nD} {t : Fin cfg.N} (dq : S4096x512.Idx → Elt Bits .f32)
    (ok ov ok₂ ov₂ : S512x512.Idx → Elt Bits .f32) (dk dv : S4x512x128.Idx → Elt Bits .f32) :
    (runAt V c t dq ok ov dk dv).dq' = (runAt V c t dq ok₂ ov₂ dk dv).dq'
      ∧ (runAt V c t dq ok ov dk dv).dk' = (runAt V c t dq ok₂ ov₂ dk dv).dk'
      ∧ (runAt V c t dq ok ov dk dv).dv' = (runAt V c t dq ok₂ ov₂ dk dv).dv' := by
  unfold runAt
  by_cases h1 : k0_cond1 (crd t) = 1#1
  · simp only [dif_pos h1, dif_pos (first_at t h1)]
    exact ⟨rfl, rfl, rfl⟩
  · by_cases h2 : k0_cond2 (qw (crd t)) (kw (crd t)) = 1#1 <;> by_cases h4 : k0_cond4 (qw (crd t)) = 1#1
    · simp only [dif_neg h1, dif_pos h2, dif_pos h4]; exact ⟨rfl, rfl, rfl⟩
    · simp only [dif_neg h1, dif_pos h2, dif_neg h4]; exact ⟨rfl, rfl, rfl⟩
    · simp only [dif_neg h1, dif_neg h2, dif_pos h4]; exact ⟨rfl, rfl, rfl⟩
    · simp only [dif_neg h1, dif_neg h2, dif_neg h4]; exact ⟨rfl, rfl, rfl⟩

/-- A point that is no key tile's last leaves the blocks of dk and dv alone. -/
theorem runAt_idle {c : Dev nD} {t : Fin cfg.N} (h : qn t.val ≠ 7) (dq : S4096x512.Idx → Elt Bits .f32)
    (ok ov : S512x512.Idx → Elt Bits .f32) (dk dv : S4x512x128.Idx → Elt Bits .f32) :
    (runAt V c t dq ok ov dk dv).ok' = ok ∧ (runAt V c t dq ok ov dk dv).ov' = ov := by
  have h4 : ¬ k0_cond4 (qw (crd t)) = 1#1 := fun hh => h ((at_all t).2.2.2.2.2.2.1.mp hh)
  unfold runAt
  by_cases h1 : k0_cond1 (crd t) = 1#1
  · simp only [dif_pos h1, dif_pos (first_at t h1)]
    exact ⟨(hs7 t).read_unread _, (hs8 t).read_unread _⟩
  · by_cases h2 : k0_cond2 (qw (crd t)) (kw (crd t)) = 1#1
    · simp only [dif_neg h1, dif_pos h2, dif_neg h4]; exact ⟨(hs7 t).read_unread _, (hs8 t).read_unread _⟩
    · simp only [dif_neg h1, dif_neg h2, dif_neg h4]; exact ⟨(hs7 t).read_unread _, (hs8 t).read_unread _⟩

/-- A key tile's last point writes the blocks of dk and dv whole. -/
theorem runAt_last {c : Dev nD} {t : Fin cfg.N} (h : qn t.val = 7) (dq : S4096x512.Idx → Elt Bits .f32)
    (ok ov ok₂ ov₂ : S512x512.Idx → Elt Bits .f32) (dk dv : S4x512x128.Idx → Elt Bits .f32) :
    (runAt V c t dq ok ov dk dv).ok' = (runAt V c t dq ok₂ ov₂ dk dv).ok'
      ∧ (runAt V c t dq ok ov dk dv).ov' = (runAt V c t dq ok₂ ov₂ dk dv).ov' := by
  have h4 : k0_cond4 (qw (crd t)) = 1#1 := (at_all t).2.2.2.2.2.2.1.mpr h
  unfold runAt
  by_cases h1 : k0_cond1 (crd t) = 1#1
  · exact absurd h4 (first_at t h1).2.2
  · by_cases h2 : k0_cond2 (qw (crd t)) (kw (crd t)) = 1#1
    · simp only [dif_neg h1, dif_pos h2, dif_pos h4]; exact ⟨rfl, rfl⟩
    · simp only [dif_neg h1, dif_neg h2, dif_pos h4]; exact ⟨rfl, rfl⟩

variable (V)

/-- The gradient of q and the two accumulators. -/
abbrev St := (S4096x512.Idx → Elt Bits .f32) × (S4x512x128.Idx → Elt Bits .f32) × (S4x512x128.Idx → Elt Bits .f32)

/-- What point `t` makes of them. -/
def stepAt (c : Dev nD) (t : Fin cfg.N) (s : St) : St :=
  ((runAt V c t s.1 default default s.2.1 s.2.2).dq', (runAt V c t s.1 default default s.2.1 s.2.2).dk',
    (runAt V c t s.1 default default s.2.1 s.2.2).dv')

/-- What they hold before point `n`. -/
def st (c : Dev nD) : ℕ → St
  | 0 => default
  | n + 1 => if h : n < cfg.N then stepAt V c ⟨n, h⟩ (st c n) else default

theorem st_succ (c : Dev nD) (t : Fin cfg.N) : st V c (t.val + 1) = stepAt V c t (st V c t.val) := by
  show (if h : t.val < cfg.N then stepAt V c ⟨t.val, h⟩ (st V c t.val) else default) = _
  rw [dif_pos t.isLt]

/-- The blocks of dk and dv after point `t`, where it writes them. -/
def okAt (c : Dev nD) (t : Fin cfg.N) : S512x512.Idx → Elt Bits .f32 :=
  (runAt V c t (st V c t.val).1 default default (st V c t.val).2.1 (st V c t.val).2.2).ok'
def ovAt (c : Dev nD) (t : Fin cfg.N) : S512x512.Idx → Elt Bits .f32 :=
  (runAt V c t (st V c t.val).1 default default (st V c t.val).2.1 (st V c t.val).2.2).ov'

/-- Before point `n`: the accumulators at what the points before left, the tables. -/
def Phi (c : Dev nD) (n : ℕ) : sProp 𝕄 :=
  iprop((∃ a, ⌜n ≠ 0 → a = (st V c n).2.1⌝ ∗ (mDk.view.loc (c : Thread nD τ) ↦{fullShare} a))
    ∗ (∃ a, ⌜n ≠ 0 → a = (st V c n).2.2⌝ ∗ (mDv.view.loc (c : Thread nD τ) ↦{fullShare} a))
    ∗ (tQ.view.loc (c : Thread nD τ) ↦{fullShare.right} qT) ∗ (tK.view.loc (c : Thread nD τ) ↦{fullShare.right} kT)
    ∗ ∃ r, prngReg c r)

/-- The data of the pipeline. -/
def dats (_ : Fin 1) (c : Dev nD) : Dat τ (Elt Bits) Unit ℕ (UR sig nD τ) ℕ cfg c where
  A w := V c (arrRef spec0 w)
  after w t := match w with
    | ⟨0, _⟩ => iblk V c (0 : Fin 9) t
    | ⟨1, _⟩ => iblk V c (1 : Fin 9) t
    | ⟨2, _⟩ => iblk V c (2 : Fin 9) t
    | ⟨3, _⟩ => iblk V c (3 : Fin 9) t
    | ⟨4, _⟩ => iblk V c (4 : Fin 9) t
    | ⟨5, _⟩ => iblk V c (5 : Fin 9) t
    | ⟨6, _⟩ => (st V c (t.val + 1)).1
    | ⟨7, _⟩ => okAt V c t
    | ⟨8, _⟩ => ovAt V c t
  Φ t := Phi V c t.val
  q _ := fullShare
  owed _ := 0

theorem after_0 (c : Dev nD) (t : Fin cfg.N) : (dats V 0 c).after (0 : Fin 9) t = iblk V c (0 : Fin 9) t := rfl
theorem after_1 (c : Dev nD) (t : Fin cfg.N) : (dats V 0 c).after (1 : Fin 9) t = iblk V c (1 : Fin 9) t := rfl
theorem after_2 (c : Dev nD) (t : Fin cfg.N) : (dats V 0 c).after (2 : Fin 9) t = iblk V c (2 : Fin 9) t := rfl
theorem after_3 (c : Dev nD) (t : Fin cfg.N) : (dats V 0 c).after (3 : Fin 9) t = iblk V c (3 : Fin 9) t := rfl
theorem after_4 (c : Dev nD) (t : Fin cfg.N) : (dats V 0 c).after (4 : Fin 9) t = iblk V c (4 : Fin 9) t := rfl
theorem after_5 (c : Dev nD) (t : Fin cfg.N) : (dats V 0 c).after (5 : Fin 9) t = iblk V c (5 : Fin 9) t := rfl
theorem after_6 (c : Dev nD) (t : Fin cfg.N) : (dats V 0 c).after (6 : Fin 9) t = (st V c (t.val + 1)).1 := rfl
theorem after_7 (c : Dev nD) (t : Fin cfg.N) : (dats V 0 c).after (7 : Fin 9) t = okAt V c t := rfl
theorem after_8 (c : Dev nD) (t : Fin cfg.N) : (dats V 0 c).after (8 : Fin 9) t = ovAt V c t := rfl

/-- The six blocks read are the arrays' own, fetched at that point or before. -/
theorem before_0 (c : Dev nD) (t : Fin cfg.N) (d) : (dats V 0 c).before (0 : Fin 9) t d = iblk V c (0 : Fin 9) t :=
  ((dats V 0 c).before_in_eq_fetched (0 : Fin 9) rfl (fun _ => rfl) (fun _ _ _ => rfl) (fun t => by rw [after_0]; unfold Dat.blockOf iblk; rfl) t d).trans
    (by unfold Dat.fetched Dat.blockOf iblk; rfl)
theorem before_1 (c : Dev nD) (t : Fin cfg.N) (d) : (dats V 0 c).before (1 : Fin 9) t d = iblk V c (1 : Fin 9) t :=
  ((dats V 0 c).before_in_eq_fetched (1 : Fin 9) rfl (fun _ => rfl) (fun _ _ _ => rfl) (fun t => by rw [after_1]; unfold Dat.blockOf iblk; rfl) t d).trans
    (by unfold Dat.fetched Dat.blockOf iblk; rfl)
theorem before_2 (c : Dev nD) (t : Fin cfg.N) (d) : (dats V 0 c).before (2 : Fin 9) t d = iblk V c (2 : Fin 9) t :=
  ((dats V 0 c).before_in_eq_fetched (2 : Fin 9) rfl (fun _ => rfl) (fun _ _ _ => rfl) (fun t => by rw [after_2]; unfold Dat.blockOf iblk; rfl) t d).trans
    (by unfold Dat.fetched Dat.blockOf iblk; rfl)
theorem before_3 (c : Dev nD) (t : Fin cfg.N) (d) : (dats V 0 c).before (3 : Fin 9) t d = iblk V c (3 : Fin 9) t :=
  ((dats V 0 c).before_in_eq_fetched (3 : Fin 9) rfl (fun _ => rfl) (fun _ _ _ => rfl) (fun t => by rw [after_3]; unfold Dat.blockOf iblk; rfl) t d).trans
    (by unfold Dat.fetched Dat.blockOf iblk; rfl)
theorem before_4 (c : Dev nD) (t : Fin cfg.N) (d) : (dats V 0 c).before (4 : Fin 9) t d = iblk V c (4 : Fin 9) t :=
  ((dats V 0 c).before_in_eq_fetched (4 : Fin 9) rfl (fun _ => rfl) (fun _ _ _ => rfl) (fun t => by rw [after_4]; unfold Dat.blockOf iblk; rfl) t d).trans
    (by unfold Dat.fetched Dat.blockOf iblk; rfl)
theorem before_5 (c : Dev nD) (t : Fin cfg.N) (d) : (dats V 0 c).before (5 : Fin 9) t d = iblk V c (5 : Fin 9) t :=
  ((dats V 0 c).before_in_eq_fetched (5 : Fin 9) rfl (fun _ => rfl) (fun _ _ _ => rfl) (fun t => by rw [after_5]; unfold Dat.blockOf iblk; rfl) t d).trans
    (by unfold Dat.fetched Dat.blockOf iblk; rfl)

/-- The gradient of q is carried from point to point within a head group. -/
theorem before_6 (c : Dev nD) (t : Fin cfg.N) (d) (h : t.val % 36 ≠ 0) : (dats V 0 c).before (6 : Fin 9) t d = (st V c t.val).1 := by
  have hpos : t.val ≠ 0 := fun h0 => h (by rw [h0])
  rw [(dats V 0 c).before_out_traj (6 : Fin 9) rfl (fun _ _ => rfl)
    (fun s _ hs => absurd ((at_all s).2.2.2.2.2.2.2.1.symm.trans hs) Bool.false_ne_true) t.val t rfl d, fresh_6 t,
    decide_eq_false h, if_neg Bool.false_ne_true, after_6]
  exact congrArg (fun n => (st V c n).1) (show t.val - 1 + 1 = t.val by omega)

/-- From what a point finds to what the next one finds: the gradient of q and the accumulators, -/
theorem outs_eq (c : Dev nD) (t : Fin cfg.N) (b6 : S4096x512.Idx → Elt Bits .f32) (b7 b8 : S512x512.Idx → Elt Bits .f32)
    (a0 a1 : S4x512x128.Idx → Elt Bits .f32) (h6 : t.val % 36 ≠ 0 → b6 = (st V c t.val).1)
    (h0 : t.val ≠ 0 → a0 = (st V c t.val).2.1) (h1 : t.val ≠ 0 → a1 = (st V c t.val).2.2) :
    (runAt V c t b6 b7 b8 a0 a1).dq' = (st V c (t.val + 1)).1 ∧ (runAt V c t b6 b7 b8 a0 a1).dk' = (st V c (t.val + 1)).2.1
      ∧ (runAt V c t b6 b7 b8 a0 a1).dv' = (st V c (t.val + 1)).2.2 := by
  rw [st_succ]
  by_cases h : t.val % 36 = 0
  · exact runAt_first h b6 _ b7 b8 _ _ a0 a1 _ _
  · have ht : t.val ≠ 0 := fun h0 => h (by rw [h0])
    rw [h6 h, h0 ht, h1 ht]
    exact runAt_outs _ b7 b8 _ _ _ _

theorem qn_mod {n : ℕ} (h : qn n = 7) : n % 36 ≠ 0 := by
  intro h0; unfold qn at h; rw [h0] at h; exact absurd h (by decide)

/-- and the blocks of dk and dv, where they are written. -/
theorem blocks_eq (c : Dev nD) (t : Fin cfg.N) (h : qn t.val = 7) (b6 : S4096x512.Idx → Elt Bits .f32) (b7 b8 : S512x512.Idx → Elt Bits .f32)
    (a0 a1 : S4x512x128.Idx → Elt Bits .f32) (h6 : t.val % 36 ≠ 0 → b6 = (st V c t.val).1)
    (h0 : t.val ≠ 0 → a0 = (st V c t.val).2.1) (h1 : t.val ≠ 0 → a1 = (st V c t.val).2.2) :
    (runAt V c t b6 b7 b8 a0 a1).ok' = okAt V c t ∧ (runAt V c t b6 b7 b8 a0 a1).ov' = ovAt V c t := by
  have hm := qn_mod h
  have ht : t.val ≠ 0 := fun h0 => hm (by rw [h0])
  rw [h6 hm, h0 ht, h1 ht]
  exact runAt_last h _ b7 b8 _ _ _ _

set_option maxHeartbeats 4000000 in
/-- The body of every point does what the data say. -/
theorem sound_body (c : Dev nD) (t : Fin cfg.N) :
    iprop((dats V 0 c).Φ t.castSucc ∗ (dats V 0 c).owesAt () t.castSucc
        ∗ (∃ d, owns (c : Thread nD τ) (ms0 t) fullShare ((dats V 0 c).before (0 : Fin 9) t d))
        ∗ (∃ d, owns (c : Thread nD τ) (ms1 t) fullShare ((dats V 0 c).before (1 : Fin 9) t d))
        ∗ (∃ d, owns (c : Thread nD τ) (ms2 t) fullShare ((dats V 0 c).before (2 : Fin 9) t d))
        ∗ (∃ d, owns (c : Thread nD τ) (ms3 t) fullShare ((dats V 0 c).before (3 : Fin 9) t d))
        ∗ (∃ d, owns (c : Thread nD τ) (ms4 t) fullShare ((dats V 0 c).before (4 : Fin 9) t d))
        ∗ (∃ d, owns (c : Thread nD τ) (ms5 t) fullShare ((dats V 0 c).before (5 : Fin 9) t d))
        ∗ (∃ d, owns (c : Thread nD τ) (ms6 t) fullShare ((dats V 0 c).before (6 : Fin 9) t d))
        ∗ (∃ d, owns (c : Thread nD τ) (ms7 t) fullShare ((dats V 0 c).before (7 : Fin 9) t d))
        ∗ (∃ d, owns (c : Thread nD τ) (ms8 t) fullShare ((dats V 0 c).before (8 : Fin 9) t d)))
      ⊢ wp frame (wpE (defs₀ (F := Bits)) Variants.none c none) Set.univ (bodyAt t) fun _ =>
          iprop((dats V 0 c).Φ t.succ ∗ (dats V 0 c).owesAt () t.succ
            ∗ bigSep Finset.univ fun w : Fin cfg.W =>
                match cfg.idle w (cfg.grid.coords t) with
                | true =>
                  match (cfg.win w).flush t with
                  | false => iprop(∃ d, owns (c : Thread nD τ) ((cfg.win w).stage (cfg.slots t w)) fullShare ((dats V 0 c).before w t d))
                  | true => owns (c : Thread nD τ) ((cfg.win w).stage (cfg.slots t w)) fullShare ((dats V 0 c).after w t)
                | false => owns (c : Thread nD τ) ((cfg.win w).stage (cfg.slots t w)) fullShare ((dats V 0 c).after w t)) := by
  have hh := at_all t
  have i6 := hh.2.2.2.2.2.2.2.1
  have i7 := hh.2.2.2.2.2.2.2.2.1
  have f7 := hh.2.2.2.2.2.2.2.2.2.2.2.1
  have f8 := hh.2.2.2.2.2.2.2.2.2.2.2.2
  rw [bigSep_W0]
  rewrite [i6, i7]
  simp only [before_0, before_1, before_2, before_3, before_4, before_5, after_0, after_1, after_2, after_3, after_4, after_5,
    after_6, after_7, after_8, f7, f8]
  rewrite [show (dats V 0 c).Φ t.succ = Phi V c (t.val + 1) from rfl, show (dats V 0 c).Φ t.castSucc = Phi V c t.val from rfl,
    show (dats V 0 c).owesAt () t.succ = (dats V 0 c).owesAt () t.castSucc from rfl]
  unfold Phi
  iintro ⟨⟨⟨%a0, %ha0, HS0⟩, ⟨%a1, %ha1, HS1⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have ho := outs_eq V c t ((dats V 0 c).before (6 : Fin 9) t d6) ((dats V 0 c).before (7 : Fin 9) t d7) ((dats V 0 c).before (8 : Fin 9) t d8)
    a0 a1 (before_6 V c t d6) ha0 ha1
  iapply ((runAt V c t ((dats V 0 c).before (6 : Fin 9) t d6) ((dats V 0 c).before (7 : Fin 9) t d7) ((dats V 0 c).before (8 : Fin 9) t d8)
    a0 a1).sound _)
  rw [ho.1, ho.2.1, ho.2.2]
  isplitl [H0 H1 H2 H3 H4 H5 HT0 HT1]
  · unfold Ins
    isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [H6 H7 H8 HS0 HS1]
  · unfold Outs
    isplitl [H6]; · iexact H6
    isplitl [H7]; · iexact H7
    isplitl [H8]; · iexact H8
    isplitl [HS0]; · iexact HS0
    iexact HS1
  unfold Ins Outs
  iintro ⟨⟨H0, H1, H2, H3, H4, H5, HT0, HT1⟩, ⟨H6, H7, H8, HS0, HS1⟩⟩
  isplitl [HS0 HS1 HT0 HT1 HR]
  · isplitl [HS0]
    · iexists _; isplitr; swap
      · iexact HS0
      · ipureintro; exact fun _ => rfl
    isplitl [HS1]
    · iexists _; isplitr; swap
      · iexact HS1
      · ipureintro; exact fun _ => rfl
    isplitl [HT0]; · iexact HT0
    isplitl [HT1]; · iexact HT1
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases h7 : qn t.val = 7
  · have hb := blocks_eq V c t h7 ((dats V 0 c).before (6 : Fin 9) t d6) ((dats V 0 c).before (7 : Fin 9) t d7) ((dats V 0 c).before (8 : Fin 9) t d8)
      a0 a1 (before_6 V c t d6) ha0 ha1
    rw [hb.1, hb.2]
    simp only [decide_eq_true h7, Bool.not_true]
    isplitl [H7]; · iexact H7
    iexact H8
  · have hb := runAt_idle (V := V) (c := c) h7 ((dats V 0 c).before (6 : Fin 9) t d6) ((dats V 0 c).before (7 : Fin 9) t d7) ((dats V 0 c).before (8 : Fin 9) t d8)
      a0 a1
    rw [hb.1, hb.2]
    simp only [decide_eq_false h7, Bool.not_false]
    isplitl [H7]
    · iexists d7; iexact H7
    iexists d8; iexact H8

/-- The library's body obligation, at every point. -/
theorem body_obligation (c : Dev nD) : BodyObligation (dats V 0 c) (defs₀ (F := Bits)) Variants.none () Set.univ := fun t => by
  rw [bigSep_W0]
  exact sound_body V c t

theorem share_eq (c : Dev nD) (w : Fin cfg.W) : (dats V 0 c).share w = fullShare := by unfold Dat.share; split <;> rfl

end Cert.Kernel.Attn

end
-- ==== Proof.Bits.Launch.lean ====
/-
The whole program of the attention backward pass: the host operations lay out the tables and what the forward pass
saved, and the pipeline runs. Every execution ends, the arguments are as they were, the semaphores are zero, and each
result holds what the points wrote back.
-/
module

public import proofs.«01_k».proof.Proof.Bits.Step
public import Idealize.ShloMosaic.Lib.Pipeline.Kit

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

variable (m : (ℓ : Loc nD τ sig) → Buf (Elt Bits) ℓ) (g : Dev nD → PrngReg)

/-- What every buffer holds when the pipeline begins. -/
def VM (c : Dev nD) (b : Ref sig .tc) : Buf (Elt Bits) ((c.tc : Thread nD τ).loc b) :=
  StableHlo.after (hostOps0 (F := Bits)) (fun b => m (c, b)) b

theorem vm_arg0 (c : Dev nD) : VM m c main_arg0 = m ((c.tc : Thread nD τ).loc main_arg0) := by
  unfold VM; after_results_simp <;> rfl
theorem vm_arg1 (c : Dev nD) : VM m c main_arg1 = m ((c.tc : Thread nD τ).loc main_arg1) := by
  unfold VM; after_results_simp <;> rfl
theorem vm_arg2 (c : Dev nD) : VM m c main_arg2 = m ((c.tc : Thread nD τ).loc main_arg2) := by
  unfold VM; after_results_simp <;> rfl
theorem vm_arg3 (c : Dev nD) : VM m c main_arg3 = m ((c.tc : Thread nD τ).loc main_arg3) := by
  unfold VM; after_results_simp <;> rfl
theorem vm_c (c : Dev nD) : VM m c main_c = qT := by
  unfold VM; after_results_simp <;> rfl
theorem vm_c_0 (c : Dev nD) : VM m c main_c_0 = kT := by
  unfold VM; after_results_simp <;> rfl

/-- The tables as the pipeline hands them to the body, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

variable (V : (c : Dev nD) → (b : Ref sig .tc) → Buf (Elt Bits) ((c.tc : Thread nD τ).loc b))

theorem phi_in (c : Dev nD) : iprop(ΦA spec0 c ∗ ΦT pre0 adm.1 c) ⊢ (dats V 0 c).Φ 0 := by
  unfold ΦA ΦT
  rw [prefHeld_eq, scopedRest0_eq, show (dats V 0 c).Φ 0 = Phi V c 0 from rfl]
  unfold Phi
  iintro ⟨⟨⟨⟨%a0, HS0⟩, ⟨%a1, HS1⟩⟩, HR⟩, ⟨HT0, HT1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  isplitl [HT1]
  · iexact HT1
  iexact HR

theorem phi_out (c : Dev nD) : (dats V 0 c).Φ (Fin.last cfg.N) ⊢ ΦA spec0 c := by
  unfold ΦA
  rw [scopedRest0_eq, show (dats V 0 c).Φ (Fin.last cfg.N) = Phi V c cfg.N from rfl]
  unfold Phi
  iintro ⟨⟨%a0, -, HS0⟩, ⟨%a1, -, HS1⟩, -, -, HR⟩
  isplitl [HS0 HS1]
  · isplitl [HS0]
    · iexists a0; iexact HS0
    iexists a1; iexact HS1
  iexact HR

/-- Every execution ends with the arrays as the data say and every semaphore at zero. -/
theorem run_main : θ_run (defs (F := Bits)) (onTc (τ := τ) (main (F := Bits))) ⟨m, fun _ => 0, g⟩
    (fun r => FramePost pcs (dats (VM m)) 0 (VM m) r ∧ r.2.sem = fun _ => 0) :=
  Pipeline.θ_run_frameP_track (pcfgs (F := Bits)) (fun _ => adm) (dats (VM m)) 0 launch0 defs₀ Variants.none m g main
    (fun c => (body_obligation (VM m) c).loose) (share_eq (VM m)) (fun _ _ => rfl) (VM m)
    (Pipeline.hmainP_prefixes pcfgs 0 defs₀ Variants.none m main [hostOps0 (F := Bits)] (by simpa using hostOps0_sub (F := Bits))
      (by simp only [hostOps0, List.Forall]; repeat (first | exact rfl | refine And.intro rfl ?_)) (fun c => main_chain c))
    (fun _ _ => rfl)
    (fun c k => by fin_cases k; exacts [vm_c m c, vm_c_0 m c])
    (phi_in (VM m)) (phi_out (VM m)) _ (fun _ h => h)

/-- The frame: the arguments end as they were and the machine is quiescent. -/
theorem frame : θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r (h : _ ∧ _) => ⟨fun c =>
    ⟨((h.1 c).1 (0 : Fin 9)).trans (((dats (VM m) 0 c).arrAt_in (0 : Fin 9) rfl _).trans (vm_arg0 m c)),
     ((h.1 c).1 (1 : Fin 9)).trans (((dats (VM m) 0 c).arrAt_in (1 : Fin 9) rfl _).trans (vm_arg1 m c)),
     ((h.1 c).1 (2 : Fin 9)).trans (((dats (VM m) 0 c).arrAt_in (2 : Fin 9) rfl _).trans (vm_arg2 m c)),
     ((h.1 c).1 (3 : Fin 9)).trans (((dats (VM m) 0 c).arrAt_in (3 : Fin 9) rfl _).trans (vm_arg3 m c))⟩, h.2⟩) (run_main m g)

end Cert.Kernel.Attn

end
-- ==== Proof.Tile.lean ====
/-
What one tile computes, entry by entry: the scores, the weights, the gradients of the scores and the three
products. A block of 512 by 512 holds four heads of 128 lanes side by side; the body stacks them.
-/
module

public import proofs.«01_k».proof.Proof.Gen.KernelIdeal.Skeleton
public import Idealize.ShloMosaic.PureOps.Ideal
public import Idealize.ShloMosaic.Lib.Pointwise
public import Idealize.ShloMosaic.Lib.WordCmp

@[expose] public section

set_option maxRecDepth 16384

noncomputable section

namespace Cert.KernelIdeal.Attn

open Cert.KernelIdeal Cert.KernelIdeal.Gen
open Idealize.ShloMosaic
open Idealize.ShloMosaic.TcCoe

/-- Lane `d` of head `j` in a block's row. -/
def lane (j : Fin 4) (d : Fin 128) : Fin 512 := ⟨128 * j.val + d.val, by omega⟩

/-- The lanes of head `j`. -/
def slot (x : S512x512.Idx → EReal) (j : Fin 4) : S512x128.Idx → EReal := fun i => x (ix2 (i 0) (lane j (i 1)))

/-- The four heads, stacked. -/
def stk (x : S512x512.Idx → EReal) : S4x512x128.Idx → EReal := fun i => x (ix2 (i 1) (lane (i 0) (i 2)))

/-- The four heads, side by side again. -/
def unstk (x : S4x512x128.Idx → EReal) : S512x512.Idx → EReal := fun i =>
  x (ix3 ⟨(i 1).val / 128, by have := (i 1).isLt; change (i 1).val < 512 at this; omega⟩ (i 0) ⟨(i 1).val % 128, Nat.mod_lt _ (by decide)⟩)

/-- The scale of the scores. -/
def scl : EReal := Ideal.ofBits .f32 0x3DD105EC#32

/-- A tile's scores; on the diagonal those of later keys are −∞. -/
def tS (diag : Bool) (q k : S512x512.Idx → EReal) (j : Fin 4) (r s : Fin 512) : EReal :=
  if diag = true ∧ r < s then ⊥ else (∑ d : Fin 128, q (ix2 r (lane j d)) * k (ix2 s (lane j d))) * scl

/-- A tile's weights. -/
def tP (diag : Bool) (q k l : S512x512.Idx → EReal) (j : Fin 4) (r s : Fin 512) : EReal :=
  Ideal.exp (tS diag q k j r s - l (ix2 r (lane j 0)))

/-- The gradients of a tile's scores. -/
def tD (diag : Bool) (q k v w l e : S512x512.Idx → EReal) (j : Fin 4) (r s : Fin 512) : EReal :=
  tP diag q k l j r s * ((∑ d : Fin 128, w (ix2 r (lane j d)) * v (ix2 s (lane j d))) - e (ix2 r (lane j 0))) * scl

/-- What a tile adds to the gradient of v. -/
def tV (diag : Bool) (q k w l : S512x512.Idx → EReal) : S4x512x128.Idx → EReal := fun i =>
  ∑ r : Fin 512, tP diag q k l (i 0) r (i 1) * w (ix2 r (lane (i 0) (i 2)))

/-- What a tile adds to the gradient of k. -/
def tK' (diag : Bool) (q k v w l e : S512x512.Idx → EReal) : S4x512x128.Idx → EReal := fun i =>
  ∑ r : Fin 512, tD diag q k v w l e (i 0) r (i 1) * q (ix2 r (lane (i 0) (i 2)))

/-- What a tile adds to the gradient of q. -/
def tQ' (diag : Bool) (q k v w l e : S512x512.Idx → EReal) : S4x512x128.Idx → EReal := fun i =>
  ∑ s : Fin 512, tD diag q k v w l e (i 0) (i 1) s * k (ix2 s (lane (i 0) (i 2)))

/-- Addition of stacks. -/
def plus (a b : S4x512x128.Idx → EReal) : S4x512x128.Idx → EReal := fun i => a i + b i

/-- An array of shape 4 by 512 by 512 from its entries. -/
def arr (f : Fin 4 → Fin 512 → Fin 512 → EReal) : S4x512x512.Idx → EReal := fun i => f (i 0) (i 1) (i 2)

theorem named_mask : (Named.named κ "mask" 0xF149F2CA#32 : Ideal .f32) = (⊥ : EReal) := rfl

theorem sle_ofNat (r s : Fin 512) : IntOp.cmpi .sle (BitVec.ofNat 32 s.val) (BitVec.ofNat 32 r.val) = if r < s then 0#1 else 1#1 := by
  have hr := r.isLt; have hs := s.isLt
  by_cases h : r < s
  · rw [if_pos h]; word_cmp
  · rw [if_neg h]; word_cmp

variable (q k v : FVec Ideal S512x512 .bf16) (w l e : FVec Ideal S512x512 .f32)

theorem pay21_eq : k0_pay21 (F := Ideal) (slot q 0) (slot q 1) (slot q 2) (slot q 3) = stk q := by
  funext i; idx_vars i; fin_cases i0 <;> pointwise [k0_pay21, slot, stk]
theorem pay22_eq : k0_pay22 (F := Ideal) (slot k 0) (slot k 1) (slot k 2) (slot k 3) = stk k := by
  funext i; idx_vars i; fin_cases i0 <;> pointwise [k0_pay22, slot, stk]
theorem pay23_eq : k0_pay23 (F := Ideal) (slot w 0) (slot w 1) (slot w 2) (slot w 3) = stk w := by
  funext i; idx_vars i; fin_cases i0 <;> pointwise [k0_pay23, slot, stk]
theorem pay24_eq : k0_pay24 (F := Ideal) (slot v 0) (slot v 1) (slot v 2) (slot v 3) = stk v := by
  funext i; idx_vars i; fin_cases i0 <;> pointwise [k0_pay24, slot, stk]
theorem pay34_eq : k0_pay34 (F := Ideal) (slot q 0) (slot q 1) (slot q 2) (slot q 3) = stk q := by
  funext i; idx_vars i; fin_cases i0 <;> pointwise [k0_pay34, slot, stk]
theorem pay35_eq : k0_pay35 (F := Ideal) (slot k 0) (slot k 1) (slot k 2) (slot k 3) = stk k := by
  funext i; idx_vars i; fin_cases i0 <;> pointwise [k0_pay35, slot, stk]
theorem pay36_eq : k0_pay36 (F := Ideal) (slot w 0) (slot w 1) (slot w 2) (slot w 3) = stk w := by
  funext i; idx_vars i; fin_cases i0 <;> pointwise [k0_pay36, slot, stk]

theorem pay25_eq : k0_pay25 (F := Ideal) (stk q) (stk k) = arr (tS true q k) := by
  funext i; idx_vars i
  pointwise [k0_pay25, tS, stk, scl, arr]
  rw [sle_ofNat, named_mask]
  by_cases h : i1 < i2
  · rw [if_pos h, if_pos h]; rfl
  · rw [if_neg h, if_neg h]; rfl

theorem pay30_eq : k0_pay30 (F := Ideal) (arr (tS true q k)) (k0_pay26 (slot l 0)) (k0_pay27 (slot l 1)) (k0_pay28 (slot l 2)) (k0_pay29 (slot l 3))
    = arr (tP true q k l) := by
  funext i; idx_vars i
  fin_cases i0 <;> pointwise [k0_pay30, k0_pay26, k0_pay27, k0_pay28, k0_pay29, tP, slot, arr]

theorem pay31_eq : k0_pay31 (F := Ideal) (stk w) (stk v) (arr (tS true q k)) (k0_pay26 (slot l 0)) (k0_pay27 (slot l 1)) (k0_pay28 (slot l 2)) (k0_pay29 (slot l 3))
    (slot e 0) (slot e 1) (slot e 2) (slot e 3) = arr (tD true q k v w l e) := by
  funext i; idx_vars i
  unfold k0_pay31; rw [pay30_eq]
  fin_cases i0 <;> pointwise [tD, slot, arr, stk, scl]

theorem pay32_eq (a : FVec Ideal S4x512x128 .f32) :
    k0_pay32 (F := Ideal) (stk w) (arr (tS true q k)) (k0_pay26 (slot l 0)) (k0_pay27 (slot l 1)) (k0_pay28 (slot l 2)) (k0_pay29 (slot l 3)) a
      = plus a (tV true q k w l) := by
  funext i; idx_vars i
  unfold k0_pay32; rw [pay30_eq]
  pointwise [tV, plus, arr, stk]

theorem pay33_eq (a : FVec Ideal S4x512x128 .f32) :
    k0_pay33 (F := Ideal) (stk q) (stk w) (stk v) (arr (tS true q k)) (k0_pay26 (slot l 0)) (k0_pay27 (slot l 1)) (k0_pay28 (slot l 2)) (k0_pay29 (slot l 3))
      (slot e 0) (slot e 1) (slot e 2) (slot e 3) a
      = plus a (tK' true q k v w l e) := by
  funext i; idx_vars i
  unfold k0_pay33; rw [pay31_eq]
  pointwise [tK', plus, arr, stk]

theorem pay2_eq (a : FVec Ideal S4x512x128 .f32) : k0_pay2 (F := Ideal) a = a := by
  funext i; pointwise [k0_pay2]

theorem pay3_eq : k0_pay3 (F := Ideal) (stk k) (arr (tD true q k v w l e)) = tQ' true q k v w l e := by
  funext i; idx_vars i
  pointwise [k0_pay3, tQ', arr, stk]

theorem pay37_eq : k0_pay37 (F := Ideal) (stk q) (stk k) (slot l 0) (slot l 1) (slot l 2) (slot l 3) = arr (tP false q k l) := by
  funext i; idx_vars i
  fin_cases i0 <;> pointwise [k0_pay37, tP, tS, slot, arr, stk, scl] <;> simp

/-- The products of the result's gradient with v. -/
def tE (v w : S512x512.Idx → EReal) (j : Fin 4) (r s : Fin 512) : EReal := ∑ d : Fin 128, w (ix2 r (lane j d)) * v (ix2 s (lane j d))

theorem pay38_eq : k0_pay38 (F := Ideal) (stk w) (slot v 0) (slot v 1) (slot v 2) (slot v 3) = arr (tE v w) := by
  funext i; idx_vars i
  fin_cases i0 <;> pointwise [k0_pay38, tE, slot, arr, stk]

theorem pay43_eq : k0_pay43 (F := Ideal) (arr (tP false q k l)) (arr (tE v w)) (k0_pay39 (slot e 3)) (k0_pay40 (slot e 0)) (k0_pay41 (slot e 1)) (k0_pay42 (slot e 2))
    = arr (tD false q k v w l e) := by
  funext i; idx_vars i
  fin_cases i0 <;> pointwise [k0_pay43, k0_pay39, k0_pay40, k0_pay41, k0_pay42, tD, tE, slot, arr, scl]

theorem pay44_eq (a : FVec Ideal S4x512x128 .f32) : k0_pay44 (F := Ideal) (stk w) (arr (tP false q k l)) a = plus a (tV false q k w l) := by
  funext i; idx_vars i
  pointwise [k0_pay44, tV, plus, arr, stk]

theorem pay45_eq (a : FVec Ideal S4x512x128 .f32) :
    k0_pay45 (F := Ideal) (stk q) (arr (tP false q k l)) (arr (tE v w)) (k0_pay39 (slot e 3)) (k0_pay40 (slot e 0)) (k0_pay41 (slot e 1)) (k0_pay42 (slot e 2)) a
      = plus a (tK' false q k v w l e) := by
  funext i; idx_vars i
  unfold k0_pay45; rw [pay43_eq]
  pointwise [tK', plus, arr, stk]

theorem pay46_eq :
    k0_pay46 (F := Ideal) (stk k) (arr (tP false q k l)) (arr (tE v w)) (k0_pay39 (slot e 3)) (k0_pay40 (slot e 0)) (k0_pay41 (slot e 1)) (k0_pay42 (slot e 2))
      = tQ' false q k v w l e := by
  funext i; idx_vars i
  unfold k0_pay46; rw [pay43_eq]
  pointwise [tQ', arr, stk]

/-- The rows and lanes of one head in a stack. -/
def head (a : S4x512x128.Idx → EReal) (j : Fin 4) : S512x128.Idx → EReal := fun i => a (ix3 j (i 0) (i 1))

/-- A head's rows added to what was there. -/
def plus2 (a b : S512x128.Idx → EReal) : S512x128.Idx → EReal := fun i => a i + b i

theorem pay4_eq (a : FVec Ideal S512x128 .f32) : k0_pay4 (F := Ideal) (stk k) (arr (tD true q k v w l e)) a = plus2 a (head (tQ' true q k v w l e) 0) := by
  unfold k0_pay4; rw [pay3_eq]; funext i; idx_vars i; pointwise [plus2, head]
theorem pay5_eq (a : FVec Ideal S512x128 .f32) : k0_pay5 (F := Ideal) (stk k) (arr (tD true q k v w l e)) a = plus2 a (head (tQ' true q k v w l e) 1) := by
  unfold k0_pay5; rw [pay3_eq]; funext i; idx_vars i; pointwise [plus2, head]
theorem pay6_eq (a : FVec Ideal S512x128 .f32) : k0_pay6 (F := Ideal) (stk k) (arr (tD true q k v w l e)) a = plus2 a (head (tQ' true q k v w l e) 2) := by
  unfold k0_pay6; rw [pay3_eq]; funext i; idx_vars i; pointwise [plus2, head]
theorem pay7_eq (a : FVec Ideal S512x128 .f32) : k0_pay7 (F := Ideal) (stk k) (arr (tD true q k v w l e)) a = plus2 a (head (tQ' true q k v w l e) 3) := by
  unfold k0_pay7; rw [pay3_eq]; funext i; idx_vars i; pointwise [plus2, head]

theorem pay47_eq (a : FVec Ideal S512x128 .f32) :
    k0_pay47 (F := Ideal) (stk k) (arr (tP false q k l)) (arr (tE v w)) (k0_pay39 (slot e 3)) (k0_pay40 (slot e 0)) (k0_pay41 (slot e 1)) (k0_pay42 (slot e 2)) a
      = plus2 a (head (tQ' false q k v w l e) 0) := by
  unfold k0_pay47; rw [pay46_eq]; funext i; idx_vars i; pointwise [plus2, head]
theorem pay8_eq (a : FVec Ideal S512x128 .f32) :
    k0_pay8 (F := Ideal) (k0_pay48 a) (k0_pay49 (stk k) (arr (tP false q k l)) (arr (tE v w)) (k0_pay39 (slot e 3)) (k0_pay40 (slot e 0)) (k0_pay41 (slot e 1)) (k0_pay42 (slot e 2)))
      = plus2 a (head (tQ' false q k v w l e) 1) := by
  unfold k0_pay49; rw [pay46_eq]; funext i; idx_vars i; pointwise [k0_pay8, k0_pay48, plus2, head]
theorem pay9_eq (b : FVec Ideal S4x512x128 .f32) (a : FVec Ideal S512x128 .f32) : k0_pay9 (F := Ideal) b a = plus2 a (head b 2) := by
  funext i; idx_vars i; pointwise [k0_pay9, plus2, head]
theorem pay10_eq (b : FVec Ideal S4x512x128 .f32) (a : FVec Ideal S512x128 .f32) : k0_pay10 (F := Ideal) b a = plus2 a (head b 3) := by
  funext i; idx_vars i; pointwise [k0_pay10, plus2, head]

theorem pay11_eq (b : FVec Ideal S4x512x128 .f32) : k0_pay11 (F := Ideal) b = head b 0 := by
  funext i; idx_vars i; pointwise [k0_pay11, head]
theorem pay12_eq (b : FVec Ideal S4x512x128 .f32) : k0_pay12 (F := Ideal) b = head b 1 := by
  funext i; idx_vars i; pointwise [k0_pay12, head]
theorem pay13_eq (b : FVec Ideal S4x512x128 .f32) : k0_pay13 (F := Ideal) b = head b 2 := by
  funext i; idx_vars i; pointwise [k0_pay13, head]
theorem pay14_eq (b : FVec Ideal S4x512x128 .f32) : k0_pay14 (F := Ideal) b = head b 3 := by
  funext i; idx_vars i; pointwise [k0_pay14, head]
theorem pay15_eq (b : FVec Ideal S4x512x128 .f32) : k0_pay15 (F := Ideal) b = head b 0 := by
  funext i; idx_vars i; pointwise [k0_pay15, head]
theorem pay16_eq (b : FVec Ideal S4x512x128 .f32) : k0_pay16 (F := Ideal) b = head b 1 := by
  funext i; idx_vars i; pointwise [k0_pay16, head]
theorem pay17_eq (b : FVec Ideal S4x512x128 .f32) : k0_pay17 (F := Ideal) b = head b 2 := by
  funext i; idx_vars i; pointwise [k0_pay17, head]
theorem pay18_eq (b : FVec Ideal S4x512x128 .f32) : k0_pay18 (F := Ideal) b = head b 3 := by
  funext i; idx_vars i; pointwise [k0_pay18, head]

theorem pay1_eq : k0_pay1 (F := Ideal) = fun _ => (0 : EReal) := by
  funext i; idx_vars i; pointwise [k0_pay1]
theorem pay19_eq : k0_pay19 (F := Ideal) = fun _ => (0 : EReal) := by
  funext i; idx_vars i; pointwise [k0_pay19]
theorem pay20_eq : k0_pay20 (F := Ideal) = fun _ => (0 : EReal) := by
  funext i; idx_vars i; pointwise [k0_pay20]

end Cert.KernelIdeal.Attn

end
-- ==== Proof.PutGet.lean ====
/-
What a row of four stores leaves, head after head, in a buffer of 512 columns, and what a load of one head reads.
-/
module

public import proofs.«01_k».proof.Proof.RunState
public import proofs.«01_k».proof.Proof.Tile
public import Idealize.ShloMosaic.Lib.WritesUnit
public import Idealize.ShloMosaic.Lib.Pipeline.Frame
public import Idealize.ShloMosaic.Lib.Pipeline.FrameBody
public import Idealize.ShloMosaic.Lib.Pipeline.ValueKit.Tiles

@[expose] public section

set_option maxRecDepth 16384

noncomputable section

namespace Cert.KernelIdeal.Attn

open Cert.KernelIdeal Cert.KernelIdeal.Gen
open Idealize.ShloMosaic
open Idealize.ShloMosaic.TcCoe

/-- Head `j` of the 512 rows from row `o`. -/
def get (o : ℕ) (ho : o ≤ 3584) (j : Fin 4) (X : S4096x512.Idx → EReal) : S512x128.Idx → EReal := fun i =>
  X (ix2 ⟨o + (i 0).val, by have := (i 0).isLt; change (i 0).val < 512 at this; omega⟩ (lane j (i 1)))

/-- The rows from `o` of one head replaced. -/
def put (o : ℕ) (j : Fin 4) (X : S4096x512.Idx → EReal) (p : S512x128.Idx → EReal) : S4096x512.Idx → EReal := fun y =>
  if h : (o ≤ (y 0).val ∧ (y 0).val < o + 512) ∧ (128 * j.val ≤ (y 1).val ∧ (y 1).val < 128 * j.val + 128) then
    p (ix2 ⟨(y 0).val - o, by omega⟩ ⟨(y 1).val - 128 * j.val, by omega⟩) else X y

/-- A stack's rows, heads side by side, at the rows from `o`; zero elsewhere. -/
def rows (o : ℕ) (b : S4x512x128.Idx → EReal) : S4096x512.Idx → EReal := fun y =>
  if h : o ≤ (y 0).val ∧ (y 0).val < o + 512 then unstk b (ix2 ⟨(y 0).val - o, by omega⟩ (y 1)) else 0

section
variable {sp : Space} (v : View sig .tc sp S4096x512 .f32) (f : v.ty.Contents (Elt Ideal))

theorem rd_put (off : Fin 2 → ℕ) (o : ℕ) (j : Fin 4) (hoff : off = ![o, 128 * j.val]) (inb : ∀ a, off a + S512x128.size a ≤ S4096x512.size a)
    (p : S512x128.Idx → EReal) (L : List (View.Piece (Elt Ideal) S4096x512 .f32)) :
    v.read (Elt Ideal) (v.writes (Elt Ideal) f ((⟨Rect.unit (s := S4096x512) off S512x128.size inb, p⟩ : View.Piece (Elt Ideal) S4096x512 .f32) :: L))
      = put o j (v.read (Elt Ideal) (v.writes (Elt Ideal) f L)) p := by
  funext y
  rw [View.read_writes_cons_unit v f inb p L y hoff]
  unfold put
  by_cases h : (o ≤ (y 0).val ∧ (y 0).val < o + 512) ∧ (128 * j.val ≤ (y 1).val ∧ (y 1).val < 128 * j.val + 128)
  · rw [dif_pos h, dif_pos (Fin.forall_fin_two.mpr h)]
    refine congrArg p (funext fun a => ?_)
    refine Fin.cases rfl (fun a => Fin.cases rfl (fun a => a.elim0) a) a
  · rw [dif_neg h, dif_neg fun h' => h (Fin.forall_fin_two.mp h')]

theorem ld_get (off : Fin 2 → ℕ) (o : ℕ) (ho : o ≤ 3584) (j : Fin 4) (hoff : off = ![o, 128 * j.val]) (inb : ∀ a, off a + S512x128.size a ≤ S4096x512.size a) :
    v.readAt (Elt Ideal) (Rect.unit (s := S4096x512) off S512x128.size inb).toLoadRect f = get o ho j (v.read (Elt Ideal) f) := by
  subst hoff
  funext x
  rw [View.readAt_eq_ld]
  refine View.ld_unit_apply_of _ _ _ _ _ _ fun a => ?_
  refine Fin.cases rfl (fun a => Fin.cases rfl (fun a => a.elim0) a) a

/-- Four heads' stores, each adding to what it read, add the stack to the rows from `o`. -/
theorem four_put (o : ℕ) (ho : o ≤ 3584) (X : S4096x512.Idx → EReal) (b : S4x512x128.Idx → EReal)
    (X1 X2 X3 X4 : S4096x512.Idx → EReal)
    (h1 : X1 = put o 0 X (plus2 (get o ho 0 X) (head b 0)))
    (h2 : X2 = put o 1 X1 (plus2 (get o ho 1 X1) (head b 1)))
    (h3 : X3 = put o 2 X2 (plus2 (get o ho 2 X2) (head b 2)))
    (h4 : X4 = put o 3 X3 (plus2 (get o ho 3 X3) (head b 3))) :
    X4 = fun y => X y + rows o b y := by
  funext y
  have step : ∀ (j : Fin 4) (Y : S4096x512.Idx → EReal) (y : S4096x512.Idx),
      put o j Y (plus2 (get o ho j Y) (head b j)) y = if (o ≤ (y 0).val ∧ (y 0).val < o + 512) ∧ (y 1).val / 128 = j.val then Y y + rows o b y else Y y := by
    intro j Y y
    unfold put
    by_cases h : (o ≤ (y 0).val ∧ (y 0).val < o + 512) ∧ (128 * j.val ≤ (y 1).val ∧ (y 1).val < 128 * j.val + 128)
    · have hj : (y 1).val / 128 = j.val := by omega
      rw [dif_pos h, if_pos ⟨h.1, hj⟩]
      unfold plus2 get head rows unstk
      rw [dif_pos h.1]
      refine congrArg₂ (· + ·) (congrArg Y ?_) (congrArg b ?_)
      · refine funext fun a => Fin.cases (Fin.ext ?_) (fun a => Fin.cases (Fin.ext ?_) (fun a => a.elim0) a) a
        · show o + ((y 0).val - o) = (y 0).val
          omega
        · show 128 * j.val + ((y 1).val - 128 * j.val) = (y 1).val
          omega
      · refine funext fun a => Fin.cases (Fin.ext ?_) (fun a => Fin.cases (Fin.ext ?_) (fun a => Fin.cases (Fin.ext ?_) (fun a => a.elim0) a) a) a
        · exact hj.symm
        · rfl
        · show (y 1).val - 128 * j.val = (y 1).val % 128
          omega
    · rw [dif_neg h, if_neg]
      intro h'
      exact h ⟨h'.1, by omega⟩
  have hy : (y 1).val < 512 := (y 1).isLt
  rw [h4, step, h3, step, h2, step, h1, step]
  by_cases hr : o ≤ (y 0).val ∧ (y 0).val < o + 512
  · have : (y 1).val / 128 = 0 ∨ (y 1).val / 128 = 1 ∨ (y 1).val / 128 = 2 ∨ (y 1).val / 128 = 3 := by omega
    rcases this with e | e | e | e <;> simp [hr, e]
  · have : rows o b y = 0 := by unfold rows; rw [dif_neg hr]
    simp [this]

end

section
variable {sp : Space} (v : View sig .tc sp S512x512 .f32) (f : v.ty.Contents (Elt Ideal))

/-- Four heads' stores over a block leave the stack's heads side by side. -/
theorem four_cover (b : S4x512x128.Idx → EReal) (p0 p1 p2 p3 : S512x128.Idx → EReal)
    (h0 : p0 = head b 0) (h1 : p1 = head b 1) (h2 : p2 = head b 2) (h3 : p3 = head b 3)
    (b0 : ∀ a : Fin 2, (![0, 0] : Fin 2 → ℕ) a + S512x128.size a ≤ S512x512.size a)
    (b1 : ∀ a : Fin 2, (![0, 128] : Fin 2 → ℕ) a + S512x128.size a ≤ S512x512.size a)
    (b2 : ∀ a : Fin 2, (![0, 256] : Fin 2 → ℕ) a + S512x128.size a ≤ S512x512.size a)
    (b3 : ∀ a : Fin 2, (![0, 384] : Fin 2 → ℕ) a + S512x128.size a ≤ S512x512.size a) :
    v.read (Elt Ideal) (v.writes (Elt Ideal) f
      [(⟨Rect.unit (s := S512x512) ![0, 384] S512x128.size b3, p3⟩ : View.Piece (Elt Ideal) S512x512 .f32),
       (⟨Rect.unit (s := S512x512) ![0, 256] S512x128.size b2, p2⟩ : View.Piece (Elt Ideal) S512x512 .f32),
       (⟨Rect.unit (s := S512x512) ![0, 128] S512x128.size b1, p1⟩ : View.Piece (Elt Ideal) S512x512 .f32),
       (⟨Rect.unit (s := S512x512) ![0, 0] S512x128.size b0, p0⟩ : View.Piece (Elt Ideal) S512x512 .f32)]) = unstk b := by
  subst h0 h1 h2 h3
  have key : ∀ (j : Fin 4) (k : ℕ) (hk : k = 128 * j.val) (bb : ∀ a : Fin 2, (![0, k] : Fin 2 → ℕ) a + S512x128.size a ≤ S512x512.size a) (L) (y : S512x512.Idx),
      v.read (Elt Ideal) (v.writes (Elt Ideal) f
        ((⟨Rect.unit (s := S512x512) ![0, k] S512x128.size bb, head b j⟩ : View.Piece (Elt Ideal) S512x512 .f32) :: L)) y
        = if (y 1).val / 128 = j.val then unstk b y else v.read (Elt Ideal) (v.writes (Elt Ideal) f L) y := by
    intro j k hk bb L y
    have hy0 : (y 0).val < 512 := (y 0).isLt
    rw [View.read_writes_cons_unit v f bb (head b j) L y rfl]
    by_cases h : (0 ≤ (y 0).val ∧ (y 0).val < 0 + 512) ∧ (k ≤ (y 1).val ∧ (y 1).val < k + 128)
    · have hj : (y 1).val / 128 = j.val := by omega
      rw [dif_pos (Fin.forall_fin_two.mpr h), if_pos hj]
      unfold head unstk
      refine congrArg b (funext fun a => Fin.cases (Fin.ext ?_) (fun a => Fin.cases (Fin.ext ?_) (fun a => Fin.cases (Fin.ext ?_) (fun a => a.elim0) a) a) a)
      · exact hj.symm
      · rfl
      · show (y 1).val - k = (y 1).val % 128
        omega
    · rw [dif_neg fun h' => h (Fin.forall_fin_two.mp h'), if_neg]
      intro h'
      exact h ⟨by omega, by omega⟩
  funext y
  have hy : (y 1).val < 512 := (y 1).isLt
  rw [key 3 384 rfl, key 2 256 rfl, key 1 128 rfl, key 0 0 rfl]
  have : (y 1).val / 128 = 0 ∨ (y 1).val / 128 = 1 ∨ (y 1).val / 128 = 2 ∨ (y 1).val / 128 = 3 := by omega
  rcases this with e | e | e | e <;> simp [e]

end

/-- A load of one head of a block. -/
theorem rd_slot {sp : Space} (m : Memref sig .tc sp S512x512 .f32) (h : m.IsWhole) (x : S512x512.Idx → Elt Ideal .f32) (off : Fin 2 → ℕ) (j : Fin 4)
    (hoff : off = ![0, 128 * j.val]) (inb : ∀ a, off a + S512x128.size a ≤ S512x512.size a) :
    m.view.readAt (Elt Ideal) (Rect.unit (s := S512x512) off S512x128.size inb).toLoadRect (h.unread x) = slot x j := by
  subst hoff
  funext i
  rw [View.readAt_eq_ld, h.read_unread]
  refine View.ld_unit_apply_of _ _ _ _ _ _ fun a => ?_
  refine Fin.cases ?_ (fun a => Fin.cases rfl (fun a => a.elim0) a) a
  exact (Nat.zero_add _).symm

/-- The same of a block of halves. -/
theorem rd_slot' {sp : Space} (m : Memref sig .tc sp S512x512 .bf16) (h : m.IsWhole) (x : S512x512.Idx → Elt Ideal .bf16) (off : Fin 2 → ℕ) (j : Fin 4)
    (hoff : off = ![0, 128 * j.val]) (inb : ∀ a, off a + S512x128.size a ≤ S512x512.size a) :
    m.view.readAt (Elt Ideal) (Rect.unit (s := S512x512) off S512x128.size inb).toLoadRect (h.unread x) = slot x j := by
  subst hoff
  funext i
  rw [View.readAt_eq_ld, h.read_unread]
  refine View.ld_unit_apply_of _ _ _ _ _ _ fun a => ?_
  refine Fin.cases ?_ (fun a => Fin.cases rfl (fun a => a.elim0) a) a
  exact (Nat.zero_add _).symm

end Cert.KernelIdeal.Attn

end
-- ==== Proof.RunPay.lean ====
/-
The payloads of a point's stores, from the heads of the six blocks it reads.
-/
module

public import proofs.«01_k».proof.Proof.PutGet

@[expose] public section

set_option maxRecDepth 16384

noncomputable section

namespace Cert.KernelIdeal.Attn

open Cert.KernelIdeal Cert.KernelIdeal.Gen
open Idealize.ShloMosaic
open Idealize.ShloMosaic.TcCoe

/-- One head's lanes of a block lie in it. -/
theorem inbj (j : Fin 4) : ∀ a : Fin 2, (![0, 128 * j.val] : Fin 2 → ℕ) a + S512x128.size a ≤ S512x512.size a :=
  Fin.forall_fin_two.mpr ⟨le_refl 512, by show 128 * j.val + 128 ≤ 512; omega⟩

/-- A load of head `j` of a block of words. -/
def lw {sp : Space} (m : Memref sig .tc sp S512x512 .f32) (h : m.IsWhole) (x : S512x512.Idx → Elt Ideal .f32) (j : Fin 4) : Vec Ideal S512x128 .f32 :=
  m.view.readAt (Elt Ideal) (Rect.unit (s := S512x512) ![0, 128 * j.val] S512x128.size (inbj j)).toLoadRect (h.unread x)

/-- A load of head `j` of a block of halves. -/
def lh {sp : Space} (m : Memref sig .tc sp S512x512 .bf16) (h : m.IsWhole) (x : S512x512.Idx → Elt Ideal .bf16) (j : Fin 4) : Vec Ideal S512x128 .bf16 :=
  m.view.readAt (Elt Ideal) (Rect.unit (s := S512x512) ![0, 128 * j.val] S512x128.size (inbj j)).toLoadRect (h.unread x)

theorem lw_eq {sp : Space} (m : Memref sig .tc sp S512x512 .f32) (h : m.IsWhole) (x : S512x512.Idx → Elt Ideal .f32) : lw m h x = slot x :=
  funext fun j => rd_slot m h x _ j rfl _
theorem lh_eq {sp : Space} (m : Memref sig .tc sp S512x512 .bf16) (h : m.IsWhole) (x : S512x512.Idx → Elt Ideal .bf16) : lh m h x = slot x :=
  funext fun j => rd_slot' m h x _ j rfl _

variable (A B C : Fin 4 → Vec Ideal S512x128 .bf16) (W L E : Fin 4 → Vec Ideal S512x128 .f32)
  (q k v : FVec Ideal S512x512 .bf16) (w l e : FVec Ideal S512x512 .f32)

/-- What a point under the diagonal stores in the accumulator of dk, of dv, and what it adds to dq. -/
def offK (a : Vec Ideal S4x512x128 .f32) : FVec Ideal S4x512x128 .f32 :=
  k0_pay45 (k0_pay34 (A 0) (A 1) (A 2) (A 3)) (k0_pay37 (k0_pay34 (A 0) (A 1) (A 2) (A 3)) (k0_pay35 (B 0) (B 1) (B 2) (B 3)) (L 0) (L 1) (L 2) (L 3))
    (k0_pay38 (k0_pay36 (W 0) (W 1) (W 2) (W 3)) (C 0) (C 1) (C 2) (C 3)) (k0_pay39 (E 3)) (k0_pay40 (E 0)) (k0_pay41 (E 1)) (k0_pay42 (E 2)) a
def offV (a : Vec Ideal S4x512x128 .f32) : FVec Ideal S4x512x128 .f32 :=
  k0_pay44 (k0_pay36 (W 0) (W 1) (W 2) (W 3)) (k0_pay37 (k0_pay34 (A 0) (A 1) (A 2) (A 3)) (k0_pay35 (B 0) (B 1) (B 2) (B 3)) (L 0) (L 1) (L 2) (L 3)) a
def offQ : FVec Ideal S4x512x128 .f32 :=
  k0_pay46 (k0_pay35 (B 0) (B 1) (B 2) (B 3)) (k0_pay37 (k0_pay34 (A 0) (A 1) (A 2) (A 3)) (k0_pay35 (B 0) (B 1) (B 2) (B 3)) (L 0) (L 1) (L 2) (L 3))
    (k0_pay38 (k0_pay36 (W 0) (W 1) (W 2) (W 3)) (C 0) (C 1) (C 2) (C 3)) (k0_pay39 (E 3)) (k0_pay40 (E 0)) (k0_pay41 (E 1)) (k0_pay42 (E 2))
def offQ0 (a : Vec Ideal S512x128 .f32) : FVec Ideal S512x128 .f32 :=
  k0_pay47 (k0_pay35 (B 0) (B 1) (B 2) (B 3)) (k0_pay37 (k0_pay34 (A 0) (A 1) (A 2) (A 3)) (k0_pay35 (B 0) (B 1) (B 2) (B 3)) (L 0) (L 1) (L 2) (L 3))
    (k0_pay38 (k0_pay36 (W 0) (W 1) (W 2) (W 3)) (C 0) (C 1) (C 2) (C 3)) (k0_pay39 (E 3)) (k0_pay40 (E 0)) (k0_pay41 (E 1)) (k0_pay42 (E 2)) a
def offQ1 (a : Vec Ideal S512x128 .f32) : FVec Ideal S512x128 .f32 :=
  k0_pay8 (k0_pay48 a) (k0_pay49 (k0_pay35 (B 0) (B 1) (B 2) (B 3)) (k0_pay37 (k0_pay34 (A 0) (A 1) (A 2) (A 3)) (k0_pay35 (B 0) (B 1) (B 2) (B 3)) (L 0) (L 1) (L 2) (L 3))
    (k0_pay38 (k0_pay36 (W 0) (W 1) (W 2) (W 3)) (C 0) (C 1) (C 2) (C 3)) (k0_pay39 (E 3)) (k0_pay40 (E 0)) (k0_pay41 (E 1)) (k0_pay42 (E 2)))

theorem offK_eq (a : FVec Ideal S4x512x128 .f32) : offK (slot q) (slot k) (slot v) (slot w) (slot l) (slot e) a = plus a (tK' false q k v w l e) := by
  unfold offK; rw [pay34_eq, pay35_eq, pay36_eq, pay37_eq, pay38_eq, pay45_eq]
theorem offV_eq (a : FVec Ideal S4x512x128 .f32) : offV (slot q) (slot k) (slot w) (slot l) a = plus a (tV false q k w l) := by
  unfold offV; rw [pay34_eq, pay35_eq, pay36_eq, pay37_eq, pay44_eq]
theorem offQ_eq : offQ (slot q) (slot k) (slot v) (slot w) (slot l) (slot e) = tQ' false q k v w l e := by
  unfold offQ; rw [pay34_eq, pay35_eq, pay36_eq, pay37_eq, pay38_eq, pay46_eq]
theorem offQ0_eq (a : FVec Ideal S512x128 .f32) : offQ0 (slot q) (slot k) (slot v) (slot w) (slot l) (slot e) a = plus2 a (head (tQ' false q k v w l e) 0) := by
  unfold offQ0; rw [pay34_eq, pay35_eq, pay36_eq, pay37_eq, pay38_eq, pay47_eq]
theorem offQ1_eq (a : FVec Ideal S512x128 .f32) : offQ1 (slot q) (slot k) (slot v) (slot w) (slot l) (slot e) a = plus2 a (head (tQ' false q k v w l e) 1) := by
  unfold offQ1; rw [pay34_eq, pay35_eq, pay36_eq, pay37_eq, pay38_eq, pay8_eq]

/-- The scores of a point on the diagonal, and its gradients of the scores. -/
def diaS : FVec Ideal S4x512x512 .f32 := k0_pay25 (k0_pay21 (A 0) (A 1) (A 2) (A 3)) (k0_pay22 (B 0) (B 1) (B 2) (B 3))
def diaD : FVec Ideal S4x512x512 .bf16 :=
  k0_pay31 (k0_pay23 (W 0) (W 1) (W 2) (W 3)) (k0_pay24 (C 0) (C 1) (C 2) (C 3)) (diaS A B) (k0_pay26 (L 0)) (k0_pay27 (L 1)) (k0_pay28 (L 2)) (k0_pay29 (L 3))
    (E 0) (E 1) (E 2) (E 3)
/-- What a point on the diagonal stores in the accumulators, and adds to dq. -/
def diaK (a : Vec Ideal S4x512x128 .f32) : FVec Ideal S4x512x128 .f32 :=
  k0_pay2 (k0_pay33 (k0_pay21 (A 0) (A 1) (A 2) (A 3)) (k0_pay23 (W 0) (W 1) (W 2) (W 3)) (k0_pay24 (C 0) (C 1) (C 2) (C 3)) (diaS A B)
    (k0_pay26 (L 0)) (k0_pay27 (L 1)) (k0_pay28 (L 2)) (k0_pay29 (L 3)) (E 0) (E 1) (E 2) (E 3) a)
def diaV (a : Vec Ideal S4x512x128 .f32) : FVec Ideal S4x512x128 .f32 :=
  k0_pay32 (k0_pay23 (W 0) (W 1) (W 2) (W 3)) (diaS A B) (k0_pay26 (L 0)) (k0_pay27 (L 1)) (k0_pay28 (L 2)) (k0_pay29 (L 3)) a
def diaQ0 (a : Vec Ideal S512x128 .f32) : FVec Ideal S512x128 .f32 := k0_pay4 (k0_pay22 (B 0) (B 1) (B 2) (B 3)) (diaD A B C W L E) a
def diaQ1 (a : Vec Ideal S512x128 .f32) : FVec Ideal S512x128 .f32 := k0_pay5 (k0_pay22 (B 0) (B 1) (B 2) (B 3)) (diaD A B C W L E) a
def diaQ2 (a : Vec Ideal S512x128 .f32) : FVec Ideal S512x128 .f32 := k0_pay6 (k0_pay22 (B 0) (B 1) (B 2) (B 3)) (diaD A B C W L E) a
def diaQ3 (a : Vec Ideal S512x128 .f32) : FVec Ideal S512x128 .f32 := k0_pay7 (k0_pay22 (B 0) (B 1) (B 2) (B 3)) (diaD A B C W L E) a

theorem diaS_eq : diaS (slot q) (slot k) = arr (tS true q k) := by
  unfold diaS; rw [pay21_eq, pay22_eq, pay25_eq]
theorem diaD_eq : diaD (slot q) (slot k) (slot v) (slot w) (slot l) (slot e) = arr (tD true q k v w l e) := by
  unfold diaD; rw [diaS_eq, pay23_eq, pay24_eq, pay31_eq]
theorem diaK_eq (a : FVec Ideal S4x512x128 .f32) : diaK (slot q) (slot k) (slot v) (slot w) (slot l) (slot e) a = plus a (tK' true q k v w l e) := by
  unfold diaK; rw [diaS_eq, pay21_eq, pay23_eq, pay24_eq, pay33_eq, pay2_eq]
theorem diaV_eq (a : FVec Ideal S4x512x128 .f32) : diaV (slot q) (slot k) (slot w) (slot l) a = plus a (tV true q k w l) := by
  unfold diaV; rw [diaS_eq, pay23_eq, pay32_eq]
theorem diaQ0_eq (a : FVec Ideal S512x128 .f32) : diaQ0 (slot q) (slot k) (slot v) (slot w) (slot l) (slot e) a = plus2 a (head (tQ' true q k v w l e) 0) := by
  unfold diaQ0; rw [diaD_eq, pay22_eq, pay4_eq]
theorem diaQ1_eq (a : FVec Ideal S512x128 .f32) : diaQ1 (slot q) (slot k) (slot v) (slot w) (slot l) (slot e) a = plus2 a (head (tQ' true q k v w l e) 1) := by
  unfold diaQ1; rw [diaD_eq, pay22_eq, pay5_eq]
theorem diaQ2_eq (a : FVec Ideal S512x128 .f32) : diaQ2 (slot q) (slot k) (slot v) (slot w) (slot l) (slot e) a = plus2 a (head (tQ' true q k v w l e) 2) := by
  unfold diaQ2; rw [diaD_eq, pay22_eq, pay6_eq]
theorem diaQ3_eq (a : FVec Ideal S512x128 .f32) : diaQ3 (slot q) (slot k) (slot v) (slot w) (slot l) (slot e) a = plus2 a (head (tQ' true q k v w l e) 3) := by
  unfold diaQ3; rw [diaD_eq, pay22_eq, pay7_eq]

theorem zero3 : (![0, 0, 0] : Fin 3 → ℕ) = fun _ => 0 := by funext a; fin_cases a <;> rfl
theorem zero2 : (![0, 0] : Fin 2 → ℕ) = fun _ => 0 := by funext a; fin_cases a <;> rfl

section
variable {sp : Space} (vw : View sig .tc sp S4x512x128 .f32) (inb inb' : ∀ a, (![0, 0, 0] : Fin 3 → ℕ) a + S4x512x128.size a ≤ S4x512x128.size a)
  (p : S4x512x128.Idx → Elt Ideal .f32) (Ls : List (View.Piece (Elt Ideal) S4x512x128 .f32))

/-- A whole store into an accumulator, last, leaves its payload. -/
theorem acc_store :
    vw.read (Elt Ideal) (vw.writes (Elt Ideal) vw.junk ((⟨Rect.unit (s := S4x512x128) ![0, 0, 0] S4x512x128.size inb, p⟩ : View.Piece (Elt Ideal) S4x512x128 .f32) :: Ls)) = p := by
  rw [View.read_writes_junk_eq_canon]; exact View.canon_cons_unit_zero zero3 _ _ _

/-- And read back it is the payload. -/
theorem acc_back :
    vw.readCov ((⟨Rect.unit (s := S4x512x128) ![0, 0, 0] S4x512x128.size inb, p⟩ : View.Piece (Elt Ideal) S4x512x128 .f32) :: Ls)
      (Rect.unit (s := S4x512x128) ![0, 0, 0] S4x512x128.size inb').toLoadRect = p := by
  rw [View.readCov_eq_canon', View.canon_cons_unit_zero zero3]; exact View.ld_unit_zero zero3 _ _

/-- A whole load reads the contents. -/
theorem acc_load (f : vw.ty.Contents (Elt Ideal)) :
    vw.readAt (Elt Ideal) (Rect.unit (s := S4x512x128) ![0, 0, 0] S4x512x128.size inb).toLoadRect f = vw.read (Elt Ideal) f :=
  View.ld_unit_zero zero3 _ _
end

section
variable (inb : ∀ a, (![0, 0, 0] : Fin 3 → ℕ) a + S4x512x128.size a ≤ S4x512x128.size a)
  (p : S4x512x128.Idx → Elt Ideal .f32)

/-- A whole store into the accumulator of dk, last, leaves its payload. -/
theorem accK (Ls : List (View.Piece (Elt Ideal) S4x512x128 .f32)) :
    (View.whole cc0_scratch0).writes (Elt Ideal) (View.whole cc0_scratch0).junk
      ((⟨Rect.unit (s := S4x512x128) ![0, 0, 0] S4x512x128.size inb, p⟩ : View.Piece (Elt Ideal) S4x512x128 .f32) :: Ls) = p := by
  refine (View.read_whole cc0_scratch0 _).symm.trans ?_
  exact acc_store (View.whole cc0_scratch0) inb p Ls
/-- The same of dv. -/
theorem accV (Ls : List (View.Piece (Elt Ideal) S4x512x128 .f32)) :
    (View.whole cc0_scratch1).writes (Elt Ideal) (View.whole cc0_scratch1).junk
      ((⟨Rect.unit (s := S4x512x128) ![0, 0, 0] S4x512x128.size inb, p⟩ : View.Piece (Elt Ideal) S4x512x128 .f32) :: Ls) = p := by
  refine (View.read_whole cc0_scratch1 _).symm.trans ?_
  exact acc_store (View.whole cc0_scratch1) inb p Ls
end

/-- The four offsets a point's stores into dq start at. -/
theorem off_eq (n : ℕ) (hn : n < 8) :
    k0_off2 (BitVec.ofNat 32 n) = ![512 * n, 128 * (0 : Fin 4).val] ∧ k0_off3 (BitVec.ofNat 32 n) = ![512 * n, 128 * (1 : Fin 4).val]
    ∧ k0_off4 (BitVec.ofNat 32 n) = ![512 * n, 128 * (2 : Fin 4).val] ∧ k0_off5 (BitVec.ofNat 32 n) = ![512 * n, 128 * (3 : Fin 4).val]
    ∧ k0_off6 (BitVec.ofNat 32 n) = ![512 * n, 128 * (0 : Fin 4).val] ∧ k0_off7 (BitVec.ofNat 32 n) = ![512 * n, 128 * (1 : Fin 4).val]
    ∧ k0_off8 (BitVec.ofNat 32 n) = ![512 * n, 128 * (2 : Fin 4).val] ∧ k0_off9 (BitVec.ofNat 32 n) = ![512 * n, 128 * (3 : Fin 4).val] := by
  have : n = 0 ∨ n = 1 ∨ n = 2 ∨ n = 3 ∨ n = 4 ∨ n = 5 ∨ n = 6 ∨ n = 7 := by omega
  rcases this with rfl | rfl | rfl | rfl | rfl | rfl | rfl | rfl <;> exact ⟨rfl, rfl, rfl, rfl, rfl, rfl, rfl, rfl⟩

end Cert.KernelIdeal.Attn

end
-- ==== Proof.RunVal.lean ====
/-
What the runs of the five kinds of point leave, as functions of the six blocks and of what was there.
-/
module

public import proofs.«01_k».proof.Proof.RunOff
public import proofs.«01_k».proof.Proof.RunDiag
public import proofs.«01_k».proof.Proof.RunEnds
public import proofs.«01_k».proof.Proof.RunPay

@[expose] public section

set_option maxRecDepth 16384

noncomputable section

namespace Cert.KernelIdeal.Attn

open Cert.KernelIdeal Cert.KernelIdeal.Gen
open Idealize.ShloMosaic
open Idealize.ShloMosaic.TcCoe

variable (c : Dev nD) (i : grid0.Coords)
  (arg4 : Memref sig .tc .vmem S512x512 .bf16) (h4 : arg4.IsWhole) (arg5 : Memref sig .tc .vmem S512x512 .bf16) (h5 : arg5.IsWhole)
  (arg6 : Memref sig .tc .vmem S512x512 .bf16) (h6 : arg6.IsWhole) (arg7 : Memref sig .tc .vmem S512x512 .f32) (h7 : arg7.IsWhole)
  (arg8 : Memref sig .tc .vmem S512x512 .f32) (h8 : arg8.IsWhole) (arg9 : Memref sig .tc .vmem S512x512 .f32) (h9 : arg9.IsWhole)
  (arg10 : Memref sig .tc .vmem S4096x512 .f32) (h10 : arg10.IsWhole) (arg11 : Memref sig .tc .vmem S512x512 .f32) (h11 : arg11.IsWhole)
  (arg12 : Memref sig .tc .vmem S512x512 .f32) (h12 : arg12.IsWhole)
  (x0 x1 x2 : S512x512.Idx → Elt Ideal .bf16) (x3 x4 x5 : S512x512.Idx → Elt Ideal .f32)
  (dq : S4096x512.Idx → Elt Ideal .f32) (ok ov : S512x512.Idx → Elt Ideal .f32)
  (dk dv : S4x512x128.Idx → Elt Ideal .f32)

theorem runOff_dk (hc : k0_chk1 (qw i) (kw i)) (c1 : (¬(k0_cond1 i = 1#1))) (c2 : (¬(k0_cond2 (qw i) (kw i) = 1#1))) (c3 : (k0_cond3 (qw i) (kw i) = 1#1)) (c4 : (¬(k0_cond4 (qw i) = 1#1))) :
    (runOff c i arg4 h4 arg5 h5 arg6 h6 arg7 h7 arg8 h8 arg9 h9 arg10 h10 arg11 h11 arg12 h12 x0 x1 x2 x3 x4 x5 dq ok ov dk dv hc c1 c2 c3 c4).dk' = plus dk (tK' false x0 x1 x2 x3 x4 x5) := by
  unfold runOff; dsimp only
  unfold runOff.sl.HS0_1
  refine (accK _ _ _).trans ?_
  refine Eq.trans (show _ = offK (lh arg4 h4 x0) (lh arg5 h5 x1) (lh arg6 h6 x2) (lw arg7 h7 x3) (lw arg8 h8 x4) (lw arg9 h9 x5) _ from rfl) ?_
  refine (congrArg (offK (lh arg4 h4 x0) (lh arg5 h5 x1) (lh arg6 h6 x2) (lw arg7 h7 x3) (lw arg8 h8 x4) (lw arg9 h9 x5)) (acc_load mDk.view _ _)).trans ?_
  rw [lh_eq, lh_eq, lh_eq, lw_eq, lw_eq, lw_eq]
  exact offK_eq x0 x1 x2 x3 x4 x5 _

theorem runOff_dv (hc : k0_chk1 (qw i) (kw i)) (c1 : (¬(k0_cond1 i = 1#1))) (c2 : (¬(k0_cond2 (qw i) (kw i) = 1#1))) (c3 : (k0_cond3 (qw i) (kw i) = 1#1)) (c4 : (¬(k0_cond4 (qw i) = 1#1))) :
    (runOff c i arg4 h4 arg5 h5 arg6 h6 arg7 h7 arg8 h8 arg9 h9 arg10 h10 arg11 h11 arg12 h12 x0 x1 x2 x3 x4 x5 dq ok ov dk dv hc c1 c2 c3 c4).dv' = plus dv (tV false x0 x1 x3 x4) := by
  unfold runOff; dsimp only
  unfold runOff.sl.HS1_1
  refine (accV _ _ _).trans ?_
  refine Eq.trans (show _ = offV (lh arg4 h4 x0) (lh arg5 h5 x1) (lw arg7 h7 x3) (lw arg8 h8 x4) _ from rfl) ?_
  refine (congrArg (offV (lh arg4 h4 x0) (lh arg5 h5 x1) (lw arg7 h7 x3) (lw arg8 h8 x4)) (acc_load mDv.view _ _)).trans ?_
  rw [lh_eq, lh_eq, lw_eq, lw_eq]
  exact offV_eq x0 x1 x3 x4 _

theorem runOff_ok (hc : k0_chk1 (qw i) (kw i)) (c1 : (¬(k0_cond1 i = 1#1))) (c2 : (¬(k0_cond2 (qw i) (kw i) = 1#1))) (c3 : (k0_cond3 (qw i) (kw i) = 1#1)) (c4 : (¬(k0_cond4 (qw i) = 1#1))) : (runOff c i arg4 h4 arg5 h5 arg6 h6 arg7 h7 arg8 h8 arg9 h9 arg10 h10 arg11 h11 arg12 h12 x0 x1 x2 x3 x4 x5 dq ok ov dk dv hc c1 c2 c3 c4).ok' = ok := by
  unfold runOff; dsimp only
  exact h11.read_unread _

theorem runOff_ov (hc : k0_chk1 (qw i) (kw i)) (c1 : (¬(k0_cond1 i = 1#1))) (c2 : (¬(k0_cond2 (qw i) (kw i) = 1#1))) (c3 : (k0_cond3 (qw i) (kw i) = 1#1)) (c4 : (¬(k0_cond4 (qw i) = 1#1))) : (runOff c i arg4 h4 arg5 h5 arg6 h6 arg7 h7 arg8 h8 arg9 h9 arg10 h10 arg11 h11 arg12 h12 x0 x1 x2 x3 x4 x5 dq ok ov dk dv hc c1 c2 c3 c4).ov' = ov := by
  unfold runOff; dsimp only
  exact h12.read_unread _

theorem runOff_dq (hc : k0_chk1 (qw i) (kw i)) (c1 : (¬(k0_cond1 i = 1#1))) (c2 : (¬(k0_cond2 (qw i) (kw i) = 1#1))) (c3 : (k0_cond3 (qw i) (kw i) = 1#1)) (c4 : (¬(k0_cond4 (qw i) = 1#1))) (n : ℕ) (hn : n < 8) (hq : qw i = BitVec.ofNat 32 n) :
    (runOff c i arg4 h4 arg5 h5 arg6 h6 arg7 h7 arg8 h8 arg9 h9 arg10 h10 arg11 h11 arg12 h12 x0 x1 x2 x3 x4 x5 dq ok ov dk dv hc c1 c2 c3 c4).dq' = fun y => dq y + rows (512 * n) (tQ' false x0 x1 x2 x3 x4 x5) y := by
  have ho : 512 * n ≤ 3584 := by omega
  obtain ⟨o2, o3, o4, o5, o6, o7, o8, o9⟩ := off_eq n hn
  rw [← hq] at o2 o3 o4 o5 o6 o7 o8 o9
  unfold runOff; dsimp only
  unfold runOff.sl.H10_3 runOff.sl.H10_2 runOff.sl.H10_1
  apply four_put (512 * n) ho dq (tQ' false x0 x1 x2 x3 x4 x5)
  case h4 =>
    refine (rd_put arg10.view _ _ (512 * n) 3 o9 _ _ _).trans (congrArg₂ (fun X p => put (512 * n) 3 X p) rfl ?_)
    refine (pay10_eq _ _).trans ?_
    refine congrArg₂ plus2 (ld_get arg10.view _ _ (512 * n) ho 3 o9 _) (congrArg (fun z => head z 3) ?_)
    refine Eq.trans (show _ = offQ (lh arg4 h4 x0) (lh arg5 h5 x1) (lh arg6 h6 x2) (lw arg7 h7 x3) (lw arg8 h8 x4) (lw arg9 h9 x5) from rfl) ?_
    rw [lh_eq, lh_eq, lh_eq, lw_eq, lw_eq, lw_eq]
    exact offQ_eq x0 x1 x2 x3 x4 x5
  case h3 =>
    refine (rd_put arg10.view _ _ (512 * n) 2 o8 _ _ _).trans (congrArg₂ (fun X p => put (512 * n) 2 X p) rfl ?_)
    refine (pay9_eq _ _).trans ?_
    refine congrArg₂ plus2 (ld_get arg10.view _ _ (512 * n) ho 2 o8 _) (congrArg (fun z => head z 2) ?_)
    refine Eq.trans (show _ = offQ (lh arg4 h4 x0) (lh arg5 h5 x1) (lh arg6 h6 x2) (lw arg7 h7 x3) (lw arg8 h8 x4) (lw arg9 h9 x5) from rfl) ?_
    rw [lh_eq, lh_eq, lh_eq, lw_eq, lw_eq, lw_eq]
    exact offQ_eq x0 x1 x2 x3 x4 x5
  case h2 =>
    refine (rd_put arg10.view _ _ (512 * n) 1 o7 _ _ _).trans (congrArg₂ (fun X p => put (512 * n) 1 X p) rfl ?_)
    refine Eq.trans (show _ = offQ1 (lh arg4 h4 x0) (lh arg5 h5 x1) (lh arg6 h6 x2) (lw arg7 h7 x3) (lw arg8 h8 x4) (lw arg9 h9 x5) _ from rfl) ?_
    rw [lh_eq, lh_eq, lh_eq, lw_eq, lw_eq, lw_eq]
    refine (offQ1_eq x0 x1 x2 x3 x4 x5 _).trans ?_
    exact congrArg₂ plus2 (ld_get arg10.view _ _ (512 * n) ho 1 o7 _) rfl
  case h1 =>
    refine (rd_put arg10.view _ _ (512 * n) 0 o6 _ _ _).trans (congrArg₂ (fun X p => put (512 * n) 0 X p) ?_ ?_)
    · exact h10.read_unread _
    · refine Eq.trans (show _ = offQ0 (lh arg4 h4 x0) (lh arg5 h5 x1) (lh arg6 h6 x2) (lw arg7 h7 x3) (lw arg8 h8 x4) (lw arg9 h9 x5) _ from rfl) ?_
      rw [lh_eq, lh_eq, lh_eq, lw_eq, lw_eq, lw_eq]
      refine (offQ0_eq x0 x1 x2 x3 x4 x5 _).trans ?_
      exact congrArg₂ plus2 ((ld_get arg10.view _ _ (512 * n) ho 0 o6 _).trans (congrArg (get (512 * n) ho 0) (h10.read_unread _))) rfl

theorem runOffLast_dk (hc : k0_chk1 (qw i) (kw i)) (c1 : (¬(k0_cond1 i = 1#1))) (c2 : (¬(k0_cond2 (qw i) (kw i) = 1#1))) (c3 : (k0_cond3 (qw i) (kw i) = 1#1)) (c4 : (k0_cond4 (qw i) = 1#1)) :
    (runOffLast c i arg4 h4 arg5 h5 arg6 h6 arg7 h7 arg8 h8 arg9 h9 arg10 h10 arg11 h11 arg12 h12 x0 x1 x2 x3 x4 x5 dq ok ov dk dv hc c1 c2 c3 c4).dk' = plus dk (tK' false x0 x1 x2 x3 x4 x5) := by
  unfold runOffLast; dsimp only
  unfold runOffLast.sl.HS0_1
  refine (accK _ _ _).trans ?_
  refine Eq.trans (show _ = offK (lh arg4 h4 x0) (lh arg5 h5 x1) (lh arg6 h6 x2) (lw arg7 h7 x3) (lw arg8 h8 x4) (lw arg9 h9 x5) _ from rfl) ?_
  refine (congrArg (offK (lh arg4 h4 x0) (lh arg5 h5 x1) (lh arg6 h6 x2) (lw arg7 h7 x3) (lw arg8 h8 x4) (lw arg9 h9 x5)) (acc_load mDk.view _ _)).trans ?_
  rw [lh_eq, lh_eq, lh_eq, lw_eq, lw_eq, lw_eq]
  exact offK_eq x0 x1 x2 x3 x4 x5 _

theorem runOffLast_dv (hc : k0_chk1 (qw i) (kw i)) (c1 : (¬(k0_cond1 i = 1#1))) (c2 : (¬(k0_cond2 (qw i) (kw i) = 1#1))) (c3 : (k0_cond3 (qw i) (kw i) = 1#1)) (c4 : (k0_cond4 (qw i) = 1#1)) :
    (runOffLast c i arg4 h4 arg5 h5 arg6 h6 arg7 h7 arg8 h8 arg9 h9 arg10 h10 arg11 h11 arg12 h12 x0 x1 x2 x3 x4 x5 dq ok ov dk dv hc c1 c2 c3 c4).dv' = plus dv (tV false x0 x1 x3 x4) := by
  unfold runOffLast; dsimp only
  unfold runOffLast.sl.HS1_1
  refine (accV _ _ _).trans ?_
  refine Eq.trans (show _ = offV (lh arg4 h4 x0) (lh arg5 h5 x1) (lw arg7 h7 x3) (lw arg8 h8 x4) _ from rfl) ?_
  refine (congrArg (offV (lh arg4 h4 x0) (lh arg5 h5 x1) (lw arg7 h7 x3) (lw arg8 h8 x4)) (acc_load mDv.view _ _)).trans ?_
  rw [lh_eq, lh_eq, lw_eq, lw_eq]
  exact offV_eq x0 x1 x3 x4 _

theorem runOffLast_ok (hc : k0_chk1 (qw i) (kw i)) (c1 : (¬(k0_cond1 i = 1#1))) (c2 : (¬(k0_cond2 (qw i) (kw i) = 1#1))) (c3 : (k0_cond3 (qw i) (kw i) = 1#1)) (c4 : (k0_cond4 (qw i) = 1#1)) :
    (runOffLast c i arg4 h4 arg5 h5 arg6 h6 arg7 h7 arg8 h8 arg9 h9 arg10 h10 arg11 h11 arg12 h12 x0 x1 x2 x3 x4 x5 dq ok ov dk dv hc c1 c2 c3 c4).ok' = unstk (runOffLast c i arg4 h4 arg5 h5 arg6 h6 arg7 h7 arg8 h8 arg9 h9 arg10 h10 arg11 h11 arg12 h12 x0 x1 x2 x3 x4 x5 dq ok ov dk dv hc c1 c2 c3 c4).dk' := by
  unfold runOffLast; dsimp only
  unfold runOffLast.sl.H11_4
  refine (four_cover arg11.view _ _ _ _ _ _ ?_ ?_ ?_ ?_ _ _ _ _)
  · refine (pay11_eq _).trans (congrArg (fun z => head z 0) ?_)
    unfold runOffLast.sl.v16 runOffLast.sl.HS0_1
    exact (acc_back mDk.view _ _ _ _).trans (accK _ _ _).symm
  · refine (pay12_eq _).trans (congrArg (fun z => head z 1) ?_)
    unfold runOffLast.sl.v16 runOffLast.sl.HS0_1
    exact (acc_back mDk.view _ _ _ _).trans (accK _ _ _).symm
  · refine (pay13_eq _).trans (congrArg (fun z => head z 2) ?_)
    unfold runOffLast.sl.v16 runOffLast.sl.HS0_1
    exact (acc_back mDk.view _ _ _ _).trans (accK _ _ _).symm
  · refine (pay14_eq _).trans (congrArg (fun z => head z 3) ?_)
    unfold runOffLast.sl.v16 runOffLast.sl.HS0_1
    exact (acc_back mDk.view _ _ _ _).trans (accK _ _ _).symm

theorem runOffLast_ov (hc : k0_chk1 (qw i) (kw i)) (c1 : (¬(k0_cond1 i = 1#1))) (c2 : (¬(k0_cond2 (qw i) (kw i) = 1#1))) (c3 : (k0_cond3 (qw i) (kw i) = 1#1)) (c4 : (k0_cond4 (qw i) = 1#1)) :
    (runOffLast c i arg4 h4 arg5 h5 arg6 h6 arg7 h7 arg8 h8 arg9 h9 arg10 h10 arg11 h11 arg12 h12 x0 x1 x2 x3 x4 x5 dq ok ov dk dv hc c1 c2 c3 c4).ov' = unstk (runOffLast c i arg4 h4 arg5 h5 arg6 h6 arg7 h7 arg8 h8 arg9 h9 arg10 h10 arg11 h11 arg12 h12 x0 x1 x2 x3 x4 x5 dq ok ov dk dv hc c1 c2 c3 c4).dv' := by
  unfold runOffLast; dsimp only
  unfold runOffLast.sl.H12_4
  refine (four_cover arg12.view _ _ _ _ _ _ ?_ ?_ ?_ ?_ _ _ _ _)
  · refine (pay15_eq _).trans (congrArg (fun z => head z 0) ?_)
    unfold runOffLast.sl.v29_1 runOffLast.sl.HS1_1
    exact (acc_back mDv.view _ _ _ _).trans (accV _ _ _).symm
  · refine (pay16_eq _).trans (congrArg (fun z => head z 1) ?_)
    unfold runOffLast.sl.v29_1 runOffLast.sl.HS1_1
    exact (acc_back mDv.view _ _ _ _).trans (accV _ _ _).symm
  · refine (pay17_eq _).trans (congrArg (fun z => head z 2) ?_)
    unfold runOffLast.sl.v29_1 runOffLast.sl.HS1_1
    exact (acc_back mDv.view _ _ _ _).trans (accV _ _ _).symm
  · refine (pay18_eq _).trans (congrArg (fun z => head z 3) ?_)
    unfold runOffLast.sl.v29_1 runOffLast.sl.HS1_1
    exact (acc_back mDv.view _ _ _ _).trans (accV _ _ _).symm

theorem runOffLast_dq (hc : k0_chk1 (qw i) (kw i)) (c1 : (¬(k0_cond1 i = 1#1))) (c2 : (¬(k0_cond2 (qw i) (kw i) = 1#1))) (c3 : (k0_cond3 (qw i) (kw i) = 1#1)) (c4 : (k0_cond4 (qw i) = 1#1)) (n : ℕ) (hn : n < 8) (hq : qw i = BitVec.ofNat 32 n) :
    (runOffLast c i arg4 h4 arg5 h5 arg6 h6 arg7 h7 arg8 h8 arg9 h9 arg10 h10 arg11 h11 arg12 h12 x0 x1 x2 x3 x4 x5 dq ok ov dk dv hc c1 c2 c3 c4).dq' = fun y => dq y + rows (512 * n) (tQ' false x0 x1 x2 x3 x4 x5) y := by
  have ho : 512 * n ≤ 3584 := by omega
  obtain ⟨o2, o3, o4, o5, o6, o7, o8, o9⟩ := off_eq n hn
  rw [← hq] at o2 o3 o4 o5 o6 o7 o8 o9
  unfold runOffLast; dsimp only
  unfold runOffLast.sl.H10_3 runOffLast.sl.H10_2 runOffLast.sl.H10_1
  apply four_put (512 * n) ho dq (tQ' false x0 x1 x2 x3 x4 x5)
  case h4 =>
    refine (rd_put arg10.view _ _ (512 * n) 3 o9 _ _ _).trans (congrArg₂ (fun X p => put (512 * n) 3 X p) rfl ?_)
    refine (pay10_eq _ _).trans ?_
    refine congrArg₂ plus2 (ld_get arg10.view _ _ (512 * n) ho 3 o9 _) (congrArg (fun z => head z 3) ?_)
    refine Eq.trans (show _ = offQ (lh arg4 h4 x0) (lh arg5 h5 x1) (lh arg6 h6 x2) (lw arg7 h7 x3) (lw arg8 h8 x4) (lw arg9 h9 x5) from rfl) ?_
    rw [lh_eq, lh_eq, lh_eq, lw_eq, lw_eq, lw_eq]
    exact offQ_eq x0 x1 x2 x3 x4 x5
  case h3 =>
    refine (rd_put arg10.view _ _ (512 * n) 2 o8 _ _ _).trans (congrArg₂ (fun X p => put (512 * n) 2 X p) rfl ?_)
    refine (pay9_eq _ _).trans ?_
    refine congrArg₂ plus2 (ld_get arg10.view _ _ (512 * n) ho 2 o8 _) (congrArg (fun z => head z 2) ?_)
    refine Eq.trans (show _ = offQ (lh arg4 h4 x0) (lh arg5 h5 x1) (lh arg6 h6 x2) (lw arg7 h7 x3) (lw arg8 h8 x4) (lw arg9 h9 x5) from rfl) ?_
    rw [lh_eq, lh_eq, lh_eq, lw_eq, lw_eq, lw_eq]
    exact offQ_eq x0 x1 x2 x3 x4 x5
  case h2 =>
    refine (rd_put arg10.view _ _ (512 * n) 1 o7 _ _ _).trans (congrArg₂ (fun X p => put (512 * n) 1 X p) rfl ?_)
    refine Eq.trans (show _ = offQ1 (lh arg4 h4 x0) (lh arg5 h5 x1) (lh arg6 h6 x2) (lw arg7 h7 x3) (lw arg8 h8 x4) (lw arg9 h9 x5) _ from rfl) ?_
    rw [lh_eq, lh_eq, lh_eq, lw_eq, lw_eq, lw_eq]
    refine (offQ1_eq x0 x1 x2 x3 x4 x5 _).trans ?_
    exact congrArg₂ plus2 (ld_get arg10.view _ _ (512 * n) ho 1 o7 _) rfl
  case h1 =>
    refine (rd_put arg10.view _ _ (512 * n) 0 o6 _ _ _).trans (congrArg₂ (fun X p => put (512 * n) 0 X p) ?_ ?_)
    · exact h10.read_unread _
    · refine Eq.trans (show _ = offQ0 (lh arg4 h4 x0) (lh arg5 h5 x1) (lh arg6 h6 x2) (lw arg7 h7 x3) (lw arg8 h8 x4) (lw arg9 h9 x5) _ from rfl) ?_
      rw [lh_eq, lh_eq, lh_eq, lw_eq, lw_eq, lw_eq]
      refine (offQ0_eq x0 x1 x2 x3 x4 x5 _).trans ?_
      exact congrArg₂ plus2 ((ld_get arg10.view _ _ (512 * n) ho 0 o6 _).trans (congrArg (get (512 * n) ho 0) (h10.read_unread _))) rfl

theorem runFirst_dk (hc : k0_chk1 (qw i) (kw i)) (c1 : (k0_cond1 i = 1#1)) (c2 : (k0_cond2 (qw i) (kw i) = 1#1)) (c3 : (¬(k0_cond3 (qw i) (kw i) = 1#1))) (c4 : (¬(k0_cond4 (qw i) = 1#1))) :
    (runFirst c i arg4 h4 arg5 h5 arg6 h6 arg7 h7 arg8 h8 arg9 h9 arg10 h10 arg11 h11 arg12 h12 x0 x1 x2 x3 x4 x5 dq ok ov dk dv hc c1 c2 c3 c4).dk' = plus (fun _ => (0 : EReal)) (tK' true x0 x1 x2 x3 x4 x5) := by
  unfold runFirst; dsimp only
  unfold runFirst.sl.HS0_2
  refine (accK _ _ _).trans ?_
  refine Eq.trans (show _ = diaK (lh arg4 h4 x0) (lh arg5 h5 x1) (lh arg6 h6 x2) (lw arg7 h7 x3) (lw arg8 h8 x4) (lw arg9 h9 x5) _ from rfl) ?_
  refine (congrArg (diaK (lh arg4 h4 x0) (lh arg5 h5 x1) (lh arg6 h6 x2) (lw arg7 h7 x3) (lw arg8 h8 x4) (lw arg9 h9 x5)) ((acc_back mDk.view _ _ _ _).trans pay19_eq)).trans ?_
  rw [lh_eq, lh_eq, lh_eq, lw_eq, lw_eq, lw_eq]
  exact diaK_eq x0 x1 x2 x3 x4 x5 _

theorem runFirst_dv (hc : k0_chk1 (qw i) (kw i)) (c1 : (k0_cond1 i = 1#1)) (c2 : (k0_cond2 (qw i) (kw i) = 1#1)) (c3 : (¬(k0_cond3 (qw i) (kw i) = 1#1))) (c4 : (¬(k0_cond4 (qw i) = 1#1))) :
    (runFirst c i arg4 h4 arg5 h5 arg6 h6 arg7 h7 arg8 h8 arg9 h9 arg10 h10 arg11 h11 arg12 h12 x0 x1 x2 x3 x4 x5 dq ok ov dk dv hc c1 c2 c3 c4).dv' = plus (fun _ => (0 : EReal)) (tV true x0 x1 x3 x4) := by
  unfold runFirst; dsimp only
  unfold runFirst.sl.HS1_2
  refine (accV _ _ _).trans ?_
  refine Eq.trans (show _ = diaV (lh arg4 h4 x0) (lh arg5 h5 x1) (lw arg7 h7 x3) (lw arg8 h8 x4) _ from rfl) ?_
  refine (congrArg (diaV (lh arg4 h4 x0) (lh arg5 h5 x1) (lw arg7 h7 x3) (lw arg8 h8 x4)) ((acc_back mDv.view _ _ _ _).trans pay20_eq)).trans ?_
  rw [lh_eq, lh_eq, lw_eq, lw_eq]
  exact diaV_eq x0 x1 x3 x4 _

theorem runFirst_ok (hc : k0_chk1 (qw i) (kw i)) (c1 : (k0_cond1 i = 1#1)) (c2 : (k0_cond2 (qw i) (kw i) = 1#1)) (c3 : (¬(k0_cond3 (qw i) (kw i) = 1#1))) (c4 : (¬(k0_cond4 (qw i) = 1#1))) : (runFirst c i arg4 h4 arg5 h5 arg6 h6 arg7 h7 arg8 h8 arg9 h9 arg10 h10 arg11 h11 arg12 h12 x0 x1 x2 x3 x4 x5 dq ok ov dk dv hc c1 c2 c3 c4).ok' = ok := by
  unfold runFirst; dsimp only
  exact h11.read_unread _

theorem runFirst_ov (hc : k0_chk1 (qw i) (kw i)) (c1 : (k0_cond1 i = 1#1)) (c2 : (k0_cond2 (qw i) (kw i) = 1#1)) (c3 : (¬(k0_cond3 (qw i) (kw i) = 1#1))) (c4 : (¬(k0_cond4 (qw i) = 1#1))) : (runFirst c i arg4 h4 arg5 h5 arg6 h6 arg7 h7 arg8 h8 arg9 h9 arg10 h10 arg11 h11 arg12 h12 x0 x1 x2 x3 x4 x5 dq ok ov dk dv hc c1 c2 c3 c4).ov' = ov := by
  unfold runFirst; dsimp only
  exact h12.read_unread _

theorem runFirst_dq (hc : k0_chk1 (qw i) (kw i)) (c1 : (k0_cond1 i = 1#1)) (c2 : (k0_cond2 (qw i) (kw i) = 1#1)) (c3 : (¬(k0_cond3 (qw i) (kw i) = 1#1))) (c4 : (¬(k0_cond4 (qw i) = 1#1))) (n : ℕ) (hn : n < 8) (hq : qw i = BitVec.ofNat 32 n) :
    (runFirst c i arg4 h4 arg5 h5 arg6 h6 arg7 h7 arg8 h8 arg9 h9 arg10 h10 arg11 h11 arg12 h12 x0 x1 x2 x3 x4 x5 dq ok ov dk dv hc c1 c2 c3 c4).dq' = fun y => (fun _ => (0 : EReal)) y + rows (512 * n) (tQ' true x0 x1 x2 x3 x4 x5) y := by
  have ho : 512 * n ≤ 3584 := by omega
  obtain ⟨o2, o3, o4, o5, o6, o7, o8, o9⟩ := off_eq n hn
  rw [← hq] at o2 o3 o4 o5 o6 o7 o8 o9
  unfold runFirst; dsimp only
  unfold runFirst.sl.H10_4 runFirst.sl.H10_3 runFirst.sl.H10_2 runFirst.sl.H10_1
  apply four_put (512 * n) ho (fun _ => (0 : EReal)) (tQ' true x0 x1 x2 x3 x4 x5)
  case h4 =>
    refine (rd_put arg10.view _ _ (512 * n) 3 o5 _ _ _).trans (congrArg₂ (fun X p => put (512 * n) 3 X p) rfl ?_)
    refine Eq.trans (show _ = diaQ3 (lh arg4 h4 x0) (lh arg5 h5 x1) (lh arg6 h6 x2) (lw arg7 h7 x3) (lw arg8 h8 x4) (lw arg9 h9 x5) _ from rfl) ?_
    rw [lh_eq, lh_eq, lh_eq, lw_eq, lw_eq, lw_eq]
    refine (diaQ3_eq x0 x1 x2 x3 x4 x5 _).trans ?_
    exact congrArg₂ plus2 (ld_get arg10.view _ _ (512 * n) ho 3 o5 _) rfl
  case h3 =>
    refine (rd_put arg10.view _ _ (512 * n) 2 o4 _ _ _).trans (congrArg₂ (fun X p => put (512 * n) 2 X p) rfl ?_)
    refine Eq.trans (show _ = diaQ2 (lh arg4 h4 x0) (lh arg5 h5 x1) (lh arg6 h6 x2) (lw arg7 h7 x3) (lw arg8 h8 x4) (lw arg9 h9 x5) _ from rfl) ?_
    rw [lh_eq, lh_eq, lh_eq, lw_eq, lw_eq, lw_eq]
    refine (diaQ2_eq x0 x1 x2 x3 x4 x5 _).trans ?_
    exact congrArg₂ plus2 (ld_get arg10.view _ _ (512 * n) ho 2 o4 _) rfl
  case h2 =>
    refine (rd_put arg10.view _ _ (512 * n) 1 o3 _ _ _).trans (congrArg₂ (fun X p => put (512 * n) 1 X p) rfl ?_)
    refine Eq.trans (show _ = diaQ1 (lh arg4 h4 x0) (lh arg5 h5 x1) (lh arg6 h6 x2) (lw arg7 h7 x3) (lw arg8 h8 x4) (lw arg9 h9 x5) _ from rfl) ?_
    rw [lh_eq, lh_eq, lh_eq, lw_eq, lw_eq, lw_eq]
    refine (diaQ1_eq x0 x1 x2 x3 x4 x5 _).trans ?_
    exact congrArg₂ plus2 (ld_get arg10.view _ _ (512 * n) ho 1 o3 _) rfl
  case h1 =>
    refine (rd_put arg10.view _ _ (512 * n) 0 o2 _ _ _).trans (congrArg₂ (fun X p => put (512 * n) 0 X p) ?_ ?_)
    · exact (View.read_writes_junk_eq_canon _ _).trans ((View.canon_unit_zero zero2 _ _).trans pay1_eq)
    · refine Eq.trans (show _ = diaQ0 (lh arg4 h4 x0) (lh arg5 h5 x1) (lh arg6 h6 x2) (lw arg7 h7 x3) (lw arg8 h8 x4) (lw arg9 h9 x5) _ from rfl) ?_
      rw [lh_eq, lh_eq, lh_eq, lw_eq, lw_eq, lw_eq]
      refine (diaQ0_eq x0 x1 x2 x3 x4 x5 _).trans ?_
      exact congrArg₂ plus2 ((ld_get arg10.view _ _ (512 * n) ho 0 o2 _).trans (congrArg (get (512 * n) ho 0) ((View.read_writes_junk_eq_canon _ _).trans ((View.canon_unit_zero zero2 _ _).trans pay1_eq)))) rfl

theorem runDiag_dk (hc : k0_chk1 (qw i) (kw i)) (c1 : (¬(k0_cond1 i = 1#1))) (c2 : (k0_cond2 (qw i) (kw i) = 1#1)) (c3 : (¬(k0_cond3 (qw i) (kw i) = 1#1))) (c4 : (¬(k0_cond4 (qw i) = 1#1))) :
    (runDiag c i arg4 h4 arg5 h5 arg6 h6 arg7 h7 arg8 h8 arg9 h9 arg10 h10 arg11 h11 arg12 h12 x0 x1 x2 x3 x4 x5 dq ok ov dk dv hc c1 c2 c3 c4).dk' = plus (fun _ => (0 : EReal)) (tK' true x0 x1 x2 x3 x4 x5) := by
  unfold runDiag; dsimp only
  unfold runDiag.sl.HS0_2
  refine (accK _ _ _).trans ?_
  refine Eq.trans (show _ = diaK (lh arg4 h4 x0) (lh arg5 h5 x1) (lh arg6 h6 x2) (lw arg7 h7 x3) (lw arg8 h8 x4) (lw arg9 h9 x5) _ from rfl) ?_
  refine (congrArg (diaK (lh arg4 h4 x0) (lh arg5 h5 x1) (lh arg6 h6 x2) (lw arg7 h7 x3) (lw arg8 h8 x4) (lw arg9 h9 x5)) ((acc_back mDk.view _ _ _ _).trans pay19_eq)).trans ?_
  rw [lh_eq, lh_eq, lh_eq, lw_eq, lw_eq, lw_eq]
  exact diaK_eq x0 x1 x2 x3 x4 x5 _

theorem runDiag_dv (hc : k0_chk1 (qw i) (kw i)) (c1 : (¬(k0_cond1 i = 1#1))) (c2 : (k0_cond2 (qw i) (kw i) = 1#1)) (c3 : (¬(k0_cond3 (qw i) (kw i) = 1#1))) (c4 : (¬(k0_cond4 (qw i) = 1#1))) :
    (runDiag c i arg4 h4 arg5 h5 arg6 h6 arg7 h7 arg8 h8 arg9 h9 arg10 h10 arg11 h11 arg12 h12 x0 x1 x2 x3 x4 x5 dq ok ov dk dv hc c1 c2 c3 c4).dv' = plus (fun _ => (0 : EReal)) (tV true x0 x1 x3 x4) := by
  unfold runDiag; dsimp only
  unfold runDiag.sl.HS1_2
  refine (accV _ _ _).trans ?_
  refine Eq.trans (show _ = diaV (lh arg4 h4 x0) (lh arg5 h5 x1) (lw arg7 h7 x3) (lw arg8 h8 x4) _ from rfl) ?_
  refine (congrArg (diaV (lh arg4 h4 x0) (lh arg5 h5 x1) (lw arg7 h7 x3) (lw arg8 h8 x4)) ((acc_back mDv.view _ _ _ _).trans pay20_eq)).trans ?_
  rw [lh_eq, lh_eq, lw_eq, lw_eq]
  exact diaV_eq x0 x1 x3 x4 _

theorem runDiag_ok (hc : k0_chk1 (qw i) (kw i)) (c1 : (¬(k0_cond1 i = 1#1))) (c2 : (k0_cond2 (qw i) (kw i) = 1#1)) (c3 : (¬(k0_cond3 (qw i) (kw i) = 1#1))) (c4 : (¬(k0_cond4 (qw i) = 1#1))) : (runDiag c i arg4 h4 arg5 h5 arg6 h6 arg7 h7 arg8 h8 arg9 h9 arg10 h10 arg11 h11 arg12 h12 x0 x1 x2 x3 x4 x5 dq ok ov dk dv hc c1 c2 c3 c4).ok' = ok := by
  unfold runDiag; dsimp only
  exact h11.read_unread _

theorem runDiag_ov (hc : k0_chk1 (qw i) (kw i)) (c1 : (¬(k0_cond1 i = 1#1))) (c2 : (k0_cond2 (qw i) (kw i) = 1#1)) (c3 : (¬(k0_cond3 (qw i) (kw i) = 1#1))) (c4 : (¬(k0_cond4 (qw i) = 1#1))) : (runDiag c i arg4 h4 arg5 h5 arg6 h6 arg7 h7 arg8 h8 arg9 h9 arg10 h10 arg11 h11 arg12 h12 x0 x1 x2 x3 x4 x5 dq ok ov dk dv hc c1 c2 c3 c4).ov' = ov := by
  unfold runDiag; dsimp only
  exact h12.read_unread _

theorem runDiag_dq (hc : k0_chk1 (qw i) (kw i)) (c1 : (¬(k0_cond1 i = 1#1))) (c2 : (k0_cond2 (qw i) (kw i) = 1#1)) (c3 : (¬(k0_cond3 (qw i) (kw i) = 1#1))) (c4 : (¬(k0_cond4 (qw i) = 1#1))) (n : ℕ) (hn : n < 8) (hq : qw i = BitVec.ofNat 32 n) :
    (runDiag c i arg4 h4 arg5 h5 arg6 h6 arg7 h7 arg8 h8 arg9 h9 arg10 h10 arg11 h11 arg12 h12 x0 x1 x2 x3 x4 x5 dq ok ov dk dv hc c1 c2 c3 c4).dq' = fun y => dq y + rows (512 * n) (tQ' true x0 x1 x2 x3 x4 x5) y := by
  have ho : 512 * n ≤ 3584 := by omega
  obtain ⟨o2, o3, o4, o5, o6, o7, o8, o9⟩ := off_eq n hn
  rw [← hq] at o2 o3 o4 o5 o6 o7 o8 o9
  unfold runDiag; dsimp only
  unfold runDiag.sl.H10_3 runDiag.sl.H10_2 runDiag.sl.H10_1
  apply four_put (512 * n) ho dq (tQ' true x0 x1 x2 x3 x4 x5)
  case h4 =>
    refine (rd_put arg10.view _ _ (512 * n) 3 o5 _ _ _).trans (congrArg₂ (fun X p => put (512 * n) 3 X p) rfl ?_)
    refine Eq.trans (show _ = diaQ3 (lh arg4 h4 x0) (lh arg5 h5 x1) (lh arg6 h6 x2) (lw arg7 h7 x3) (lw arg8 h8 x4) (lw arg9 h9 x5) _ from rfl) ?_
    rw [lh_eq, lh_eq, lh_eq, lw_eq, lw_eq, lw_eq]
    refine (diaQ3_eq x0 x1 x2 x3 x4 x5 _).trans ?_
    exact congrArg₂ plus2 (ld_get arg10.view _ _ (512 * n) ho 3 o5 _) rfl
  case h3 =>
    refine (rd_put arg10.view _ _ (512 * n) 2 o4 _ _ _).trans (congrArg₂ (fun X p => put (512 * n) 2 X p) rfl ?_)
    refine Eq.trans (show _ = diaQ2 (lh arg4 h4 x0) (lh arg5 h5 x1) (lh arg6 h6 x2) (lw arg7 h7 x3) (lw arg8 h8 x4) (lw arg9 h9 x5) _ from rfl) ?_
    rw [lh_eq, lh_eq, lh_eq, lw_eq, lw_eq, lw_eq]
    refine (diaQ2_eq x0 x1 x2 x3 x4 x5 _).trans ?_
    exact congrArg₂ plus2 (ld_get arg10.view _ _ (512 * n) ho 2 o4 _) rfl
  case h2 =>
    refine (rd_put arg10.view _ _ (512 * n) 1 o3 _ _ _).trans (congrArg₂ (fun X p => put (512 * n) 1 X p) rfl ?_)
    refine Eq.trans (show _ = diaQ1 (lh arg4 h4 x0) (lh arg5 h5 x1) (lh arg6 h6 x2) (lw arg7 h7 x3) (lw arg8 h8 x4) (lw arg9 h9 x5) _ from rfl) ?_
    rw [lh_eq, lh_eq, lh_eq, lw_eq, lw_eq, lw_eq]
    refine (diaQ1_eq x0 x1 x2 x3 x4 x5 _).trans ?_
    exact congrArg₂ plus2 (ld_get arg10.view _ _ (512 * n) ho 1 o3 _) rfl
  case h1 =>
    refine (rd_put arg10.view _ _ (512 * n) 0 o2 _ _ _).trans (congrArg₂ (fun X p => put (512 * n) 0 X p) ?_ ?_)
    · exact h10.read_unread _
    · refine Eq.trans (show _ = diaQ0 (lh arg4 h4 x0) (lh arg5 h5 x1) (lh arg6 h6 x2) (lw arg7 h7 x3) (lw arg8 h8 x4) (lw arg9 h9 x5) _ from rfl) ?_
      rw [lh_eq, lh_eq, lh_eq, lw_eq, lw_eq, lw_eq]
      refine (diaQ0_eq x0 x1 x2 x3 x4 x5 _).trans ?_
      exact congrArg₂ plus2 ((ld_get arg10.view _ _ (512 * n) ho 0 o2 _).trans (congrArg (get (512 * n) ho 0) (h10.read_unread _))) rfl

theorem runDiagLast_dk (hc : k0_chk1 (qw i) (kw i)) (c1 : (¬(k0_cond1 i = 1#1))) (c2 : (k0_cond2 (qw i) (kw i) = 1#1)) (c3 : (¬(k0_cond3 (qw i) (kw i) = 1#1))) (c4 : (k0_cond4 (qw i) = 1#1)) :
    (runDiagLast c i arg4 h4 arg5 h5 arg6 h6 arg7 h7 arg8 h8 arg9 h9 arg10 h10 arg11 h11 arg12 h12 x0 x1 x2 x3 x4 x5 dq ok ov dk dv hc c1 c2 c3 c4).dk' = plus (fun _ => (0 : EReal)) (tK' true x0 x1 x2 x3 x4 x5) := by
  unfold runDiagLast; dsimp only
  unfold runDiagLast.sl.HS0_2
  refine (accK _ _ _).trans ?_
  refine Eq.trans (show _ = diaK (lh arg4 h4 x0) (lh arg5 h5 x1) (lh arg6 h6 x2) (lw arg7 h7 x3) (lw arg8 h8 x4) (lw arg9 h9 x5) _ from rfl) ?_
  refine (congrArg (diaK (lh arg4 h4 x0) (lh arg5 h5 x1) (lh arg6 h6 x2) (lw arg7 h7 x3) (lw arg8 h8 x4) (lw arg9 h9 x5)) ((acc_back mDk.view _ _ _ _).trans pay19_eq)).trans ?_
  rw [lh_eq, lh_eq, lh_eq, lw_eq, lw_eq, lw_eq]
  exact diaK_eq x0 x1 x2 x3 x4 x5 _

theorem runDiagLast_dv (hc : k0_chk1 (qw i) (kw i)) (c1 : (¬(k0_cond1 i = 1#1))) (c2 : (k0_cond2 (qw i) (kw i) = 1#1)) (c3 : (¬(k0_cond3 (qw i) (kw i) = 1#1))) (c4 : (k0_cond4 (qw i) = 1#1)) :
    (runDiagLast c i arg4 h4 arg5 h5 arg6 h6 arg7 h7 arg8 h8 arg9 h9 arg10 h10 arg11 h11 arg12 h12 x0 x1 x2 x3 x4 x5 dq ok ov dk dv hc c1 c2 c3 c4).dv' = plus (fun _ => (0 : EReal)) (tV true x0 x1 x3 x4) := by
  unfold runDiagLast; dsimp only
  unfold runDiagLast.sl.HS1_2
  refine (accV _ _ _).trans ?_
  refine Eq.trans (show _ = diaV (lh arg4 h4 x0) (lh arg5 h5 x1) (lw arg7 h7 x3) (lw arg8 h8 x4) _ from rfl) ?_
  refine (congrArg (diaV (lh arg4 h4 x0) (lh arg5 h5 x1) (lw arg7 h7 x3) (lw arg8 h8 x4)) ((acc_back mDv.view _ _ _ _).trans pay20_eq)).trans ?_
  rw [lh_eq, lh_eq, lw_eq, lw_eq]
  exact diaV_eq x0 x1 x3 x4 _

theorem runDiagLast_ok (hc : k0_chk1 (qw i) (kw i)) (c1 : (¬(k0_cond1 i = 1#1))) (c2 : (k0_cond2 (qw i) (kw i) = 1#1)) (c3 : (¬(k0_cond3 (qw i) (kw i) = 1#1))) (c4 : (k0_cond4 (qw i) = 1#1)) :
    (runDiagLast c i arg4 h4 arg5 h5 arg6 h6 arg7 h7 arg8 h8 arg9 h9 arg10 h10 arg11 h11 arg12 h12 x0 x1 x2 x3 x4 x5 dq ok ov dk dv hc c1 c2 c3 c4).ok' = unstk (runDiagLast c i arg4 h4 arg5 h5 arg6 h6 arg7 h7 arg8 h8 arg9 h9 arg10 h10 arg11 h11 arg12 h12 x0 x1 x2 x3 x4 x5 dq ok ov dk dv hc c1 c2 c3 c4).dk' := by
  unfold runDiagLast; dsimp only
  unfold runDiagLast.sl.H11_4
  refine (four_cover arg11.view _ _ _ _ _ _ ?_ ?_ ?_ ?_ _ _ _ _)
  · refine (pay11_eq _).trans (congrArg (fun z => head z 0) ?_)
    unfold runDiagLast.sl.v16 runDiagLast.sl.HS0_2
    exact (acc_back mDk.view _ _ _ _).trans (accK _ _ _).symm
  · refine (pay12_eq _).trans (congrArg (fun z => head z 1) ?_)
    unfold runDiagLast.sl.v16 runDiagLast.sl.HS0_2
    exact (acc_back mDk.view _ _ _ _).trans (accK _ _ _).symm
  · refine (pay13_eq _).trans (congrArg (fun z => head z 2) ?_)
    unfold runDiagLast.sl.v16 runDiagLast.sl.HS0_2
    exact (acc_back mDk.view _ _ _ _).trans (accK _ _ _).symm
  · refine (pay14_eq _).trans (congrArg (fun z => head z 3) ?_)
    unfold runDiagLast.sl.v16 runDiagLast.sl.HS0_2
    exact (acc_back mDk.view _ _ _ _).trans (accK _ _ _).symm

theorem runDiagLast_ov (hc : k0_chk1 (qw i) (kw i)) (c1 : (¬(k0_cond1 i = 1#1))) (c2 : (k0_cond2 (qw i) (kw i) = 1#1)) (c3 : (¬(k0_cond3 (qw i) (kw i) = 1#1))) (c4 : (k0_cond4 (qw i) = 1#1)) :
    (runDiagLast c i arg4 h4 arg5 h5 arg6 h6 arg7 h7 arg8 h8 arg9 h9 arg10 h10 arg11 h11 arg12 h12 x0 x1 x2 x3 x4 x5 dq ok ov dk dv hc c1 c2 c3 c4).ov' = unstk (runDiagLast c i arg4 h4 arg5 h5 arg6 h6 arg7 h7 arg8 h8 arg9 h9 arg10 h10 arg11 h11 arg12 h12 x0 x1 x2 x3 x4 x5 dq ok ov dk dv hc c1 c2 c3 c4).dv' := by
  unfold runDiagLast; dsimp only
  unfold runDiagLast.sl.H12_4
  refine (four_cover arg12.view _ _ _ _ _ _ ?_ ?_ ?_ ?_ _ _ _ _)
  · refine (pay15_eq _).trans (congrArg (fun z => head z 0) ?_)
    unfold runDiagLast.sl.v29_1 runDiagLast.sl.HS1_2
    exact (acc_back mDv.view _ _ _ _).trans (accV _ _ _).symm
  · refine (pay16_eq _).trans (congrArg (fun z => head z 1) ?_)
    unfold runDiagLast.sl.v29_1 runDiagLast.sl.HS1_2
    exact (acc_back mDv.view _ _ _ _).trans (accV _ _ _).symm
  · refine (pay17_eq _).trans (congrArg (fun z => head z 2) ?_)
    unfold runDiagLast.sl.v29_1 runDiagLast.sl.HS1_2
    exact (acc_back mDv.view _ _ _ _).trans (accV _ _ _).symm
  · refine (pay18_eq _).trans (congrArg (fun z => head z 3) ?_)
    unfold runDiagLast.sl.v29_1 runDiagLast.sl.HS1_2
    exact (acc_back mDv.view _ _ _ _).trans (accV _ _ _).symm

theorem runDiagLast_dq (hc : k0_chk1 (qw i) (kw i)) (c1 : (¬(k0_cond1 i = 1#1))) (c2 : (k0_cond2 (qw i) (kw i) = 1#1)) (c3 : (¬(k0_cond3 (qw i) (kw i) = 1#1))) (c4 : (k0_cond4 (qw i) = 1#1)) (n : ℕ) (hn : n < 8) (hq : qw i = BitVec.ofNat 32 n) :
    (runDiagLast c i arg4 h4 arg5 h5 arg6 h6 arg7 h7 arg8 h8 arg9 h9 arg10 h10 arg11 h11 arg12 h12 x0 x1 x2 x3 x4 x5 dq ok ov dk dv hc c1 c2 c3 c4).dq' = fun y => dq y + rows (512 * n) (tQ' true x0 x1 x2 x3 x4 x5) y := by
  have ho : 512 * n ≤ 3584 := by omega
  obtain ⟨o2, o3, o4, o5, o6, o7, o8, o9⟩ := off_eq n hn
  rw [← hq] at o2 o3 o4 o5 o6 o7 o8 o9
  unfold runDiagLast; dsimp only
  unfold runDiagLast.sl.H10_3 runDiagLast.sl.H10_2 runDiagLast.sl.H10_1
  apply four_put (512 * n) ho dq (tQ' true x0 x1 x2 x3 x4 x5)
  case h4 =>
    refine (rd_put arg10.view _ _ (512 * n) 3 o5 _ _ _).trans (congrArg₂ (fun X p => put (512 * n) 3 X p) rfl ?_)
    refine Eq.trans (show _ = diaQ3 (lh arg4 h4 x0) (lh arg5 h5 x1) (lh arg6 h6 x2) (lw arg7 h7 x3) (lw arg8 h8 x4) (lw arg9 h9 x5) _ from rfl) ?_
    rw [lh_eq, lh_eq, lh_eq, lw_eq, lw_eq, lw_eq]
    refine (diaQ3_eq x0 x1 x2 x3 x4 x5 _).trans ?_
    exact congrArg₂ plus2 (ld_get arg10.view _ _ (512 * n) ho 3 o5 _) rfl
  case h3 =>
    refine (rd_put arg10.view _ _ (512 * n) 2 o4 _ _ _).trans (congrArg₂ (fun X p => put (512 * n) 2 X p) rfl ?_)
    refine Eq.trans (show _ = diaQ2 (lh arg4 h4 x0) (lh arg5 h5 x1) (lh arg6 h6 x2) (lw arg7 h7 x3) (lw arg8 h8 x4) (lw arg9 h9 x5) _ from rfl) ?_
    rw [lh_eq, lh_eq, lh_eq, lw_eq, lw_eq, lw_eq]
    refine (diaQ2_eq x0 x1 x2 x3 x4 x5 _).trans ?_
    exact congrArg₂ plus2 (ld_get arg10.view _ _ (512 * n) ho 2 o4 _) rfl
  case h2 =>
    refine (rd_put arg10.view _ _ (512 * n) 1 o3 _ _ _).trans (congrArg₂ (fun X p => put (512 * n) 1 X p) rfl ?_)
    refine Eq.trans (show _ = diaQ1 (lh arg4 h4 x0) (lh arg5 h5 x1) (lh arg6 h6 x2) (lw arg7 h7 x3) (lw arg8 h8 x4) (lw arg9 h9 x5) _ from rfl) ?_
    rw [lh_eq, lh_eq, lh_eq, lw_eq, lw_eq, lw_eq]
    refine (diaQ1_eq x0 x1 x2 x3 x4 x5 _).trans ?_
    exact congrArg₂ plus2 (ld_get arg10.view _ _ (512 * n) ho 1 o3 _) rfl
  case h1 =>
    refine (rd_put arg10.view _ _ (512 * n) 0 o2 _ _ _).trans (congrArg₂ (fun X p => put (512 * n) 0 X p) ?_ ?_)
    · exact h10.read_unread _
    · refine Eq.trans (show _ = diaQ0 (lh arg4 h4 x0) (lh arg5 h5 x1) (lh arg6 h6 x2) (lw arg7 h7 x3) (lw arg8 h8 x4) (lw arg9 h9 x5) _ from rfl) ?_
      rw [lh_eq, lh_eq, lh_eq, lw_eq, lw_eq, lw_eq]
      refine (diaQ0_eq x0 x1 x2 x3 x4 x5 _).trans ?_
      exact congrArg₂ plus2 ((ld_get arg10.view _ _ (512 * n) ho 0 o2 _).trans (congrArg (get (512 * n) ho 0) (h10.read_unread _))) rfl

end Cert.KernelIdeal.Attn

end
-- ==== Proof.Blocks.lean ====
/-
Where the windows' blocks lie: a block of 512 rows and 512 lanes of an array of 4096 by 1024.
-/
module

public import proofs.«01_k».proof.Proof.Step
public import proofs.«01_k».proof.Proof.RunVal
public import Idealize.ShloMosaic.Lib.Pipeline.ValueKit.Geometry

@[expose] public section

set_option maxRecDepth 16384

noncomputable section

namespace Cert.KernelIdeal.Attn

open Cert.KernelIdeal Cert.KernelIdeal.Gen
open Idealize.ShloMosaic
open Idealize.ShloMosaic.TcCoe Idealize.ShloMosaic.Pipeline

/-- Row `r` of row block `a`, and lane `s` of lane block `h`. -/
def rowOf (a : ℕ) (r : Fin 512) : Fin 4096 := ⟨(512 * a + r.val) % 4096, Nat.mod_lt _ (by decide)⟩
def laneOf (h : ℕ) (s : Fin 512) : Fin 1024 := ⟨(512 * h + s.val) % 1024, Nat.mod_lt _ (by decide)⟩

/-- Block `(a, h)` of an array. -/
def bk (X : S4096x1024.Idx → EReal) (a h : ℕ) : S512x512.Idx → EReal := fun i => X (ix2 (rowOf a (i 0)) (laneOf h (i 1)))

/-- The block indices of the windows at a point. -/
def Ix (t : Fin cfg.N) : Prop :=
  ((cfg.win (0 : Fin 9)).index t (0 : Fin 2) = qn t.val ∧ (cfg.win (0 : Fin 9)).index t (1 : Fin 2) = t.val / 36)
  ∧ ((cfg.win (1 : Fin 9)).index t (0 : Fin 2) = kn t.val ∧ (cfg.win (1 : Fin 9)).index t (1 : Fin 2) = t.val / 36)
  ∧ ((cfg.win (2 : Fin 9)).index t (0 : Fin 2) = kn t.val ∧ (cfg.win (2 : Fin 9)).index t (1 : Fin 2) = t.val / 36)
  ∧ ((cfg.win (3 : Fin 9)).index t (0 : Fin 2) = qn t.val ∧ (cfg.win (3 : Fin 9)).index t (1 : Fin 2) = t.val / 36)
  ∧ ((cfg.win (4 : Fin 9)).index t (0 : Fin 2) = qn t.val ∧ (cfg.win (4 : Fin 9)).index t (1 : Fin 2) = t.val / 36)
  ∧ ((cfg.win (5 : Fin 9)).index t (0 : Fin 2) = qn t.val ∧ (cfg.win (5 : Fin 9)).index t (1 : Fin 2) = t.val / 36)
  ∧ ((cfg.win (6 : Fin 9)).index t (0 : Fin 2) = 0 ∧ (cfg.win (6 : Fin 9)).index t (1 : Fin 2) = t.val / 36)
  ∧ ((cfg.win (7 : Fin 9)).index t (0 : Fin 2) = kn t.val ∧ (cfg.win (7 : Fin 9)).index t (1 : Fin 2) = t.val / 36)
  ∧ ((cfg.win (8 : Fin 9)).index t (0 : Fin 2) = kn t.val ∧ (cfg.win (8 : Fin 9)).index t (1 : Fin 2) = t.val / 36)

instance (t : Fin cfg.N) : Decidable (Ix t) := by unfold Ix; infer_instance

theorem ix_0 : ∀ t : Fin cfg.N, t.val < 18 → Ix t := by decide +kernel
theorem ix_1 : ∀ t : Fin cfg.N, 18 ≤ t.val → t.val < 36 → Ix t := by decide +kernel
theorem ix_2 : ∀ t : Fin cfg.N, 36 ≤ t.val → t.val < 54 → Ix t := by decide +kernel
theorem ix_3 : ∀ t : Fin cfg.N, 54 ≤ t.val → t.val < 72 → Ix t := by decide +kernel

theorem ix_all (t : Fin cfg.N) : Ix t := by
  rcases Nat.lt_or_ge t.val 18 with h | h; · exact ix_0 t h
  rcases Nat.lt_or_ge t.val 36 with h1 | h1; · exact ix_1 t h h1
  rcases Nat.lt_or_ge t.val 54 with h2 | h2; · exact ix_2 t h1 h2
  exact ix_3 t h2 t.isLt

theorem qn_lt : ∀ n : ℕ, qn n < 8 := fun n => by
  unfold qn
  have : n % 36 < 36 := Nat.mod_lt _ (by decide)
  generalize n % 36 = k at this ⊢
  revert k; decide
theorem kn_lt : ∀ n : ℕ, kn n < 8 := fun n => by
  unfold kn
  have : n % 36 < 36 := Nat.mod_lt _ (by decide)
  generalize n % 36 = k at this ⊢
  revert k; decide

variable (V : (c : Dev nD) → (b : Ref sig .tc) → Buf (Elt Ideal) ((c.tc : Thread nD τ).loc b))

theorem iblk_0 (c : Dev nD) (t : Fin cfg.N) : iblk V c (0 : Fin 9) t = bk (V c (arrRef spec0 (0 : Fin 9))) (qn t.val) (t.val / 36) := by
  funext y
  have hx := (ix_all t).1
  have hq := qn_lt t.val
  have ht : t.val < 72 := t.isLt
  have h0 : (y 0).val < 512 := (y 0).isLt
  have h1 : (y 1).val < 512 := (y 1).isLt
  unfold iblk bk
  refine congrArg (V c (arrRef spec0 (0 : Fin 9))) (funext fun a => Fin.cases (Fin.ext ?_) (fun a => Fin.cases (Fin.ext ?_) (fun a => a.elim0) a) a)
  · refine ((cfg.win (0 : Fin 9)).rect_emb_val t y (0 : Fin 2)).trans ?_
    rw [hx.1]
    show qn t.val * 512 + (y 0).val = (512 * qn t.val + (y 0).val) % 4096
    omega
  · refine ((cfg.win (0 : Fin 9)).rect_emb_val t y (1 : Fin 2)).trans ?_
    rw [hx.2]
    show t.val / 36 * 512 + (y 1).val = (512 * (t.val / 36) + (y 1).val) % 1024
    omega

theorem iblk_1 (c : Dev nD) (t : Fin cfg.N) : iblk V c (1 : Fin 9) t = bk (V c (arrRef spec0 (1 : Fin 9))) (kn t.val) (t.val / 36) := by
  funext y
  have hx := (ix_all t).2.1
  have hq := kn_lt t.val
  have ht : t.val < 72 := t.isLt
  have h0 : (y 0).val < 512 := (y 0).isLt
  have h1 : (y 1).val < 512 := (y 1).isLt
  unfold iblk bk
  refine congrArg (V c (arrRef spec0 (1 : Fin 9))) (funext fun a => Fin.cases (Fin.ext ?_) (fun a => Fin.cases (Fin.ext ?_) (fun a => a.elim0) a) a)
  · refine ((cfg.win (1 : Fin 9)).rect_emb_val t y (0 : Fin 2)).trans ?_
    rw [hx.1]
    show kn t.val * 512 + (y 0).val = (512 * kn t.val + (y 0).val) % 4096
    omega
  · refine ((cfg.win (1 : Fin 9)).rect_emb_val t y (1 : Fin 2)).trans ?_
    rw [hx.2]
    show t.val / 36 * 512 + (y 1).val = (512 * (t.val / 36) + (y 1).val) % 1024
    omega

theorem iblk_2 (c : Dev nD) (t : Fin cfg.N) : iblk V c (2 : Fin 9) t = bk (V c (arrRef spec0 (2 : Fin 9))) (kn t.val) (t.val / 36) := by
  funext y
  have hx := (ix_all t).2.2.1
  have hq := kn_lt t.val
  have ht : t.val < 72 := t.isLt
  have h0 : (y 0).val < 512 := (y 0).isLt
  have h1 : (y 1).val < 512 := (y 1).isLt
  unfold iblk bk
  refine congrArg (V c (arrRef spec0 (2 : Fin 9))) (funext fun a => Fin.cases (Fin.ext ?_) (fun a => Fin.cases (Fin.ext ?_) (fun a => a.elim0) a) a)
  · refine ((cfg.win (2 : Fin 9)).rect_emb_val t y (0 : Fin 2)).trans ?_
    rw [hx.1]
    show kn t.val * 512 + (y 0).val = (512 * kn t.val + (y 0).val) % 4096
    omega
  · refine ((cfg.win (2 : Fin 9)).rect_emb_val t y (1 : Fin 2)).trans ?_
    rw [hx.2]
    show t.val / 36 * 512 + (y 1).val = (512 * (t.val / 36) + (y 1).val) % 1024
    omega

theorem iblk_3 (c : Dev nD) (t : Fin cfg.N) : iblk V c (3 : Fin 9) t = bk (V c (arrRef spec0 (3 : Fin 9))) (qn t.val) (t.val / 36) := by
  funext y
  have hx := (ix_all t).2.2.2.1
  have hq := qn_lt t.val
  have ht : t.val < 72 := t.isLt
  have h0 : (y 0).val < 512 := (y 0).isLt
  have h1 : (y 1).val < 512 := (y 1).isLt
  unfold iblk bk
  refine congrArg (V c (arrRef spec0 (3 : Fin 9))) (funext fun a => Fin.cases (Fin.ext ?_) (fun a => Fin.cases (Fin.ext ?_) (fun a => a.elim0) a) a)
  · refine ((cfg.win (3 : Fin 9)).rect_emb_val t y (0 : Fin 2)).trans ?_
    rw [hx.1]
    show qn t.val * 512 + (y 0).val = (512 * qn t.val + (y 0).val) % 4096
    omega
  · refine ((cfg.win (3 : Fin 9)).rect_emb_val t y (1 : Fin 2)).trans ?_
    rw [hx.2]
    show t.val / 36 * 512 + (y 1).val = (512 * (t.val / 36) + (y 1).val) % 1024
    omega

theorem iblk_4 (c : Dev nD) (t : Fin cfg.N) : iblk V c (4 : Fin 9) t = bk (V c (arrRef spec0 (4 : Fin 9))) (qn t.val) (t.val / 36) := by
  funext y
  have hx := (ix_all t).2.2.2.2.1
  have hq := qn_lt t.val
  have ht : t.val < 72 := t.isLt
  have h0 : (y 0).val < 512 := (y 0).isLt
  have h1 : (y 1).val < 512 := (y 1).isLt
  unfold iblk bk
  refine congrArg (V c (arrRef spec0 (4 : Fin 9))) (funext fun a => Fin.cases (Fin.ext ?_) (fun a => Fin.cases (Fin.ext ?_) (fun a => a.elim0) a) a)
  · refine ((cfg.win (4 : Fin 9)).rect_emb_val t y (0 : Fin 2)).trans ?_
    rw [hx.1]
    show qn t.val * 512 + (y 0).val = (512 * qn t.val + (y 0).val) % 4096
    omega
  · refine ((cfg.win (4 : Fin 9)).rect_emb_val t y (1 : Fin 2)).trans ?_
    rw [hx.2]
    show t.val / 36 * 512 + (y 1).val = (512 * (t.val / 36) + (y 1).val) % 1024
    omega

theorem iblk_5 (c : Dev nD) (t : Fin cfg.N) : iblk V c (5 : Fin 9) t = bk (V c (arrRef spec0 (5 : Fin 9))) (qn t.val) (t.val / 36) := by
  funext y
  have hx := (ix_all t).2.2.2.2.2.1
  have hq := qn_lt t.val
  have ht : t.val < 72 := t.isLt
  have h0 : (y 0).val < 512 := (y 0).isLt
  have h1 : (y 1).val < 512 := (y 1).isLt
  unfold iblk bk
  refine congrArg (V c (arrRef spec0 (5 : Fin 9))) (funext fun a => Fin.cases (Fin.ext ?_) (fun a => Fin.cases (Fin.ext ?_) (fun a => a.elim0) a) a)
  · refine ((cfg.win (5 : Fin 9)).rect_emb_val t y (0 : Fin 2)).trans ?_
    rw [hx.1]
    show qn t.val * 512 + (y 0).val = (512 * qn t.val + (y 0).val) % 4096
    omega
  · refine ((cfg.win (5 : Fin 9)).rect_emb_val t y (1 : Fin 2)).trans ?_
    rw [hx.2]
    show t.val / 36 * 512 + (y 1).val = (512 * (t.val / 36) + (y 1).val) % 1024
    omega

end Cert.KernelIdeal.Attn

end
-- ==== Proof.State.lean ====
/-
What the gradient of q and the two accumulators hold after each point, in closed form: sums over the tiles met.
-/
module

public import proofs.«01_k».proof.Proof.Blocks

@[expose] public section

set_option maxRecDepth 16384

noncomputable section

namespace Cert.KernelIdeal.Attn

open Cert.KernelIdeal Cert.KernelIdeal.Gen
open Idealize.ShloMosaic
open Idealize.ShloMosaic.TcCoe Idealize.ShloMosaic.Pipeline

variable (V : (c : Dev nD) → (b : Ref sig .tc) → Buf (Elt Ideal) ((c.tc : Thread nD τ).loc b))

/-- The six arrays read. -/
abbrev aQ (c : Dev nD) : S4096x1024.Idx → EReal := V c (arrRef spec0 (0 : Fin 9))
abbrev aK (c : Dev nD) : S4096x1024.Idx → EReal := V c (arrRef spec0 (1 : Fin 9))
abbrev aV (c : Dev nD) : S4096x1024.Idx → EReal := V c (arrRef spec0 (2 : Fin 9))
abbrev aW (c : Dev nD) : S4096x1024.Idx → EReal := V c (arrRef spec0 (3 : Fin 9))
abbrev aL (c : Dev nD) : S4096x1024.Idx → EReal := V c (arrRef spec0 (4 : Fin 9))
abbrev aE (c : Dev nD) : S4096x1024.Idx → EReal := V c (arrRef spec0 (5 : Fin 9))

/-- What the tile of query block `a` and key block `b` of head group `h` adds to the three gradients. -/
def tileV (c : Dev nD) (h a b : ℕ) : S4x512x128.Idx → EReal :=
  tV (decide (a = b)) (bk (aQ V c) a h) (bk (aK V c) b h) (bk (aW V c) a h) (bk (aL V c) a h)
def tileK (c : Dev nD) (h a b : ℕ) : S4x512x128.Idx → EReal :=
  tK' (decide (a = b)) (bk (aQ V c) a h) (bk (aK V c) b h) (bk (aV V c) b h) (bk (aW V c) a h) (bk (aL V c) a h) (bk (aE V c) a h)
def tileQ (c : Dev nD) (h a b : ℕ) : S4x512x128.Idx → EReal :=
  tQ' (decide (a = b)) (bk (aQ V c) a h) (bk (aK V c) b h) (bk (aV V c) b h) (bk (aW V c) a h) (bk (aL V c) a h) (bk (aE V c) a h)

/-- One point. -/
theorem step_eq (c : Dev nD) (t : Fin cfg.N) (dq : S4096x512.Idx → Elt Ideal .f32) (ok ov : S512x512.Idx → Elt Ideal .f32)
    (dk dv : S4x512x128.Idx → Elt Ideal .f32) :
    (runAt V c t dq ok ov dk dv).dk' = plus (if qn t.val = kn t.val then fun _ => (0 : EReal) else dk) (tileK V c (t.val / 36) (qn t.val) (kn t.val))
    ∧ (runAt V c t dq ok ov dk dv).dv' = plus (if qn t.val = kn t.val then fun _ => (0 : EReal) else dv) (tileV V c (t.val / 36) (qn t.val) (kn t.val))
    ∧ (runAt V c t dq ok ov dk dv).dq' = (fun y => (if t.val % 36 = 0 then fun _ => (0 : EReal) else dq) y
        + rows (512 * qn t.val) (tileQ V c (t.val / 36) (qn t.val) (kn t.val)) y)
    ∧ (qn t.val = 7 → (runAt V c t dq ok ov dk dv).ok' = unstk (runAt V c t dq ok ov dk dv).dk'
        ∧ (runAt V c t dq ok ov dk dv).ov' = unstk (runAt V c t dq ok ov dk dv).dv') := by
  have hh := at_all t
  have hn := qn_lt t.val
  unfold tileK tileV tileQ
  rw [← iblk_0, ← iblk_1, ← iblk_2, ← iblk_3, ← iblk_4, ← iblk_5]
  unfold runAt
  by_cases h1 : k0_cond1 (crd t) = 1#1
  · have hf := first_at t h1
    have e0 := hh.2.2.2.1.mp h1
    have e1 := hh.2.2.2.2.1.mp hf.1
    have e2 : ¬ qn t.val = 7 := fun h => hf.2.2 (hh.2.2.2.2.2.2.1.mpr h)
    simp only [dif_pos h1, dif_pos hf, if_pos e0, if_pos e1, decide_eq_true e1]
    exact ⟨runFirst_dk .., runFirst_dv .., runFirst_dq _ _ _ _ _ _ _ _ _ _ _ _ _ _ _ _ _ _ _ _ _ _ _ _ _ _ _ _ _ _ _ _ _ _ _ _ _ hn hh.1.1, fun h => absurd h e2⟩
  · have e0 : ¬ t.val % 36 = 0 := fun h => h1 (hh.2.2.2.1.mpr h)
    by_cases h2 : k0_cond2 (qw (crd t)) (kw (crd t)) = 1#1
    · have e1 := hh.2.2.2.2.1.mp h2
      by_cases h4 : k0_cond4 (qw (crd t)) = 1#1
      · simp only [dif_neg h1, dif_pos h2, dif_pos h4, if_neg e0, if_pos e1, decide_eq_true e1]
        exact ⟨runDiagLast_dk .., runDiagLast_dv .., runDiagLast_dq _ _ _ _ _ _ _ _ _ _ _ _ _ _ _ _ _ _ _ _ _ _ _ _ _ _ _ _ _ _ _ _ _ _ _ _ _ hn hh.1.1, fun _ => ⟨runDiagLast_ok .., runDiagLast_ov ..⟩⟩
      · have e2 : ¬ qn t.val = 7 := fun h => h4 (hh.2.2.2.2.2.2.1.mpr h)
        simp only [dif_neg h1, dif_pos h2, dif_neg h4, if_neg e0, if_pos e1, decide_eq_true e1]
        exact ⟨runDiag_dk .., runDiag_dv .., runDiag_dq _ _ _ _ _ _ _ _ _ _ _ _ _ _ _ _ _ _ _ _ _ _ _ _ _ _ _ _ _ _ _ _ _ _ _ _ _ hn hh.1.1, fun h => absurd h e2⟩
    · have e1 : ¬ qn t.val = kn t.val := fun h => h2 (hh.2.2.2.2.1.mpr h)
      by_cases h4 : k0_cond4 (qw (crd t)) = 1#1
      · simp only [dif_neg h1, dif_neg h2, dif_pos h4, if_neg e0, if_neg e1, decide_eq_false e1]
        exact ⟨runOffLast_dk .., runOffLast_dv .., runOffLast_dq _ _ _ _ _ _ _ _ _ _ _ _ _ _ _ _ _ _ _ _ _ _ _ _ _ _ _ _ _ _ _ _ _ _ _ _ _ hn hh.1.1, fun _ => ⟨runOffLast_ok .., runOffLast_ov ..⟩⟩
      · have e2 : ¬ qn t.val = 7 := fun h => h4 (hh.2.2.2.2.2.2.1.mpr h)
        simp only [dif_neg h1, dif_neg h2, dif_neg h4, if_neg e0, if_neg e1, decide_eq_false e1]
        exact ⟨runOff_dk .., runOff_dv .., runOff_dq _ _ _ _ _ _ _ _ _ _ _ _ _ _ _ _ _ _ _ _ _ _ _ _ _ _ _ _ _ _ _ _ _ _ _ _ _ hn hh.1.1, fun h => absurd h e2⟩

theorem st_dk (c : Dev nD) (t : Fin cfg.N) : (st V c (t.val + 1)).2.1
    = plus (if qn t.val = kn t.val then fun _ => (0 : EReal) else (st V c t.val).2.1) (tileK V c (t.val / 36) (qn t.val) (kn t.val)) := by
  rw [st_succ]; exact (step_eq V c t _ _ _ _ _).1
theorem st_dv (c : Dev nD) (t : Fin cfg.N) : (st V c (t.val + 1)).2.2
    = plus (if qn t.val = kn t.val then fun _ => (0 : EReal) else (st V c t.val).2.2) (tileV V c (t.val / 36) (qn t.val) (kn t.val)) := by
  rw [st_succ]; exact (step_eq V c t _ _ _ _ _).2.1
theorem st_dq (c : Dev nD) (t : Fin cfg.N) : (st V c (t.val + 1)).1
    = fun y => (if t.val % 36 = 0 then fun _ => (0 : EReal) else (st V c t.val).1) y
        + rows (512 * qn t.val) (tileQ V c (t.val / 36) (qn t.val) (kn t.val)) y := by
  rw [st_succ]; exact (step_eq V c t _ _ _ _ _).2.2.1
theorem okAt_eq (c : Dev nD) (t : Fin cfg.N) (h : qn t.val = 7) : okAt V c t = unstk (st V c (t.val + 1)).2.1 := by
  rw [st_succ]; exact ((step_eq V c t _ _ _ _ _).2.2.2 h).1
theorem ovAt_eq (c : Dev nD) (t : Fin cfg.N) (h : qn t.val = 7) : ovAt V c t = unstk (st V c (t.val + 1)).2.2 := by
  rw [st_succ]; exact ((step_eq V c t _ _ _ _ _).2.2.2 h).2

/-- Off the diagonal the point before is the same key tile's, one query tile up. -/
def Bef (n : ℕ) : Prop := qn n ≠ kn n → kn (n - 1) = kn n ∧ qn n = qn (n - 1) + 1 ∧ (n - 1) / 36 = n / 36 ∧ kn (n - 1) ≤ qn (n - 1)
instance (n : ℕ) : Decidable (Bef n) := by unfold Bef; infer_instance
theorem bef_all : ∀ n : Fin 72, Bef n.val := by decide +kernel

/-- The accumulators: the sum over the query tiles met for this key tile. -/
theorem st_acc (c : Dev nD) : ∀ n (h : n < cfg.N), (st V c (n + 1)).2.1
      = (fun i => ∑ a ∈ Finset.Ico (kn n) (qn n + 1), tileK V c (n / 36) a (kn n) i)
    ∧ (st V c (n + 1)).2.2 = (fun i => ∑ a ∈ Finset.Ico (kn n) (qn n + 1), tileV V c (n / 36) a (kn n) i)
  | n, h => by
    have e1 := st_dk V c ⟨n, h⟩
    have e2 := st_dv V c ⟨n, h⟩
    by_cases hd : qn n = kn n
    · rw [if_pos hd] at e1 e2
      refine ⟨e1.trans ?_, e2.trans ?_⟩ <;>
      · funext i
        show (0 : EReal) + _ = _
        rw [zero_add, hd, Nat.Ico_succ_singleton, Finset.sum_singleton]
    · rw [if_neg hd] at e1 e2
      have hb := bef_all ⟨n, h⟩ hd
      dsimp only at hb
      have hn : n ≠ 0 := fun h0 => hd (by subst h0; rfl)
      have ih := st_acc c (n - 1) (by omega)
      rw [show n - 1 + 1 = n by omega] at ih
      rw [hb.1, hb.2.2.1, ← hb.2.1] at ih
      have hle : kn n ≤ qn n := by have h2 := hb.2.1; have h3 := hb.2.2.2; have h4 := hb.1; omega
      refine ⟨e1.trans ?_, e2.trans ?_⟩
      · funext i
        rw [Finset.sum_Ico_succ_top hle]
        exact congrArg (fun z => z + tileK V c (n / 36) (qn n) (kn n) i) (congrFun ih.1 i)
      · funext i
        rw [Finset.sum_Ico_succ_top hle]
        exact congrArg (fun z => z + tileV V c (n / 36) (qn n) (kn n) i) (congrFun ih.2 i)
termination_by n => n
decreasing_by omega

/-- The gradient of q: the sum over the points of the head group met. -/
theorem st_sum (c : Dev nD) (g : ℕ) : ∀ n, n < 36 → 36 * g + n < cfg.N → (st V c (36 * g + n + 1)).1
      = fun y => ∑ u ∈ Finset.range (n + 1), rows (512 * qn u) (tileQ V c g (qn u) (kn u)) y := by
  have hq : ∀ n, qn (36 * g + n) = qn n := fun n => by unfold qn; rw [Nat.mul_add_mod]
  have hk : ∀ n, kn (36 * g + n) = kn n := fun n => by unfold kn; rw [Nat.mul_add_mod]
  intro n
  induction n with
  | zero =>
    intro _ h
    have e := st_dq V c ⟨36 * g + 0, h⟩
    dsimp only at e
    rw [if_pos (by omega), hq, hk, show (36 * g + 0) / 36 = g by omega] at e
    refine e.trans ?_
    funext y
    rw [zero_add, Finset.sum_range_one]
  | succ n ih =>
    intro h36 h
    have e := st_dq V c ⟨36 * g + (n + 1), h⟩
    dsimp only at e
    rw [if_neg (by omega), hq, hk, show (36 * g + (n + 1)) / 36 = g by omega] at e
    refine e.trans ?_
    funext y
    rw [Finset.sum_range_succ]
    exact congrArg (fun z => z + rows (512 * qn (n + 1)) (tileQ V c g (qn (n + 1)) (kn (n + 1))) y) (congrFun (ih (by omega) (by omega)) y)

theorem pairs_image : ∀ a : Fin 8, ((Finset.range 36).filter (fun u => qn u = a.val)).image kn = Finset.range (a.val + 1) := by decide +kernel
theorem pairs_inj : ∀ (a : Fin 8) (u v : Fin 36), qn u.val = a.val → qn v.val = a.val → kn u.val = kn v.val → u = v := by decide +kernel

/-- A head group's 36 points meet, for a query tile, the key tiles up to it. -/
theorem sum_pairs (f : ℕ → EReal) (a : Fin 8) :
    (∑ u ∈ Finset.range 36, if qn u = a.val then f (kn u) else 0) = ∑ b ∈ Finset.range (a.val + 1), f b := by
  rw [← Finset.sum_filter, ← pairs_image a, Finset.sum_image]
  intro u hu v hv he
  have hu' := Finset.mem_filter.mp hu
  have hv' := Finset.mem_filter.mp hv
  exact congrArg Fin.val (pairs_inj a ⟨u, Finset.mem_range.mp hu'.1⟩ ⟨v, Finset.mem_range.mp hv'.1⟩ hu'.2 hv'.2 he)

end Cert.KernelIdeal.Attn

end
-- ==== Proof.Arrays.lean ====
/-
The three gradients the call leaves, array by array: sums over all rows, tiles forgotten.
-/
module

public import proofs.«01_k».proof.Proof.State
public import proofs.«01_k».proof.Proof.Launch

@[expose] public section

set_option maxRecDepth 16384

noncomputable section

namespace Cert.KernelIdeal.Attn

open Cert.KernelIdeal Cert.KernelIdeal.Gen
open Idealize.ShloMosaic
open Idealize.ShloMosaic.TcCoe Idealize.ShloMosaic.Pipeline

/-- Lane `d` of head `H` in an array's row. -/
def col (H : Fin 8) (d : Fin 128) : Fin 1024 := ⟨128 * H.val + d.val, by omega⟩
/-- The head a lane belongs to. -/
def hd (x : Fin 1024) : Fin 8 := ⟨x.val / 128, by omega⟩

section
variable (Q K U W L E : S4096x1024.Idx → EReal)

/-- Scores, weights and gradients of the scores, of all rows. -/
def gS (H : Fin 8) (r s : Fin 4096) : EReal :=
  if r < s then ⊥ else (∑ d : Fin 128, Q (ix2 r (col H d)) * K (ix2 s (col H d))) * scl
def gP (H : Fin 8) (r s : Fin 4096) : EReal := Ideal.exp (gS Q K H r s - L (ix2 r (col H 0)))
def gD (H : Fin 8) (r s : Fin 4096) : EReal :=
  gP Q K L H r s * ((∑ d : Fin 128, W (ix2 r (col H d)) * U (ix2 s (col H d))) - E (ix2 r (col H 0))) * scl

/-- The three gradients. -/
def gV : S4096x1024.Idx → EReal := fun i => ∑ r : Fin 4096, gP Q K L (hd (i 1)) r (i 0) * W (ix2 r (i 1))
def gK : S4096x1024.Idx → EReal := fun i => ∑ r : Fin 4096, gD Q K U W L E (hd (i 1)) r (i 0) * Q (ix2 r (i 1))
def gQ : S4096x1024.Idx → EReal := fun i => ∑ s : Fin 4096, gD Q K U W L E (hd (i 1)) (i 0) s * K (ix2 s (i 1))

/-- A later key has no weight. -/
theorem gP_zero (H : Fin 8) (r s : Fin 4096) (h : r < s) : gP Q K L H r s = 0 := by
  unfold gP gS
  rw [if_pos h, EReal.bot_sub]
  exact Ideal.exp_bot
theorem gD_zero (H : Fin 8) (r s : Fin 4096) (h : r < s) : gD Q K U W L E H r s = 0 := by
  unfold gD
  rw [gP_zero Q K L H r s h, zero_mul, zero_mul]

/-- Head `j` of head group `h`. -/
def headOf (h : ℕ) (j : Fin 4) : Fin 8 := ⟨(4 * h + j.val) % 8, Nat.mod_lt _ (by decide)⟩

theorem bk_lane (X : S4096x1024.Idx → EReal) (a h : ℕ) (hh : h < 2) (r : Fin 512) (j : Fin 4) (d : Fin 128) :
    bk X a h (ix2 r (lane j d)) = X (ix2 (rowOf a r) (col (headOf h j) d)) := by
  refine congrArg X (congrArg (ix2 (rowOf a r)) (Fin.ext ?_))
  show (512 * h + (128 * j.val + d.val)) % 1024 = 128 * ((4 * h + j.val) % 8) + d.val
  omega

theorem row_lt (a b : ℕ) (ha : a < 8) (hb : b ≤ a) (r s : Fin 512) : (decide (a = b) = true ∧ r < s) ↔ rowOf a r < rowOf b s := by
  rw [decide_eq_true_iff]
  show _ ↔ (512 * a + r.val) % 4096 < (512 * b + s.val) % 4096
  rw [Fin.lt_def]
  omega

theorem tS_eq (a b h : ℕ) (ha : a < 8) (hb : b ≤ a) (hh : h < 2) (j : Fin 4) (r s : Fin 512) :
    tS (decide (a = b)) (bk Q a h) (bk K b h) j r s = gS Q K (headOf h j) (rowOf a r) (rowOf b s) := by
  unfold tS gS
  simp only [bk_lane _ _ h hh]
  exact if_congr (row_lt a b ha hb r s) rfl rfl

theorem tP_eq (a b h : ℕ) (ha : a < 8) (hb : b ≤ a) (hh : h < 2) (j : Fin 4) (r s : Fin 512) :
    tP (decide (a = b)) (bk Q a h) (bk K b h) (bk L a h) j r s = gP Q K L (headOf h j) (rowOf a r) (rowOf b s) := by
  unfold tP gP
  rw [tS_eq Q K a b h ha hb hh, bk_lane _ _ h hh]

theorem tD_eq (a b h : ℕ) (ha : a < 8) (hb : b ≤ a) (hh : h < 2) (j : Fin 4) (r s : Fin 512) :
    tD (decide (a = b)) (bk Q a h) (bk K b h) (bk U b h) (bk W a h) (bk L a h) (bk E a h) j r s
      = gD Q K U W L E (headOf h j) (rowOf a r) (rowOf b s) := by
  unfold tD gD
  rw [tP_eq Q K L a b h ha hb hh]
  simp only [bk_lane _ _ h hh]

/-- The rows of all blocks are all rows. -/
theorem sum_rows (f : Fin 4096 → EReal) : ∑ r : Fin 4096, f r = ∑ a ∈ Finset.range 8, ∑ r : Fin 512, f (rowOf a r) := by
  rw [Fin.sum_univ_tiles 8 512 rfl f, Finset.sum_range]
  refine Finset.sum_congr rfl fun a _ => Finset.sum_congr rfl fun r _ => congrArg f (Fin.ext ?_)
  have := a.isLt
  have := r.isLt
  simp [rowOf]
  omega

theorem sum_up (f : Fin 4096 → EReal) (b : ℕ) (hb : b < 8) (s : Fin 512) (hf : ∀ r, r < rowOf b s → f r = 0) :
    ∑ r : Fin 4096, f r = ∑ a ∈ Finset.Ico b 8, ∑ r : Fin 512, f (rowOf a r) := by
  rw [sum_rows, ← Finset.sum_range_add_sum_Ico _ (Nat.le_of_lt hb), Finset.sum_eq_zero, zero_add]
  intro a ha
  have ha' := Finset.mem_range.mp ha
  refine Finset.sum_eq_zero fun r _ => hf _ ?_
  show (512 * a + r.val) % 4096 < (512 * b + s.val) % 4096
  omega

theorem sum_down (f : Fin 4096 → EReal) (a : ℕ) (ha : a < 8) (r : Fin 512) (hf : ∀ s, rowOf a r < s → f s = 0) :
    ∑ s : Fin 4096, f s = ∑ b ∈ Finset.range (a + 1), ∑ s : Fin 512, f (rowOf b s) := by
  rw [sum_rows, ← Finset.sum_range_add_sum_Ico _ (show a + 1 ≤ 8 from ha), Finset.sum_eq_zero (s := Finset.Ico (a + 1) 8), add_zero]
  intro b hb
  have hb' := Finset.mem_Ico.mp hb
  refine Finset.sum_eq_zero fun s _ => hf _ ?_
  show (512 * a + r.val) % 4096 < (512 * b + s.val) % 4096
  omega

end

/-- The lane of a block's column, and where it lies in the array. -/
theorem unstk_apply (x : S4x512x128.Idx → EReal) (r : Fin 512) (j : Fin 4) (d : Fin 128) : unstk x (ix2 r (lane j d)) = x (ix3 j r d) := by
  unfold unstk
  have e1 : (lane j d).val / 128 = j.val := by show (128 * j.val + d.val) / 128 = _; omega
  have e2 : (lane j d).val % 128 = d.val := by show (128 * j.val + d.val) % 128 = _; omega
  refine congrArg x ?_
  refine (congrArg₂ (fun (a : Fin 4) (b : Fin 128) => ix3 a r b) (Fin.ext e1) (Fin.ext e2) :
    ix3 (⟨(lane j d).val / 128, _⟩ : Fin 4) r (⟨(lane j d).val % 128, _⟩ : Fin 128) = ix3 j r d)

theorem lane_split (x : Fin 512) : ∃ (j : Fin 4) (d : Fin 128), x = lane j d :=
  ⟨⟨x.val / 128, by omega⟩, ⟨x.val % 128, by omega⟩, Fin.ext (by show _ = 128 * (x.val / 128) + x.val % 128; omega)⟩
theorem laneOf_lane (h : ℕ) (hh : h < 2) (j : Fin 4) (d : Fin 128) : laneOf h (lane j d) = col (headOf h j) d :=
  Fin.ext (by show (512 * h + (128 * j.val + d.val)) % 1024 = 128 * ((4 * h + j.val) % 8) + d.val; omega)
theorem hd_col (H : Fin 8) (d : Fin 128) : hd (col H d) = H := Fin.ext (by show (128 * H.val + d.val) / 128 = H.val; omega)

variable (V : (c : Dev nD) → (b : Ref sig .tc) → Buf (Elt Ideal) ((c.tc : Thread nD τ).loc b)) (c : Dev nD)

theorem tileV_apply (h a b : ℕ) (ha : a < 8) (hb : b ≤ a) (hh : h < 2) (j : Fin 4) (s : Fin 512) (d : Fin 128) :
    tileV V c h a b (ix3 j s d) = ∑ r : Fin 512, gP (aQ V c) (aK V c) (aL V c) (headOf h j) (rowOf a r) (rowOf b s)
      * aW V c (ix2 (rowOf a r) (col (headOf h j) d)) := by
  unfold tileV tV
  refine Finset.sum_congr rfl fun r _ => ?_
  exact congrArg₂ (· * ·) (tP_eq _ _ _ a b h ha hb hh j r s) (bk_lane _ a h hh r j d)
theorem tileK_apply (h a b : ℕ) (ha : a < 8) (hb : b ≤ a) (hh : h < 2) (j : Fin 4) (s : Fin 512) (d : Fin 128) :
    tileK V c h a b (ix3 j s d) = ∑ r : Fin 512, gD (aQ V c) (aK V c) (aV V c) (aW V c) (aL V c) (aE V c) (headOf h j) (rowOf a r) (rowOf b s)
      * aQ V c (ix2 (rowOf a r) (col (headOf h j) d)) := by
  unfold tileK tK'
  refine Finset.sum_congr rfl fun r _ => ?_
  exact congrArg₂ (· * ·) (tD_eq _ _ _ _ _ _ a b h ha hb hh j r s) (bk_lane _ a h hh r j d)
theorem tileQ_apply (h a b : ℕ) (ha : a < 8) (hb : b ≤ a) (hh : h < 2) (j : Fin 4) (r : Fin 512) (d : Fin 128) :
    tileQ V c h a b (ix3 j r d) = ∑ s : Fin 512, gD (aQ V c) (aK V c) (aV V c) (aW V c) (aL V c) (aE V c) (headOf h j) (rowOf a r) (rowOf b s)
      * aK V c (ix2 (rowOf b s) (col (headOf h j) d)) := by
  unfold tileQ tQ'
  refine Finset.sum_congr rfl fun s _ => ?_
  exact congrArg₂ (· * ·) (tD_eq _ _ _ _ _ _ a b h ha hb hh j r s) (bk_lane _ b h hh s j d)

theorem gV_apply (h b : ℕ) (hb : b < 8) (hh : h < 2) (j : Fin 4) (s : Fin 512) (d : Fin 128) :
    gV (aQ V c) (aK V c) (aW V c) (aL V c) (ix2 (rowOf b s) (col (headOf h j) d)) = ∑ a ∈ Finset.Ico b 8, tileV V c h a b (ix3 j s d) := by
  show (∑ r : Fin 4096, gP _ _ _ (hd (col (headOf h j) d)) r (rowOf b s) * aW V c (ix2 r (col (headOf h j) d))) = _
  rw [hd_col, sum_up _ b hb s fun r hr => by rw [gP_zero _ _ _ _ _ _ hr, zero_mul]]
  refine Finset.sum_congr rfl fun a ha => ?_
  have ha' := Finset.mem_Ico.mp ha
  exact (tileV_apply V c h a b ha'.2 ha'.1 hh j s d).symm
theorem gK_apply (h b : ℕ) (hb : b < 8) (hh : h < 2) (j : Fin 4) (s : Fin 512) (d : Fin 128) :
    gK (aQ V c) (aK V c) (aV V c) (aW V c) (aL V c) (aE V c) (ix2 (rowOf b s) (col (headOf h j) d))
      = ∑ a ∈ Finset.Ico b 8, tileK V c h a b (ix3 j s d) := by
  show (∑ r : Fin 4096, gD _ _ _ _ _ _ (hd (col (headOf h j) d)) r (rowOf b s) * aQ V c (ix2 r (col (headOf h j) d))) = _
  rw [hd_col, sum_up _ b hb s fun r hr => by rw [gD_zero _ _ _ _ _ _ _ _ _ hr, zero_mul]]
  refine Finset.sum_congr rfl fun a ha => ?_
  have ha' := Finset.mem_Ico.mp ha
  exact (tileK_apply V c h a b ha'.2 ha'.1 hh j s d).symm
theorem gQ_apply (h a : ℕ) (ha : a < 8) (hh : h < 2) (j : Fin 4) (r : Fin 512) (d : Fin 128) :
    gQ (aQ V c) (aK V c) (aV V c) (aW V c) (aL V c) (aE V c) (ix2 (rowOf a r) (col (headOf h j) d))
      = ∑ b ∈ Finset.range (a + 1), tileQ V c h a b (ix3 j r d) := by
  show (∑ s : Fin 4096, gD _ _ _ _ _ _ (hd (col (headOf h j) d)) (rowOf a r) s * aK V c (ix2 s (col (headOf h j) d))) = _
  rw [hd_col, sum_down _ a ha r fun s hs => by rw [gD_zero _ _ _ _ _ _ _ _ _ hs, zero_mul]]
  refine Finset.sum_congr rfl fun b hb => ?_
  have hb' := Finset.mem_range.mp hb
  exact (tileQ_apply V c h a b ha (by omega) hh j r d).symm

/-- Where a written block's entry lies. -/
theorem emb_7 (t : Fin cfg.N) (r : Fin 512) (j : Fin 4) (d : Fin 128) : ((cfg.win (7 : Fin 9)).blk t).view.emb (ix2 r (lane j d))
    = ix2 (rowOf (kn t.val) r) (col (headOf (t.val / 36) j) d) := by
  have hx := (ix_all t).2.2.2.2.2.2.2.1
  have hq := kn_lt t.val
  have ht : t.val < 72 := t.isLt
  rw [← laneOf_lane _ (by omega)]
  refine funext fun a => Fin.cases (Fin.ext ?_) (fun a => Fin.cases (Fin.ext ?_) (fun a => a.elim0) a) a
  · refine ((cfg.win (7 : Fin 9)).rect_emb_val t (ix2 r (lane j d)) (0 : Fin 2)).trans ?_
    rw [hx.1]
    show kn t.val * 512 + r.val = (512 * kn t.val + r.val) % 4096
    omega
  · refine ((cfg.win (7 : Fin 9)).rect_emb_val t (ix2 r (lane j d)) (1 : Fin 2)).trans ?_
    rw [hx.2]
    show t.val / 36 * 512 + (lane j d).val = (512 * (t.val / 36) + (lane j d).val) % 1024
    have := (lane j d).isLt
    omega
theorem emb_8 (t : Fin cfg.N) (r : Fin 512) (j : Fin 4) (d : Fin 128) : ((cfg.win (8 : Fin 9)).blk t).view.emb (ix2 r (lane j d))
    = ix2 (rowOf (kn t.val) r) (col (headOf (t.val / 36) j) d) := by
  have hx := (ix_all t).2.2.2.2.2.2.2.2
  have hq := kn_lt t.val
  have ht : t.val < 72 := t.isLt
  rw [← laneOf_lane _ (by omega)]
  refine funext fun a => Fin.cases (Fin.ext ?_) (fun a => Fin.cases (Fin.ext ?_) (fun a => a.elim0) a) a
  · refine ((cfg.win (8 : Fin 9)).rect_emb_val t (ix2 r (lane j d)) (0 : Fin 2)).trans ?_
    rw [hx.1]
    show kn t.val * 512 + r.val = (512 * kn t.val + r.val) % 4096
    omega
  · refine ((cfg.win (8 : Fin 9)).rect_emb_val t (ix2 r (lane j d)) (1 : Fin 2)).trans ?_
    rw [hx.2]
    show t.val / 36 * 512 + (lane j d).val = (512 * (t.val / 36) + (lane j d).val) % 1024
    have := (lane j d).isLt
    omega
theorem emb_6 (t : Fin cfg.N) (R : Fin 4096) (j : Fin 4) (d : Fin 128) : ((cfg.win (6 : Fin 9)).blk t).view.emb (ix2 R (lane j d))
    = ix2 R (col (headOf (t.val / 36) j) d) := by
  have hx := (ix_all t).2.2.2.2.2.2.1
  have ht : t.val < 72 := t.isLt
  rw [← laneOf_lane _ (by omega)]
  refine funext fun a => Fin.cases (Fin.ext ?_) (fun a => Fin.cases (Fin.ext ?_) (fun a => a.elim0) a) a
  · refine ((cfg.win (6 : Fin 9)).rect_emb_val t (ix2 R (lane j d)) (0 : Fin 2)).trans ?_
    rw [hx.1]
    show 0 * 4096 + R.val = R.val
    omega
  · refine ((cfg.win (6 : Fin 9)).rect_emb_val t (ix2 R (lane j d)) (1 : Fin 2)).trans ?_
    rw [hx.2]
    show t.val / 36 * 512 + (lane j d).val = (512 * (t.val / 36) + (lane j d).val) % 1024
    have := (lane j d).isLt
    omega

/-- The array of dk after the call. -/
theorem final_dk : (dats V 0 c).arrAt (7 : Fin 9) cfg.N = gK (aQ V c) (aK V c) (aV V c) (aW V c) (aL V c) (aE V c) := by
  refine (dats V 0 c).arrAt_eq_of_covers (7 : Fin 9) _ (by decide +kernel) fun t hf y => ?_
  have hq : qn t.val = 7 := of_decide_eq_true ((at_all t).2.2.2.2.2.2.2.2.2.2.2.1.symm.trans hf)
  have ht : t.val < 72 := t.isLt
  obtain ⟨j, d, hy⟩ := lane_split (y 1)
  obtain ⟨r, hr⟩ : ∃ r : Fin 512, y 0 = r := ⟨y 0, rfl⟩
  have hy' : y = ix2 r (lane j d) := funext fun a => Fin.cases hr (fun a => Fin.cases hy (fun a => a.elim0) a) a
  subst hy'
  rw [emb_7, gK_apply V c _ _ (kn_lt _) (by omega)]
  show okAt V c t (ix2 r (lane j d)) = _
  rw [okAt_eq V c t hq, unstk_apply, (st_acc V c t.val t.isLt).1, hq]

/-- The array of dv after the call. -/
theorem final_dv : (dats V 0 c).arrAt (8 : Fin 9) cfg.N = gV (aQ V c) (aK V c) (aW V c) (aL V c) := by
  refine (dats V 0 c).arrAt_eq_of_covers (8 : Fin 9) _ (by decide +kernel) fun t hf y => ?_
  have hq : qn t.val = 7 := of_decide_eq_true ((at_all t).2.2.2.2.2.2.2.2.2.2.2.2.symm.trans hf)
  have ht : t.val < 72 := t.isLt
  obtain ⟨j, d, hy⟩ := lane_split (y 1)
  obtain ⟨r, hr⟩ : ∃ r : Fin 512, y 0 = r := ⟨y 0, rfl⟩
  have hy' : y = ix2 r (lane j d) := funext fun a => Fin.cases hr (fun a => Fin.cases hy (fun a => a.elim0) a) a
  subst hy'
  rw [emb_8, gV_apply V c _ _ (kn_lt _) (by omega)]
  show ovAt V c t (ix2 r (lane j d)) = _
  rw [ovAt_eq V c t hq, unstk_apply, (st_acc V c t.val t.isLt).2, hq]

theorem rows_apply (a' : ℕ) (a : Fin 8) (b : S4x512x128.Idx → EReal) (r : Fin 512) (j : Fin 4) (d : Fin 128) :
    rows (512 * a') b (ix2 (rowOf a.val r) (lane j d)) = if a' = a.val then b (ix3 j r d) else 0 := by
  have hr : (rowOf a.val r).val = 512 * a.val + r.val := by show (512 * a.val + r.val) % 4096 = _; omega
  unfold rows
  by_cases h : a' = a.val
  · subst h
    rw [if_pos rfl, dif_pos ⟨by show 512 * a.val ≤ (rowOf a.val r).val; omega, by show (rowOf a.val r).val < _; omega⟩]
    refine Eq.trans ?_ (unstk_apply b r j d)
    refine congrArg (unstk b) (congrArg (fun z => ix2 z (lane j d)) (Fin.ext ?_))
    show (rowOf a.val r).val - 512 * a.val = r.val
    omega
  · rw [if_neg h, dif_neg]
    rintro ⟨h1, h2⟩
    change 512 * a' ≤ (rowOf a.val r).val at h1
    change (rowOf a.val r).val < 512 * a' + 512 at h2
    omega

/-- The array of dq after the call. -/
theorem final_dq : (dats V 0 c).arrAt (6 : Fin 9) cfg.N = gQ (aQ V c) (aK V c) (aV V c) (aW V c) (aL V c) (aE V c) := by
  refine (dats V 0 c).arrAt_eq_of_covers (6 : Fin 9) _ (by decide +kernel) fun t hf y => ?_
  have hm : t.val % 36 = 35 := of_decide_eq_true ((at_all t).2.2.2.2.2.2.2.2.2.2.1.symm.trans hf)
  have ht : t.val < 72 := t.isLt
  obtain ⟨j, d, hy⟩ := lane_split (y 1)
  obtain ⟨a, r, hr⟩ : ∃ (a : Fin 8) (r : Fin 512), y 0 = rowOf a.val r :=
    ⟨⟨(y 0).val / 512, by have : (y 0).val < 4096 := (y 0).isLt; omega⟩, ⟨(y 0).val % 512, by omega⟩,
      Fin.ext (by have : (y 0).val < 4096 := (y 0).isLt; show _ = (512 * ((y 0).val / 512) + (y 0).val % 512) % 4096; omega)⟩
  have hy' : y = ix2 (rowOf a.val r) (lane j d) := funext fun a => Fin.cases hr (fun a => Fin.cases hy (fun a => a.elim0) a) a
  subst hy'
  rw [emb_6, gQ_apply V c _ _ a.isLt (by omega)]
  show (st V c (t.val + 1)).1 (ix2 (rowOf a.val r) (lane j d)) = _
  have e := st_sum V c (t.val / 36) 35 (by omega) (by show _ < 72; omega)
  rw [show 36 * (t.val / 36) + 35 + 1 = t.val + 1 by omega] at e
  rw [e]
  dsimp only
  simp only [rows_apply]
  rw [← sum_pairs (fun b => tileQ V c (t.val / 36) a.val b (ix3 j r d)) a]
  refine Finset.sum_congr rfl fun u _ => ?_
  by_cases h : qn u = a.val
  · rw [if_pos h, if_pos h, h]
  · rw [if_neg h, if_neg h]

end Cert.KernelIdeal.Attn

end
-- ==== Proof.Math.lean ====
/-
One row of the softmax's backward pass over the extended reals: the weight recomputed from the saved log of the row's
sum is the softmax's own, and the gradient of a score through the saved product is the one the chain rule gives.
-/
module

public import Idealize.ShloMosaic.PureOps.Ideal
public import Idealize.ShloMosaic.PureOps.Ideal.Laws

@[expose] public section

noncomputable section

namespace Cert.Softmax

open Idealize.ShloMosaic

/-- A finite sum of reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite number. -/
def Fin' (x : EReal) : Prop := ∃ r : ℝ, x = (r : EReal)

variable {ι κ : Type*} [Fintype ι] [Fintype κ]

/-- A row's scores: finite numbers or −∞, one at least finite. -/
structure Row (sc : ι → EReal) : Prop where
  each : ∀ k, sc k = ⊥ ∨ Fin' (sc k)
  some : ∃ k, Fin' (sc k)

variable (sc : ι → EReal) (m : ℝ)

/-- The exponentials of a row and their sum. -/
abbrev ex (k : ι) : EReal := Ideal.exp (sc k - (m : EReal))
abbrev zz : EReal := ∑ k, ex sc m k

theorem ex_real (h : Row sc) : ∃ e : ι → ℝ, (∀ k, ex sc m k = (e k : EReal)) ∧ (∀ k, sc k = ⊥ → e k = 0) ∧
    (∀ k (x : ℝ), sc k = (x : EReal) → e k = Real.exp (x - m)) ∧ 0 < ∑ k, e k := by
  have hk : ∀ k, ∃ e : ℝ, ex sc m k = (e : EReal) ∧ (sc k = ⊥ → e = 0) ∧ (∀ x : ℝ, sc k = (x : EReal) → e = Real.exp (x - m)) := by
    intro k
    rcases h.each k with hb | ⟨x, hx⟩
    · refine ⟨0, ?_, fun _ => rfl, fun x hx => absurd (hb.symm.trans hx) (EReal.bot_ne_coe x)⟩
      show Ideal.exp (sc k - (m : EReal)) = _
      rw [hb, EReal.bot_sub, Ideal.exp_bot, EReal.coe_zero]
    · refine ⟨Real.exp (x - m), ?_, fun hb => absurd (hb.symm.trans hx) (EReal.bot_ne_coe x), fun y hy => ?_⟩
      · show Ideal.exp (sc k - (m : EReal)) = _
        rw [hx, ← EReal.coe_sub, Ideal.exp_coe]
      · rw [EReal.coe_injective (hx.symm.trans hy)]
  choose e he h0 h1 using hk
  refine ⟨e, he, h0, h1, ?_⟩
  have hnn : ∀ k, 0 ≤ e k := fun k => by
    rcases h.each k with hb | ⟨x, hx⟩
    · rw [h0 k hb]
    · rw [h1 k x hx]; exact (Real.exp_pos _).le
  obtain ⟨k, x, hx⟩ := h.some
  refine lt_of_lt_of_le ?_ (Finset.single_le_sum (fun k _ => hnn k) (Finset.mem_univ k))
  rw [h1 k x hx]; exact Real.exp_pos _

theorem zz_real (h : Row sc) : ∃ z : ℝ, 0 < z ∧ zz sc m = (z : EReal) := by
  obtain ⟨e, he, -, -, hz⟩ := ex_real sc m h
  exact ⟨_, hz, by rw [coe_sum]; exact Finset.sum_congr rfl fun k _ => he k⟩

/-- The weight from the saved log-sum. -/
theorem weight (h : Row sc) (k : ι) :
    Ideal.exp (sc k - ((m : EReal) + Ideal.log (zz sc m))) = Ideal.div (ex sc m k) (zz sc m) := by
  obtain ⟨z, hz, hzz⟩ := zz_real sc m h
  rw [hzz, Ideal.log_coe, if_neg (not_le.mpr hz), ← EReal.coe_add, Ideal.div_coe hz.ne']
  rcases h.each k with hb | ⟨x, hx⟩
  · rw [hb, EReal.bot_sub, Ideal.exp_bot]
    show _ = Ideal.exp (sc k - (m : EReal)) * _
    rw [hb, EReal.bot_sub, Ideal.exp_bot, zero_mul]
  · show _ = Ideal.exp (sc k - (m : EReal)) * _
    rw [hx, ← EReal.coe_sub, ← EReal.coe_sub, Ideal.exp_coe, Ideal.exp_coe, ← EReal.coe_mul]
    rw [← sub_sub, Real.exp_sub, Real.exp_log hz, div_eq_mul_one_div]

/-- The gradient of a score. -/
theorem grad (h : Row sc) (w : κ → EReal) (v : ι → κ → EReal) (hw : ∀ d, Fin' (w d)) (hv : ∀ k d, Fin' (v k d)) (k : ι) :
    Ideal.div (ex sc m k) (zz sc m) * ((∑ d, w d * v k d) - ∑ d, w d * ∑ s, v s d * Ideal.div (ex sc m s) (zz sc m))
      = (Ideal.div (∑ d, w d * v k d) (zz sc m)
          + -(∑ s, (∑ d, w d * v s d) * Ideal.div 1 (zz sc m * zz sc m) * ex sc m s)) * ex sc m k := by
  obtain ⟨e, he, -, -, hz⟩ := ex_real sc m h
  have hzz : zz sc m = ((∑ k, e k : ℝ) : EReal) := by rw [coe_sum]; exact Finset.sum_congr rfl fun k _ => he k
  choose w' hw' using hw
  choose v' hv' using hv
  generalize (∑ k, e k) = z at hz hzz
  rw [hzz, ← EReal.coe_mul, ← EReal.coe_one, Ideal.div_coe (mul_pos hz hz).ne']
  simp only [he, hw', hv', Ideal.div_coe hz.ne', ← EReal.coe_mul, ← coe_sum, ← EReal.coe_sub, ← EReal.coe_neg, ← EReal.coe_add]
  refine congrArg _ ?_
  have hsw : ∑ d, w' d * ∑ s, v' s d * (e s * (1 / z)) = (∑ s, (∑ d, w' d * v' s d) * e s) * (1 / z) := by
    simp only [Finset.mul_sum, Finset.sum_mul]
    rw [Finset.sum_comm]
    exact Finset.sum_congr rfl fun s _ => Finset.sum_congr rfl fun d _ => by ring
  have hr : ∑ s, (∑ d, w' d * v' s d) * (1 * (1 / (z * z))) * e s = (∑ s, (∑ d, w' d * v' s d) * e s) * (1 / (z * z)) := by
    rw [Finset.sum_mul]
    exact Finset.sum_congr rfl fun s _ => by ring
  rw [hsw, hr]
  field_simp
  try ring

theorem fin_lt {x : EReal} (h : max x (-x) < ⊤) : Fin' x := by
  induction x with
  | bot => rw [EReal.neg_bot] at h; exact absurd (lt_of_le_of_lt (le_max_right _ _) h) (lt_irrefl _)
  | coe x => exact ⟨x, rfl⟩
  | top => exact absurd (lt_of_le_of_lt (le_max_left _ _) h) (lt_irrefl _)

theorem fin_mul {x y : EReal} (hx : Fin' x) (hy : Fin' y) : Fin' (x * y) := by
  obtain ⟨a, rfl⟩ := hx; obtain ⟨b, rfl⟩ := hy; exact ⟨a * b, by rw [EReal.coe_mul]⟩
theorem fin_sum {f : ι → EReal} (hf : ∀ k, Fin' (f k)) : Fin' (∑ k, f k) := by
  choose g hg using hf
  exact ⟨∑ k, g k, by rw [coe_sum]; exact Finset.sum_congr rfl fun k _ => hg k⟩

/-- The greatest of a row is finite. -/
theorem fin_max (h : Row sc) : Fin' (Finset.univ.fold max ⊥ sc) := by
  have h1 : Finset.univ.fold max ⊥ sc < ⊤ := (Finset.fold_max_lt _).mpr ⟨bot_lt_top, fun k _ => by
    rcases h.each k with hb | ⟨x, hx⟩
    · rw [hb]; exact bot_lt_top
    · rw [hx]; exact EReal.coe_lt_top x⟩
  have h2 : ⊥ < Finset.univ.fold max ⊥ sc := (Finset.lt_fold_max _).mpr (Or.inr (by
    obtain ⟨k, x, hx⟩ := h.some
    exact ⟨k, Finset.mem_univ k, by rw [hx]; exact EReal.bot_lt_coe x⟩))
  exact ⟨_, (EReal.coe_toReal h1.ne h2.ne').symm⟩

end Cert.Softmax

end
-- ==== Proof.RefVal.lean ====
/-
The reference read at an index: scores, greatest of a row, exponentials, their sum, weights, and the gradient of
the scores. `H` is a head, `r` a query's row, `s` a key's row, `d` a lane of the head.
-/
module

public import proofs.«01_k».proof.Proof.Arrays
public import proofs.«01_k».proof.Proof.Ref
public import proofs.«01_k».proof.Proof.Math

@[expose] public section

set_option maxRecDepth 16384

noncomputable section

namespace Cert.RefVal

open Cert.ReferenceIdeal Cert.ReferenceIdeal.Gen Cert.ReferenceIdeal.Read
open Cert.KernelIdeal.Attn (col hd hd_col gS scl)
open Cert.Softmax
open Idealize.ShloMosaic

variable (q k v : (⟨S4096x1024, .bf16⟩ : BufTy).Contents (Elt Ideal)) (w : (⟨S4096x1024, .f32⟩ : BufTy).Contents (Elt Ideal))
variable (H : Fin 8) (r s : Fin 4096) (d : Fin 128)

theorem ix_split : idx_main_v1 (ix3 r H d) = ix2 r (col H d) := by
  funext a
  match a with
  | ⟨0, _⟩ => exact Fin.ext (show ((r.val * 8 + H.val) * 128 + d.val) / 1024 = r.val by omega)
  | ⟨1, _⟩ => exact Fin.ext (show ((r.val * 8 + H.val) * 128 + d.val) % 1024 = 128 * H.val + d.val by omega)
theorem v1_at : val_main_v1 (F := Ideal) q (ix3 r H d) = q (ix2 r (col H d)) :=
  (val_main_v1_apply q _).trans (congrArg q (ix_split H r d))
theorem v3_at : val_main_v3 (F := Ideal) k (ix3 r H d) = k (ix2 r (col H d)) :=
  (val_main_v3_apply k _).trans (congrArg k (ix_split H r d))
theorem v5_at : val_main_v5 (F := Ideal) v (ix3 r H d) = v (ix2 r (col H d)) :=
  (val_main_v5_apply v _).trans (congrArg v (ix_split H r d))
theorem v6_at : val_main_v6 (F := Ideal) w (ix3 r H d) = w (ix2 r (col H d)) :=
  (val_main_v6_apply w _).trans (congrArg w (ix_split H r d))

theorem ix3_ext {a b c : ℕ} (i : (⟨3, ![a, b, c]⟩ : Shape).Idx) (x : Fin a) (y : Fin b) (z : Fin c)
    (h0 : (i 0).val = x.val) (h1 : (i 1).val = y.val) (h2 : (i 2).val = z.val) : i = ix3 x y z := by
  funext t
  match t with
  | ⟨0, _⟩ => exact Fin.ext h0
  | ⟨1, _⟩ => exact Fin.ext h1
  | ⟨2, _⟩ => exact Fin.ext h2
theorem ix2_ext {a b : ℕ} (i : (⟨2, ![a, b]⟩ : Shape).Idx) (x : Fin a) (y : Fin b)
    (h0 : (i 0).val = x.val) (h1 : (i 1).val = y.val) : i = ix2 x y := by
  funext t
  match t with
  | ⟨0, _⟩ => exact Fin.ext h0
  | ⟨1, _⟩ => exact Fin.ext h1

theorem v7_at : val_main_v7 (F := Ideal) q k (ix3 H r s) = ∑ d, q (ix2 r (col H d)) * k (ix2 s (col H d)) := by
  rw [val_main_v7_apply]
  refine Finset.sum_congr rfl fun d _ => ?_
  rw [ix3_ext (lidx_main_v7 (ix3 H r s) d) r H d rfl rfl rfl, ix3_ext (ridx_main_v7 (ix3 H r s) d) s H d rfl rfl rfl,
    v1_at, v3_at]

/-- The mask: a query sees the keys up to its own row. -/
theorem v17_at : val_main_v17 (F := Ideal) (ix3 H r s) = if r < s then 0#1 else 1#1 := by
  rw [val_main_v17_apply, val_main_v16_apply, val_main_v14_apply, val_main_v15_apply, val_main_v11_apply, val_main_v13_apply]
  show IntOp.cmpi .sle (BitVec.ofNat 32 s.val) (BitVec.ofNat 32 r.val) = _
  have hr := r.isLt; have hs := s.isLt
  word_cmp
  by_cases h : r < s
  · rw [if_pos h, decide_eq_false (by have := Fin.lt_def.mp h; omega)]; rfl
  · rw [if_neg h, decide_eq_true (by have := fun h' => h (Fin.lt_def.mpr h'); omega)]; rfl

/-- The scores. -/
theorem v19_at : val_main_v19 (F := Ideal) q k (ix3 H r s) = gS q k H r s := by
  rw [val_main_v19_apply, val_main_v9_apply, v17_at, v7_at]
  unfold gS scl
  have hc : val_main_v18 (F := Ideal) (ix3 H r s) = (⊥ : EReal) := by
    rw [val_main_v18_apply, val_main_cst_0_apply]
    show Ideal.ofBits .f32 0xFF800000#32 = ⊥
    simp [Ideal.ofBits, Ideal.ieee]
  rw [hc, val_main_v8_apply]
  by_cases h : r < s
  · rw [if_pos h, if_pos h]; rfl
  · rw [if_neg h, if_neg h]; rfl

/-- The greatest of a row. -/
theorem v21_at : val_main_v21 (F := Ideal) q k (ix2 H r) = Finset.univ.fold max ⊥ (gS q k H r) := by
  unfold val_main_v21
  have h : ∀ s, val_main_v19 (F := Ideal) q k (ix3 H r s) = gS q k H r s := fun s => v19_at q k H r s
  generalize val_main_v19 (F := Ideal) q k = y at h
  simp only [pointwise]
  have hb : val_main_cst_2 (F := Ideal) (Shape.Idx.first h_S_) = (⊥ : EReal) := by
    rw [val_main_cst_2_apply]
    show Ideal.ofBits .f32 0xFF800000#32 = ⊥
    simp [Ideal.ofBits, Ideal.ieee]
  rw [hb]
  exact congrArg (fun f => Finset.fold max ⊥ f Finset.univ) (funext fun s => h s)
theorem v28_at : val_main_v28 (F := Ideal) q k = val_main_v21 (F := Ideal) q k := by
  funext i
  rw [val_main_v28_apply, val_main_v27_apply, val_main_cst_4_apply]
  show max (Ideal.ofBits .f32 0xFF800000#32) _ = _
  have : Ideal.ofBits .f32 0xFF800000#32 = ⊥ := by simp [Ideal.ofBits, Ideal.ieee]
  rw [this]
  exact max_eq_right bot_le

/-- The rows' greatest scores are the numbers `M`. -/
def Tops (M : Fin 8 → Fin 4096 → ℝ) : Prop := ∀ H r, val_main_v21 (F := Ideal) q k (ix2 H r) = (M H r : EReal)

theorem row (hq : ∀ i, Fin' (q i)) (hk : ∀ i, Fin' (k i)) : Row (gS q k H r) := by
  have hs : ∀ s, Fin' ((∑ d, q (ix2 r (col H d)) * k (ix2 s (col H d))) * scl) := fun s =>
    fin_mul (fin_sum fun d => fin_mul (hq _) (hk _)) ⟨_, by unfold scl; simp [Ideal.ofBits, Ideal.ieee]; rfl⟩
  refine ⟨fun s => ?_, r, ?_⟩
  · unfold gS
    by_cases h : r < s
    · rw [if_pos h]; exact Or.inl rfl
    · rw [if_neg h]; exact Or.inr (hs s)
  · unfold gS; rw [if_neg (lt_irrefl r)]; exact hs r
theorem tops (hq : ∀ i, Fin' (q i)) (hk : ∀ i, Fin' (k i)) : ∃ M, Tops q k M := by
  have h : ∀ H r, ∃ x : ℝ, val_main_v21 (F := Ideal) q k (ix2 H r) = (x : EReal) := fun H r =>
    (v21_at q k H r) ▸ fin_max _ (row q k H r hq hk)
  choose M hM using h
  exact ⟨M, hM⟩

variable (M : Fin 8 → Fin 4096 → ℝ) (hM : Tops q k M)
include hM

/-- The exponentials. -/
theorem v41_at : val_main_v41 (F := Ideal) q k (ix3 H r s) = ex (gS q k H r) (M H r) s := by
  rw [val_main_v41_apply, val_main_v40_apply, v19_at, val_main_v39_apply, val_main_v38_apply, v28_at,
    ix2_ext (idx_main_v38 (idx_main_v39 (ix3 H r s))) H r rfl rfl, hM]
  rfl
/-- Their sum. -/
theorem v42_at : val_main_v42 (F := Ideal) q k (ix2 H r) = zz (gS q k H r) (M H r) := by
  rw [val_main_v42_apply, val_main_cst_10_apply]
  have h0 : (FloatOps.ofBits (F := Ideal) .f32 0x00000000#32) = 0 := by
    show Ideal.ofBits .f32 0x00000000#32 = 0; simp [Ideal.ofBits, Ideal.ieee]
  refine (congrArg (· + _) h0).trans ((zero_add _).trans ?_)
  refine Finset.sum_congr rfl fun s _ => ?_
  rw [ix3_ext (idx_main_v42 (ix2 H r) s) H r s rfl rfl rfl, v41_at q k H r s M hM]
theorem v43_at (i : S8x4096x1.Idx) (h0 : (i 0).val = H.val) (h1 : (i 1).val = r.val) :
    val_main_v43 (F := Ideal) q k i = zz (gS q k H r) (M H r) := by
  rw [val_main_v43_apply, ix2_ext (idx_main_v43 i) H r h0 h1, v42_at q k H r M hM]
/-- The weights. -/
theorem v45_at : val_main_v45 (F := Ideal) q k (ix3 H r s) = Ideal.div (ex (gS q k H r) (M H r) s) (zz (gS q k H r) (M H r)) := by
  rw [val_main_v45_apply, v41_at q k H r s M hM, val_main_v44_apply, v43_at q k H r M hM _ rfl rfl]
  rfl
/-- The result of the attention at a row. -/
theorem v50_at : val_main_v50 (F := Ideal) q k v (ix3 r H d)
    = ∑ s, v (ix2 s (col H d)) * Ideal.div (ex (gS q k H r) (M H r) s) (zz (gS q k H r) (M H r)) := by
  rw [val_main_v50_apply, val_main_v49_apply]
  refine Finset.sum_congr rfl fun s _ => ?_
  rw [ix3_ext (lidx_main_v49 (idx_main_v50 (ix3 r H d)) s) s H d rfl rfl rfl,
    ix3_ext (ridx_main_v49 (idx_main_v50 (ix3 r H d)) s) H r s rfl rfl rfl, v5_at, v45_at q k H r s M hM]
omit hM in
theorem v51_at : val_main_v51 (F := Ideal) w (ix3 H d r) = w (ix2 r (col H d)) := by
  rw [val_main_v51_apply, ix3_ext (idx_main_v51 (ix3 H d r)) r H d rfl rfl rfl, v6_at]
omit hM in
/-- The gradient of the weights. -/
theorem v52_at : val_main_v52 (F := Ideal) v w (ix3 H r s) = ∑ d, w (ix2 r (col H d)) * v (ix2 s (col H d)) := by
  rw [val_main_v52_apply]
  refine Finset.sum_congr rfl fun d _ => ?_
  rw [ix3_ext (lidx_main_v52 (ix3 H r s) d) H d r rfl rfl rfl, ix3_ext (ridx_main_v52 (ix3 H r s) d) s H d rfl rfl rfl,
    v51_at, v5_at]
theorem v57_at : val_main_v57 (F := Ideal) q k v w (ix3 H r s)
    = (∑ d, w (ix2 r (col H d)) * v (ix2 s (col H d)))
      * Ideal.div 1 (zz (gS q k H r) (M H r) * zz (gS q k H r) (M H r)) * ex (gS q k H r) (M H r) s := by
  rw [val_main_v57_apply, val_main_v56_apply, v52_at, v41_at q k H r s M hM, val_main_v55_apply, val_main_v48_apply,
    val_main_v46_apply, v43_at q k H r M hM _ rfl rfl, val_main_v47_apply, val_main_cst_11_apply]
  have h1 : (FloatOps.ofBits (F := Ideal) .f32 0x3F800000#32) = 1 := by
    show Ideal.ofBits .f32 0x3F800000#32 = 1; simp [Ideal.ofBits, Ideal.ieee]; rw [← EReal.coe_mul]; norm_num
  exact congrArg (fun x : EReal => (∑ d, w (ix2 r (col H d)) * v (ix2 s (col H d)))
      * Ideal.div x (zz (gS q k H r) (M H r) * zz (gS q k H r) (M H r)) * ex (gS q k H r) (M H r) s) h1
theorem v63_at : val_main_v63 (F := Ideal) q k v w (ix2 H r)
    = -(∑ s, (∑ d, w (ix2 r (col H d)) * v (ix2 s (col H d)))
      * Ideal.div 1 (zz (gS q k H r) (M H r) * zz (gS q k H r) (M H r)) * ex (gS q k H r) (M H r) s) := by
  have h0 : (FloatOps.ofBits (F := Ideal) .f32 0x00000000#32) = 0 := by
    show Ideal.ofBits .f32 0x00000000#32 = 0; simp [Ideal.ofBits, Ideal.ieee]
  rw [val_main_v63_apply, val_main_cst_13_apply]
  refine (congrArg (· + _) h0).trans ((zero_add _).trans ?_)
  rw [Fin.sum_univ_one, val_main_v60_apply, val_main_v59_apply,
    ix2_ext (idx_main_v59 (idx_main_v63 (ix2 H r) 0)) H r
      (show ((H.val * 4096 + r.val) * 1 + 0) / 4096 = H.val by omega) (show ((H.val * 4096 + r.val) * 1 + 0) % 4096 = r.val by omega), val_main_v58_apply, val_main_cst_12_apply]
  refine congrArg (fun x : EReal => -x) ((congrArg (· + _) h0).trans ((zero_add _).trans ?_))
  refine Finset.sum_congr rfl fun s _ => ?_
  rw [ix3_ext (idx_main_v58 (ix2 H r) s) H r s rfl rfl rfl, v57_at q k v w H r s M hM]
/-- The gradient of the scores. -/
theorem v70_at (hq : ∀ i, Fin' (q i)) (hk : ∀ i, Fin' (k i)) (hv : ∀ i, Fin' (v i)) (hw : ∀ i, Fin' (w i)) :
    val_main_v70 (F := Ideal) q k v w (ix3 H r s)
    = (if r < s then 0 else Ideal.div (ex (gS q k H r) (M H r) s) (zz (gS q k H r) (M H r))
        * ((∑ d, w (ix2 r (col H d)) * v (ix2 s (col H d)))
          - ∑ d, w (ix2 r (col H d)) * ∑ s, v (ix2 s (col H d)) * Ideal.div (ex (gS q k H r) (M H r) s) (zz (gS q k H r) (M H r)))) * scl := by
  rw [grad (gS q k H r) (M H r) (row q k H r hq hk) (fun d => w (ix2 r (col H d))) (fun s d => v (ix2 s (col H d)))
    (fun d => hw _) (fun s d => hv _) s]
  rw [val_main_v70_apply, val_main_v68_apply, v17_at, val_main_v66_apply, val_main_v65_apply, val_main_v62_apply,
    v52_at, val_main_v61_apply, v43_at q k H r M hM _ rfl rfl, val_main_v64_apply,
    ix2_ext (idx_main_v64 (ix3 H r s)) H r rfl rfl, v63_at q k v w H r M hM, v41_at q k H r s M hM,
    val_main_v67_apply, val_main_cst_14_apply, val_main_v69_apply, val_main_cst_15_apply]
  have h0 : (FloatOps.ofBits (F := Ideal) .f32 0x00000000#32) = 0 := by
    show Ideal.ofBits .f32 0x00000000#32 = 0; simp [Ideal.ofBits, Ideal.ieee]
  by_cases h : r < s
  · rw [if_pos h, if_pos h]
    exact congrArg (fun x : EReal => x * scl) h0
  · rw [if_neg h, if_neg h]
    rfl

end Cert.RefVal

end
-- ==== Proof.Host.lean ====
/-
The two arrays the call is handed besides its arguments, read at an index: the saved log-sum of each row, and the
row's inner product of the gradient with the attention's result. Both are computed on the host before the call.
-/
module

public import proofs.«01_k».proof.Proof.RefVal

@[expose] public section

set_option maxRecDepth 16384

noncomputable section

namespace Cert.KernelIdeal.Attn

open Cert.KernelIdeal Cert.KernelIdeal.Gen
open Cert.ReferenceIdeal.Read Cert.RefVal Cert.Softmax
open Idealize.ShloMosaic
open Idealize.ShloMosaic.TcCoe Idealize.ShloMosaic.Pipeline

section
variable (q k v : (⟨S4096x1024, .bf16⟩ : BufTy).Contents (Elt Ideal)) (w : (⟨S4096x1024, .f32⟩ : BufTy).Contents (Elt Ideal))

/-- The host's log-sums, `[T, 8, 1]`, over the greatest `m` and the sum `z`, both `[8, T, 1]`. -/
def lseOf (m z : (⟨S8x4096x1, .f32⟩ : BufTy).Contents (Elt Ideal)) : (⟨S4096x1024, .f32⟩ : BufTy).Contents (Elt Ideal) :=
  shapeCast S4096x1024 (broadcastInDim S4096x8x128 ![0, 1, 2] bcast_S4096x8x1_S4096x8x128_0_1_2
    (transpose S4096x8x1 [1, 0, 2] (addf (F := Ideal) (φ := .f32) m (Host.log (F := Ideal) (φ := .f32) z)) transposes_S8x4096x1_S4096x8x1_1_0_2)) shapeCasts_S4096x8x128_S4096x1024
/-- The host's inner products over the gradient and the result, both `[T, 8, 128]`. -/
def delOf (w o : (⟨S4096x8x128, .f32⟩ : BufTy).Contents (Elt Ideal)) : (⟨S4096x1024, .f32⟩ : BufTy).Contents (Elt Ideal) :=
  shapeCast S4096x1024 (broadcastInDim S4096x8x128 ![0, 1, 2] bcast_S4096x8x1_S4096x8x128_0_1_2
    (broadcastInDim S4096x8x1 ![0, 1] bcast_S4096x8_S4096x8x1_0_1
      (Host.reduceAdd (F := Ideal) (mulf w o) (constant S_ .f32 0x00000000#32) reducesTo_S4096x8x128_S4096x8_d2 h_S_))) shapeCasts_S4096x8x128_S4096x1024

/-- An array `[T, 8, 1]` spread over the lanes, read at lane `d` of head `H`. -/
theorem spread_at (y : (⟨S4096x8x1, .f32⟩ : BufTy).Contents (Elt Ideal)) (H : Fin 8) (r : Fin 4096) (d : Fin 128) :
    shapeCast S4096x1024 (broadcastInDim S4096x8x128 ![0, 1, 2] bcast_S4096x8x1_S4096x8x128_0_1_2 y) shapeCasts_S4096x8x128_S4096x1024
      (ix2 r (col H d)) = y (ix3 r H 0) := by
  rw [shapeCast_apply _ shapeCasts_S4096x8x128_S4096x1024 (ix2 r (col H d)) (ix3 r H d)
    (by rewrite [Shape.rowMajor_val_three, Shape.rowMajor_val_two]
        show (r.val * 8 + H.val) * 128 + d.val = r.val * 1024 + (128 * H.val + d.val); omega)]
  exact broadcastInDim_apply _ bcast_S4096x8x1_S4096x8x128_0_1_2 y (ix3 r H d) (ix3 r H 0) (fun a => match a with
    | ⟨0, _⟩ => by show r.val = if (4096 : Nat) = 1 then 0 else r.val; rw [if_neg (by decide)]
    | ⟨1, _⟩ => by show H.val = if (8 : Nat) = 1 then 0 else H.val; rw [if_neg (by decide)]
    | ⟨2, _⟩ => by show 0 = if (1 : Nat) = 1 then 0 else d.val; rw [if_pos rfl])

theorem lseOf_at (m z : (⟨S8x4096x1, .f32⟩ : BufTy).Contents (Elt Ideal)) (H : Fin 8) (r : Fin 4096) (d : Fin 128) :
    lseOf m z (ix2 r (col H d)) = (m (ix3 H r 0) : EReal) + Ideal.log (z (ix3 H r 0)) := by
  unfold lseOf
  rw [spread_at]
  exact transpose_apply [1, 0, 2] (addf (F := Ideal) (φ := .f32) m (Host.log (F := Ideal) (φ := .f32) z)) transposes_S8x4096x1_S4096x8x1_1_0_2 (ix3 r H 0) (ix3 H r 0)
    (fun a => match a with | ⟨0, _⟩ => rfl | ⟨1, _⟩ => rfl | ⟨2, _⟩ => rfl)

theorem delOf_at (w o : (⟨S4096x8x128, .f32⟩ : BufTy).Contents (Elt Ideal)) (H : Fin 8) (r : Fin 4096) (d : Fin 128) :
    delOf w o (ix2 r (col H d)) = ∑ d', (w (ix3 r H d') : EReal) * o (ix3 r H d') := by
  unfold delOf
  rw [spread_at]
  have h0 : (FloatOps.ofBits (F := Ideal) .f32 0x00000000#32) = 0 := by
    show Ideal.ofBits .f32 0x00000000#32 = 0; simp [Ideal.ofBits, Ideal.ieee]
  rw [broadcastInDim_apply _ bcast_S4096x8_S4096x8x1_0_1 _ (ix3 r H 0) (ix2 r H) (fun a => match a with
    | ⟨0, _⟩ => by show r.val = if (4096 : Nat) = 1 then 0 else r.val; rw [if_neg (by decide)]
    | ⟨1, _⟩ => by show H.val = if (8 : Nat) = 1 then 0 else H.val; rw [if_neg (by decide)])]
  simp only [Host.reduceAdd, Ideal.hostReduceAdd_def]
  rw [Ideal.hostReduceAdd_single reducesTo_S4096x8x128_S4096x8_d2 (by decide)]
  refine (congrArg (· + _) h0).trans ((zero_add _).trans ?_)
  refine Finset.sum_congr rfl fun d' _ => ?_
  refine congrArg (fun i => (w i : EReal) * o i) (funext fun a => Fin.ext (by match a with | ⟨0, _⟩ => rfl | ⟨1, _⟩ => rfl | ⟨2, _⟩ => rfl))
end

variable (m : (ℓ : Loc nD τ sig) → Buf (Elt Ideal) ℓ) (c : Dev nD)

abbrev inQ : (⟨S4096x1024, .bf16⟩ : BufTy).Contents (Elt Ideal) := m ((c.tc : Thread nD τ).loc main_arg0)
abbrev inK : (⟨S4096x1024, .bf16⟩ : BufTy).Contents (Elt Ideal) := m ((c.tc : Thread nD τ).loc main_arg1)
abbrev inV : (⟨S4096x1024, .bf16⟩ : BufTy).Contents (Elt Ideal) := m ((c.tc : Thread nD τ).loc main_arg2)
abbrev inW : (⟨S4096x1024, .f32⟩ : BufTy).Contents (Elt Ideal) := m ((c.tc : Thread nD τ).loc main_arg3)

/-- The greatest of each row, before the reference caps it from below. -/
theorem uncap (q k : (⟨S4096x1024, .bf16⟩ : BufTy).Contents (Elt Ideal)) :
    val_main_v38 (F := Ideal) q k = broadcastInDim S8x4096x1 ![0, 1] bcast_S8x4096_S8x4096x1_0_1 (val_main_v21 (F := Ideal) q k) := by
  unfold val_main_v38; rw [v28_at]

theorem vm_lse : VM m c main_v35
    = lseOf (val_main_v38 (F := Ideal) (inQ m c) (inK m c)) (val_main_v43 (F := Ideal) (inQ m c) (inK m c)) := by
  unfold val_main_v43 val_main_v42 val_main_v41 val_main_v40 val_main_v39
  rw [uncap]
  unfold VM; after_results_simp <;> rfl
theorem vm_del : VM m c main_v40
    = delOf (val_main_v6 (F := Ideal) (inW m c)) (val_main_v50 (F := Ideal) (inQ m c) (inK m c) (inV m c)) := by
  unfold val_main_v50 val_main_v49 val_main_v45 val_main_v44 val_main_v43 val_main_v42 val_main_v41 val_main_v40 val_main_v39
  rw [uncap]
  unfold VM; after_results_simp <;> rfl

end Cert.KernelIdeal.Attn

end
-- ==== Proof.Finite.lean ====
/-
The precondition, entry by entry: every entry of the four arguments is a finite number.
-/
module

public import proofs.«01_k».proof.Pre_finite
public import proofs.«01_k».proof.Proof.Math
public import Idealize.ShloMosaic.Lib.ReduceAll
public import Idealize.ShloMosaic.Lib.Pointwise

@[expose] public section

set_option maxRecDepth 16384

noncomputable section

namespace Cert.Pre_finite

open Idealize.ShloMosaic Cert.Softmax

variable [Facts]
open Facts

theorem top_eq : Ideal.ofBits .f32 0x7F800000#32 = ⊤ := by simp [Ideal.ofBits, Ideal.ieee]

instance : Subsingleton S_.Idx := ⟨fun a b => funext fun i => i.elim0⟩

theorem bit_lt {x : EReal} (h : BitVec.ofBool (decide (max x (-x) < Ideal.ofBits .f32 0x7F800000#32)) = 1#1) : Fin' x := by
  rw [top_eq] at h
  refine fin_lt ?_
  by_contra hn
  rw [decide_eq_false hn] at h
  exact absurd h (by decide)

/-- What the precondition says. -/
theorem all_fin (q k v : FVec Ideal S4096x1024 .bf16) (w : FVec Ideal S4096x1024 .f32) (h : fn (F := Ideal) q k v w = fun _ => 1#1) :
    (∀ i, Fin' (q i)) ∧ (∀ i, Fin' (k i)) ∧ (∀ i, Fin' (v i)) ∧ ∀ i, Fin' (w i) := by
  have h0 := congrFun h (fun a => a.elim0)
  unfold fn fn_part1 at h0
  obtain ⟨h1, hw⟩ := IntOp.andi_eq_one.1 h0
  obtain ⟨h2, hv⟩ := IntOp.andi_eq_one.1 h1
  obtain ⟨hq, hk⟩ := IntOp.andi_eq_one.1 h2
  exact ⟨fun i => bit_lt (Host.reduce_andi_all _ _ _ _ _ hq i), fun i => bit_lt (Host.reduce_andi_all _ _ _ _ _ hk i),
    fun i => bit_lt (Host.reduce_andi_all _ _ _ _ _ hv i), fun i => bit_lt (Host.reduce_andi_all _ _ _ _ _ hw i)⟩

end Cert.Pre_finite

end
-- ==== Proof.Outcome.lean ====
/-
What a run of the whole idealized program leaves, by what the pipeline's three result arrays end as.
-/
module
public import proofs.«01_k».proof.Proof.Launch
@[expose] public section
set_option maxRecDepth 16384
noncomputable section
namespace Cert.KernelIdeal.Attn
open Cert.KernelIdeal Cert.KernelIdeal.Gen
open Idealize.ShloMosaic Idealize.SL.Sem
open Idealize.ShloMosaic.TcCoe Idealize.ShloMosaic.Pipeline
variable (m : (ℓ : Loc nD τ sig) → Buf (Elt Ideal) ℓ) (g : Dev nD → PrngReg)
section
variable (r : PUnit × MemSt nD τ sig (Elt Ideal)) (h : FramePost pcs (dats (VM m)) 0 (VM m) r) (c : Dev nD)
include h
/-- The results of a run, one by one. -/
theorem res_dq (x : (⟨S4096x1024, .f32⟩ : BufTy).Contents (Elt Ideal)) (hx : (dats (VM m) 0 c).arrAt (6 : Fin 9) cfg.N = x) :
    r.2.mem ((c.tc : Thread nD τ).loc main_v41_0) = x := ((h c).1 (6 : Fin 9)).trans hx
theorem res_dk (x : (⟨S4096x1024, .f32⟩ : BufTy).Contents (Elt Ideal)) (hx : (dats (VM m) 0 c).arrAt (7 : Fin 9) cfg.N = x) :
    r.2.mem ((c.tc : Thread nD τ).loc main_v41_1) = x := ((h c).1 (7 : Fin 9)).trans hx
theorem res_dv (x : (⟨S4096x1024, .f32⟩ : BufTy).Contents (Elt Ideal)) (hx : (dats (VM m) 0 c).arrAt (8 : Fin 9) cfg.N = x) :
    r.2.mem ((c.tc : Thread nD τ).loc main_v41_2) = x := ((h c).1 (8 : Fin 9)).trans hx
/-- The arguments after a run. -/
theorem kept : r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
    ⟨((h c).1 (0 : Fin 9)).trans (((dats (VM m) 0 c).arrAt_in (0 : Fin 9) rfl _).trans (vm_arg0 m c)),
     ((h c).1 (1 : Fin 9)).trans (((dats (VM m) 0 c).arrAt_in (1 : Fin 9) rfl _).trans (vm_arg1 m c)),
     ((h c).1 (2 : Fin 9)).trans (((dats (VM m) 0 c).arrAt_in (2 : Fin 9) rfl _).trans (vm_arg2 m c)),
     ((h c).1 (3 : Fin 9)).trans (((dats (VM m) 0 c).arrAt_in (3 : Fin 9) rfl _).trans (vm_arg3 m c))⟩
end

/-- A run of the idealized kernel, by what its three arrays end as. -/
theorem run_out (x y z : (c : Dev nD) → (⟨S4096x1024, .f32⟩ : BufTy).Contents (Elt Ideal))
    (hx : ∀ c, (dats (VM m) 0 c).arrAt (6 : Fin 9) cfg.N = x c) (hy : ∀ c, (dats (VM m) 0 c).arrAt (7 : Fin 9) cfg.N = y c)
    (hz : ∀ c, (dats (VM m) 0 c).arrAt (8 : Fin 9) cfg.N = z c) :
    θ_run (defs (F := Ideal)) (onTc (τ := τ) (main (F := Ideal))) ⟨m, fun _ => 0, g⟩ (fun r => ∀ c : Dev nD,
      r.2.mem ((c.tc : Thread nD τ).loc main_v41_0) = x c
      ∧ r.2.mem ((c.tc : Thread nD τ).loc main_v41_1) = y c
      ∧ r.2.mem ((c.tc : Thread nD τ).loc main_v41_2) = z c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨res_dq m r h.1 c _ (hx c), res_dk m r h.1 c _ (hy c), res_dv m r h.1 c _ (hz c), kept m r h.1 c⟩)
    (run_main m g)

end Cert.KernelIdeal.Attn
end
-- ==== Proof.Values.lean ====
/-
The call's three gradients are the reference's, on finite arguments: `p = exp(s - lse)` is the softmax's weight, and
`p (dp - delta)` the gradient the reference takes through the softmax.
-/
module

public import proofs.«01_k».proof.Proof.Host
public import proofs.«01_k».proof.Proof.Finite
public import proofs.«01_k».proof.Proof.Outcome

@[expose] public section

set_option maxRecDepth 16384

noncomputable section

namespace Cert.KernelIdeal.Attn

open Cert.KernelIdeal Cert.KernelIdeal.Gen
open Cert.ReferenceIdeal.Read Cert.RefVal Cert.Softmax
open Idealize.ShloMosaic
open Idealize.ShloMosaic.TcCoe Idealize.ShloMosaic.Pipeline

variable (q k v : (⟨S4096x1024, .bf16⟩ : BufTy).Contents (Elt Ideal)) (w : (⟨S4096x1024, .f32⟩ : BufTy).Contents (Elt Ideal))

/-- The log-sums the host saves. -/
abbrev hL : (⟨S4096x1024, .f32⟩ : BufTy).Contents (Elt Ideal) :=
  lseOf (val_main_v38 (F := Ideal) q k) (val_main_v43 (F := Ideal) q k)
/-- The inner products the host saves. -/
abbrev hE : (⟨S4096x1024, .f32⟩ : BufTy).Contents (Elt Ideal) :=
  delOf (val_main_v6 (F := Ideal) w) (val_main_v50 (F := Ideal) q k v)

section
variable (M : Fin 8 → Fin 4096 → ℝ) (hM : Tops q k M)
variable (hq : ∀ i, Fin' (q i)) (hk : ∀ i, Fin' (k i)) (hv : ∀ i, Fin' (v i)) (hw : ∀ i, Fin' (w i))
variable (H : Fin 8) (r s : Fin 4096)
include hM

theorem hL_at (d : Fin 128) : hL q k (ix2 r (col H d)) = (M H r : EReal) + Ideal.log (zz (gS q k H r) (M H r)) := by
  rw [hL, lseOf_at, v43_at q k H r M hM _ rfl rfl, Cert.ReferenceIdeal.Read.val_main_v38_apply, v28_at,
    ix2_ext (idx_main_v38 (ix3 H r 0)) H r rfl rfl, hM]
theorem hE_at (d : Fin 128) : hE q k v w (ix2 r (col H d)) = ∑ d, w (ix2 r (col H d))
    * ∑ s, v (ix2 s (col H d)) * Ideal.div (ex (gS q k H r) (M H r) s) (zz (gS q k H r) (M H r)) := by
  rw [hE, delOf_at]
  exact Finset.sum_congr rfl fun d _ => by rw [v6_at, v50_at q k v H r d M hM]
include hq hk
/-- The call's weight is the softmax's. -/
theorem gP_eq : gP q k (hL q k) H r s = val_main_v45 (F := Ideal) q k (ix3 H r s) := by
  rw [v45_at q k H r s M hM, gP, hL_at q k M hM, weight _ _ (row q k H r hq hk)]
include hv hw
/-- The call's gradient of the scores is the reference's. -/
theorem gD_eq : gD q k v w (hL q k) (hE q k v w) H r s = val_main_v70 (F := Ideal) q k v w (ix3 H r s) := by
  rw [v70_at q k v w H r s M hM hq hk hv hw]
  by_cases h : r < s
  · rw [gD_zero _ _ _ _ _ _ _ _ _ h, if_pos h, zero_mul]
  · rw [if_neg h, gD, gP_eq q k M hM hq hk, v45_at q k H r s M hM, hE_at q k v w M hM]
end

variable (hq : ∀ i, Fin' (q i)) (hk : ∀ i, Fin' (k i)) (hv : ∀ i, Fin' (v i)) (hw : ∀ i, Fin' (w i))
include hq hk

/-- The gradient of the values. -/
theorem gV_eq : gV q k w (hL q k) = val_main_v77 (F := Ideal) q k w := by
  obtain ⟨M, hM⟩ := tops q k hq hk
  funext i
  have h0 : (i 0).val < 4096 := (i 0).isLt
  have h1 : (i 1).val < 1024 := (i 1).isLt
  rw [val_main_v77_apply, ix3_ext (idx_main_v77 i) (i 0) (hd (i 1)) ⟨(i 1).val % 128, by omega⟩
    (show ((i 0).val * 1024 + (i 1).val) / 1024 = (i 0).val by omega)
    (show ((i 0).val * 1024 + (i 1).val) / 128 % 8 = (i 1).val / 128 by omega)
    (show ((i 0).val * 1024 + (i 1).val) % 128 = (i 1).val % 128 by omega)]
  rw [val_main_v54_apply, val_main_v53_apply]
  refine Finset.sum_congr rfl fun r _ => ?_
  rw [ix3_ext (lidx_main_v53 (idx_main_v54 (ix3 (i 0) (hd (i 1)) ⟨(i 1).val % 128, by omega⟩)) r) (hd (i 1)) ⟨(i 1).val % 128, by omega⟩ r rfl rfl rfl,
    ix3_ext (ridx_main_v53 (idx_main_v54 (ix3 (i 0) (hd (i 1)) ⟨(i 1).val % 128, by omega⟩)) r) (hd (i 1)) r (i 0) rfl rfl rfl,
    v51_at]
  exact (congrArg (fun x : EReal => x * w (ix2 r (i 1))) (gP_eq q k M hM hq hk (hd (i 1)) r (i 0))).trans ((mul_comm _ _).trans
    (congrArg (fun x => (w (ix2 r x) : EReal) * val_main_v45 (F := Ideal) q k (ix3 (hd (i 1)) r (i 0))) (Fin.ext (show (i 1).val = 128 * ((i 1).val / 128) + (i 1).val % 128 by omega))))
include hv hw
/-- The gradient of the keys. -/
theorem gK_eq : gK q k v w (hL q k) (hE q k v w) = val_main_v76 (F := Ideal) q k v w := by
  obtain ⟨M, hM⟩ := tops q k hq hk
  funext i
  have h0 : (i 0).val < 4096 := (i 0).isLt
  have h1 : (i 1).val < 1024 := (i 1).isLt
  rw [val_main_v76_apply, ix3_ext (idx_main_v76 i) (i 0) (hd (i 1)) ⟨(i 1).val % 128, by omega⟩
    (show ((i 0).val * 1024 + (i 1).val) / 1024 = (i 0).val by omega)
    (show ((i 0).val * 1024 + (i 1).val) / 128 % 8 = (i 1).val / 128 by omega)
    (show ((i 0).val * 1024 + (i 1).val) % 128 = (i 1).val % 128 by omega)]
  rw [val_main_v72_apply, val_main_v71_apply]
  refine Finset.sum_congr rfl fun r _ => ?_
  rw [ix3_ext (lidx_main_v71 (idx_main_v72 (ix3 (i 0) (hd (i 1)) ⟨(i 1).val % 128, by omega⟩)) r) (hd (i 1)) r (i 0) rfl rfl rfl,
    ix3_ext (ridx_main_v71 (idx_main_v72 (ix3 (i 0) (hd (i 1)) ⟨(i 1).val % 128, by omega⟩)) r) r (hd (i 1)) ⟨(i 1).val % 128, by omega⟩ rfl rfl rfl,
    v1_at]
  exact (congrArg (fun x : EReal => x * q (ix2 r (i 1))) (gD_eq q k v w M hM hq hk hv hw (hd (i 1)) r (i 0))).trans
    (congrArg (fun x => (val_main_v70 (F := Ideal) q k v w (ix3 (hd (i 1)) r (i 0)) : EReal) * q (ix2 r x)) (Fin.ext (show (i 1).val = 128 * ((i 1).val / 128) + (i 1).val % 128 by omega)))
/-- The gradient of the queries. -/
theorem gQ_eq : gQ q k v w (hL q k) (hE q k v w) = val_main_v75 (F := Ideal) q k v w := by
  obtain ⟨M, hM⟩ := tops q k hq hk
  funext i
  have h0 : (i 0).val < 4096 := (i 0).isLt
  have h1 : (i 1).val < 1024 := (i 1).isLt
  rw [val_main_v75_apply, ix3_ext (idx_main_v75 i) (i 0) (hd (i 1)) ⟨(i 1).val % 128, by omega⟩
    (show ((i 0).val * 1024 + (i 1).val) / 1024 = (i 0).val by omega)
    (show ((i 0).val * 1024 + (i 1).val) / 128 % 8 = (i 1).val / 128 by omega)
    (show ((i 0).val * 1024 + (i 1).val) % 128 = (i 1).val % 128 by omega)]
  rw [val_main_v74_apply, val_main_v73_apply]
  refine Finset.sum_congr rfl fun s _ => ?_
  rw [ix3_ext (lidx_main_v73 (idx_main_v74 (ix3 (i 0) (hd (i 1)) ⟨(i 1).val % 128, by omega⟩)) s) (hd (i 1)) (i 0) s rfl rfl rfl,
    ix3_ext (ridx_main_v73 (idx_main_v74 (ix3 (i 0) (hd (i 1)) ⟨(i 1).val % 128, by omega⟩)) s) s (hd (i 1)) ⟨(i 1).val % 128, by omega⟩ rfl rfl rfl,
    v3_at]
  exact (congrArg (fun x : EReal => x * k (ix2 s (i 1))) (gD_eq q k v w M hM hq hk hv hw (hd (i 1)) (i 0) s)).trans
    (congrArg (fun x => (val_main_v70 (F := Ideal) q k v w (ix3 (hd (i 1)) (i 0) s) : EReal) * k (ix2 s x)) (Fin.ext (show (i 1).val = 128 * ((i 1).val / 128) + (i 1).val % 128 by omega)))

end Cert.KernelIdeal.Attn

namespace Cert.KernelIdeal.Attn

open Cert.KernelIdeal Cert.KernelIdeal.Gen
open Cert.ReferenceIdeal.Read Cert.RefVal Cert.Softmax
open Idealize.ShloMosaic Idealize.SL.Sem
open Idealize.ShloMosaic.TcCoe Idealize.ShloMosaic.Pipeline

variable (m : (ℓ : Loc nD τ sig) → Buf (Elt Ideal) ℓ)
variable (hf : ∀ c, (∀ i, Fin' (inQ m c i)) ∧ (∀ i, Fin' (inK m c i)) ∧ (∀ i, Fin' (inV m c i)) ∧ ∀ i, Fin' (inW m c i))
include hf

/-- The arrays the call ends with are the reference's gradients of the arguments. -/
theorem out_dq (c : Dev nD) : (dats (VM m) 0 c).arrAt (6 : Fin 9) cfg.N
    = val_main_v75 (F := Ideal) (inQ m c) (inK m c) (inV m c) (inW m c) := by
  obtain ⟨hq, hk, hv, hw⟩ := hf c
  rw [final_dq, show aQ (VM m) c = inQ m c from vm_arg0 m c, show aK (VM m) c = inK m c from vm_arg1 m c,
    show aV (VM m) c = inV m c from vm_arg2 m c, show aW (VM m) c = inW m c from vm_arg3 m c,
    show aL (VM m) c = _ from vm_lse m c, show aE (VM m) c = _ from vm_del m c]
  exact gQ_eq _ _ _ _ hq hk hv hw
theorem out_dk (c : Dev nD) : (dats (VM m) 0 c).arrAt (7 : Fin 9) cfg.N
    = val_main_v76 (F := Ideal) (inQ m c) (inK m c) (inV m c) (inW m c) := by
  obtain ⟨hq, hk, hv, hw⟩ := hf c
  rw [final_dk, show aQ (VM m) c = inQ m c from vm_arg0 m c, show aK (VM m) c = inK m c from vm_arg1 m c,
    show aV (VM m) c = inV m c from vm_arg2 m c, show aW (VM m) c = inW m c from vm_arg3 m c,
    show aL (VM m) c = _ from vm_lse m c, show aE (VM m) c = _ from vm_del m c]
  exact gK_eq _ _ _ _ hq hk hv hw
theorem out_dv (c : Dev nD) : (dats (VM m) 0 c).arrAt (8 : Fin 9) cfg.N
    = val_main_v77 (F := Ideal) (inQ m c) (inK m c) (inW m c) := by
  obtain ⟨hq, hk, -, -⟩ := hf c
  rw [final_dv, show aQ (VM m) c = inQ m c from vm_arg0 m c, show aK (VM m) c = inK m c from vm_arg1 m c,
    show aW (VM m) c = inW m c from vm_arg3 m c, show aL (VM m) c = _ from vm_lse m c]
  exact gV_eq _ _ _ hq hk

end Cert.KernelIdeal.Attn

end
-- ==== Proof.Dw.Value.lean ====
/-
The gradient of a feed-forward weight: a product over the tokens, taken in two halves of 2048 tokens and for two halves of
the hidden units. What the kernel's result array holds is, at each place, the sum over all 4096 tokens.
-/
module

public import proofs.«01_k».proof.Proof.Gen.Kernel2Ideal.Value
public import proofs.«01_k».proof.Proof.Gen.Reference2Ideal.Read
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pipeline.FrameBody
public import Idealize.ShloMosaic.Lib.Pipeline.ReadBack
public import Idealize.ShloMosaic.Lib.Pointwise

@[expose] public section

set_option maxRecDepth 16384

noncomputable section

namespace Cert.Kernel2Ideal.Dw

open Cert.Kernel2Ideal Cert.Kernel2Ideal.Gen
open Idealize.ShloMosaic Idealize.ShloMosaic.TcCoe Idealize.ShloMosaic.Pipeline

/-- What a block product is at a place: the sum over the 2048 tokens of the blocks. -/
theorem pay1_apply (x : Vec Ideal S2048x1408 .bf16) (y : Vec Ideal S2048x1024 .bf16) (j : S1408x1024.Idx) :
    k0_pay1 (F := Ideal) x y j = ∑ k : Fin 2048, x (ix2 k (j 0)) * y (ix2 k (j 1)) := by
  unfold k0_pay1
  pointwise

theorem ix2_ext {n p : ℕ} {a a' : Fin n} {b b' : Fin p} (ha : a.val = a'.val) (hb : b.val = b'.val) : ix2 a b = ix2 a' b' := by
  rw [Fin.ext ha, Fin.ext hb]

variable (m : (ℓ : Loc nD τ sig) → Buf (Elt Ideal) ℓ)

/-- After an even point the accumulator holds the product of the point's blocks. -/
theorem acc_even (c : Dev nD) (t : Fin cfg0.N) (h : t.val % 2 = 0) :
    (outsAt0 m c t.val t.isLt).2 = k0_pay1 (F := Ideal) (iblk m c 0 t) (iblk m c 1 t) := by
  rw [outsAt0_A m c t h (by omega) (by omega)]
  frame_out
  funext j
  pointwise [k0_pay2]

/-- At an odd point the block written back is the accumulator before it and the product of the point's blocks, added. -/
theorem out_odd (c : Dev nD) (t : Fin cfg0.N) (h : t.val % 2 = 1) :
    (outsAt0 m c t.val t.isLt).1 = addf (F := Ideal) ((outsAt0 m c (t.val - 1) (Nat.lt_of_le_of_lt (Nat.sub_le _ _) t.isLt)).2)
      (k0_pay1 (F := Ideal) (iblk m c 0 t) (iblk m c 1 t)) := by
  rw [outsAt0_B m c t (by omega) h h]
  frame_out
  simp only [read_unread_whole]
  funext j
  pointwise [k0_pay3, k0_pay4]

/-- The block indices of the two operands at a point. -/
theorem idx : ∀ t : Fin cfg0.N, win0_0.index t = ![t.val % 2, t.val / 2] ∧ win0_1.index t = ![t.val % 2, 0] := by
  decide +kernel

theorem blk0 (c : Dev nD) (t : Fin cfg0.N) (k : Fin 2048) (r : Fin 1408) (h0 : 2048 * (t.val % 2) + k.val < 4096)
    (h1 : 1408 * (t.val / 2) + r.val < 2816) :
    iblk m c 0 t (ix2 k r) = m ((c.tc : Thread nD τ).loc main_arg0) (ix2 ⟨2048 * (t.val % 2) + k.val, h0⟩ ⟨1408 * (t.val / 2) + r.val, h1⟩) := by
  blk_ext [iblk, V, idx t]

theorem blk1 (c : Dev nD) (t : Fin cfg0.N) (k : Fin 2048) (s : Fin 1024) (h0 : 2048 * (t.val % 2) + k.val < 4096) :
    iblk m c 1 t (ix2 k s) = m ((c.tc : Thread nD τ).loc main_arg1) (ix2 ⟨2048 * (t.val % 2) + k.val, h0⟩ s) := by
  blk_ext [iblk, V, idx t]

/-- A sum over the 4096 tokens is the sum over the first 2048 and the sum over the last 2048. -/
theorem sum_halves (g : Fin 4096 → EReal) : ∑ k : Fin 4096, g k
    = (∑ k : Fin 2048, g ⟨k.val, by omega⟩) + ∑ k : Fin 2048, g ⟨2048 + k.val, by omega⟩ :=
  Fin.sum_univ_add (a := 2048) (b := 2048) g

/-- The gradient: at hidden unit `i 0` and model lane `i 1`, the product of the two arrays summed over all tokens. -/
def dW (x : S4096x2816.Idx → EReal) (y : S4096x1024.Idx → EReal) (i : S2816x1024.Idx) : EReal :=
  ∑ k : Fin 4096, x (ix2 k (i 0)) * y (ix2 k (i 1))

/-- What the result array holds at a place. -/
theorem final (c : Dev nD) (i : S2816x1024.Idx) : Value.G2 m c i
    = dW (m ((c.tc : Thread nD τ).loc main_arg0)) (m ((c.tc : Thread nD τ).loc main_arg1)) i := by
  have h0 : (i 0).val < 2816 := (i 0).isLt
  have h1 : (i 1).val < 1024 := (i 1).isLt
  have hN : cfg0.N = 4 := N_0
  have hp : Value.pt2Of i = 2 * ((i 0).val / 1408) + 1 := by
    show 2 * (1 * ((i 0).val / 1408 - 0) + 1 * ((i 1).val / 1024 - 0)) + 1 = _
    omega
  have hlt : Value.pt2Of i < cfg0.N := by rw [hp]; omega
  unfold Value.G2
  rw [dif_pos hlt, ← Value.outsAt0_sweep m c _ hlt]
  have hodd : Value.pt2Of i % 2 = 1 := by omega
  have hpre : Value.pt2Of i - 1 < cfg0.N := by omega
  have e1 := out_odd m c ⟨Value.pt2Of i, hlt⟩ hodd
  have e0 := acc_even m c ⟨Value.pt2Of i - 1, hpre⟩ (by show (Value.pt2Of i - 1) % 2 = 0; omega)
  refine (congrFun e1 _).trans ?_
  refine (congrArg (fun z : Vec Ideal S1408x1024 .f32 => addf (F := Ideal) z _ (Value.loc2Of i)) e0).trans ?_
  refine (congrArg₂ (fun a b : EReal => a + b) (pay1_apply _ _ _) (pay1_apply _ _ _)).trans ?_
  unfold dW
  rw [sum_halves]
  refine congrArg₂ (fun a b : EReal => a + b) (Finset.sum_congr rfl fun k _ => ?_) (Finset.sum_congr rfl fun k _ => ?_)
  · have hk : k.val < 2048 := k.isLt
    refine congrArg₂ (fun a b : EReal => a * b) ?_ ?_
    · refine (blk0 m c ⟨Value.pt2Of i - 1, hpre⟩ k _ (by show 2048 * ((Value.pt2Of i - 1) % 2) + k.val < 4096; omega)
        (by show 1408 * ((Value.pt2Of i - 1) / 2) + (i 0).val % 1408 < 2816; omega)).trans (congrArg _ ?_)
      refine ix2_ext ?_ ?_
      · show 2048 * ((Value.pt2Of i - 1) % 2) + k.val = k.val; omega
      · show 1408 * ((Value.pt2Of i - 1) / 2) + (i 0).val % 1408 = (i 0).val; omega
    · refine (blk1 m c ⟨Value.pt2Of i - 1, hpre⟩ k _ (by show 2048 * ((Value.pt2Of i - 1) % 2) + k.val < 4096; omega)).trans
        (congrArg _ ?_)
      refine ix2_ext ?_ ?_
      · show 2048 * ((Value.pt2Of i - 1) % 2) + k.val = k.val; omega
      · show (i 1).val % 1024 = (i 1).val; omega
  · have hk : k.val < 2048 := k.isLt
    refine congrArg₂ (fun a b : EReal => a * b) ?_ ?_
    · refine (blk0 m c ⟨Value.pt2Of i, hlt⟩ k _ (by show 2048 * (Value.pt2Of i % 2) + k.val < 4096; omega)
        (by show 1408 * (Value.pt2Of i / 2) + (i 0).val % 1408 < 2816; omega)).trans (congrArg _ ?_)
      refine ix2_ext ?_ ?_
      · show 2048 * (Value.pt2Of i % 2) + k.val = 2048 + k.val; omega
      · show 1408 * (Value.pt2Of i / 2) + (i 0).val % 1408 = (i 0).val; omega
    · refine (blk1 m c ⟨Value.pt2Of i, hlt⟩ k _ (by show 2048 * (Value.pt2Of i % 2) + k.val < 4096; omega)).trans
        (congrArg _ ?_)
      refine ix2_ext ?_ ?_
      · show 2048 * (Value.pt2Of i % 2) + k.val = 2048 + k.val; omega
      · show (i 1).val % 1024 = (i 1).val; omega

/-- The reference's result at a place: the same sum. -/
theorem ref_apply (x : (⟨S4096x2816, .bf16⟩ : BufTy).Contents (Elt Ideal)) (y : (⟨S4096x1024, .bf16⟩ : BufTy).Contents (Elt Ideal))
    (i : S2816x1024.Idx) : Cert.Reference2Ideal.Read.val_main_v7 (F := Ideal) x y i
      = dW x y i := by
  rw [Cert.Reference2Ideal.Read.val_main_v7_apply, Cert.Reference2Ideal.Read.val_main_v6_apply,
    Cert.Reference2Ideal.Read.val_main_v5_apply]
  refine (Cert.Reference2Ideal.Read.val_main_v4_apply x y _).trans (Finset.sum_congr rfl fun k _ => ?_)
  refine congrArg₂ (fun a b : EReal => a * b) (congrArg x ?_) (congrArg y ?_) <;>
    exact funext fun a => Fin.cases rfl (fun a => Fin.cases rfl (fun a => a.elim0) a) a

/-- The kernel's result array is the reference's. -/
theorem final_ref (c : Dev nD) : Value.G2 m c = Cert.Reference2Ideal.Read.val_main_v7 (F := Ideal)
    (m ((c.tc : Thread nD τ).loc main_arg0)) (m ((c.tc : Thread nD τ).loc main_arg1)) :=
  funext fun i => (final m c i).trans (ref_apply _ _ i).symm

end Cert.Kernel2Ideal.Dw

end
-- ==== Proof.Ffn.Pay.lean ====
/-
One block of the last feed-forward step, read place by place: the normalised tokens, the two projections, the gated
activation, the product back to the model's width, the error against the target, and the loss by lane.
-/
module

public import proofs.«01_k».proof.Proof.Gen.Kernel3Ideal.Skeleton
public import Idealize.ShloMosaic.Lib.Pointwise

@[expose] public section

set_option maxRecDepth 16384

noncomputable section

namespace Cert.Kernel3Ideal.Ffn

open Cert.Kernel3Ideal Cert.Kernel3Ideal.Gen
open Idealize.ShloMosaic Idealize.ShloMosaic.TcCoe

/-- The literal 1/1024, which a mean over the model's width multiplies by. -/
def c1024 : EReal := Ideal.ofBits .f32 0x3A800000#32
/-- The small number under the square root. -/
def ceps : EReal := Ideal.ofBits .f32 0x358637BD#32
/-- The literal one half. -/
def chalf : EReal := Ideal.ofBits .f32 0x3F000000#32
/-- The literal one. -/
def cone : EReal := Ideal.ofBits .f32 0x3F800000#32

/-- The norm of a token: each feature by the reciprocal root of the mean square, and by its gain. -/
def norm (v g : Fin 1024 → EReal) (d : Fin 1024) : EReal :=
  v d * Ideal.rsqrt ((∑ k : Fin 1024, v k * v k) * c1024 + ceps) * g d

/-- The gated activation of a hidden unit: its gate by the gate's sigmoid, and by its up projection. -/
def gated (hg hu : EReal) : EReal := hg * Ideal.div cone (cone + Ideal.exp (-hg)) * hu

/-- The error of a feature: the token and half the normalised product, less the target. -/
def errOf (x n t : EReal) : EReal := x + chalf * n - t

/-- The row of a block of four groups of 352 hidden units. -/
def grp (f : Fin 1408) : Fin 4 := ⟨f.val / 352, by omega⟩
/-- Its place in the group. -/
def plc (f : Fin 1408) : Fin 352 := ⟨f.val % 352, by omega⟩

theorem pay9_apply (x : Vec Ideal S512x1024 .f32) (g : Vec Ideal S1x1024 .f32) (r : Fin 512) (d : Fin 1024) :
    k0_pay9 (F := Ideal) x g (ix2 r d) = norm (fun k => x (ix2 r k)) (fun k => g (ix2 0 k)) d := by
  unfold norm c1024 ceps
  pointwise [k0_pay9]

theorem pay11_apply (w : Vec Ideal S4x1x352x1024 .bf16) (f : Fin 1408) (d : Fin 1024) :
    k0_pay11 (F := Ideal) w (ix2 f d) = w (ix4 (grp f) 0 (plc f) d) := by
  unfold grp plc
  pointwise [k0_pay11]

theorem pay12_apply (x : Vec Ideal S512x1024 .bf16) (w : Vec Ideal S4x1x352x1024 .bf16) (r : Fin 512) (f : Fin 1408) :
    k0_pay12 (F := Ideal) x w (ix2 r f) = ∑ d : Fin 1024, x (ix2 r d) * w (ix4 (grp f) 0 (plc f) d) := by
  unfold grp plc
  pointwise [k0_pay12]

theorem pay13_apply (x : Vec Ideal S512x1024 .bf16) (w : Vec Ideal S4x1x352x1024 .bf16) (r : Fin 512) (f : Fin 1408) :
    k0_pay13 (F := Ideal) x w (ix2 r f) = ∑ d : Fin 1024, x (ix2 r d) * w (ix4 (grp f) 0 (plc f) d) := by
  unfold grp plc
  pointwise [k0_pay13]

theorem pay14_apply (x : Vec Ideal S512x1024 .bf16) (w : Vec Ideal S4x1x352x1024 .bf16) (j : S512x1408.Idx) :
    k0_pay14 (F := Ideal) x w j = k0_pay12 (F := Ideal) x w j := by
  pointwise [k0_pay14]

theorem pay15_apply (x : Vec Ideal S512x1024 .bf16) (w : Vec Ideal S4x1x352x1024 .bf16) (j : S512x1408.Idx) :
    k0_pay15 (F := Ideal) x w j = k0_pay13 (F := Ideal) x w j := by
  pointwise [k0_pay15]

theorem pay1_apply (x : Vec Ideal S512x1024 .bf16) (w : Vec Ideal S4x1x352x1024 .bf16) (u v : FVec Ideal S512x1408 .f32)
    (hv : v = k0_pay12 (F := Ideal) x w) (j : S512x1408.Idx) :
    k0_pay1 (F := Ideal) v u (k0_pay16 (F := Ideal) x w) (Scalar.ofBits .f32 0x3F800000#32) j = gated (v j) (u j) := by
  subst hv
  unfold gated cone
  pointwise [k0_pay1, k0_pay16]
  rw [sub_eq_add_neg (0 : EReal), zero_add]

theorem pay2_apply (w : Vec Ideal S1408x1024 .bf16) (v u e : FVec Ideal S512x1408 .f32) (c : Ideal .f32)
    (p : Vec Ideal S512x1024 .f32) (r : Fin 512) (d : Fin 1024) :
    k0_pay2 (F := Ideal) w v u e c p (ix2 r d) = p (ix2 r d) + ∑ f : Fin 1408, k0_pay1 (F := Ideal) v u e c (ix2 r f) * w (ix2 f d) := by
  pointwise [k0_pay2]

theorem pay10_apply (j : S512x1024.Idx) : k0_pay10 (F := Ideal) j = 0 := by
  pointwise [k0_pay10]

theorem pay8_apply (j : S1x128.Idx) : k0_pay8 (F := Ideal) j = 0 := by
  pointwise [k0_pay8]

theorem pay5_apply (h x : Vec Ideal S512x1024 .f32) (g : Vec Ideal S1x1024 .f32) (y : Vec Ideal S512x1024 .f32) (r : Fin 512)
    (d : Fin 1024) :
    k0_pay5 (F := Ideal) h x g y (ix2 r d)
      = errOf (x (ix2 r d)) (norm (fun k => h (ix2 r k)) (fun k => g (ix2 0 k)) d) (y (ix2 r d)) := by
  unfold errOf norm c1024 ceps chalf
  pointwise [k0_pay5]

theorem pay4_apply (e : FVec Ideal S512x1024 .f32) (j : S512x1024.Idx) : k0_pay4 (F := Ideal) e j = e j * c1024 := by
  unfold c1024
  pointwise [k0_pay4]

theorem pay6_apply (p : Vec Ideal S1x128 .f32) (j : S1x128.Idx) : k0_pay6 (F := Ideal) p j = p j := by
  have e : j = ix2 (j 0) (j 1) := by funext a; exact Fin.cases rfl (fun a => Fin.cases rfl (fun a => a.elim0) a) a
  rw [e]
  pointwise [k0_pay6]

theorem pay3_apply (p q : FVec Ideal S1x128 .f32) (c : Ideal .f32) (j : S1x128.Idx) :
    k0_pay3 (F := Ideal) p q c j = p j + q j * c := by
  pointwise [k0_pay3]

/-- The feature at lane `l` of group `s`. -/
def feat (s : Fin 8) (l : Fin 128) : Fin 1024 := ⟨s.val * 128 + l.val, by omega⟩

theorem pay7_apply (h x : Vec Ideal S512x1024 .f32) (g : Vec Ideal S1x1024 .f32) (y : Vec Ideal S512x1024 .f32) (l : Fin 128) :
    k0_pay7 (F := Ideal) h x g y (ix2 0 l)
      = ∑ r : Fin 512, ∑ s : Fin 8, k0_pay5 (F := Ideal) h x g y (ix2 r (feat s l)) * k0_pay5 (F := Ideal) h x g y (ix2 r (feat s l)) := by
  unfold k0_pay7
  pointwise
  refine Finset.sum_congr rfl fun r _ => ?_
  rw [Fin.sum_univ_eight, show feat 0 l = ⟨l.val, by omega⟩ from Fin.ext (by simp [feat]),
    show feat 1 l = ⟨128 + l.val, by omega⟩ from Fin.ext (by simp [feat]),
    show feat 2 l = ⟨256 + l.val, by omega⟩ from Fin.ext (by simp [feat]),
    show feat 3 l = ⟨384 + l.val, by omega⟩ from Fin.ext (by simp [feat]),
    show feat 4 l = ⟨512 + l.val, by omega⟩ from Fin.ext (by simp [feat]),
    show feat 5 l = ⟨640 + l.val, by omega⟩ from Fin.ext (by simp [feat]),
    show feat 6 l = ⟨768 + l.val, by omega⟩ from Fin.ext (by simp [feat]),
    show feat 7 l = ⟨896 + l.val, by omega⟩ from Fin.ext (by simp [feat])]

end Cert.Kernel3Ideal.Ffn
-- ==== Proof.Ffn.Spec.lean ====
/-
What the last feed-forward step and the loss compute, over whole arrays and place by place: the normalised tokens, the
two projections, the gated activation, the product back to the model's width, the error, the gradient of the loss in the
network's output, and the loss by lane. With it the literals the two programs scale by.
-/
module

public import proofs.«01_k».proof.Proof.Ffn.Pay

@[expose] public section

set_option maxRecDepth 16384

noncomputable section

namespace Cert.Kernel3Ideal.Ffn

open Cert.Kernel3Ideal Cert.Kernel3Ideal.Gen
open Idealize.ShloMosaic Idealize.ShloMosaic.TcCoe

/-- The arrays the step reads: the tokens, the gain before, the weights, the gain after, the target. -/
structure In where
  x : S4096x1024.Idx → EReal
  g : S1x1024.Idx → EReal
  w : S8x3x352x1024.Idx → EReal
  p : S1x1024.Idx → EReal
  y : S4096x1024.Idx → EReal

variable (a : In)

/-- A weight: matrix `k` (gate, up, down) at hidden unit `f` and feature `d`. -/
def wrow (k : Fin 3) (f : Fin 2816) (d : Fin 1024) : EReal :=
  a.w (ix4 ⟨f.val / 352, by omega⟩ k ⟨f.val % 352, by omega⟩ d)

/-- The normalised tokens. -/
def xn (r : Fin 4096) (d : Fin 1024) : EReal := norm (fun k => a.x (ix2 r k)) (fun k => a.g (ix2 0 k)) d

/-- A projection of the normalised tokens to the hidden units. -/
def proj (k : Fin 3) (r : Fin 4096) (f : Fin 2816) : EReal := ∑ d : Fin 1024, xn a r d * wrow a k f d

/-- The gated activation. -/
def act (r : Fin 4096) (f : Fin 2816) : EReal := gated (proj a 0 r f) (proj a 1 r f)

/-- The product back to the model's width. -/
def hid (r : Fin 4096) (d : Fin 1024) : EReal := ∑ f : Fin 2816, act a r f * wrow a 2 f d

/-- The error: the network's output less the target. -/
def err (r : Fin 4096) (d : Fin 1024) : EReal :=
  errOf (a.x (ix2 r d)) (norm (fun k => hid a r k) (fun k => a.p (ix2 0 k)) d) (a.y (ix2 r d))

/-- The literal 1/2048 that the loss is scaled by. -/
def clane : EReal := Ideal.ofBits .f32 0x3A000000#32

/-- A block's squared errors at a lane, over its 512 tokens and the 8 groups of features. -/
def part (b : Fin 8) (l : Fin 128) : EReal :=
  ∑ q : Fin 512, ∑ s : Fin 8, err a ⟨512 * b.val + q.val, by omega⟩ (feat s l) * err a ⟨512 * b.val + q.val, by omega⟩ (feat s l)

/-- The loss by lane, block by block. -/
def lane (l : Fin 128) : EReal := ∑ b : Fin 8, part a b l * clane

theorem c1024_real : c1024 = ((1 / 1024 : ℝ) : EReal) := by
  unfold c1024; simp [Ideal.ofBits, Ideal.ieee]; rw [← EReal.coe_mul]; norm_num

theorem clane_real : clane = ((1 / 2048 : ℝ) : EReal) := by
  unfold clane; simp [Ideal.ofBits, Ideal.ieee]; rw [← EReal.coe_mul]; norm_num

theorem chalf_real : chalf = ((1 / 2 : ℝ) : EReal) := by
  unfold chalf; simp [Ideal.ofBits, Ideal.ieee]; rw [← EReal.coe_mul]; norm_num

theorem lit1024 : Ideal.ofBits .f32 0x44800000#32 = ((1024 : ℝ) : EReal) := by
  simp [Ideal.ofBits, Ideal.ieee]; rw [← EReal.coe_mul]; norm_num

theorem lit2 : Ideal.ofBits .f32 0x40000000#32 = ((2 : ℝ) : EReal) := by
  simp [Ideal.ofBits, Ideal.ieee]; rw [← EReal.coe_mul]; norm_num

/-- Dividing by 1024 is multiplying by the literal 1/1024. -/
theorem div1024 (s : EReal) : Ideal.div s (Ideal.ofBits .f32 0x44800000#32) = s * c1024 := by
  rw [lit1024, c1024_real, Ideal.div, if_neg (by exact_mod_cast (by norm_num : (1024 : ℝ) ≠ 0)), ← EReal.coe_inv]
  norm_num

/-- A real number that is not negative goes through a finite sum, whatever the terms. -/
theorem mul_sum_real {ι : Type} (c : ℝ) (hc : 0 ≤ c) (f : ι → EReal) (s : Finset ι) :
    (∑ i ∈ s, f i) * (c : EReal) = ∑ i ∈ s, f i * (c : EReal) := by
  classical
  induction s using Finset.induction_on with
  | empty => simp
  | insert i s hi ih =>
    rw [Finset.sum_insert hi, Finset.sum_insert hi, ← ih]
    exact EReal.right_distrib_of_nonneg_of_ne_top (EReal.coe_nonneg.mpr hc) (EReal.coe_ne_top c) _ _

/-- A sum over the 4096 tokens, block by block. -/
theorem sum_blocks (g : Fin 4096 → EReal) :
    ∑ r : Fin 4096, g r = ∑ b : Fin 8, ∑ q : Fin 512, g ⟨512 * b.val + q.val, by omega⟩ := by
  rw [← Finset.sum_product', ← (finProdFinEquiv (m := 8) (n := 512)).sum_comp]
  refine Finset.sum_congr rfl fun b _ => congrArg g (Fin.ext ?_)
  show b.2.val + 512 * b.1.val = 512 * b.1.val + b.2.val
  omega

/-- The loss by lane as half the mean squared error summed over the tokens. -/
theorem lane_eq (l : Fin 128) :
    lane a l = chalf * ∑ r : Fin 4096, ∑ s : Fin 8, err a r (feat s l) * err a r (feat s l) * c1024 := by
  rw [sum_blocks]
  unfold lane part
  rw [clane_real, chalf_real, c1024_real, mul_comm]
  rw [mul_sum_real _ (by norm_num)]
  refine Finset.sum_congr rfl fun b _ => ?_
  rw [mul_sum_real _ (by norm_num), mul_sum_real _ (by norm_num)]
  refine Finset.sum_congr rfl fun q _ => ?_
  rw [mul_sum_real _ (by norm_num), mul_sum_real _ (by norm_num)]
  refine Finset.sum_congr rfl fun s _ => ?_
  rw [mul_assoc _ ((1 / 1024 : ℝ) : EReal), ← EReal.coe_mul]
  norm_num

/-- Half of one, over 1024, by twice the error: the error by 1/1024. -/
theorem grad_scale (e : EReal) :
    Ideal.div (Ideal.ofBits .f32 0x3F000000#32 * 1) (Ideal.ofBits .f32 0x44800000#32)
      * (Ideal.ofBits .f32 0x40000000#32 * e) = e * c1024 := by
  rw [div1024, mul_one, show Ideal.ofBits .f32 0x3F000000#32 = chalf from rfl, lit2, chalf_real, c1024_real, ← mul_assoc,
    ← EReal.coe_mul, ← EReal.coe_mul, mul_comm]
  norm_num

/-- A sum over the 2816 hidden units in the two halves of 1408. -/
theorem sum_units (g : Fin 2816 → EReal) : ∑ f : Fin 2816, g f
    = (∑ f : Fin 1408, g ⟨f.val, by omega⟩) + ∑ f : Fin 1408, g ⟨1408 + f.val, by omega⟩ :=
  Fin.sum_univ_add (a := 1408) (b := 1408) g

end Cert.Kernel3Ideal.Ffn
-- ==== Proof.Ffn.State.lean ====
/-
What the kernel holds after each point of its grid. A point works on one block of 512 tokens and one half of the hidden
units; the even point of a block normalises the tokens and starts the sum over the hidden units, the odd point finishes
it, and adds the block to the loss.
-/
module

public import proofs.«01_k».proof.Proof.Ffn.Spec
public import proofs.«01_k».proof.Proof.Gen.Kernel3Ideal.Frame
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pipeline.FrameBody
public import Idealize.ShloMosaic.Lib.Pipeline.ReadBack
public import Idealize.ShloMosaic.Lib.Pointwise

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Pipeline

variable (m : (ℓ : Loc nD τ sig) → Buf (Elt Ideal) ℓ)

/-! ### The blocks a point reads -/

/-- The arrays the kernel is called with. -/
def inOf (c : Dev nD) : In :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4)⟩

theorem pt_lt (t : Fin cfg0.N) : t.val < 16 := lt_of_lt_of_eq t.isLt N_0

/-- The token at place `q` of a point's block. -/
def row (t : Fin cfg0.N) (q : Fin 512) : Fin 4096 := ⟨512 * (t.val / 2) + q.val, by have := pt_lt t; omega⟩

/-- The hidden unit at place `f` of a point's half. -/
def unit (t : Fin cfg0.N) (f : Fin 1408) : Fin 2816 := ⟨1408 * (t.val % 2) + f.val, by omega⟩

/-- The block indices of the operands at a point. -/
theorem idx : ∀ t : Fin cfg0.N, win0_0.index t = ![t.val / 2, 0] ∧ win0_1.index t = ![0, 0]
    ∧ win0_2.index t = ![t.val % 2, 0, 0, 0] ∧ win0_3.index t = ![t.val % 2, 1, 0, 0]
    ∧ win0_4.index t = ![t.val % 2, 2, 0, 0] ∧ win0_5.index t = ![0, 0] ∧ win0_6.index t = ![t.val / 2, 0] := by
  decide +kernel

theorem blk0 (c : Dev nD) (t : Fin cfg0.N) (q : Fin 512) (d : Fin 1024) :
    iblk m c 0 t (ix2 q d) = (inOf m c).x (ix2 (row t q) d) := by
  unfold inOf row
  blk_ext [iblk, V, idx t]

theorem blk1 (c : Dev nD) (t : Fin cfg0.N) (d : Fin 1024) :
    iblk m c 1 t (ix2 0 d) = (inOf m c).g (ix2 0 d) := by
  unfold inOf
  blk_ext [iblk, V, idx t]

theorem blk5 (c : Dev nD) (t : Fin cfg0.N) (d : Fin 1024) :
    iblk m c 5 t (ix2 0 d) = (inOf m c).p (ix2 0 d) := by
  unfold inOf
  blk_ext [iblk, V, idx t]

theorem blk6 (c : Dev nD) (t : Fin cfg0.N) (q : Fin 512) (d : Fin 1024) :
    iblk m c 6 t (ix2 q d) = (inOf m c).y (ix2 (row t q) d) := by
  unfold inOf row
  blk_ext [iblk, V, idx t]

theorem blk2 (c : Dev nD) (t : Fin cfg0.N) (f : Fin 1408) (d : Fin 1024) :
    iblk m c 2 t (ix4 (grp f) 0 (plc f) d) = wrow (inOf m c) 0 (unit t f) d := by
  unfold inOf wrow unit grp plc
  blk_ext [iblk, V, idx t]

theorem blk3 (c : Dev nD) (t : Fin cfg0.N) (f : Fin 1408) (d : Fin 1024) :
    iblk m c 3 t (ix4 (grp f) 0 (plc f) d) = wrow (inOf m c) 1 (unit t f) d := by
  unfold inOf wrow unit grp plc
  blk_ext [iblk, V, idx t]

theorem blk4 (c : Dev nD) (t : Fin cfg0.N) (f : Fin 1408) (d : Fin 1024) :
    iblk m c 4 t (ix4 (grp f) 0 (plc f) d) = wrow (inOf m c) 2 (unit t f) d := by
  unfold inOf wrow unit grp plc
  blk_ext [iblk, V, idx t]

/-! ### What a point computes from its blocks -/

/-- The normalised tokens of a point's block. -/
theorem xn_blk (c : Dev nD) (t : Fin cfg0.N) (q : Fin 512) (d : Fin 1024) :
    k0_pay9 (F := Ideal) (iblk m c 0 t) (iblk m c 1 t) (ix2 q d) = xn (inOf m c) (row t q) d := by
  refine (pay9_apply _ _ q d).trans ?_
  unfold xn
  simp only [blk0, blk1]

variable (z : Vec Ideal S512x1024 .bf16)

theorem hg_blk (c : Dev nD) (t : Fin cfg0.N) (hz : ∀ q d, z (ix2 q d) = xn (inOf m c) (row t q) d) (q : Fin 512)
    (f : Fin 1408) : k0_pay12 (F := Ideal) z (iblk m c 2 t) (ix2 q f) = proj (inOf m c) 0 (row t q) (unit t f) := by
  refine (pay12_apply _ _ q f).trans ?_
  unfold proj
  simp only [hz, blk2]

theorem hu_blk (c : Dev nD) (t : Fin cfg0.N) (hz : ∀ q d, z (ix2 q d) = xn (inOf m c) (row t q) d) (q : Fin 512)
    (f : Fin 1408) : k0_pay13 (F := Ideal) z (iblk m c 3 t) (ix2 q f) = proj (inOf m c) 1 (row t q) (unit t f) := by
  refine (pay13_apply _ _ q f).trans ?_
  unfold proj
  simp only [hz, blk3]

/-- The gated activation of a point's block. -/
def actBlk (c : Dev nD) (t : Fin cfg0.N) : FVec Ideal S512x1408 .bf16 :=
  k0_pay1 (F := Ideal) (k0_pay12 z (iblk m c 2 t)) (k0_pay13 z (iblk m c 3 t)) (k0_pay16 z (iblk m c 2 t))
    (Scalar.ofBits .f32 0x3F800000#32)

theorem act_blk (c : Dev nD) (t : Fin cfg0.N) (hz : ∀ q d, z (ix2 q d) = xn (inOf m c) (row t q) d) (q : Fin 512)
    (f : Fin 1408) : actBlk m z c t (ix2 q f) = act (inOf m c) (row t q) (unit t f) := by
  unfold actBlk
  refine (pay1_apply _ _ _ _ rfl _).trans ?_
  unfold act
  rw [hg_blk m z c t hz, hu_blk m z c t hz]

/-- A sum over hidden units, and the point's half of units added to it. -/
def accBlk (c : Dev nD) (t : Fin cfg0.N) (p : Vec Ideal S512x1024 .f32) : FVec Ideal S512x1024 .f32 :=
  k0_pay2 (F := Ideal) (k0_pay11 (iblk m c 4 t)) (k0_pay12 z (iblk m c 2 t)) (k0_pay13 z (iblk m c 3 t))
    (k0_pay16 z (iblk m c 2 t)) (Scalar.ofBits .f32 0x3F800000#32) p

theorem acc_blk (c : Dev nD) (t : Fin cfg0.N) (p : Vec Ideal S512x1024 .f32)
    (hz : ∀ q d, z (ix2 q d) = xn (inOf m c) (row t q) d) (q : Fin 512) (d : Fin 1024) :
    accBlk m z c t p (ix2 q d)
      = p (ix2 q d) + ∑ f : Fin 1408, act (inOf m c) (row t q) (unit t f) * wrow (inOf m c) 2 (unit t f) d := by
  unfold accBlk
  refine (pay2_apply _ _ _ _ _ _ q d).trans ?_
  refine congrArg₂ (fun a b : EReal => a + b) rfl (Finset.sum_congr rfl fun f _ => ?_)
  exact congrArg₂ (fun a b : EReal => a * b) (act_blk m z c t hz q f) ((pay11_apply _ f d).trans (blk4 m c t f d))

/-! ### The state, point by point -/

/-- The state before a point, as the point before left it. -/
abbrev prev (c : Dev nD) (t : Fin cfg0.N) := outsAt0 m c (t.val - 1) (Nat.lt_of_le_of_lt (Nat.sub_le _ _) t.isLt)

theorem even_xn (c : Dev nD) (t : Fin cfg0.N) (h : t.val % 2 = 0) :
    (outsAt0 m c t.val t.isLt).2.2.2.2.2.2.1 = k0_pay9 (F := Ideal) (iblk m c 0 t) (iblk m c 1 t) := by
  by_cases h0 : t.val % 16 = 0
  · rw [outsAt0_A m c t h0 h (by omega)]
    frame_out
  · rw [outsAt0_C m c t h0 h (by omega)]
    frame_out

theorem even_acc (c : Dev nD) (t : Fin cfg0.N) (h : t.val % 2 = 0) :
    (outsAt0 m c t.val t.isLt).2.2.2.2.2.2.2
      = accBlk m (k0_pay9 (F := Ideal) (iblk m c 0 t) (iblk m c 1 t)) c t (k0_pay10 (F := Ideal)) := by
  by_cases h0 : t.val % 16 = 0
  · rw [outsAt0_A m c t h0 h (by omega)]
    frame_out
    rfl
  · rw [outsAt0_C m c t h0 h (by omega)]
    frame_out
    rfl

theorem even_hg (c : Dev nD) (t : Fin cfg0.N) (h : t.val % 2 = 0) :
    (outsAt0 m c t.val t.isLt).2.2.1 = k0_pay14 (F := Ideal) (k0_pay9 (iblk m c 0 t) (iblk m c 1 t)) (iblk m c 2 t) := by
  by_cases h0 : t.val % 16 = 0
  · rw [outsAt0_A m c t h0 h (by omega)]
    frame_out
  · rw [outsAt0_C m c t h0 h (by omega)]
    frame_out

theorem even_hu (c : Dev nD) (t : Fin cfg0.N) (h : t.val % 2 = 0) :
    (outsAt0 m c t.val t.isLt).2.2.2.1 = k0_pay15 (F := Ideal) (k0_pay9 (iblk m c 0 t) (iblk m c 1 t)) (iblk m c 3 t) := by
  by_cases h0 : t.val % 16 = 0
  · rw [outsAt0_A m c t h0 h (by omega)]
    frame_out
  · rw [outsAt0_C m c t h0 h (by omega)]
    frame_out

theorem even_act (c : Dev nD) (t : Fin cfg0.N) (h : t.val % 2 = 0) :
    (outsAt0 m c t.val t.isLt).2.2.2.2.1 = actBlk m (k0_pay9 (F := Ideal) (iblk m c 0 t) (iblk m c 1 t)) c t := by
  by_cases h0 : t.val % 16 = 0
  · rw [outsAt0_A m c t h0 h (by omega)]
    frame_out
    rfl
  · rw [outsAt0_C m c t h0 h (by omega)]
    frame_out
    rfl

theorem zero_loss (c : Dev nD) (t : Fin cfg0.N) (h : t.val % 16 = 0) :
    (outsAt0 m c t.val t.isLt).2.2.2.2.2.1 = k0_pay8 (F := Ideal) := by
  rw [outsAt0_A m c t h (by omega) (by omega)]
  frame_out

theorem even_loss (c : Dev nD) (t : Fin cfg0.N) (h0 : ¬t.val % 16 = 0) (h : t.val % 2 = 0) :
    (outsAt0 m c t.val t.isLt).2.2.2.2.2.1 = (prev m c t).2.2.2.2.2.1 := by
  rw [outsAt0_C m c t h0 h (by omega)]
  frame_out
  unfold out0_C_12
  simp only [read_unread_whole]

theorem odd_hg (c : Dev nD) (t : Fin cfg0.N) (h : t.val % 2 = 1) :
    (outsAt0 m c t.val t.isLt).2.2.1 = k0_pay14 (F := Ideal) (prev m c t).2.2.2.2.2.2.1 (iblk m c 2 t) := by
  rw [outsAt0_B m c t (by omega) (by omega) h]
  frame_out
  simp only [read_unread_whole]

theorem odd_hu (c : Dev nD) (t : Fin cfg0.N) (h : t.val % 2 = 1) :
    (outsAt0 m c t.val t.isLt).2.2.2.1 = k0_pay15 (F := Ideal) (prev m c t).2.2.2.2.2.2.1 (iblk m c 3 t) := by
  rw [outsAt0_B m c t (by omega) (by omega) h]
  frame_out
  simp only [read_unread_whole]

theorem odd_act (c : Dev nD) (t : Fin cfg0.N) (h : t.val % 2 = 1) :
    (outsAt0 m c t.val t.isLt).2.2.2.2.1 = actBlk m (prev m c t).2.2.2.2.2.2.1 c t := by
  rw [outsAt0_B m c t (by omega) (by omega) h]
  frame_out
  simp only [read_unread_whole]
  rfl

theorem odd_hid (c : Dev nD) (t : Fin cfg0.N) (h : t.val % 2 = 1) :
    (outsAt0 m c t.val t.isLt).1 = accBlk m (prev m c t).2.2.2.2.2.2.1 c t (prev m c t).2.2.2.2.2.2.2 := by
  rw [outsAt0_B m c t (by omega) (by omega) h]
  frame_out
  simp only [read_unread_whole]
  rfl

theorem odd_dy (c : Dev nD) (t : Fin cfg0.N) (h : t.val % 2 = 1) :
    (outsAt0 m c t.val t.isLt).2.1 = k0_pay4 (F := Ideal) (k0_pay5
      (accBlk m (prev m c t).2.2.2.2.2.2.1 c t (prev m c t).2.2.2.2.2.2.2) (iblk m c 0 t) (iblk m c 5 t) (iblk m c 6 t)) := by
  rw [outsAt0_B m c t (by omega) (by omega) h]
  frame_out
  simp only [read_unread_whole]
  rfl

theorem odd_loss (c : Dev nD) (t : Fin cfg0.N) (h : t.val % 2 = 1) :
    (outsAt0 m c t.val t.isLt).2.2.2.2.2.1 = k0_pay3 (F := Ideal) (k0_pay6 (prev m c t).2.2.2.2.2.1) (k0_pay7
      (accBlk m (prev m c t).2.2.2.2.2.2.1 c t (prev m c t).2.2.2.2.2.2.2) (iblk m c 0 t) (iblk m c 5 t) (iblk m c 6 t))
      (Scalar.ofBits .f32 0x3A000000#32) := by
  rw [outsAt0_B m c t (by omega) (by omega) h]
  frame_out
  simp only [read_unread_whole]
  rfl

end Cert.Kernel3Ideal.Ffn
-- ==== Proof.Ffn.Ref.lean ====
/-
The reference of the last feed-forward step and the loss, read place by place: its six results are the tables that the
module before names.
-/
module

public import proofs.«01_k».proof.Proof.Ffn.Spec
public import proofs.«01_k».proof.Proof.Gen.Reference3Ideal.Read
public import Idealize.ShloMosaic.Lib.Pointwise

@[expose] public section

set_option maxRecDepth 16384

noncomputable section

namespace Cert.Kernel3Ideal.Ffn

open Idealize.ShloMosaic Idealize.ShloMosaic.TcCoe
open Cert.Reference3Ideal Cert.Reference3Ideal.Read

variable (a : In)

theorem ref_w0 (f : Fin 2816) (d : Fin 1024) : val_main_v12 (F := Ideal) a.w (ix2 d f) = wrow a 0 f d := by
  unfold wrow
  pointwise [val_main_v12, val_main_v3, val_main_v2, val_main_v1, val_main_v0]

theorem ref_w1 (f : Fin 2816) (d : Fin 1024) : val_main_v13 (F := Ideal) a.w (ix2 d f) = wrow a 1 f d := by
  unfold wrow
  pointwise [val_main_v13, val_main_v7, val_main_v6, val_main_v5, val_main_v4]

theorem ref_w2 (f : Fin 2816) (d : Fin 1024) : val_main_v11 (F := Ideal) a.w (ix2 f d) = wrow a 2 f d := by
  unfold wrow
  pointwise [val_main_v11, val_main_v10, val_main_v9, val_main_v8]

theorem ref_xn (r : Fin 4096) (d : Fin 1024) : val_main_v25 (F := Ideal) a.x a.g (ix2 r d) = xn a r d := by
  unfold xn norm ceps
  rw [← div1024]
  pointwise [val_main_v25, val_main_v24, val_main_v23, val_main_v22, val_main_v21, val_main_v20, val_main_v19, val_main_v18,
    val_main_v17, val_main_v16, val_main_v15, val_main_v14, val_main_cst, val_main_cst_0, val_main_cst_1]

theorem ref_hg (r : Fin 4096) (f : Fin 2816) : val_main_v26 (F := Ideal) a.x a.g a.w (ix2 r f) = proj a 0 r f := by
  unfold proj
  simp only [← ref_xn, ← ref_w0]
  pointwise [val_main_v26]

theorem ref_hu (r : Fin 4096) (f : Fin 2816) : val_main_v27 (F := Ideal) a.x a.g a.w (ix2 r f) = proj a 1 r f := by
  unfold proj
  simp only [← ref_xn, ← ref_w1]
  pointwise [val_main_v27]

theorem ref_act (r : Fin 4096) (f : Fin 2816) : val_main_v29 (F := Ideal) a.x a.g a.w (ix2 r f) = act a r f := by
  unfold act gated cone
  rw [← ref_hg, ← ref_hu]
  pointwise [val_main_v29, val_main_v28, val_main_call0_v5, val_main_call0_v4, val_main_call0_v3, val_main_call0_v2,
    val_main_call0_v1, val_main_call0_v0, val_main_call0_cst, val_main_call0_cst_0]

theorem ref_hid (r : Fin 4096) (d : Fin 1024) : val_main_v30 (F := Ideal) a.x a.g a.w (ix2 r d) = hid a r d := by
  unfold hid
  simp only [← ref_act, ← ref_w2]
  pointwise [val_main_v30]

theorem ref_norm (r : Fin 4096) (d : Fin 1024) : val_main_v42 (F := Ideal) a.x a.g a.w a.p (ix2 r d)
    = norm (fun k => hid a r k) (fun k => a.p (ix2 0 k)) d := by
  unfold norm ceps
  rw [← div1024]
  simp only [← ref_hid]
  pointwise [val_main_v42, val_main_v41, val_main_v40, val_main_v39, val_main_v38, val_main_v37, val_main_v36, val_main_v35,
    val_main_v34, val_main_v33, val_main_v32, val_main_v31, val_main_cst_2, val_main_cst_3, val_main_cst_4]

theorem ref_err (r : Fin 4096) (d : Fin 1024) : val_main_v46 (F := Ideal) a.x a.g a.w a.p a.y (ix2 r d) = err a r d := by
  unfold err errOf chalf
  rw [← ref_norm]
  pointwise [val_main_v46, val_main_v45, val_main_v44, val_main_v43, val_main_cst_5]

theorem ref_dy (r : Fin 4096) (d : Fin 1024) :
    val_main_v70 (F := Ideal) a.x a.g a.w a.p a.y (ix2 r d) = err a r d * c1024 := by
  rw [← grad_scale, ← ref_err]
  pointwise [val_main_v70, val_main_v69, val_main_v68, val_main_v67, val_main_v66, val_main_v65, val_main_v59, val_main_v58,
    val_main_v56, val_main_v46, val_main_cst_17, val_main_cst_16, val_main_cst_15, val_main_cst_10]

theorem ref_lane (l : Fin 128) : val_main_v55 (F := Ideal) a.x a.g a.w a.p a.y (ix2 0 l) = lane a l := by
  rw [lane_eq]
  unfold chalf feat
  simp only [← ref_err, ← div1024]
  pointwise [val_main_v55, val_main_v54, val_main_v53, val_main_v52, val_main_v51, val_main_v50, val_main_v49, val_main_v48,
    val_main_v47, val_main_cst_6, val_main_cst_7, val_main_cst_8, val_main_cst_9]

theorem ref_hg_out (r : Fin 4096) (f : Fin 2816) : val_main_v71 (F := Ideal) a.x a.g a.w (ix2 r f) = proj a 0 r f := by
  rw [← ref_hg]
  pointwise [val_main_v71]

theorem ref_hu_out (r : Fin 4096) (f : Fin 2816) : val_main_v72 (F := Ideal) a.x a.g a.w (ix2 r f) = proj a 1 r f := by
  rw [← ref_hu]
  pointwise [val_main_v72]

theorem ref_act_out (r : Fin 4096) (f : Fin 2816) : val_main_v73 (F := Ideal) a.x a.g a.w (ix2 r f) = act a r f := by
  rw [← ref_act]
  pointwise [val_main_v73]

end Cert.Kernel3Ideal.Ffn
-- ==== Proof.Ffn.Value.lean ====
/-
What the kernel's six result arrays hold at the end, place by place, and that the reference holds the same.
-/
module

public import proofs.«01_k».proof.Proof.Ffn.State
public import proofs.«01_k».proof.Proof.Ffn.Ref
public import proofs.«01_k».proof.Proof.Gen.Kernel3Ideal.Value

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Pipeline

variable (m : (ℓ : Loc nD τ sig) → Buf (Elt Ideal) ℓ)

/-! ### The normalised tokens and the sum over the hidden units -/

theorem xn_even (c : Dev nD) (t : Fin cfg0.N) (h : t.val % 2 = 0) (q : Fin 512) (d : Fin 1024) :
    (outsAt0 m c t.val t.isLt).2.2.2.2.2.2.1 (ix2 q d) = xn (inOf m c) (row t q) d :=
  (congrFun (even_xn m c t h) _).trans (xn_blk m c t q d)

/-- The point before an odd one works on the same tokens. -/
theorem row_prev (t : Fin cfg0.N) (h : t.val % 2 = 1) (hp : t.val - 1 < cfg0.N) (q : Fin 512) :
    row ⟨t.val - 1, hp⟩ q = row t q := by
  refine Fin.ext ?_
  show 512 * ((t.val - 1) / 2) + q.val = 512 * (t.val / 2) + q.val
  omega

theorem prev_xn (c : Dev nD) (t : Fin cfg0.N) (h : t.val % 2 = 1) (q : Fin 512) (d : Fin 1024) :
    (prev m c t).2.2.2.2.2.2.1 (ix2 q d) = xn (inOf m c) (row t q) d := by
  have hp : t.val - 1 < cfg0.N := Nat.lt_of_le_of_lt (Nat.sub_le _ _) t.isLt
  refine (xn_even m c ⟨t.val - 1, hp⟩ (by show (t.val - 1) % 2 = 0; omega) q d).trans ?_
  rw [row_prev t h hp]

theorem prev_acc (c : Dev nD) (t : Fin cfg0.N) (h : t.val % 2 = 1) (q : Fin 512) (d : Fin 1024) :
    (prev m c t).2.2.2.2.2.2.2 (ix2 q d)
      = ∑ f : Fin 1408, act (inOf m c) (row t q) ⟨f.val, by omega⟩ * wrow (inOf m c) 2 ⟨f.val, by omega⟩ d := by
  have hp : t.val - 1 < cfg0.N := Nat.lt_of_le_of_lt (Nat.sub_le _ _) t.isLt
  have he : (⟨t.val - 1, hp⟩ : Fin cfg0.N).val % 2 = 0 := by show (t.val - 1) % 2 = 0; omega
  refine (congrFun (even_acc m c ⟨t.val - 1, hp⟩ he) _).trans ?_
  refine (acc_blk m _ c ⟨t.val - 1, hp⟩ _ (fun q d => xn_blk m c _ q d) q d).trans ?_
  rw [pay10_apply, zero_add]
  refine Finset.sum_congr rfl fun f _ => ?_
  have hu : unit ⟨t.val - 1, hp⟩ f = ⟨f.val, by omega⟩ := by
    refine Fin.ext ?_
    show 1408 * ((t.val - 1) % 2) + f.val = f.val
    omega
  rw [hu, row_prev t h hp]

/-- The sum over the hidden units at an odd point. -/
abbrev accOdd (c : Dev nD) (t : Fin cfg0.N) := accBlk m (prev m c t).2.2.2.2.2.2.1 c t (prev m c t).2.2.2.2.2.2.2

theorem acc_odd (c : Dev nD) (t : Fin cfg0.N) (h : t.val % 2 = 1) (q : Fin 512) (d : Fin 1024) :
    accOdd m c t (ix2 q d) = hid (inOf m c) (row t q) d := by
  refine (acc_blk m _ c t _ (fun q d => prev_xn m c t h q d) q d).trans ?_
  unfold hid
  rw [sum_units, prev_acc m c t h]
  refine congrArg₂ (fun a b : EReal => a + b) rfl (Finset.sum_congr rfl fun f _ => ?_)
  have hu : unit t f = ⟨1408 + f.val, by omega⟩ := by
    refine Fin.ext ?_
    show 1408 * (t.val % 2) + f.val = 1408 + f.val
    omega
  rw [hu]

/-! ### The results, point by point -/

theorem hg_at (c : Dev nD) (t : Fin cfg0.N) (q : Fin 512) (f : Fin 1408) :
    (outsAt0 m c t.val t.isLt).2.2.1 (ix2 q f) = proj (inOf m c) 0 (row t q) (unit t f) := by
  rcases Nat.mod_two_eq_zero_or_one t.val with h | h
  · refine (congrFun (even_hg m c t h) _).trans ((pay14_apply _ _ _).trans ?_)
    exact hg_blk m _ c t (fun q d => xn_blk m c t q d) q f
  · refine (congrFun (odd_hg m c t h) _).trans ((pay14_apply _ _ _).trans ?_)
    exact hg_blk m _ c t (fun q d => prev_xn m c t h q d) q f

theorem hu_at (c : Dev nD) (t : Fin cfg0.N) (q : Fin 512) (f : Fin 1408) :
    (outsAt0 m c t.val t.isLt).2.2.2.1 (ix2 q f) = proj (inOf m c) 1 (row t q) (unit t f) := by
  rcases Nat.mod_two_eq_zero_or_one t.val with h | h
  · refine (congrFun (even_hu m c t h) _).trans ((pay15_apply _ _ _).trans ?_)
    exact hu_blk m _ c t (fun q d => xn_blk m c t q d) q f
  · refine (congrFun (odd_hu m c t h) _).trans ((pay15_apply _ _ _).trans ?_)
    exact hu_blk m _ c t (fun q d => prev_xn m c t h q d) q f

theorem act_at (c : Dev nD) (t : Fin cfg0.N) (q : Fin 512) (f : Fin 1408) :
    (outsAt0 m c t.val t.isLt).2.2.2.2.1 (ix2 q f) = act (inOf m c) (row t q) (unit t f) := by
  rcases Nat.mod_two_eq_zero_or_one t.val with h | h
  · exact (congrFun (even_act m c t h) _).trans (act_blk m _ c t (fun q d => xn_blk m c t q d) q f)
  · exact (congrFun (odd_act m c t h) _).trans (act_blk m _ c t (fun q d => prev_xn m c t h q d) q f)

theorem hid_at (c : Dev nD) (t : Fin cfg0.N) (h : t.val % 2 = 1) (q : Fin 512) (d : Fin 1024) :
    (outsAt0 m c t.val t.isLt).1 (ix2 q d) = hid (inOf m c) (row t q) d :=
  (congrFun (odd_hid m c t h) _).trans (acc_odd m c t h q d)

/-- The error at an odd point. -/
theorem err_odd (c : Dev nD) (t : Fin cfg0.N) (h : t.val % 2 = 1) (q : Fin 512) (d : Fin 1024) :
    k0_pay5 (F := Ideal) (accOdd m c t) (iblk m c 0 t) (iblk m c 5 t) (iblk m c 6 t) (ix2 q d)
      = err (inOf m c) (row t q) d := by
  refine (pay5_apply _ _ _ _ q d).trans ?_
  unfold err
  simp only [acc_odd m c t h, blk0, blk5, blk6]

theorem dy_at (c : Dev nD) (t : Fin cfg0.N) (h : t.val % 2 = 1) (q : Fin 512) (d : Fin 1024) :
    (outsAt0 m c t.val t.isLt).2.1 (ix2 q d) = err (inOf m c) (row t q) d * c1024 := by
  refine (congrFun (odd_dy m c t h) _).trans ((pay4_apply _ _).trans ?_)
  exact congrArg (fun e : EReal => e * c1024) (err_odd m c t h q d)

/-! ### The loss -/

/-- The loss of a lane after a point. -/
def lossAt (c : Dev nD) (n : ℕ) (hn : n < cfg0.N) (l : Fin 128) : EReal := (outsAt0 m c n hn).2.2.2.2.2.1 (ix2 0 l)

theorem loss_odd (c : Dev nD) (b : ℕ) (hb : b < 8) (hn : 2 * b + 1 < cfg0.N) (hp : 2 * b < cfg0.N) (l : Fin 128) :
    lossAt m c (2 * b + 1) hn l = lossAt m c (2 * b) hp l + part (inOf m c) ⟨b, hb⟩ l * clane := by
  have h : (⟨2 * b + 1, hn⟩ : Fin cfg0.N).val % 2 = 1 := by show (2 * b + 1) % 2 = 1; omega
  refine (congrFun (odd_loss m c ⟨2 * b + 1, hn⟩ h) _).trans ((pay3_apply _ _ _ _).trans ?_)
  refine congrArg₂ (fun a b : EReal => a + b) (pay6_apply _ _) (congrArg (fun a : EReal => a * clane) ?_)
  refine (pay7_apply _ _ _ _ l).trans ?_
  unfold part
  refine Finset.sum_congr rfl fun q _ => Finset.sum_congr rfl fun s _ => ?_
  have hr : row ⟨2 * b + 1, hn⟩ q = ⟨512 * b + q.val, by omega⟩ := by
    refine Fin.ext ?_
    show 512 * ((2 * b + 1) / 2) + q.val = 512 * b + q.val
    omega
  have e := err_odd m c ⟨2 * b + 1, hn⟩ h q (feat s l)
  rw [hr] at e
  exact congrArg₂ (fun a b : EReal => a * b) e e

theorem loss_zero (c : Dev nD) (hn : 2 * 0 < cfg0.N) (l : Fin 128) : lossAt m c (2 * 0) hn l = 0 :=
  (congrFun (zero_loss m c ⟨2 * 0, hn⟩ rfl) _).trans (pay8_apply _)

theorem loss_even (c : Dev nD) (b : ℕ) (hb : b + 1 < 8) (hn : 2 * (b + 1) < cfg0.N) (hp : 2 * b + 1 < cfg0.N) (l : Fin 128) :
    lossAt m c (2 * (b + 1)) hn l = lossAt m c (2 * b + 1) hp l :=
  congrFun (even_loss m c ⟨2 * (b + 1), hn⟩ (by show ¬(2 * (b + 1)) % 16 = 0; omega) (by show (2 * (b + 1)) % 2 = 0; omega)) _

/-- The loss after a block: the blocks so far. -/
theorem loss_sum (c : Dev nD) (l : Fin 128) : ∀ (b : ℕ) (hb : b < 8) (hn : 2 * b + 1 < cfg0.N),
    lossAt m c (2 * b + 1) hn l = ∑ s : Fin (b + 1), part (inOf m c) ⟨s.val, by omega⟩ l * clane
  | 0, hb, hn => by
    rw [loss_odd m c 0 hb hn (by omega), loss_zero, zero_add, Fin.sum_univ_one]
    rfl
  | b + 1, hb, hn => by
    rw [loss_odd m c (b + 1) hb hn (by omega), loss_even m c b hb (by omega) (by omega), loss_sum c l b (by omega) (by omega),
      Fin.sum_univ_castSucc (n := b + 1)]
    rfl

theorem loss_last (c : Dev nD) (hn : 15 < cfg0.N) (l : Fin 128) : lossAt m c 15 hn l = lane (inOf m c) l :=
  loss_sum m c l 7 (by omega) hn

/-! ### The arrays -/

theorem ix2_eta {n p : ℕ} (i : Shape.Idx ⟨2, ![n, p]⟩) : i = ix2 (i 0) (i 1) :=
  funext fun a => Fin.cases rfl (fun a => Fin.cases rfl (fun a => a.elim0) a) a

theorem ix2_ext {n p : ℕ} {a a' : Fin n} {b b' : Fin p} (ha : a.val = a'.val) (hb : b.val = b'.val) : ix2 a b = ix2 a' b' := by
  rw [Fin.ext ha, Fin.ext hb]

theorem final7 (c : Dev nD) (r : Fin 4096) (d : Fin 1024) : Value.G7 m c (ix2 r d) = hid (inOf m c) r d := by
  have hN : cfg0.N = 16 := N_0
  have hp : Value.pt7Of (ix2 r d) = 2 * (r.val / 512) + 1 := by
    show 2 * (1 * (r.val / 512 - 0) + 1 * (d.val / 1024 - 0)) + 1 = _
    omega
  have hlt : Value.pt7Of (ix2 r d) < cfg0.N := by omega
  have hl : Value.loc7Of (ix2 r d) = ix2 ⟨r.val % 512, by omega⟩ d := by
    refine (ix2_eta _).trans (ix2_ext rfl ?_)
    show d.val % 1024 = d.val
    omega
  have hr : row ⟨Value.pt7Of (ix2 r d), hlt⟩ ⟨r.val % 512, by omega⟩ = r := by
    refine Fin.ext ?_
    show 512 * (Value.pt7Of (ix2 r d) / 2) + r.val % 512 = r.val
    omega
  unfold Value.G7
  rw [dif_pos hlt, ← Value.outsAt0_sweep m c _ hlt, hl]
  refine (hid_at m c ⟨Value.pt7Of (ix2 r d), hlt⟩ (by show Value.pt7Of (ix2 r d) % 2 = 1; omega) _ _).trans ?_
  rw [hr]

theorem final8 (c : Dev nD) (r : Fin 4096) (d : Fin 1024) : Value.G8 m c (ix2 r d) = err (inOf m c) r d * c1024 := by
  have hN : cfg0.N = 16 := N_0
  have hp : Value.pt8Of (ix2 r d) = 2 * (r.val / 512) + 1 := by
    show 2 * (1 * (r.val / 512 - 0) + 1 * (d.val / 1024 - 0)) + 1 = _
    omega
  have hlt : Value.pt8Of (ix2 r d) < cfg0.N := by omega
  have hl : Value.loc8Of (ix2 r d) = ix2 ⟨r.val % 512, by omega⟩ d := by
    refine (ix2_eta _).trans (ix2_ext rfl ?_)
    show d.val % 1024 = d.val
    omega
  have hr : row ⟨Value.pt8Of (ix2 r d), hlt⟩ ⟨r.val % 512, by omega⟩ = r := by
    refine Fin.ext ?_
    show 512 * (Value.pt8Of (ix2 r d) / 2) + r.val % 512 = r.val
    omega
  unfold Value.G8
  rw [dif_pos hlt, ← Value.outsAt0_sweep m c _ hlt, hl]
  refine (dy_at m c ⟨Value.pt8Of (ix2 r d), hlt⟩ (by show Value.pt8Of (ix2 r d) % 2 = 1; omega) _ _).trans ?_
  rw [hr]

theorem final9 (c : Dev nD) (r : Fin 4096) (f : Fin 2816) : Value.G9 m c (ix2 r f) = proj (inOf m c) 0 r f := by
  have hN : cfg0.N = 16 := N_0
  have hp : Value.pt9Of (ix2 r f) = 2 * (r.val / 512) + f.val / 1408 := by
    show 2 * (r.val / 512 - 0) + 1 * (f.val / 1408 - 0) = _
    omega
  have hlt : Value.pt9Of (ix2 r f) < cfg0.N := by omega
  have hl : Value.loc9Of (ix2 r f) = ix2 ⟨r.val % 512, by omega⟩ ⟨f.val % 1408, by omega⟩ := ix2_eta _
  have hr : row ⟨Value.pt9Of (ix2 r f), hlt⟩ ⟨r.val % 512, by omega⟩ = r := by
    refine Fin.ext ?_
    show 512 * (Value.pt9Of (ix2 r f) / 2) + r.val % 512 = r.val
    omega
  have hu : unit ⟨Value.pt9Of (ix2 r f), hlt⟩ ⟨f.val % 1408, by omega⟩ = f := by
    refine Fin.ext ?_
    show 1408 * (Value.pt9Of (ix2 r f) % 2) + f.val % 1408 = f.val
    omega
  unfold Value.G9
  rw [dif_pos hlt, ← Value.outsAt0_sweep m c _ hlt, hl]
  refine (hg_at m c ⟨Value.pt9Of (ix2 r f), hlt⟩ _ _).trans ?_
  rw [hr, hu]

theorem final10 (c : Dev nD) (r : Fin 4096) (f : Fin 2816) : Value.G10 m c (ix2 r f) = proj (inOf m c) 1 r f := by
  have hN : cfg0.N = 16 := N_0
  have hp : Value.pt10Of (ix2 r f) = 2 * (r.val / 512) + f.val / 1408 := by
    show 2 * (r.val / 512 - 0) + 1 * (f.val / 1408 - 0) = _
    omega
  have hlt : Value.pt10Of (ix2 r f) < cfg0.N := by omega
  have hl : Value.loc10Of (ix2 r f) = ix2 ⟨r.val % 512, by omega⟩ ⟨f.val % 1408, by omega⟩ := ix2_eta _
  have hr : row ⟨Value.pt10Of (ix2 r f), hlt⟩ ⟨r.val % 512, by omega⟩ = r := by
    refine Fin.ext ?_
    show 512 * (Value.pt10Of (ix2 r f) / 2) + r.val % 512 = r.val
    omega
  have hu : unit ⟨Value.pt10Of (ix2 r f), hlt⟩ ⟨f.val % 1408, by omega⟩ = f := by
    refine Fin.ext ?_
    show 1408 * (Value.pt10Of (ix2 r f) % 2) + f.val % 1408 = f.val
    omega
  unfold Value.G10
  rw [dif_pos hlt, ← Value.outsAt0_sweep m c _ hlt, hl]
  refine (hu_at m c ⟨Value.pt10Of (ix2 r f), hlt⟩ _ _).trans ?_
  rw [hr, hu]

theorem final11 (c : Dev nD) (r : Fin 4096) (f : Fin 2816) : Value.G11 m c (ix2 r f) = act (inOf m c) r f := by
  have hN : cfg0.N = 16 := N_0
  have hp : Value.pt11Of (ix2 r f) = 2 * (r.val / 512) + f.val / 1408 := by
    show 2 * (r.val / 512 - 0) + 1 * (f.val / 1408 - 0) = _
    omega
  have hlt : Value.pt11Of (ix2 r f) < cfg0.N := by omega
  have hl : Value.loc11Of (ix2 r f) = ix2 ⟨r.val % 512, by omega⟩ ⟨f.val % 1408, by omega⟩ := ix2_eta _
  have hr : row ⟨Value.pt11Of (ix2 r f), hlt⟩ ⟨r.val % 512, by omega⟩ = r := by
    refine Fin.ext ?_
    show 512 * (Value.pt11Of (ix2 r f) / 2) + r.val % 512 = r.val
    omega
  have hu : unit ⟨Value.pt11Of (ix2 r f), hlt⟩ ⟨f.val % 1408, by omega⟩ = f := by
    refine Fin.ext ?_
    show 1408 * (Value.pt11Of (ix2 r f) % 2) + f.val % 1408 = f.val
    omega
  unfold Value.G11
  rw [dif_pos hlt, ← Value.outsAt0_sweep m c _ hlt, hl]
  refine (act_at m c ⟨Value.pt11Of (ix2 r f), hlt⟩ _ _).trans ?_
  rw [hr, hu]

theorem final12 (c : Dev nD) (l : Fin 128) : Value.G12 m c (ix2 0 l) = lane (inOf m c) l := by
  have hN : cfg0.N = 16 := N_0
  rw [Value.G12_last, ← Value.outsAt0_sweep m c 15 (by omega)]
  exact loss_last m c (by omega) l

/-! ### The arrays are the reference's -/

open Cert.Reference3Ideal.Read in
theorem ref7 (c : Dev nD) : Value.G7 m c
    = val_main_v30 (F := Ideal) (inOf m c).x (inOf m c).g (inOf m c).w := by
  funext i
  rw [ix2_eta i]
  exact (final7 m c _ _).trans (ref_hid _ _ _).symm

open Cert.Reference3Ideal.Read in
theorem ref8 (c : Dev nD) : Value.G8 m c
    = val_main_v70 (F := Ideal) (inOf m c).x (inOf m c).g (inOf m c).w (inOf m c).p (inOf m c).y := by
  funext i
  rw [ix2_eta i]
  exact (final8 m c _ _).trans (ref_dy _ _ _).symm

open Cert.Reference3Ideal.Read in
theorem ref9 (c : Dev nD) : Value.G9 m c
    = val_main_v71 (F := Ideal) (inOf m c).x (inOf m c).g (inOf m c).w := by
  funext i
  rw [ix2_eta i]
  exact (final9 m c _ _).trans (ref_hg_out _ _ _).symm

open Cert.Reference3Ideal.Read in
theorem ref10 (c : Dev nD) : Value.G10 m c
    = val_main_v72 (F := Ideal) (inOf m c).x (inOf m c).g (inOf m c).w := by
  funext i
  rw [ix2_eta i]
  exact (final10 m c _ _).trans (ref_hu_out _ _ _).symm

open Cert.Reference3Ideal.Read in
theorem ref11 (c : Dev nD) : Value.G11 m c
    = val_main_v73 (F := Ideal) (inOf m c).x (inOf m c).g (inOf m c).w := by
  funext i
  rw [ix2_eta i]
  exact (final11 m c _ _).trans (ref_act_out _ _ _).symm

open Cert.Reference3Ideal.Read in
theorem ref12 (c : Dev nD) : Value.G12 m c
    = val_main_v55 (F := Ideal) (inOf m c).x (inOf m c).g (inOf m c).w (inOf m c).p (inOf m c).y := by
  funext i
  have hi : i = ix2 0 (i 1) := (ix2_eta i).trans (ix2_ext (Nat.lt_one_iff.mp (i 0).isLt) rfl)
  rw [hi]
  exact (final12 m c _).trans (ref_lane _ _).symm

end Cert.Kernel3Ideal.Ffn
-- ==== Proof.Dw.Up.lean ====
/-
The gradient of ffn1's up matrix: a product over the tokens, taken in two halves of 2048 tokens and for two halves of the
hidden units; a third operand orders the call after another and is not read. What the kernel's result array holds is, at each place, the sum over all 4096 tokens.
-/
module

public import proofs.«01_k».proof.Proof.Gen.Kernel4Ideal.Value
public import proofs.«01_k».proof.Proof.Gen.Reference4Ideal.Read
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pipeline.FrameBody
public import Idealize.ShloMosaic.Lib.Pipeline.ReadBack
public import Idealize.ShloMosaic.Lib.Pointwise

@[expose] public section

set_option maxRecDepth 16384

noncomputable section

namespace Cert.Kernel4Ideal.Dw

open Cert.Kernel4Ideal Cert.Kernel4Ideal.Gen
open Idealize.ShloMosaic Idealize.ShloMosaic.TcCoe Idealize.ShloMosaic.Pipeline

/-- What a block product is at a place: the sum over the 2048 tokens of the blocks. -/
theorem pay1_apply (x : Vec Ideal S2048x1408 .bf16) (y : Vec Ideal S2048x1024 .bf16) (j : S1408x1024.Idx) :
    k0_pay1 (F := Ideal) x y j = ∑ k : Fin 2048, x (ix2 k (j 0)) * y (ix2 k (j 1)) := by
  unfold k0_pay1
  pointwise

theorem ix2_ext {n p : ℕ} {a a' : Fin n} {b b' : Fin p} (ha : a.val = a'.val) (hb : b.val = b'.val) : ix2 a b = ix2 a' b' := by
  rw [Fin.ext ha, Fin.ext hb]

variable (m : (ℓ : Loc nD τ sig) → Buf (Elt Ideal) ℓ)

/-- After an even point the accumulator holds the product of the point's blocks. -/
theorem acc_even (c : Dev nD) (t : Fin cfg0.N) (h : t.val % 2 = 0) :
    (outsAt0 m c t.val t.isLt).2 = k0_pay1 (F := Ideal) (iblk m c 0 t) (iblk m c 1 t) := by
  rw [outsAt0_A m c t h (by omega) (by omega)]
  frame_out
  funext j
  pointwise [k0_pay2]

/-- At an odd point the block written back is the accumulator before it and the product of the point's blocks, added. -/
theorem out_odd (c : Dev nD) (t : Fin cfg0.N) (h : t.val % 2 = 1) :
    (outsAt0 m c t.val t.isLt).1 = addf (F := Ideal) ((outsAt0 m c (t.val - 1) (Nat.lt_of_le_of_lt (Nat.sub_le _ _) t.isLt)).2)
      (k0_pay1 (F := Ideal) (iblk m c 0 t) (iblk m c 1 t)) := by
  rw [outsAt0_B m c t (by omega) h h]
  frame_out
  simp only [read_unread_whole]
  funext j
  pointwise [k0_pay3, k0_pay4]

/-- The block indices of the two operands at a point. -/
theorem idx : ∀ t : Fin cfg0.N, win0_0.index t = ![t.val % 2, t.val / 2] ∧ win0_1.index t = ![t.val % 2, 0] := by
  decide +kernel

theorem blk0 (c : Dev nD) (t : Fin cfg0.N) (k : Fin 2048) (r : Fin 1408) (h0 : 2048 * (t.val % 2) + k.val < 4096)
    (h1 : 1408 * (t.val / 2) + r.val < 2816) :
    iblk m c 0 t (ix2 k r) = m ((c.tc : Thread nD τ).loc main_arg0) (ix2 ⟨2048 * (t.val % 2) + k.val, h0⟩ ⟨1408 * (t.val / 2) + r.val, h1⟩) := by
  blk_ext [iblk, V, idx t]

theorem blk1 (c : Dev nD) (t : Fin cfg0.N) (k : Fin 2048) (s : Fin 1024) (h0 : 2048 * (t.val % 2) + k.val < 4096) :
    iblk m c 1 t (ix2 k s) = m ((c.tc : Thread nD τ).loc main_arg1) (ix2 ⟨2048 * (t.val % 2) + k.val, h0⟩ s) := by
  blk_ext [iblk, V, idx t]

/-- A sum over the 4096 tokens is the sum over the first 2048 and the sum over the last 2048. -/
theorem sum_halves (g : Fin 4096 → EReal) : ∑ k : Fin 4096, g k
    = (∑ k : Fin 2048, g ⟨k.val, by omega⟩) + ∑ k : Fin 2048, g ⟨2048 + k.val, by omega⟩ :=
  Fin.sum_univ_add (a := 2048) (b := 2048) g

/-- The gradient: at hidden unit `i 0` and model lane `i 1`, the product of the two arrays summed over all tokens. -/
def dW (x : S4096x2816.Idx → EReal) (y : S4096x1024.Idx → EReal) (i : S2816x1024.Idx) : EReal :=
  ∑ k : Fin 4096, x (ix2 k (i 0)) * y (ix2 k (i 1))

theorem idx2 : ∀ t : Fin cfg0.N, win0_2.index t = ![t.val / 2, 0] := by
  decide +kernel

/-- What the result array holds after the run. -/
theorem final (c : Dev nD) : (dats m 0 c).arrAt 2 cfg0.N
    = dW (m ((c.tc : Thread nD τ).loc main_arg0)) (m ((c.tc : Thread nD τ).loc main_arg1)) := by
  refine (dats m 0 c).arrAt_eq_of_covers 2 _ (by decide +kernel) fun t hf y => ?_
  have ht : t.val % 2 = 1 := (flush0_2 t).mp hf
  have hN : t.val < 4 := lt_of_lt_of_eq t.isLt N_0
  have hy0 : (y 0).val < 1408 := (y 0).isLt
  have hy1 : (y 1).val < 1024 := (y 1).isLt
  have hpre : t.val - 1 < cfg0.N := Nat.lt_of_le_of_lt (Nat.sub_le _ _) t.isLt
  have e1 := out_odd m c t ht
  have e0 := acc_even m c ⟨t.val - 1, hpre⟩ (by show (t.val - 1) % 2 = 0; omega)
  have eb : ((cfg0.win 2).blk t).view.emb y = ix2 ⟨1408 * (t.val / 2) + (y 0).val, by omega⟩ ⟨(y 1).val, hy1⟩ := by
    blk_ext [idx2 t]
  rw [eb]
  blk_simp
  rw [after0_2]
  refine (congrFun e1 _).trans ?_
  refine (congrArg (fun z : Vec Ideal S1408x1024 .f32 => addf (F := Ideal) z _ y) e0).trans ?_
  refine (congrArg₂ (fun a b : EReal => a + b) (pay1_apply _ _ _) (pay1_apply _ _ _)).trans ?_
  unfold dW
  rw [sum_halves]
  refine congrArg₂ (fun a b : EReal => a + b) (Finset.sum_congr rfl fun k _ => ?_) (Finset.sum_congr rfl fun k _ => ?_)
  · have hk : k.val < 2048 := k.isLt
    refine congrArg₂ (fun a b : EReal => a * b) ?_ ?_
    · refine (blk0 m c ⟨t.val - 1, hpre⟩ k _ (by show 2048 * ((t.val - 1) % 2) + k.val < 4096; omega)
        (by show 1408 * ((t.val - 1) / 2) + (y 0).val < 2816; omega)).trans (congrArg _ ?_)
      refine ix2_ext ?_ ?_
      · show 2048 * ((t.val - 1) % 2) + k.val = k.val; omega
      · show 1408 * ((t.val - 1) / 2) + (y 0).val = 1408 * (t.val / 2) + (y 0).val; omega
    · refine (blk1 m c ⟨t.val - 1, hpre⟩ k _ (by show 2048 * ((t.val - 1) % 2) + k.val < 4096; omega)).trans
        (congrArg _ ?_)
      refine ix2_ext ?_ rfl
      show 2048 * ((t.val - 1) % 2) + k.val = k.val; omega
  · have hk : k.val < 2048 := k.isLt
    refine congrArg₂ (fun a b : EReal => a * b) ?_ ?_
    · refine (blk0 m c t k _ (by omega) (by show 1408 * (t.val / 2) + (y 0).val < 2816; omega)).trans (congrArg _ ?_)
      refine ix2_ext ?_ rfl
      show 2048 * (t.val % 2) + k.val = 2048 + k.val; omega
    · refine (blk1 m c t k _ (by omega)).trans (congrArg _ ?_)
      refine ix2_ext ?_ rfl
      show 2048 * (t.val % 2) + k.val = 2048 + k.val; omega

/-- The reference's result at a place: the same sum. -/
theorem ref_apply (x : (⟨S4096x2816, .bf16⟩ : BufTy).Contents (Elt Ideal)) (y : (⟨S4096x1024, .bf16⟩ : BufTy).Contents (Elt Ideal))
    (i : S2816x1024.Idx) : Cert.Reference4Ideal.Read.val_main_v7 (F := Ideal) x y i
      = dW x y i := by
  rw [Cert.Reference4Ideal.Read.val_main_v7_apply, Cert.Reference4Ideal.Read.val_main_v6_apply,
    Cert.Reference4Ideal.Read.val_main_v5_apply]
  refine (Cert.Reference4Ideal.Read.val_main_v4_apply x y _).trans (Finset.sum_congr rfl fun k _ => ?_)
  refine congrArg₂ (fun a b : EReal => a * b) (congrArg x ?_) (congrArg y ?_) <;>
    exact funext fun a => Fin.cases rfl (fun a => Fin.cases rfl (fun a => a.elim0) a) a

/-- The kernel's result array is the reference's. -/
theorem final_ref (c : Dev nD) : (dats m 0 c).arrAt 2 cfg0.N = Cert.Reference4Ideal.Read.val_main_v7 (F := Ideal)
    (m ((c.tc : Thread nD τ).loc main_arg0)) (m ((c.tc : Thread nD τ).loc main_arg1)) :=
  (final m c).trans (funext fun i => (ref_apply _ _ i).symm)

end Cert.Kernel4Ideal.Dw

end
-- ==== Proof.Dw.Qkv.lean ====
/-
The gradient of the mixer's qkv projection: a product over the tokens, taken in two halves of 2048 tokens and for three
blocks of 1024 rows. What the kernel's result array holds is, at each place, the sum over all 4096 tokens.
-/
module

public import proofs.«01_k».proof.Proof.Gen.Kernel7Ideal.Value
public import proofs.«01_k».proof.Proof.Gen.Reference7Ideal.Read
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pipeline.FrameBody
public import Idealize.ShloMosaic.Lib.Pipeline.ReadBack
public import Idealize.ShloMosaic.Lib.Pointwise

@[expose] public section

set_option maxRecDepth 16384

noncomputable section

namespace Cert.Kernel7Ideal.Dw

open Cert.Kernel7Ideal Cert.Kernel7Ideal.Gen
open Idealize.ShloMosaic Idealize.ShloMosaic.TcCoe Idealize.ShloMosaic.Pipeline

/-- What a block product is at a place: the sum over the 2048 tokens of the blocks. -/
theorem pay1_apply (x : Vec Ideal S2048x1024 .bf16) (y : Vec Ideal S2048x1024 .bf16) (j : S1024x1024.Idx) :
    k0_pay1 (F := Ideal) x y j = ∑ k : Fin 2048, x (ix2 k (j 0)) * y (ix2 k (j 1)) := by
  unfold k0_pay1
  pointwise

theorem ix2_ext {n p : ℕ} {a a' : Fin n} {b b' : Fin p} (ha : a.val = a'.val) (hb : b.val = b'.val) : ix2 a b = ix2 a' b' := by
  rw [Fin.ext ha, Fin.ext hb]

variable (m : (ℓ : Loc nD τ sig) → Buf (Elt Ideal) ℓ)

/-- After an even point the accumulator holds the product of the point's blocks. -/
theorem acc_even (c : Dev nD) (t : Fin cfg0.N) (h : t.val % 2 = 0) :
    (outsAt0 m c t.val t.isLt).2 = k0_pay1 (F := Ideal) (iblk m c 0 t) (iblk m c 1 t) := by
  rw [outsAt0_A m c t h (by omega) (by omega)]
  frame_out
  funext j
  pointwise [k0_pay2]

/-- At an odd point the block written back is the accumulator before it and the product of the point's blocks, added. -/
theorem out_odd (c : Dev nD) (t : Fin cfg0.N) (h : t.val % 2 = 1) :
    (outsAt0 m c t.val t.isLt).1 = addf (F := Ideal) ((outsAt0 m c (t.val - 1) (Nat.lt_of_le_of_lt (Nat.sub_le _ _) t.isLt)).2)
      (k0_pay1 (F := Ideal) (iblk m c 0 t) (iblk m c 1 t)) := by
  rw [outsAt0_B m c t (by omega) h h]
  frame_out
  simp only [read_unread_whole]
  funext j
  pointwise [k0_pay3, k0_pay4]

/-- The block indices of the two operands at a point. -/
theorem idx : ∀ t : Fin cfg0.N, win0_0.index t = ![t.val % 2, t.val / 2] ∧ win0_1.index t = ![t.val % 2, 0] := by
  decide +kernel

theorem blk0 (c : Dev nD) (t : Fin cfg0.N) (k : Fin 2048) (r : Fin 1024) (h0 : 2048 * (t.val % 2) + k.val < 4096)
    (h1 : 1024 * (t.val / 2) + r.val < 3072) :
    iblk m c 0 t (ix2 k r) = m ((c.tc : Thread nD τ).loc main_arg0) (ix2 ⟨2048 * (t.val % 2) + k.val, h0⟩ ⟨1024 * (t.val / 2) + r.val, h1⟩) := by
  blk_ext [iblk, V, idx t]

theorem blk1 (c : Dev nD) (t : Fin cfg0.N) (k : Fin 2048) (s : Fin 1024) (h0 : 2048 * (t.val % 2) + k.val < 4096) :
    iblk m c 1 t (ix2 k s) = m ((c.tc : Thread nD τ).loc main_arg1) (ix2 ⟨2048 * (t.val % 2) + k.val, h0⟩ s) := by
  blk_ext [iblk, V, idx t]

/-- A sum over the 4096 tokens is the sum over the first 2048 and the sum over the last 2048. -/
theorem sum_halves (g : Fin 4096 → EReal) : ∑ k : Fin 4096, g k
    = (∑ k : Fin 2048, g ⟨k.val, by omega⟩) + ∑ k : Fin 2048, g ⟨2048 + k.val, by omega⟩ :=
  Fin.sum_univ_add (a := 2048) (b := 2048) g

/-- The gradient: at row `i 0` and model lane `i 1`, the product of the two arrays summed over all tokens. -/
def dW (x : S4096x3072.Idx → EReal) (y : S4096x1024.Idx → EReal) (i : S3072x1024.Idx) : EReal :=
  ∑ k : Fin 4096, x (ix2 k (i 0)) * y (ix2 k (i 1))

/-- What the result array holds at a place. -/
theorem final (c : Dev nD) (i : S3072x1024.Idx) : Value.G2 m c i
    = dW (m ((c.tc : Thread nD τ).loc main_arg0)) (m ((c.tc : Thread nD τ).loc main_arg1)) i := by
  have h0 : (i 0).val < 3072 := (i 0).isLt
  have h1 : (i 1).val < 1024 := (i 1).isLt
  have hN : cfg0.N = 6 := N_0
  have hp : Value.pt2Of i = 2 * ((i 0).val / 1024) + 1 := by
    show 2 * (1 * ((i 0).val / 1024 - 0) + 1 * ((i 1).val / 1024 - 0)) + 1 = _
    omega
  have hlt : Value.pt2Of i < cfg0.N := by rw [hp]; omega
  unfold Value.G2
  rw [dif_pos hlt, ← Value.outsAt0_sweep m c _ hlt]
  have hodd : Value.pt2Of i % 2 = 1 := by omega
  have hpre : Value.pt2Of i - 1 < cfg0.N := by omega
  have e1 := out_odd m c ⟨Value.pt2Of i, hlt⟩ hodd
  have e0 := acc_even m c ⟨Value.pt2Of i - 1, hpre⟩ (by show (Value.pt2Of i - 1) % 2 = 0; omega)
  refine (congrFun e1 _).trans ?_
  refine (congrArg (fun z : Vec Ideal S1024x1024 .f32 => addf (F := Ideal) z _ (Value.loc2Of i)) e0).trans ?_
  refine (congrArg₂ (fun a b : EReal => a + b) (pay1_apply _ _ _) (pay1_apply _ _ _)).trans ?_
  unfold dW
  rw [sum_halves]
  refine congrArg₂ (fun a b : EReal => a + b) (Finset.sum_congr rfl fun k _ => ?_) (Finset.sum_congr rfl fun k _ => ?_)
  · have hk : k.val < 2048 := k.isLt
    refine congrArg₂ (fun a b : EReal => a * b) ?_ ?_
    · refine (blk0 m c ⟨Value.pt2Of i - 1, hpre⟩ k _ (by show 2048 * ((Value.pt2Of i - 1) % 2) + k.val < 4096; omega)
        (by show 1024 * ((Value.pt2Of i - 1) / 2) + (i 0).val % 1024 < 3072; omega)).trans (congrArg _ ?_)
      refine ix2_ext ?_ ?_
      · show 2048 * ((Value.pt2Of i - 1) % 2) + k.val = k.val; omega
      · show 1024 * ((Value.pt2Of i - 1) / 2) + (i 0).val % 1024 = (i 0).val; omega
    · refine (blk1 m c ⟨Value.pt2Of i - 1, hpre⟩ k _ (by show 2048 * ((Value.pt2Of i - 1) % 2) + k.val < 4096; omega)).trans
        (congrArg _ ?_)
      refine ix2_ext ?_ ?_
      · show 2048 * ((Value.pt2Of i - 1) % 2) + k.val = k.val; omega
      · show (i 1).val % 1024 = (i 1).val; omega
  · have hk : k.val < 2048 := k.isLt
    refine congrArg₂ (fun a b : EReal => a * b) ?_ ?_
    · refine (blk0 m c ⟨Value.pt2Of i, hlt⟩ k _ (by show 2048 * (Value.pt2Of i % 2) + k.val < 4096; omega)
        (by show 1024 * (Value.pt2Of i / 2) + (i 0).val % 1024 < 3072; omega)).trans (congrArg _ ?_)
      refine ix2_ext ?_ ?_
      · show 2048 * (Value.pt2Of i % 2) + k.val = 2048 + k.val; omega
      · show 1024 * (Value.pt2Of i / 2) + (i 0).val % 1024 = (i 0).val; omega
    · refine (blk1 m c ⟨Value.pt2Of i, hlt⟩ k _ (by show 2048 * (Value.pt2Of i % 2) + k.val < 4096; omega)).trans
        (congrArg _ ?_)
      refine ix2_ext ?_ ?_
      · show 2048 * (Value.pt2Of i % 2) + k.val = 2048 + k.val; omega
      · show (i 1).val % 1024 = (i 1).val; omega

/-- The reference's result at a place: the same sum. -/
theorem ref_apply (x : (⟨S4096x3072, .bf16⟩ : BufTy).Contents (Elt Ideal)) (y : (⟨S4096x1024, .bf16⟩ : BufTy).Contents (Elt Ideal))
    (i : S3072x1024.Idx) : Cert.Reference7Ideal.Read.val_main_v7 (F := Ideal) x y i
      = dW x y i := by
  rw [Cert.Reference7Ideal.Read.val_main_v7_apply, Cert.Reference7Ideal.Read.val_main_v6_apply,
    Cert.Reference7Ideal.Read.val_main_v5_apply]
  refine (Cert.Reference7Ideal.Read.val_main_v4_apply x y _).trans (Finset.sum_congr rfl fun k _ => ?_)
  refine congrArg₂ (fun a b : EReal => a * b) (congrArg x ?_) (congrArg y ?_) <;>
    exact funext fun a => Fin.cases rfl (fun a => Fin.cases rfl (fun a => a.elim0) a) a

/-- The kernel's result array is the reference's. -/
theorem final_ref (c : Dev nD) : Value.G2 m c = Cert.Reference7Ideal.Read.val_main_v7 (F := Ideal)
    (m ((c.tc : Thread nD τ).loc main_arg0)) (m ((c.tc : Thread nD τ).loc main_arg1)) :=
  funext fun i => (final m c i).trans (ref_apply _ _ i).symm

end Cert.Kernel7Ideal.Dw

end
-- ==== Proof.Dw.Out.lean ====
/-
The gradient of the mixer's output matrix: a product over the tokens, taken in two halves of 2048 tokens and for two blocks of
1024 rows. What the kernel's result array holds is, at each place, the sum over all 4096 tokens.
-/
module

public import proofs.«01_k».proof.Proof.Gen.Kernel8Ideal.Value
public import proofs.«01_k».proof.Proof.Gen.Reference8Ideal.Read
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pipeline.FrameBody
public import Idealize.ShloMosaic.Lib.Pipeline.ReadBack
public import Idealize.ShloMosaic.Lib.Pointwise

@[expose] public section

set_option maxRecDepth 16384

noncomputable section

namespace Cert.Kernel8Ideal.Dw

open Cert.Kernel8Ideal Cert.Kernel8Ideal.Gen
open Idealize.ShloMosaic Idealize.ShloMosaic.TcCoe Idealize.ShloMosaic.Pipeline

/-- What a block product is at a place: the sum over the 2048 tokens of the blocks. -/
theorem pay1_apply (x : Vec Ideal S2048x1024 .bf16) (y : Vec Ideal S2048x1024 .bf16) (j : S1024x1024.Idx) :
    k0_pay1 (F := Ideal) x y j = ∑ k : Fin 2048, x (ix2 k (j 0)) * y (ix2 k (j 1)) := by
  unfold k0_pay1
  pointwise

theorem ix2_ext {n p : ℕ} {a a' : Fin n} {b b' : Fin p} (ha : a.val = a'.val) (hb : b.val = b'.val) : ix2 a b = ix2 a' b' := by
  rw [Fin.ext ha, Fin.ext hb]

variable (m : (ℓ : Loc nD τ sig) → Buf (Elt Ideal) ℓ)

/-- After an even point the accumulator holds the product of the point's blocks. -/
theorem acc_even (c : Dev nD) (t : Fin cfg0.N) (h : t.val % 2 = 0) :
    (outsAt0 m c t.val t.isLt).2 = k0_pay1 (F := Ideal) (iblk m c 0 t) (iblk m c 1 t) := by
  rw [outsAt0_A m c t h (by omega) (by omega)]
  frame_out
  funext j
  pointwise [k0_pay2]

/-- At an odd point the block written back is the accumulator before it and the product of the point's blocks, added. -/
theorem out_odd (c : Dev nD) (t : Fin cfg0.N) (h : t.val % 2 = 1) :
    (outsAt0 m c t.val t.isLt).1 = addf (F := Ideal) ((outsAt0 m c (t.val - 1) (Nat.lt_of_le_of_lt (Nat.sub_le _ _) t.isLt)).2)
      (k0_pay1 (F := Ideal) (iblk m c 0 t) (iblk m c 1 t)) := by
  rw [outsAt0_B m c t (by omega) h h]
  frame_out
  simp only [read_unread_whole]
  funext j
  pointwise [k0_pay3, k0_pay4]

/-- The block indices of the two operands at a point. -/
theorem idx : ∀ t : Fin cfg0.N, win0_0.index t = ![t.val % 2, t.val / 2] ∧ win0_1.index t = ![t.val % 2, 0] := by
  decide +kernel

theorem blk0 (c : Dev nD) (t : Fin cfg0.N) (k : Fin 2048) (r : Fin 1024) (h0 : 2048 * (t.val % 2) + k.val < 4096)
    (h1 : 1024 * (t.val / 2) + r.val < 2048) :
    iblk m c 0 t (ix2 k r) = m ((c.tc : Thread nD τ).loc main_arg0) (ix2 ⟨2048 * (t.val % 2) + k.val, h0⟩ ⟨1024 * (t.val / 2) + r.val, h1⟩) := by
  blk_ext [iblk, V, idx t]

theorem blk1 (c : Dev nD) (t : Fin cfg0.N) (k : Fin 2048) (s : Fin 1024) (h0 : 2048 * (t.val % 2) + k.val < 4096) :
    iblk m c 1 t (ix2 k s) = m ((c.tc : Thread nD τ).loc main_arg1) (ix2 ⟨2048 * (t.val % 2) + k.val, h0⟩ s) := by
  blk_ext [iblk, V, idx t]

/-- A sum over the 4096 tokens is the sum over the first 2048 and the sum over the last 2048. -/
theorem sum_halves (g : Fin 4096 → EReal) : ∑ k : Fin 4096, g k
    = (∑ k : Fin 2048, g ⟨k.val, by omega⟩) + ∑ k : Fin 2048, g ⟨2048 + k.val, by omega⟩ :=
  Fin.sum_univ_add (a := 2048) (b := 2048) g

/-- The gradient: at row `i 0` and model lane `i 1`, the product of the two arrays summed over all tokens. -/
def dW (x : S4096x2048.Idx → EReal) (y : S4096x1024.Idx → EReal) (i : S2048x1024.Idx) : EReal :=
  ∑ k : Fin 4096, x (ix2 k (i 0)) * y (ix2 k (i 1))

/-- What the result array holds at a place. -/
theorem final (c : Dev nD) (i : S2048x1024.Idx) : Value.G2 m c i
    = dW (m ((c.tc : Thread nD τ).loc main_arg0)) (m ((c.tc : Thread nD τ).loc main_arg1)) i := by
  have h0 : (i 0).val < 2048 := (i 0).isLt
  have h1 : (i 1).val < 1024 := (i 1).isLt
  have hN : cfg0.N = 4 := N_0
  have hp : Value.pt2Of i = 2 * ((i 0).val / 1024) + 1 := by
    show 2 * (1 * ((i 0).val / 1024 - 0) + 1 * ((i 1).val / 1024 - 0)) + 1 = _
    omega
  have hlt : Value.pt2Of i < cfg0.N := by rw [hp]; omega
  unfold Value.G2
  rw [dif_pos hlt, ← Value.outsAt0_sweep m c _ hlt]
  have hodd : Value.pt2Of i % 2 = 1 := by omega
  have hpre : Value.pt2Of i - 1 < cfg0.N := by omega
  have e1 := out_odd m c ⟨Value.pt2Of i, hlt⟩ hodd
  have e0 := acc_even m c ⟨Value.pt2Of i - 1, hpre⟩ (by show (Value.pt2Of i - 1) % 2 = 0; omega)
  refine (congrFun e1 _).trans ?_
  refine (congrArg (fun z : Vec Ideal S1024x1024 .f32 => addf (F := Ideal) z _ (Value.loc2Of i)) e0).trans ?_
  refine (congrArg₂ (fun a b : EReal => a + b) (pay1_apply _ _ _) (pay1_apply _ _ _)).trans ?_
  unfold dW
  rw [sum_halves]
  refine congrArg₂ (fun a b : EReal => a + b) (Finset.sum_congr rfl fun k _ => ?_) (Finset.sum_congr rfl fun k _ => ?_)
  · have hk : k.val < 2048 := k.isLt
    refine congrArg₂ (fun a b : EReal => a * b) ?_ ?_
    · refine (blk0 m c ⟨Value.pt2Of i - 1, hpre⟩ k _ (by show 2048 * ((Value.pt2Of i - 1) % 2) + k.val < 4096; omega)
        (by show 1024 * ((Value.pt2Of i - 1) / 2) + (i 0).val % 1024 < 2048; omega)).trans (congrArg _ ?_)
      refine ix2_ext ?_ ?_
      · show 2048 * ((Value.pt2Of i - 1) % 2) + k.val = k.val; omega
      · show 1024 * ((Value.pt2Of i - 1) / 2) + (i 0).val % 1024 = (i 0).val; omega
    · refine (blk1 m c ⟨Value.pt2Of i - 1, hpre⟩ k _ (by show 2048 * ((Value.pt2Of i - 1) % 2) + k.val < 4096; omega)).trans
        (congrArg _ ?_)
      refine ix2_ext ?_ ?_
      · show 2048 * ((Value.pt2Of i - 1) % 2) + k.val = k.val; omega
      · show (i 1).val % 1024 = (i 1).val; omega
  · have hk : k.val < 2048 := k.isLt
    refine congrArg₂ (fun a b : EReal => a * b) ?_ ?_
    · refine (blk0 m c ⟨Value.pt2Of i, hlt⟩ k _ (by show 2048 * (Value.pt2Of i % 2) + k.val < 4096; omega)
        (by show 1024 * (Value.pt2Of i / 2) + (i 0).val % 1024 < 2048; omega)).trans (congrArg _ ?_)
      refine ix2_ext ?_ ?_
      · show 2048 * (Value.pt2Of i % 2) + k.val = 2048 + k.val; omega
      · show 1024 * (Value.pt2Of i / 2) + (i 0).val % 1024 = (i 0).val; omega
    · refine (blk1 m c ⟨Value.pt2Of i, hlt⟩ k _ (by show 2048 * (Value.pt2Of i % 2) + k.val < 4096; omega)).trans
        (congrArg _ ?_)
      refine ix2_ext ?_ ?_
      · show 2048 * (Value.pt2Of i % 2) + k.val = 2048 + k.val; omega
      · show (i 1).val % 1024 = (i 1).val; omega

/-- The reference's result at a place: the same sum. -/
theorem ref_apply (x : (⟨S4096x2048, .bf16⟩ : BufTy).Contents (Elt Ideal)) (y : (⟨S4096x1024, .bf16⟩ : BufTy).Contents (Elt Ideal))
    (i : S2048x1024.Idx) : Cert.Reference8Ideal.Read.val_main_v7 (F := Ideal) x y i
      = dW x y i := by
  rw [Cert.Reference8Ideal.Read.val_main_v7_apply, Cert.Reference8Ideal.Read.val_main_v6_apply,
    Cert.Reference8Ideal.Read.val_main_v5_apply]
  refine (Cert.Reference8Ideal.Read.val_main_v4_apply x y _).trans (Finset.sum_congr rfl fun k _ => ?_)
  refine congrArg₂ (fun a b : EReal => a * b) (congrArg x ?_) (congrArg y ?_) <;>
    exact funext fun a => Fin.cases rfl (fun a => Fin.cases rfl (fun a => a.elim0) a) a

/-- The kernel's result array is the reference's. -/
theorem final_ref (c : Dev nD) : Value.G2 m c = Cert.Reference8Ideal.Read.val_main_v7 (F := Ideal)
    (m ((c.tc : Thread nD τ).loc main_arg0)) (m ((c.tc : Thread nD τ).loc main_arg1)) :=
  funext fun i => (final m c i).trans (ref_apply _ _ i).symm

end Cert.Kernel8Ideal.Dw

end
-- ==== Proof.Dw.Gate.lean ====
/-
The gradient of the mixer's gate projection: a product over the tokens, taken in two halves of 2048 tokens. What the kernel's result array holds is, at each place, the sum over all 4096 tokens.
-/
module

public import proofs.«01_k».proof.Proof.Gen.Kernel9Ideal.Value
public import proofs.«01_k».proof.Proof.Gen.Reference9Ideal.Read
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pipeline.FrameBody
public import Idealize.ShloMosaic.Lib.Pipeline.ReadBack
public import Idealize.ShloMosaic.Lib.Pointwise

@[expose] public section

set_option maxRecDepth 16384

noncomputable section

namespace Cert.Kernel9Ideal.Dw

open Cert.Kernel9Ideal Cert.Kernel9Ideal.Gen
open Idealize.ShloMosaic Idealize.ShloMosaic.TcCoe Idealize.ShloMosaic.Pipeline

/-- What a block product is at a place: the sum over the 2048 tokens of the blocks. -/
theorem pay1_apply (x : Vec Ideal S2048x1024 .bf16) (y : Vec Ideal S2048x1024 .bf16) (j : S1024x1024.Idx) :
    k0_pay1 (F := Ideal) x y j = ∑ k : Fin 2048, x (ix2 k (j 0)) * y (ix2 k (j 1)) := by
  unfold k0_pay1
  pointwise

theorem ix2_ext {n p : ℕ} {a a' : Fin n} {b b' : Fin p} (ha : a.val = a'.val) (hb : b.val = b'.val) : ix2 a b = ix2 a' b' := by
  rw [Fin.ext ha, Fin.ext hb]

variable (m : (ℓ : Loc nD τ sig) → Buf (Elt Ideal) ℓ)

/-- After an even point the accumulator holds the product of the point's blocks. -/
theorem acc_even (c : Dev nD) (t : Fin cfg0.N) (h : t.val % 2 = 0) :
    (outsAt0 m c t.val t.isLt).2 = k0_pay1 (F := Ideal) (iblk m c 0 t) (iblk m c 1 t) := by
  rw [outsAt0_A m c t h (by omega) (by omega)]
  frame_out
  funext j
  pointwise [k0_pay2]

/-- At an odd point the block written back is the accumulator before it and the product of the point's blocks, added. -/
theorem out_odd (c : Dev nD) (t : Fin cfg0.N) (h : t.val % 2 = 1) :
    (outsAt0 m c t.val t.isLt).1 = addf (F := Ideal) ((outsAt0 m c (t.val - 1) (Nat.lt_of_le_of_lt (Nat.sub_le _ _) t.isLt)).2)
      (k0_pay1 (F := Ideal) (iblk m c 0 t) (iblk m c 1 t)) := by
  rw [outsAt0_B m c t (by omega) h h]
  frame_out
  simp only [read_unread_whole]
  funext j
  pointwise [k0_pay3, k0_pay4]

/-- The block indices of the two operands at a point. -/
theorem idx : ∀ t : Fin cfg0.N, win0_0.index t = ![t.val % 2, t.val / 2] ∧ win0_1.index t = ![t.val % 2, 0] := by
  decide +kernel

theorem blk0 (c : Dev nD) (t : Fin cfg0.N) (k : Fin 2048) (r : Fin 1024) (h0 : 2048 * (t.val % 2) + k.val < 4096)
    (h1 : 1024 * (t.val / 2) + r.val < 1024) :
    iblk m c 0 t (ix2 k r) = m ((c.tc : Thread nD τ).loc main_arg0) (ix2 ⟨2048 * (t.val % 2) + k.val, h0⟩ ⟨1024 * (t.val / 2) + r.val, h1⟩) := by
  blk_ext [iblk, V, idx t]

theorem blk1 (c : Dev nD) (t : Fin cfg0.N) (k : Fin 2048) (s : Fin 1024) (h0 : 2048 * (t.val % 2) + k.val < 4096) :
    iblk m c 1 t (ix2 k s) = m ((c.tc : Thread nD τ).loc main_arg1) (ix2 ⟨2048 * (t.val % 2) + k.val, h0⟩ s) := by
  blk_ext [iblk, V, idx t]

/-- A sum over the 4096 tokens is the sum over the first 2048 and the sum over the last 2048. -/
theorem sum_halves (g : Fin 4096 → EReal) : ∑ k : Fin 4096, g k
    = (∑ k : Fin 2048, g ⟨k.val, by omega⟩) + ∑ k : Fin 2048, g ⟨2048 + k.val, by omega⟩ :=
  Fin.sum_univ_add (a := 2048) (b := 2048) g

/-- The gradient: at row `i 0` and model lane `i 1`, the product of the two arrays summed over all tokens. -/
def dW (x : S4096x1024.Idx → EReal) (y : S4096x1024.Idx → EReal) (i : S1024x1024.Idx) : EReal :=
  ∑ k : Fin 4096, x (ix2 k (i 0)) * y (ix2 k (i 1))

/-- What the result array holds at a place. -/
theorem final (c : Dev nD) (i : S1024x1024.Idx) : Value.G2 m c i
    = dW (m ((c.tc : Thread nD τ).loc main_arg0)) (m ((c.tc : Thread nD τ).loc main_arg1)) i := by
  have h0 : (i 0).val < 1024 := (i 0).isLt
  have h1 : (i 1).val < 1024 := (i 1).isLt
  have hN : cfg0.N = 2 := N_0
  have hp : Value.pt2Of i = 2 * ((i 0).val / 1024) + 1 := by
    show 2 * (1 * ((i 0).val / 1024 - 0) + 1 * ((i 1).val / 1024 - 0)) + 1 = _
    omega
  have hlt : Value.pt2Of i < cfg0.N := by rw [hp]; omega
  unfold Value.G2
  rw [dif_pos hlt, ← Value.outsAt0_sweep m c _ hlt]
  have hodd : Value.pt2Of i % 2 = 1 := by omega
  have hpre : Value.pt2Of i - 1 < cfg0.N := by omega
  have e1 := out_odd m c ⟨Value.pt2Of i, hlt⟩ hodd
  have e0 := acc_even m c ⟨Value.pt2Of i - 1, hpre⟩ (by show (Value.pt2Of i - 1) % 2 = 0; omega)
  refine (congrFun e1 _).trans ?_
  refine (congrArg (fun z : Vec Ideal S1024x1024 .f32 => addf (F := Ideal) z _ (Value.loc2Of i)) e0).trans ?_
  refine (congrArg₂ (fun a b : EReal => a + b) (pay1_apply _ _ _) (pay1_apply _ _ _)).trans ?_
  unfold dW
  rw [sum_halves]
  refine congrArg₂ (fun a b : EReal => a + b) (Finset.sum_congr rfl fun k _ => ?_) (Finset.sum_congr rfl fun k _ => ?_)
  · have hk : k.val < 2048 := k.isLt
    refine congrArg₂ (fun a b : EReal => a * b) ?_ ?_
    · refine (blk0 m c ⟨Value.pt2Of i - 1, hpre⟩ k _ (by show 2048 * ((Value.pt2Of i - 1) % 2) + k.val < 4096; omega)
        (by show 1024 * ((Value.pt2Of i - 1) / 2) + (i 0).val % 1024 < 1024; omega)).trans (congrArg _ ?_)
      refine ix2_ext ?_ ?_
      · show 2048 * ((Value.pt2Of i - 1) % 2) + k.val = k.val; omega
      · show 1024 * ((Value.pt2Of i - 1) / 2) + (i 0).val % 1024 = (i 0).val; omega
    · refine (blk1 m c ⟨Value.pt2Of i - 1, hpre⟩ k _ (by show 2048 * ((Value.pt2Of i - 1) % 2) + k.val < 4096; omega)).trans
        (congrArg _ ?_)
      refine ix2_ext ?_ ?_
      · show 2048 * ((Value.pt2Of i - 1) % 2) + k.val = k.val; omega
      · show (i 1).val % 1024 = (i 1).val; omega
  · have hk : k.val < 2048 := k.isLt
    refine congrArg₂ (fun a b : EReal => a * b) ?_ ?_
    · refine (blk0 m c ⟨Value.pt2Of i, hlt⟩ k _ (by show 2048 * (Value.pt2Of i % 2) + k.val < 4096; omega)
        (by show 1024 * (Value.pt2Of i / 2) + (i 0).val % 1024 < 1024; omega)).trans (congrArg _ ?_)
      refine ix2_ext ?_ ?_
      · show 2048 * (Value.pt2Of i % 2) + k.val = 2048 + k.val; omega
      · show 1024 * (Value.pt2Of i / 2) + (i 0).val % 1024 = (i 0).val; omega
    · refine (blk1 m c ⟨Value.pt2Of i, hlt⟩ k _ (by show 2048 * (Value.pt2Of i % 2) + k.val < 4096; omega)).trans
        (congrArg _ ?_)
      refine ix2_ext ?_ ?_
      · show 2048 * (Value.pt2Of i % 2) + k.val = 2048 + k.val; omega
      · show (i 1).val % 1024 = (i 1).val; omega

/-- The reference's result at a place: the same sum. -/
theorem ref_apply (x : (⟨S4096x1024, .bf16⟩ : BufTy).Contents (Elt Ideal)) (y : (⟨S4096x1024, .bf16⟩ : BufTy).Contents (Elt Ideal))
    (i : S1024x1024.Idx) : Cert.Reference9Ideal.Read.val_main_v7 (F := Ideal) x y i
      = dW x y i := by
  rw [Cert.Reference9Ideal.Read.val_main_v7_apply, Cert.Reference9Ideal.Read.val_main_v6_apply,
    Cert.Reference9Ideal.Read.val_main_v5_apply]
  refine (Cert.Reference9Ideal.Read.val_main_v4_apply x y _).trans (Finset.sum_congr rfl fun k _ => ?_)
  refine congrArg₂ (fun a b : EReal => a * b) (congrArg x ?_) (congrArg y ?_) <;>
    exact funext fun a => Fin.cases rfl (fun a => Fin.cases rfl (fun a => a.elim0) a) a

/-- The kernel's result array is the reference's. -/
theorem final_ref (c : Dev nD) : Value.G2 m c = Cert.Reference9Ideal.Read.val_main_v7 (F := Ideal)
    (m ((c.tc : Thread nD τ).loc main_arg0)) (m ((c.tc : Thread nD τ).loc main_arg1)) :=
  funext fun i => (final m c i).trans (ref_apply _ _ i).symm

end Cert.Kernel9Ideal.Dw

end
-- ==== Proof.Dw.Kv.lean ====
/-
The gradient of the latent attention's key and value up-projection: a product over the tokens, taken in two halves of 2048 tokens and
for two blocks of 1024 rows. What the kernel's result array holds is, at each place, the sum over all 4096 tokens.
-/
module

public import proofs.«01_k».proof.Proof.Gen.Kernel12Ideal.Value
public import proofs.«01_k».proof.Proof.Gen.Reference12Ideal.Read
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pipeline.FrameBody
public import Idealize.ShloMosaic.Lib.Pipeline.ReadBack
public import Idealize.ShloMosaic.Lib.Pointwise

@[expose] public section

set_option maxRecDepth 16384

noncomputable section

namespace Cert.Kernel12Ideal.Dw

open Cert.Kernel12Ideal Cert.Kernel12Ideal.Gen
open Idealize.ShloMosaic Idealize.ShloMosaic.TcCoe Idealize.ShloMosaic.Pipeline

/-- What a block product is at a place: the sum over the 2048 tokens of the blocks. -/
theorem pay1_apply (x : Vec Ideal S2048x1024 .bf16) (y : Vec Ideal S2048x128 .bf16) (j : S1024x128.Idx) :
    k0_pay1 (F := Ideal) x y j = ∑ k : Fin 2048, x (ix2 k (j 0)) * y (ix2 k (j 1)) := by
  unfold k0_pay1
  pointwise

theorem ix2_ext {n p : ℕ} {a a' : Fin n} {b b' : Fin p} (ha : a.val = a'.val) (hb : b.val = b'.val) : ix2 a b = ix2 a' b' := by
  rw [Fin.ext ha, Fin.ext hb]

variable (m : (ℓ : Loc nD τ sig) → Buf (Elt Ideal) ℓ)

/-- After an even point the accumulator holds the product of the point's blocks. -/
theorem acc_even (c : Dev nD) (t : Fin cfg0.N) (h : t.val % 2 = 0) :
    (outsAt0 m c t.val t.isLt).2 = k0_pay1 (F := Ideal) (iblk m c 0 t) (iblk m c 1 t) := by
  rw [outsAt0_A m c t h (by omega) (by omega)]
  frame_out
  funext j
  pointwise [k0_pay2]

/-- At an odd point the block written back is the accumulator before it and the product of the point's blocks, added. -/
theorem out_odd (c : Dev nD) (t : Fin cfg0.N) (h : t.val % 2 = 1) :
    (outsAt0 m c t.val t.isLt).1 = addf (F := Ideal) ((outsAt0 m c (t.val - 1) (Nat.lt_of_le_of_lt (Nat.sub_le _ _) t.isLt)).2)
      (k0_pay1 (F := Ideal) (iblk m c 0 t) (iblk m c 1 t)) := by
  rw [outsAt0_B m c t (by omega) h h]
  frame_out
  simp only [read_unread_whole]
  funext j
  pointwise [k0_pay3, k0_pay4]

/-- The block indices of the two operands at a point. -/
theorem idx : ∀ t : Fin cfg0.N, win0_0.index t = ![t.val % 2, t.val / 2] ∧ win0_1.index t = ![t.val % 2, 0] := by
  decide +kernel

theorem blk0 (c : Dev nD) (t : Fin cfg0.N) (k : Fin 2048) (r : Fin 1024) (h0 : 2048 * (t.val % 2) + k.val < 4096)
    (h1 : 1024 * (t.val / 2) + r.val < 2048) :
    iblk m c 0 t (ix2 k r) = m ((c.tc : Thread nD τ).loc main_arg0) (ix2 ⟨2048 * (t.val % 2) + k.val, h0⟩ ⟨1024 * (t.val / 2) + r.val, h1⟩) := by
  blk_ext [iblk, V, idx t]

theorem blk1 (c : Dev nD) (t : Fin cfg0.N) (k : Fin 2048) (s : Fin 128) (h0 : 2048 * (t.val % 2) + k.val < 4096) :
    iblk m c 1 t (ix2 k s) = m ((c.tc : Thread nD τ).loc main_arg1) (ix2 ⟨2048 * (t.val % 2) + k.val, h0⟩ s) := by
  blk_ext [iblk, V, idx t]

/-- A sum over the 4096 tokens is the sum over the first 2048 and the sum over the last 2048. -/
theorem sum_halves (g : Fin 4096 → EReal) : ∑ k : Fin 4096, g k
    = (∑ k : Fin 2048, g ⟨k.val, by omega⟩) + ∑ k : Fin 2048, g ⟨2048 + k.val, by omega⟩ :=
  Fin.sum_univ_add (a := 2048) (b := 2048) g

/-- The gradient: at row `i 0` and model lane `i 1`, the product of the two arrays summed over all tokens. -/
def dW (x : S4096x2048.Idx → EReal) (y : S4096x128.Idx → EReal) (i : S2048x128.Idx) : EReal :=
  ∑ k : Fin 4096, x (ix2 k (i 0)) * y (ix2 k (i 1))

/-- What the result array holds at a place. -/
theorem final (c : Dev nD) (i : S2048x128.Idx) : Value.G2 m c i
    = dW (m ((c.tc : Thread nD τ).loc main_arg0)) (m ((c.tc : Thread nD τ).loc main_arg1)) i := by
  have h0 : (i 0).val < 2048 := (i 0).isLt
  have h1 : (i 1).val < 128 := (i 1).isLt
  have hN : cfg0.N = 4 := N_0
  have hp : Value.pt2Of i = 2 * ((i 0).val / 1024) + 1 := by
    show 2 * (1 * ((i 0).val / 1024 - 0) + 1 * ((i 1).val / 128 - 0)) + 1 = _
    omega
  have hlt : Value.pt2Of i < cfg0.N := by rw [hp]; omega
  unfold Value.G2
  rw [dif_pos hlt, ← Value.outsAt0_sweep m c _ hlt]
  have hodd : Value.pt2Of i % 2 = 1 := by omega
  have hpre : Value.pt2Of i - 1 < cfg0.N := by omega
  have e1 := out_odd m c ⟨Value.pt2Of i, hlt⟩ hodd
  have e0 := acc_even m c ⟨Value.pt2Of i - 1, hpre⟩ (by show (Value.pt2Of i - 1) % 2 = 0; omega)
  refine (congrFun e1 _).trans ?_
  refine (congrArg (fun z : Vec Ideal S1024x128 .f32 => addf (F := Ideal) z _ (Value.loc2Of i)) e0).trans ?_
  refine (congrArg₂ (fun a b : EReal => a + b) (pay1_apply _ _ _) (pay1_apply _ _ _)).trans ?_
  unfold dW
  rw [sum_halves]
  refine congrArg₂ (fun a b : EReal => a + b) (Finset.sum_congr rfl fun k _ => ?_) (Finset.sum_congr rfl fun k _ => ?_)
  · have hk : k.val < 2048 := k.isLt
    refine congrArg₂ (fun a b : EReal => a * b) ?_ ?_
    · refine (blk0 m c ⟨Value.pt2Of i - 1, hpre⟩ k _ (by show 2048 * ((Value.pt2Of i - 1) % 2) + k.val < 4096; omega)
        (by show 1024 * ((Value.pt2Of i - 1) / 2) + (i 0).val % 1024 < 2048; omega)).trans (congrArg _ ?_)
      refine ix2_ext ?_ ?_
      · show 2048 * ((Value.pt2Of i - 1) % 2) + k.val = k.val; omega
      · show 1024 * ((Value.pt2Of i - 1) / 2) + (i 0).val % 1024 = (i 0).val; omega
    · refine (blk1 m c ⟨Value.pt2Of i - 1, hpre⟩ k _ (by show 2048 * ((Value.pt2Of i - 1) % 2) + k.val < 4096; omega)).trans
        (congrArg _ ?_)
      refine ix2_ext ?_ ?_
      · show 2048 * ((Value.pt2Of i - 1) % 2) + k.val = k.val; omega
      · show (i 1).val % 128 = (i 1).val; omega
  · have hk : k.val < 2048 := k.isLt
    refine congrArg₂ (fun a b : EReal => a * b) ?_ ?_
    · refine (blk0 m c ⟨Value.pt2Of i, hlt⟩ k _ (by show 2048 * (Value.pt2Of i % 2) + k.val < 4096; omega)
        (by show 1024 * (Value.pt2Of i / 2) + (i 0).val % 1024 < 2048; omega)).trans (congrArg _ ?_)
      refine ix2_ext ?_ ?_
      · show 2048 * (Value.pt2Of i % 2) + k.val = 2048 + k.val; omega
      · show 1024 * (Value.pt2Of i / 2) + (i 0).val % 1024 = (i 0).val; omega
    · refine (blk1 m c ⟨Value.pt2Of i, hlt⟩ k _ (by show 2048 * (Value.pt2Of i % 2) + k.val < 4096; omega)).trans
        (congrArg _ ?_)
      refine ix2_ext ?_ ?_
      · show 2048 * (Value.pt2Of i % 2) + k.val = 2048 + k.val; omega
      · show (i 1).val % 128 = (i 1).val; omega

/-- The reference's result at a place: the same sum. -/
theorem ref_apply (x : (⟨S4096x2048, .bf16⟩ : BufTy).Contents (Elt Ideal)) (y : (⟨S4096x128, .bf16⟩ : BufTy).Contents (Elt Ideal))
    (i : S2048x128.Idx) : Cert.Reference12Ideal.Read.val_main_v7 (F := Ideal) x y i
      = dW x y i := by
  rw [Cert.Reference12Ideal.Read.val_main_v7_apply, Cert.Reference12Ideal.Read.val_main_v6_apply,
    Cert.Reference12Ideal.Read.val_main_v5_apply]
  refine (Cert.Reference12Ideal.Read.val_main_v4_apply x y _).trans (Finset.sum_congr rfl fun k _ => ?_)
  refine congrArg₂ (fun a b : EReal => a * b) (congrArg x ?_) (congrArg y ?_) <;>
    exact funext fun a => Fin.cases rfl (fun a => Fin.cases rfl (fun a => a.elim0) a) a

/-- The kernel's result array is the reference's. -/
theorem final_ref (c : Dev nD) : Value.G2 m c = Cert.Reference12Ideal.Read.val_main_v7 (F := Ideal)
    (m ((c.tc : Thread nD τ).loc main_arg0)) (m ((c.tc : Thread nD τ).loc main_arg1)) :=
  funext fun i => (final m c i).trans (ref_apply _ _ i).symm

end Cert.Kernel12Ideal.Dw

end
-- ==== Proof.Dw.Uq.lean ====
/-
The gradient of the latent attention's query up-projection: a product over the tokens, taken in two halves of 2048 tokens. What the
kernel's result array holds is, at each place, the sum over all 4096 tokens.
-/
module

public import proofs.«01_k».proof.Proof.Gen.Kernel11Ideal.Value
public import proofs.«01_k».proof.Proof.Gen.Reference11Ideal.Read
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pipeline.FrameBody
public import Idealize.ShloMosaic.Lib.Pipeline.ReadBack
public import Idealize.ShloMosaic.Lib.Pointwise

@[expose] public section

set_option maxRecDepth 16384

noncomputable section

namespace Cert.Kernel11Ideal.Dw

open Cert.Kernel11Ideal Cert.Kernel11Ideal.Gen
open Idealize.ShloMosaic Idealize.ShloMosaic.TcCoe Idealize.ShloMosaic.Pipeline

/-- What a block product is at a place: the sum over the 2048 tokens of the blocks. -/
theorem pay1_apply (x : Vec Ideal S2048x1024 .bf16) (y : Vec Ideal S2048x256 .bf16) (j : S1024x256.Idx) :
    k0_pay1 (F := Ideal) x y j = ∑ k : Fin 2048, x (ix2 k (j 0)) * y (ix2 k (j 1)) := by
  unfold k0_pay1
  pointwise

theorem ix2_ext {n p : ℕ} {a a' : Fin n} {b b' : Fin p} (ha : a.val = a'.val) (hb : b.val = b'.val) : ix2 a b = ix2 a' b' := by
  rw [Fin.ext ha, Fin.ext hb]

variable (m : (ℓ : Loc nD τ sig) → Buf (Elt Ideal) ℓ)

/-- After an even point the accumulator holds the product of the point's blocks. -/
theorem acc_even (c : Dev nD) (t : Fin cfg0.N) (h : t.val % 2 = 0) :
    (outsAt0 m c t.val t.isLt).2 = k0_pay1 (F := Ideal) (iblk m c 0 t) (iblk m c 1 t) := by
  rw [outsAt0_A m c t h (by omega) (by omega)]
  frame_out
  funext j
  pointwise [k0_pay2]

/-- At an odd point the block written back is the accumulator before it and the product of the point's blocks, added. -/
theorem out_odd (c : Dev nD) (t : Fin cfg0.N) (h : t.val % 2 = 1) :
    (outsAt0 m c t.val t.isLt).1 = addf (F := Ideal) ((outsAt0 m c (t.val - 1) (Nat.lt_of_le_of_lt (Nat.sub_le _ _) t.isLt)).2)
      (k0_pay1 (F := Ideal) (iblk m c 0 t) (iblk m c 1 t)) := by
  rw [outsAt0_B m c t (by omega) h h]
  frame_out
  simp only [read_unread_whole]
  funext j
  pointwise [k0_pay3, k0_pay4]

/-- The block indices of the two operands at a point. -/
theorem idx : ∀ t : Fin cfg0.N, win0_0.index t = ![t.val % 2, t.val / 2] ∧ win0_1.index t = ![t.val % 2, 0] := by
  decide +kernel

theorem blk0 (c : Dev nD) (t : Fin cfg0.N) (k : Fin 2048) (r : Fin 1024) (h0 : 2048 * (t.val % 2) + k.val < 4096)
    (h1 : 1024 * (t.val / 2) + r.val < 1024) :
    iblk m c 0 t (ix2 k r) = m ((c.tc : Thread nD τ).loc main_arg0) (ix2 ⟨2048 * (t.val % 2) + k.val, h0⟩ ⟨1024 * (t.val / 2) + r.val, h1⟩) := by
  blk_ext [iblk, V, idx t]

theorem blk1 (c : Dev nD) (t : Fin cfg0.N) (k : Fin 2048) (s : Fin 256) (h0 : 2048 * (t.val % 2) + k.val < 4096) :
    iblk m c 1 t (ix2 k s) = m ((c.tc : Thread nD τ).loc main_arg1) (ix2 ⟨2048 * (t.val % 2) + k.val, h0⟩ s) := by
  blk_ext [iblk, V, idx t]

/-- A sum over the 4096 tokens is the sum over the first 2048 and the sum over the last 2048. -/
theorem sum_halves (g : Fin 4096 → EReal) : ∑ k : Fin 4096, g k
    = (∑ k : Fin 2048, g ⟨k.val, by omega⟩) + ∑ k : Fin 2048, g ⟨2048 + k.val, by omega⟩ :=
  Fin.sum_univ_add (a := 2048) (b := 2048) g

/-- The gradient: at row `i 0` and model lane `i 1`, the product of the two arrays summed over all tokens. -/
def dW (x : S4096x1024.Idx → EReal) (y : S4096x256.Idx → EReal) (i : S1024x256.Idx) : EReal :=
  ∑ k : Fin 4096, x (ix2 k (i 0)) * y (ix2 k (i 1))

/-- What the result array holds at a place. -/
theorem final (c : Dev nD) (i : S1024x256.Idx) : Value.G2 m c i
    = dW (m ((c.tc : Thread nD τ).loc main_arg0)) (m ((c.tc : Thread nD τ).loc main_arg1)) i := by
  have h0 : (i 0).val < 1024 := (i 0).isLt
  have h1 : (i 1).val < 256 := (i 1).isLt
  have hN : cfg0.N = 2 := N_0
  have hp : Value.pt2Of i = 2 * ((i 0).val / 1024) + 1 := by
    show 2 * (1 * ((i 0).val / 1024 - 0) + 1 * ((i 1).val / 256 - 0)) + 1 = _
    omega
  have hlt : Value.pt2Of i < cfg0.N := by rw [hp]; omega
  unfold Value.G2
  rw [dif_pos hlt, ← Value.outsAt0_sweep m c _ hlt]
  have hodd : Value.pt2Of i % 2 = 1 := by omega
  have hpre : Value.pt2Of i - 1 < cfg0.N := by omega
  have e1 := out_odd m c ⟨Value.pt2Of i, hlt⟩ hodd
  have e0 := acc_even m c ⟨Value.pt2Of i - 1, hpre⟩ (by show (Value.pt2Of i - 1) % 2 = 0; omega)
  refine (congrFun e1 _).trans ?_
  refine (congrArg (fun z : Vec Ideal S1024x256 .f32 => addf (F := Ideal) z _ (Value.loc2Of i)) e0).trans ?_
  refine (congrArg₂ (fun a b : EReal => a + b) (pay1_apply _ _ _) (pay1_apply _ _ _)).trans ?_
  unfold dW
  rw [sum_halves]
  refine congrArg₂ (fun a b : EReal => a + b) (Finset.sum_congr rfl fun k _ => ?_) (Finset.sum_congr rfl fun k _ => ?_)
  · have hk : k.val < 2048 := k.isLt
    refine congrArg₂ (fun a b : EReal => a * b) ?_ ?_
    · refine (blk0 m c ⟨Value.pt2Of i - 1, hpre⟩ k _ (by show 2048 * ((Value.pt2Of i - 1) % 2) + k.val < 4096; omega)
        (by show 1024 * ((Value.pt2Of i - 1) / 2) + (i 0).val % 1024 < 1024; omega)).trans (congrArg _ ?_)
      refine ix2_ext ?_ ?_
      · show 2048 * ((Value.pt2Of i - 1) % 2) + k.val = k.val; omega
      · show 1024 * ((Value.pt2Of i - 1) / 2) + (i 0).val % 1024 = (i 0).val; omega
    · refine (blk1 m c ⟨Value.pt2Of i - 1, hpre⟩ k _ (by show 2048 * ((Value.pt2Of i - 1) % 2) + k.val < 4096; omega)).trans
        (congrArg _ ?_)
      refine ix2_ext ?_ ?_
      · show 2048 * ((Value.pt2Of i - 1) % 2) + k.val = k.val; omega
      · show (i 1).val % 256 = (i 1).val; omega
  · have hk : k.val < 2048 := k.isLt
    refine congrArg₂ (fun a b : EReal => a * b) ?_ ?_
    · refine (blk0 m c ⟨Value.pt2Of i, hlt⟩ k _ (by show 2048 * (Value.pt2Of i % 2) + k.val < 4096; omega)
        (by show 1024 * (Value.pt2Of i / 2) + (i 0).val % 1024 < 1024; omega)).trans (congrArg _ ?_)
      refine ix2_ext ?_ ?_
      · show 2048 * (Value.pt2Of i % 2) + k.val = 2048 + k.val; omega
      · show 1024 * (Value.pt2Of i / 2) + (i 0).val % 1024 = (i 0).val; omega
    · refine (blk1 m c ⟨Value.pt2Of i, hlt⟩ k _ (by show 2048 * (Value.pt2Of i % 2) + k.val < 4096; omega)).trans
        (congrArg _ ?_)
      refine ix2_ext ?_ ?_
      · show 2048 * (Value.pt2Of i % 2) + k.val = 2048 + k.val; omega
      · show (i 1).val % 256 = (i 1).val; omega

/-- The reference's result at a place: the same sum. -/
theorem ref_apply (x : (⟨S4096x1024, .bf16⟩ : BufTy).Contents (Elt Ideal)) (y : (⟨S4096x256, .bf16⟩ : BufTy).Contents (Elt Ideal))
    (i : S1024x256.Idx) : Cert.Reference11Ideal.Read.val_main_v7 (F := Ideal) x y i
      = dW x y i := by
  rw [Cert.Reference11Ideal.Read.val_main_v7_apply, Cert.Reference11Ideal.Read.val_main_v6_apply,
    Cert.Reference11Ideal.Read.val_main_v5_apply]
  refine (Cert.Reference11Ideal.Read.val_main_v4_apply x y _).trans (Finset.sum_congr rfl fun k _ => ?_)
  refine congrArg₂ (fun a b : EReal => a * b) (congrArg x ?_) (congrArg y ?_) <;>
    exact funext fun a => Fin.cases rfl (fun a => Fin.cases rfl (fun a => a.elim0) a) a

/-- The kernel's result array is the reference's. -/
theorem final_ref (c : Dev nD) : Value.G2 m c = Cert.Reference11Ideal.Read.val_main_v7 (F := Ideal)
    (m ((c.tc : Thread nD τ).loc main_arg0)) (m ((c.tc : Thread nD τ).loc main_arg1)) :=
  funext fun i => (final m c i).trans (ref_apply _ _ i).symm

end Cert.Kernel11Ideal.Dw

end
-- ==== Proof.Dw.Lat.lean ====
/-
The gradient of the mixer's projection to the latent attention's inputs and the gates' inputs: a product over the tokens, taken in
two halves of 2048 tokens for all 640 rows. What the kernel's result array holds is, at each place, the sum over all 4096 tokens.
-/
module

public import proofs.«01_k».proof.Proof.Gen.Kernel10Ideal.Value
public import proofs.«01_k».proof.Proof.Gen.Reference10Ideal.Read
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pipeline.FrameBody
public import Idealize.ShloMosaic.Lib.Pipeline.ReadBack
public import Idealize.ShloMosaic.Lib.Pointwise

@[expose] public section

set_option maxRecDepth 16384

noncomputable section

namespace Cert.Kernel10Ideal.Dw

open Cert.Kernel10Ideal Cert.Kernel10Ideal.Gen
open Idealize.ShloMosaic Idealize.ShloMosaic.TcCoe Idealize.ShloMosaic.Pipeline

/-- What a block product is at a place: the sum over the 2048 tokens of the blocks. -/
theorem pay1_apply (x : Vec Ideal S2048x640 .bf16) (y : Vec Ideal S2048x1024 .bf16) (j : S640x1024.Idx) :
    k0_pay1 (F := Ideal) x y j = ∑ k : Fin 2048, x (ix2 k (j 0)) * y (ix2 k (j 1)) := by
  unfold k0_pay1
  pointwise

theorem ix2_ext {n p : ℕ} {a a' : Fin n} {b b' : Fin p} (ha : a.val = a'.val) (hb : b.val = b'.val) : ix2 a b = ix2 a' b' := by
  rw [Fin.ext ha, Fin.ext hb]

variable (m : (ℓ : Loc nD τ sig) → Buf (Elt Ideal) ℓ)

/-- After an even point the accumulator holds the product of the point's blocks. -/
theorem acc_even (c : Dev nD) (t : Fin cfg0.N) (h : t.val % 2 = 0) :
    (outsAt0 m c t.val t.isLt).2 = k0_pay1 (F := Ideal) (iblk m c 0 t) (iblk m c 1 t) := by
  rw [outsAt0_A m c t h (by omega) (by omega)]
  frame_out
  funext j
  pointwise [k0_pay2]

/-- At an odd point the block written back is the accumulator before it and the product of the point's blocks, added. -/
theorem out_odd (c : Dev nD) (t : Fin cfg0.N) (h : t.val % 2 = 1) :
    (outsAt0 m c t.val t.isLt).1 = addf (F := Ideal) ((outsAt0 m c (t.val - 1) (Nat.lt_of_le_of_lt (Nat.sub_le _ _) t.isLt)).2)
      (k0_pay1 (F := Ideal) (iblk m c 0 t) (iblk m c 1 t)) := by
  rw [outsAt0_B m c t (by omega) h h]
  frame_out
  simp only [read_unread_whole]
  funext j
  pointwise [k0_pay3, k0_pay4]

/-- The block indices of the two operands at a point. -/
theorem idx : ∀ t : Fin cfg0.N, win0_0.index t = ![t.val % 2, t.val / 2] ∧ win0_1.index t = ![t.val % 2, 0] := by
  decide +kernel

theorem blk0 (c : Dev nD) (t : Fin cfg0.N) (k : Fin 2048) (r : Fin 640) (h0 : 2048 * (t.val % 2) + k.val < 4096)
    (h1 : 640 * (t.val / 2) + r.val < 640) :
    iblk m c 0 t (ix2 k r) = m ((c.tc : Thread nD τ).loc main_arg0) (ix2 ⟨2048 * (t.val % 2) + k.val, h0⟩ ⟨640 * (t.val / 2) + r.val, h1⟩) := by
  blk_ext [iblk, V, idx t]

theorem blk1 (c : Dev nD) (t : Fin cfg0.N) (k : Fin 2048) (s : Fin 1024) (h0 : 2048 * (t.val % 2) + k.val < 4096) :
    iblk m c 1 t (ix2 k s) = m ((c.tc : Thread nD τ).loc main_arg1) (ix2 ⟨2048 * (t.val % 2) + k.val, h0⟩ s) := by
  blk_ext [iblk, V, idx t]

/-- A sum over the 4096 tokens is the sum over the first 2048 and the sum over the last 2048. -/
theorem sum_halves (g : Fin 4096 → EReal) : ∑ k : Fin 4096, g k
    = (∑ k : Fin 2048, g ⟨k.val, by omega⟩) + ∑ k : Fin 2048, g ⟨2048 + k.val, by omega⟩ :=
  Fin.sum_univ_add (a := 2048) (b := 2048) g

/-- The gradient: at row `i 0` and model lane `i 1`, the product of the two arrays summed over all tokens. -/
def dW (x : S4096x640.Idx → EReal) (y : S4096x1024.Idx → EReal) (i : S640x1024.Idx) : EReal :=
  ∑ k : Fin 4096, x (ix2 k (i 0)) * y (ix2 k (i 1))

/-- What the result array holds at a place. -/
theorem final (c : Dev nD) (i : S640x1024.Idx) : Value.G2 m c i
    = dW (m ((c.tc : Thread nD τ).loc main_arg0)) (m ((c.tc : Thread nD τ).loc main_arg1)) i := by
  have h0 : (i 0).val < 640 := (i 0).isLt
  have h1 : (i 1).val < 1024 := (i 1).isLt
  have hN : cfg0.N = 2 := N_0
  have hp : Value.pt2Of i = 2 * ((i 0).val / 640) + 1 := by
    show 2 * (1 * ((i 0).val / 640 - 0) + 1 * ((i 1).val / 1024 - 0)) + 1 = _
    omega
  have hlt : Value.pt2Of i < cfg0.N := by rw [hp]; omega
  unfold Value.G2
  rw [dif_pos hlt, ← Value.outsAt0_sweep m c _ hlt]
  have hodd : Value.pt2Of i % 2 = 1 := by omega
  have hpre : Value.pt2Of i - 1 < cfg0.N := by omega
  have e1 := out_odd m c ⟨Value.pt2Of i, hlt⟩ hodd
  have e0 := acc_even m c ⟨Value.pt2Of i - 1, hpre⟩ (by show (Value.pt2Of i - 1) % 2 = 0; omega)
  refine (congrFun e1 _).trans ?_
  refine (congrArg (fun z : Vec Ideal S640x1024 .f32 => addf (F := Ideal) z _ (Value.loc2Of i)) e0).trans ?_
  refine (congrArg₂ (fun a b : EReal => a + b) (pay1_apply _ _ _) (pay1_apply _ _ _)).trans ?_
  unfold dW
  rw [sum_halves]
  refine congrArg₂ (fun a b : EReal => a + b) (Finset.sum_congr rfl fun k _ => ?_) (Finset.sum_congr rfl fun k _ => ?_)
  · have hk : k.val < 2048 := k.isLt
    refine congrArg₂ (fun a b : EReal => a * b) ?_ ?_
    · refine (blk0 m c ⟨Value.pt2Of i - 1, hpre⟩ k _ (by show 2048 * ((Value.pt2Of i - 1) % 2) + k.val < 4096; omega)
        (by show 640 * ((Value.pt2Of i - 1) / 2) + (i 0).val % 640 < 640; omega)).trans (congrArg _ ?_)
      refine ix2_ext ?_ ?_
      · show 2048 * ((Value.pt2Of i - 1) % 2) + k.val = k.val; omega
      · show 640 * ((Value.pt2Of i - 1) / 2) + (i 0).val % 640 = (i 0).val; omega
    · refine (blk1 m c ⟨Value.pt2Of i - 1, hpre⟩ k _ (by show 2048 * ((Value.pt2Of i - 1) % 2) + k.val < 4096; omega)).trans
        (congrArg _ ?_)
      refine ix2_ext ?_ ?_
      · show 2048 * ((Value.pt2Of i - 1) % 2) + k.val = k.val; omega
      · show (i 1).val % 1024 = (i 1).val; omega
  · have hk : k.val < 2048 := k.isLt
    refine congrArg₂ (fun a b : EReal => a * b) ?_ ?_
    · refine (blk0 m c ⟨Value.pt2Of i, hlt⟩ k _ (by show 2048 * (Value.pt2Of i % 2) + k.val < 4096; omega)
        (by show 640 * (Value.pt2Of i / 2) + (i 0).val % 640 < 640; omega)).trans (congrArg _ ?_)
      refine ix2_ext ?_ ?_
      · show 2048 * (Value.pt2Of i % 2) + k.val = 2048 + k.val; omega
      · show 640 * (Value.pt2Of i / 2) + (i 0).val % 640 = (i 0).val; omega
    · refine (blk1 m c ⟨Value.pt2Of i, hlt⟩ k _ (by show 2048 * (Value.pt2Of i % 2) + k.val < 4096; omega)).trans
        (congrArg _ ?_)
      refine ix2_ext ?_ ?_
      · show 2048 * (Value.pt2Of i % 2) + k.val = 2048 + k.val; omega
      · show (i 1).val % 1024 = (i 1).val; omega

/-- The reference's result at a place: the same sum. -/
theorem ref_apply (x : (⟨S4096x640, .bf16⟩ : BufTy).Contents (Elt Ideal)) (y : (⟨S4096x1024, .bf16⟩ : BufTy).Contents (Elt Ideal))
    (i : S640x1024.Idx) : Cert.Reference10Ideal.Read.val_main_v7 (F := Ideal) x y i
      = dW x y i := by
  rw [Cert.Reference10Ideal.Read.val_main_v7_apply, Cert.Reference10Ideal.Read.val_main_v6_apply,
    Cert.Reference10Ideal.Read.val_main_v5_apply]
  refine (Cert.Reference10Ideal.Read.val_main_v4_apply x y _).trans (Finset.sum_congr rfl fun k _ => ?_)
  refine congrArg₂ (fun a b : EReal => a * b) (congrArg x ?_) (congrArg y ?_) <;>
    exact funext fun a => Fin.cases rfl (fun a => Fin.cases rfl (fun a => a.elim0) a) a

/-- The kernel's result array is the reference's. -/
theorem final_ref (c : Dev nD) : Value.G2 m c = Cert.Reference10Ideal.Read.val_main_v7 (F := Ideal)
    (m ((c.tc : Thread nD τ).loc main_arg0)) (m ((c.tc : Thread nD τ).loc main_arg1)) :=
  funext fun i => (final m c i).trans (ref_apply _ _ i).symm

end Cert.Kernel10Ideal.Dw

end
-- ==== Proof.Mix.Spec.lean ====
/-
What the mixer's projections compute, forward and back, place by place: the product with a weight of the normalised
tokens, the gradient that comes back through the norm, and the sum over the tokens that is the gain's gradient.
-/
module

public import proofs.«01_k».proof.Proof.Ffn.Spec
public import proofs.«01_k».proof.Proof.Gen.Kernel5Ideal.Skeleton

@[expose] public section

set_option maxRecDepth 16384

noncomputable section

namespace Cert.Mix

open Cert.Kernel5Ideal
open Idealize.ShloMosaic Idealize.ShloMosaic.TcCoe
open Cert.Kernel3Ideal.Ffn (c1024 ceps chalf norm div1024)

/-- The literal minus one half, of the reciprocal root's derivative. -/
def cmhalf : EReal := Ideal.ofBits .f32 0xBF000000#32

/-- A token's mean square, with the small number added. -/
def msq (v : Fin 1024 → EReal) : EReal := (∑ k : Fin 1024, v k * v k) * c1024 + ceps

/-- The reciprocal root of it. -/
def irms (v : Fin 1024 → EReal) : EReal := Ideal.rsqrt (msq v)

/-- How the mean square moves the result along `u`, the cotangent of the token by its reciprocal root. -/
def bend (v u : Fin 1024 → EReal) : EReal :=
  (∑ k : Fin 1024, v k * u k) * (cmhalf * Ideal.div (irms v) (msq v)) * c1024

/-- The gradient in a token `v` of the token by its reciprocal root, at the cotangent `u`. -/
def pull (v u : Fin 1024 → EReal) (d : Fin 1024) : EReal :=
  u d * irms v + v d * bend v u + bend v u * v d

/-- What the backward call reads: the tokens, the gain, the three weights, their cotangents, the network's gradient so
far, the product before, and the gain of the half before. -/
structure Back where
  x : S4096x1024.Idx → EReal
  g : S1x1024.Idx → EReal
  wa : S640x1024.Idx → EReal
  wq : S3072x1024.Idx → EReal
  wg : S1024x1024.Idx → EReal
  da : S4096x640.Idx → EReal
  dq : S4096x3072.Idx → EReal
  dg : S4096x1024.Idx → EReal
  dy : S4096x1024.Idx → EReal
  h : S4096x1024.Idx → EReal
  gp : S1x1024.Idx → EReal

variable (a : Back)

/-- The gradient in the normalised tokens, from the three projections. -/
def dn (r : Fin 4096) (d : Fin 1024) : EReal :=
  (∑ k : Fin 640, a.da (ix2 r k) * a.wa (ix2 k d)) + (∑ k : Fin 3072, a.dq (ix2 r k) * a.wq (ix2 k d))
    + ∑ k : Fin 1024, a.dg (ix2 r k) * a.wg (ix2 k d)

/-- The gradient in the tokens. -/
def dx (r : Fin 4096) (d : Fin 1024) : EReal :=
  a.dy (ix2 r d) + pull (fun k => a.x (ix2 r k)) (fun k => dn a r k * a.g (ix2 0 k)) d

/-- The gradient in the product before, which half of its norm was added from. -/
def dh (r : Fin 4096) (d : Fin 1024) : EReal :=
  pull (fun k => a.h (ix2 r k)) (fun k => chalf * dx a r k * a.gp (ix2 0 k)) d

/-- A token's part of the gain's gradient. -/
def gainTerm (r : Fin 4096) (d : Fin 1024) : EReal :=
  a.x (ix2 r d) * irms (fun k => a.x (ix2 r k)) * dn a r d

/-- The gradient in the gain. -/
def dgain (d : Fin 1024) : EReal := ∑ r : Fin 4096, gainTerm a r d

/-- A sum over the 4096 tokens in blocks of 256. -/
theorem sum_tokens (f : Fin 4096 → EReal) :
    ∑ r : Fin 4096, f r = ∑ b : Fin 16, ∑ q : Fin 256, f ⟨256 * b.val + q.val, by omega⟩ := by
  rw [← Finset.sum_product', ← (finProdFinEquiv (m := 16) (n := 256)).sum_comp]
  refine Finset.sum_congr rfl fun b _ => congrArg f (Fin.ext ?_)
  show b.2.val + 256 * b.1.val = 256 * b.1.val + b.2.val
  omega

end Cert.Mix
-- ==== Proof.Mix.Pay.lean ====
/-
One block of 256 tokens of the projections' backward call, read place by place.
-/
module

public import proofs.«01_k».proof.Proof.Mix.Spec
public import proofs.«01_k».proof.Proof.Gen.Kernel5Ideal.Skeleton
public import Idealize.ShloMosaic.Lib.Pointwise

@[expose] public section

set_option maxRecDepth 16384

noncomputable section

namespace Cert.Kernel5Ideal.Mix

open Cert.Kernel5Ideal Cert.Kernel5Ideal.Gen Cert.Mix
open Idealize.ShloMosaic Idealize.ShloMosaic.TcCoe
open Cert.Kernel3Ideal.Ffn (c1024 ceps chalf)

theorem pay4_apply (x : Vec Ideal S256x640 .bf16) (y : Vec Ideal S256x3072 .bf16) (z : Vec Ideal S256x1024 .bf16)
    (a : Vec Ideal S640x1024 .bf16) (b : Vec Ideal S3072x1024 .bf16) (c : Vec Ideal S1024x1024 .bf16) (r : Fin 256) (d : Fin 1024) :
    k0_pay4 (F := Ideal) x y z a b c (ix2 r d) = (∑ k : Fin 640, x (ix2 r k) * a (ix2 k d))
      + (∑ k : Fin 3072, y (ix2 r k) * b (ix2 k d)) + ∑ k : Fin 1024, z (ix2 r k) * c (ix2 k d) := by
  pointwise [k0_pay4]

theorem pay10_apply (x y : Vec Ideal S256x1024 .f32) (g : Vec Ideal S1x1024 .f32) (u : Vec Ideal S256x1024 .f32)
    (r : Fin 256) (d : Fin 1024) :
    k0_pay10 (F := Ideal) x y g u (k0_pay6 x) (k0_pay7 x) (ix2 r d)
      = y (ix2 r d) + pull (fun k => x (ix2 r k)) (fun k => u (ix2 r k) * g (ix2 0 k)) d := by
  unfold pull bend irms msq c1024 ceps cmhalf
  pointwise [k0_pay10, k0_pay6, k0_pay7, k0_pay5]
  simp only [Finset.univ_unique, Finset.sum_singleton]

theorem pay13_apply (x y : Vec Ideal S256x1024 .f32) (g p : Vec Ideal S1x1024 .f32) (u : Vec Ideal S256x1024 .f32)
    (s t : Vec Ideal S256x1 .f32) (r : Fin 256) (d : Fin 1024) :
    k0_pay13 (F := Ideal) x y g p u s t (ix2 r d) = chalf * k0_pay10 (F := Ideal) x y g u s t (ix2 r d) * p (ix2 0 d) := by
  unfold chalf
  pointwise [k0_pay13]

theorem pay1_apply (x y h : Vec Ideal S256x1024 .f32) (g p : Vec Ideal S1x1024 .f32) (u : Vec Ideal S256x1024 .f32)
    (s t : Vec Ideal S256x1 .f32) (r : Fin 256) (d : Fin 1024) :
    k0_pay1 (F := Ideal) h (k0_pay14 x y h g p u s t) (k0_pay15 x y h g p u s t) (ix2 r d)
      = pull (fun k => h (ix2 r k)) (fun k => k0_pay13 (F := Ideal) x y g p u s t (ix2 r k)) d := by
  unfold pull bend irms msq c1024 ceps cmhalf
  pointwise [k0_pay1, k0_pay14, k0_pay15, k0_pay12, k0_pay11]
  simp only [Finset.univ_unique, Finset.sum_singleton]

theorem pay9_apply (x : Vec Ideal S256x1024 .f32) (a : Vec Ideal S256x640 .bf16) (b : Vec Ideal S256x3072 .bf16) (c : Vec Ideal S256x1024 .bf16)
    (a' : Vec Ideal S640x1024 .bf16) (b' : Vec Ideal S3072x1024 .bf16) (c' : Vec Ideal S1024x1024 .bf16) (d : Fin 1024) :
    k0_pay9 (F := Ideal) (k0_pay8 x a b c a' b' c') (ix2 0 d)
      = ∑ r : Fin 256, x (ix2 r d) * irms (fun k => x (ix2 r k)) * k0_pay4 (F := Ideal) a b c a' b' c' (ix2 r d) := by
  unfold irms msq c1024 ceps
  pointwise [k0_pay9, k0_pay8, k0_pay6, k0_pay5]

end Cert.Kernel5Ideal.Mix
-- ==== Proof.Mix.State.lean ====
/-
What the projections' backward call holds after each of its sixteen points, one block of 256 tokens each: the block's two
gradients, and the gain's gradient over the blocks so far.
-/
module

public import proofs.«01_k».proof.Proof.Mix.Pay
public import proofs.«01_k».proof.Proof.Gen.Kernel5Ideal.Value
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pipeline.FrameBody
public import Idealize.ShloMosaic.Lib.Pipeline.ReadBack
public import Idealize.ShloMosaic.Lib.Pointwise

@[expose] public section

set_option maxRecDepth 16384

noncomputable section

namespace Cert.Kernel5Ideal.Mix

open Cert.Kernel5Ideal Cert.Kernel5Ideal.Gen Cert.Mix
open Idealize.ShloMosaic Idealize.ShloMosaic.TcCoe Idealize.ShloMosaic.Pipeline
open Cert.Kernel3Ideal.Ffn (c1024 ceps chalf)

variable (m : (ℓ : Loc nD τ sig) → Buf (Elt Ideal) ℓ)

/-- The arrays the call is given. -/
def inOf (c : Dev nD) : Back :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10)⟩

theorem pt_lt (t : Fin cfg0.N) : t.val < 16 := lt_of_lt_of_eq t.isLt N_0

/-- The token at place `q` of a point's block. -/
def row (t : Fin cfg0.N) (q : Fin 256) : Fin 4096 := ⟨256 * t.val + q.val, by have := pt_lt t; omega⟩

/-- The block indices of the operands at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![0, 0]
    ∧ win0_10.index t = ![0, 0] ∧ win0_11.index t = ![t.val, 0] ∧ win0_12.index t = ![t.val, 0] ∧ win0_13.index t = ![0, 0] := by
  decide +kernel

theorem blk0 (c : Dev nD) (t : Fin cfg0.N) (q : Fin 256) (d : Fin 1024) :
    iblk m c 0 t (ix2 q d) = (inOf m c).x (ix2 (row t q) d) := by
  unfold inOf row
  blk_ext [iblk, V, idx t]

theorem blk1 (c : Dev nD) (t : Fin cfg0.N) (q : Fin 256) (d : Fin 1024) :
    iblk m c 1 t (ix2 q d) = (inOf m c).dy (ix2 (row t q) d) := by
  unfold inOf row
  blk_ext [iblk, V, idx t]

theorem blk2 (c : Dev nD) (t : Fin cfg0.N) (q : Fin 256) (d : Fin 1024) :
    iblk m c 2 t (ix2 q d) = (inOf m c).h (ix2 (row t q) d) := by
  unfold inOf row
  blk_ext [iblk, V, idx t]

theorem blk3 (c : Dev nD) (t : Fin cfg0.N) (q : Fin 256) (d : Fin 640) :
    iblk m c 3 t (ix2 q d) = (inOf m c).da (ix2 (row t q) d) := by
  unfold inOf row
  blk_ext [iblk, V, idx t]

theorem blk4 (c : Dev nD) (t : Fin cfg0.N) (q : Fin 256) (d : Fin 3072) :
    iblk m c 4 t (ix2 q d) = (inOf m c).dq (ix2 (row t q) d) := by
  unfold inOf row
  blk_ext [iblk, V, idx t]

theorem blk5 (c : Dev nD) (t : Fin cfg0.N) (q : Fin 256) (d : Fin 1024) :
    iblk m c 5 t (ix2 q d) = (inOf m c).dg (ix2 (row t q) d) := by
  unfold inOf row
  blk_ext [iblk, V, idx t]

theorem blk6 (c : Dev nD) (t : Fin cfg0.N) (d : Fin 1024) : iblk m c 6 t (ix2 0 d) = (inOf m c).g (ix2 0 d) := by
  unfold inOf
  blk_ext [iblk, V, idx t]

theorem blk7 (c : Dev nD) (t : Fin cfg0.N) (d : Fin 1024) : iblk m c 7 t (ix2 0 d) = (inOf m c).gp (ix2 0 d) := by
  unfold inOf
  blk_ext [iblk, V, idx t]

theorem blk8 (c : Dev nD) (t : Fin cfg0.N) (k : Fin 640) (d : Fin 1024) :
    iblk m c 8 t (ix2 k d) = (inOf m c).wa (ix2 k d) := by
  unfold inOf
  blk_ext [iblk, V, idx t]

theorem blk9 (c : Dev nD) (t : Fin cfg0.N) (k : Fin 3072) (d : Fin 1024) :
    iblk m c 9 t (ix2 k d) = (inOf m c).wq (ix2 k d) := by
  unfold inOf
  blk_ext [iblk, V, idx t]

theorem blk10 (c : Dev nD) (t : Fin cfg0.N) (k : Fin 1024) (d : Fin 1024) :
    iblk m c 10 t (ix2 k d) = (inOf m c).wg (ix2 k d) := by
  unfold inOf
  blk_ext [iblk, V, idx t]

/-- The gradient in a block's normalised tokens. -/
def dnBlk (c : Dev nD) (t : Fin cfg0.N) : FVec Ideal S256x1024 .f32 :=
  k0_pay4 (F := Ideal) (iblk m c 3 t) (iblk m c 4 t) (iblk m c 5 t) (iblk m c 8 t) (iblk m c 9 t) (iblk m c 10 t)

/-- A block's part of the gain's gradient. -/
def gainBlk (c : Dev nD) (t : Fin cfg0.N) : FVec Ideal S1x1024 .f32 :=
  k0_pay9 (F := Ideal) (k0_pay8 (iblk m c 0 t) (iblk m c 3 t) (iblk m c 4 t) (iblk m c 5 t) (iblk m c 8 t) (iblk m c 9 t)
    (iblk m c 10 t))

theorem dn_blk (c : Dev nD) (t : Fin cfg0.N) (q : Fin 256) (d : Fin 1024) :
    dnBlk m c t (ix2 q d) = dn (inOf m c) (row t q) d := by
  refine (pay4_apply _ _ _ _ _ _ q d).trans ?_
  unfold dn
  simp only [blk3, blk4, blk5, blk8, blk9, blk10]

theorem dx_blk (c : Dev nD) (t : Fin cfg0.N) (q : Fin 256) (d : Fin 1024) :
    k0_pay10 (F := Ideal) (iblk m c 0 t) (iblk m c 1 t) (iblk m c 6 t) (dnBlk m c t) (k0_pay6 (iblk m c 0 t))
      (k0_pay7 (iblk m c 0 t)) (ix2 q d) = dx (inOf m c) (row t q) d := by
  refine (pay10_apply _ _ _ _ q d).trans ?_
  unfold dx
  simp only [blk0, blk1, blk6, dn_blk]

theorem dh_blk (c : Dev nD) (t : Fin cfg0.N) (q : Fin 256) (d : Fin 1024) :
    k0_pay1 (F := Ideal) (iblk m c 2 t)
      (k0_pay14 (iblk m c 0 t) (iblk m c 1 t) (iblk m c 2 t) (iblk m c 6 t) (iblk m c 7 t) (dnBlk m c t)
        (k0_pay6 (iblk m c 0 t)) (k0_pay7 (iblk m c 0 t)))
      (k0_pay15 (iblk m c 0 t) (iblk m c 1 t) (iblk m c 2 t) (iblk m c 6 t) (iblk m c 7 t) (dnBlk m c t)
        (k0_pay6 (iblk m c 0 t)) (k0_pay7 (iblk m c 0 t))) (ix2 q d) = dh (inOf m c) (row t q) d := by
  refine (pay1_apply _ _ _ _ _ _ _ _ q d).trans ?_
  unfold dh
  simp only [pay13_apply, dx_blk, blk2, blk7]

theorem gain_blk (c : Dev nD) (t : Fin cfg0.N) (d : Fin 1024) :
    gainBlk m c t (ix2 0 d) = ∑ q : Fin 256, gainTerm (inOf m c) (row t q) d := by
  refine (pay9_apply _ _ _ _ _ _ _ d).trans ?_
  unfold gainTerm
  refine Finset.sum_congr rfl fun q _ => ?_
  refine congrArg₂ (fun a b : EReal => a * b) ?_ (dn_blk m c t q d)
  simp only [blk0]

/-- After a point, the block of the tokens' gradient. -/
theorem out11 (c : Dev nD) (t : Fin cfg0.N) : (outsAt0 m c t.val t.isLt).1
    = k0_pay10 (F := Ideal) (iblk m c 0 t) (iblk m c 1 t) (iblk m c 6 t) (dnBlk m c t) (k0_pay6 (iblk m c 0 t))
      (k0_pay7 (iblk m c 0 t)) := by
  unfold dnBlk
  by_cases h : t.val % 16 = 0
  · rw [outsAt0_A m c t h]
    frame_out
  · rw [outsAt0_B m c t h]
    frame_out

/-- After a point, the block of the gradient in the product before. -/
theorem out12 (c : Dev nD) (t : Fin cfg0.N) : (outsAt0 m c t.val t.isLt).2.1
    = k0_pay1 (F := Ideal) (iblk m c 2 t)
      (k0_pay14 (iblk m c 0 t) (iblk m c 1 t) (iblk m c 2 t) (iblk m c 6 t) (iblk m c 7 t) (dnBlk m c t)
        (k0_pay6 (iblk m c 0 t)) (k0_pay7 (iblk m c 0 t)))
      (k0_pay15 (iblk m c 0 t) (iblk m c 1 t) (iblk m c 2 t) (iblk m c 6 t) (iblk m c 7 t) (dnBlk m c t)
        (k0_pay6 (iblk m c 0 t)) (k0_pay7 (iblk m c 0 t))) := by
  unfold dnBlk
  by_cases h : t.val % 16 = 0
  · rw [outsAt0_A m c t h]
    frame_out
  · rw [outsAt0_B m c t h]
    frame_out

/-- At the first point the gain's gradient is the block's part. -/
theorem out13_zero (c : Dev nD) (t : Fin cfg0.N) (h : t.val % 16 = 0) (d : Fin 1024) :
    (outsAt0 m c t.val t.isLt).2.2 (ix2 0 d) = gainBlk m c t (ix2 0 d) := by
  unfold gainBlk
  rw [outsAt0_A m c t h]
  frame_out
  pointwise [k0_pay3, k0_pay2]

/-- At a later point the block's part is added to what was held. -/
theorem out13_succ (c : Dev nD) (t : Fin cfg0.N) (h : ¬t.val % 16 = 0) (d : Fin 1024) :
    (outsAt0 m c t.val t.isLt).2.2 (ix2 0 d)
      = (outsAt0 m c (t.val - 1) (Nat.lt_of_le_of_lt (Nat.sub_le _ _) t.isLt)).2.2 (ix2 0 d) + gainBlk m c t (ix2 0 d) := by
  unfold gainBlk
  rw [outsAt0_B m c t h]
  frame_out
  pointwise [k0_pay3]

/-- After a point the gain's gradient is the sum of the parts of the blocks so far. -/
theorem gain_sum (c : Dev nD) (d : Fin 1024) (n : ℕ) (hn : n < cfg0.N) :
    (outsAt0 m c n hn).2.2 (ix2 0 d)
      = ∑ s : Fin (n + 1), gainBlk m c ⟨s.val, Nat.lt_of_lt_of_le s.isLt hn⟩ (ix2 0 d) := by
  induction n with
  | zero =>
    rw [Fin.sum_univ_one]
    exact out13_zero m c ⟨0, hn⟩ rfl d
  | succ n ih =>
    have hN : n + 1 < 16 := lt_of_lt_of_eq hn N_0
    rw [Fin.sum_univ_castSucc]
    refine (out13_succ m c ⟨n + 1, hn⟩ (by show ¬(n + 1) % 16 = 0; omega) d).trans ?_
    exact congrArg (fun z : EReal => z + gainBlk m c ⟨n + 1, hn⟩ (ix2 0 d)) (ih (Nat.lt_of_succ_lt hn))

end Cert.Kernel5Ideal.Mix
-- ==== Proof.Mix.Ref.lean ====
/-
The reference of the projections' backward call, read place by place: its three results are the tables that the module
of the call's mathematics names.
-/
module

public import proofs.«01_k».proof.Proof.Mix.Spec
public import proofs.«01_k».proof.Proof.Gen.Reference5Ideal.Read
public import Idealize.ShloMosaic.Lib.Pointwise

@[expose] public section

set_option maxRecDepth 16384

noncomputable section

namespace Cert.Kernel5Ideal.Mix

open Idealize.ShloMosaic Idealize.ShloMosaic.TcCoe
open Cert.Mix Cert.Reference5Ideal Cert.Reference5Ideal.Read
open Cert.Kernel3Ideal.Ffn (c1024 ceps chalf div1024)

variable (a : Back)

theorem add_rev (x y z : EReal) : x + y + z = z + y + x := by
  rw [add_assoc, add_comm y z, add_comm]

/-- The sums over the three projections are taken in the other order. -/
theorem ref_dn (r : Fin 4096) (d : Fin 1024) :
    val_main_v31 (F := Ideal) a.wa a.wq a.wg a.da a.dq a.dg (ix2 r d) = dn a r d := by
  unfold dn
  rw [add_rev]
  pointwise [val_main_v31, val_main_v30, val_main_v29, val_main_v28, val_main_v27, val_main_v26, val_main_v25,
    val_main_v24, val_main_v22, val_main_v21, val_main_v19, val_main_v18, val_main_v16, val_main_v15]

theorem ref_msq (r : Fin 4096) : val_main_v6 (F := Ideal) a.x (ix2 r 0) = msq fun k => a.x (ix2 r k) := by
  unfold msq ceps
  rw [← div1024]
  pointwise [val_main_v6, val_main_v5, val_main_v4, val_main_v3, val_main_v2, val_main_v1, val_main_v0, val_main_cst,
    val_main_cst_0, val_main_cst_1]

theorem ref_irms (r : Fin 4096) : val_main_v7 (F := Ideal) a.x (ix2 r 0) = irms fun k => a.x (ix2 r k) := by
  unfold irms
  rw [← ref_msq]
  pointwise [val_main_v7]

theorem ref_xhat (r : Fin 4096) (d : Fin 1024) :
    val_main_v12 (F := Ideal) a.x (ix2 r d) = a.x (ix2 r d) * irms fun k => a.x (ix2 r k) := by
  rw [← ref_irms]
  pointwise [val_main_v12, val_main_v11]

theorem ref_gain (d : Fin 1024) :
    val_main_v34 (F := Ideal) a.x a.wa a.wq a.wg a.da a.dq a.dg (ix2 0 d) = dgain a d := by
  unfold dgain gainTerm
  simp only [← ref_dn, ← ref_xhat]
  pointwise [val_main_v34, val_main_v33, val_main_v32, val_main_cst_3]

/-- The cotangent of a normalised token, before the gain. -/
theorem ref_u (r : Fin 4096) (d : Fin 1024) :
    val_main_v36 (F := Ideal) a.g a.wa a.wq a.wg a.da a.dq a.dg (ix2 r d) = dn a r d * a.g (ix2 0 d) := by
  rw [← ref_dn]
  pointwise [val_main_v36, val_main_v35]

theorem ref_bend (r : Fin 4096) :
    val_main_v45 (F := Ideal) a.x a.g a.wa a.wq a.wg a.da a.dq a.dg (ix1 r)
      = bend (fun k => a.x (ix2 r k)) (fun k => dn a r k * a.g (ix2 0 k)) := by
  unfold bend cmhalf
  rw [← div1024]
  simp only [← ref_u, ← ref_irms, ← ref_msq]
  pointwise [val_main_v45, val_main_v44, val_main_v43, val_main_v42, val_main_v39, val_main_v38, val_main_v37,
    val_main_v10, val_main_v9, val_main_v8, val_main_cst_2, val_main_cst_4, val_main_cst_5, val_main_cst_6]
  simp only [Finset.univ_unique, Finset.sum_singleton]
  rfl

theorem ref_dx (r : Fin 4096) (d : Fin 1024) :
    val_main_v51 (F := Ideal) a.x a.g a.wa a.wq a.wg a.da a.dq a.dg a.dy (ix2 r d) = dx a r d := by
  unfold dx pull
  beta_reduce
  rw [← ref_bend, ← ref_irms, ← ref_u]
  pointwise [val_main_v51, val_main_v50, val_main_v49, val_main_v48, val_main_v47, val_main_v46, val_main_v41, val_main_v40]

theorem ref_hmsq (r : Fin 4096) : val_main_v58 (F := Ideal) a.h (ix2 r 0) = msq fun k => a.h (ix2 r k) := by
  unfold msq ceps
  rw [← div1024]
  pointwise [val_main_v58, val_main_v57, val_main_v56, val_main_v55, val_main_v54, val_main_v53, val_main_v52, val_main_cst_7,
    val_main_cst_8, val_main_cst_9]

theorem ref_hirms (r : Fin 4096) : val_main_v59 (F := Ideal) a.h (ix2 r 0) = irms fun k => a.h (ix2 r k) := by
  unfold irms
  rw [← ref_hmsq]
  pointwise [val_main_v59]

theorem ref_hu (r : Fin 4096) (d : Fin 1024) :
    val_main_v72 (F := Ideal) a.x a.g a.wa a.wq a.wg a.da a.dq a.dg a.dy a.gp (ix2 r d)
      = chalf * dx a r d * a.gp (ix2 0 d) := by
  unfold chalf
  rw [← ref_dx]
  pointwise [val_main_v72, val_main_v71, val_main_v70, val_main_v69, val_main_cst_12]

theorem ref_hbend (r : Fin 4096) :
    val_main_v81 (F := Ideal) a.x a.g a.wa a.wq a.wg a.da a.dq a.dg a.dy a.h a.gp (ix1 r)
      = bend (fun k => a.h (ix2 r k)) (fun k => chalf * dx a r k * a.gp (ix2 0 k)) := by
  unfold bend cmhalf
  rw [← div1024]
  simp only [← ref_hu, ← ref_hirms, ← ref_hmsq]
  pointwise [val_main_v81, val_main_v80, val_main_v79, val_main_v78, val_main_v75, val_main_v74, val_main_v73,
    val_main_v62, val_main_v61, val_main_v60, val_main_cst_10, val_main_cst_13, val_main_cst_14, val_main_cst_15]
  simp only [Finset.univ_unique, Finset.sum_singleton]
  rfl

theorem ref_dh (r : Fin 4096) (d : Fin 1024) :
    val_main_v87 (F := Ideal) a.x a.g a.wa a.wq a.wg a.da a.dq a.dg a.dy a.h a.gp (ix2 r d) = dh a r d := by
  unfold dh pull
  beta_reduce
  rw [← ref_hbend, ← ref_hirms, ← ref_hu]
  pointwise [val_main_v87, val_main_v86, val_main_v85, val_main_v84, val_main_v83, val_main_v82, val_main_v77, val_main_v76]

end Cert.Kernel5Ideal.Mix
-- ==== Proof.Mix.Value.lean ====
/-
The arrays the projections' backward call leaves are the reference's: each block of the two tokens' gradients is written
at its own point, and the gain's gradient at the last point, when it is the sum over the sixteen blocks.
-/
module

public import proofs.«01_k».proof.Proof.Mix.State
public import proofs.«01_k».proof.Proof.Mix.Ref

@[expose] public section

set_option maxRecDepth 16384

noncomputable section

namespace Cert.Kernel5Ideal.Mix

open Cert.Kernel5Ideal Cert.Kernel5Ideal.Gen Cert.Mix
open Idealize.ShloMosaic Idealize.ShloMosaic.TcCoe Idealize.ShloMosaic.Pipeline

variable (m : (ℓ : Loc nD τ sig) → Buf (Elt Ideal) ℓ)

theorem ix2_ext {n p : ℕ} {a a' : Fin n} {b b' : Fin p} (ha : a.val = a'.val) (hb : b.val = b'.val) : ix2 a b = ix2 a' b' := by
  rw [Fin.ext ha, Fin.ext hb]

theorem final11 (c : Dev nD) : (dats m 0 c).arrAt 11 cfg0.N
    = fun i : S4096x1024.Idx => dx (inOf m c) (i 0) (i 1) := by
  refine (dats m 0 c).arrAt_eq_of_covers 11 _ (by decide +kernel) fun t _ y => ?_
  let q : Fin 256 := ⟨(y 0).val, (y 0).isLt⟩
  let d : Fin 1024 := ⟨(y 1).val, (y 1).isLt⟩
  have hq : q.val = (y 0).val := rfl
  have hd : d.val = (y 1).val := rfl
  have hy : (y : S256x1024.Idx) = ix2 q d := (ix2_eta (y : S256x1024.Idx)).symm
  have eb : ((cfg0.win 11).blk t).view.emb y = ix2 (row t q) d := by
    unfold row
    blk_ext [idx t]
    all_goals omega
  rw [eb]
  blk_simp
  rw [after0_11, out11]
  exact (congrArg _ hy).trans (dx_blk m c t q d)

theorem final12 (c : Dev nD) : (dats m 0 c).arrAt 12 cfg0.N
    = fun i : S4096x1024.Idx => dh (inOf m c) (i 0) (i 1) := by
  refine (dats m 0 c).arrAt_eq_of_covers 12 _ (by decide +kernel) fun t _ y => ?_
  let q : Fin 256 := ⟨(y 0).val, (y 0).isLt⟩
  let d : Fin 1024 := ⟨(y 1).val, (y 1).isLt⟩
  have hq : q.val = (y 0).val := rfl
  have hd : d.val = (y 1).val := rfl
  have hy : (y : S256x1024.Idx) = ix2 q d := (ix2_eta (y : S256x1024.Idx)).symm
  have eb : ((cfg0.win 12).blk t).view.emb y = ix2 (row t q) d := by
    unfold row
    blk_ext [idx t]
    all_goals omega
  rw [eb]
  blk_simp
  rw [after0_12, out12]
  exact (congrArg _ hy).trans (dh_blk m c t q d)

/-- After the last point the gain's gradient is whole. -/
theorem gain_last (c : Dev nD) (h : 15 < cfg0.N) (d : Fin 1024) :
    (outsAt0 m c 15 h).2.2 (ix2 0 d) = dgain (inOf m c) d := by
  unfold dgain
  rw [sum_tokens]
  refine (gain_sum m c d 15 h).trans (Finset.sum_congr rfl fun s _ => ?_)
  exact gain_blk m c ⟨s.val, Nat.lt_of_lt_of_le s.isLt h⟩ d

theorem final13 (c : Dev nD) : (dats m 0 c).arrAt 13 cfg0.N
    = fun i : S1x1024.Idx => dgain (inOf m c) (i 1) := by
  refine (dats m 0 c).arrAt_eq_of_covers 13 _ (by decide +kernel) fun t ht y => ?_
  have h15 : t.val = 15 := by
    revert ht
    revert t
    decide +kernel
  let d : Fin 1024 := ⟨(y 1).val, (y 1).isLt⟩
  have hy0 : (y 0).val = 0 := Nat.lt_one_iff.mp (y 0).isLt
  have hy : (y : S1x1024.Idx) = ix2 0 d := (ix2_eta (y : S1x1024.Idx)).symm.trans (ix2_ext hy0 rfl)
  have eb : ((cfg0.win 13).blk t).view.emb y = ix2 0 d := by
    have hd : d.val = (y 1).val := rfl
    blk_ext [idx t]
    all_goals omega
  rw [eb]
  blk_simp
  rw [after0_13]
  have key : ∀ (n : ℕ) (hn : n < cfg0.N), n = 15 → (outsAt0 m c n hn).2.2 (ix2 0 d) = dgain (inOf m c) d := by
    rintro n hn rfl
    exact gain_last m c hn _
  exact (congrArg _ hy).trans (key t.val t.isLt h15)

/-! ### The arrays are the reference's -/

open Cert.Reference5Ideal.Read in
theorem ref11 (c : Dev nD) : (dats m 0 c).arrAt 11 cfg0.N
    = val_main_v51 (F := Ideal) (inOf m c).x (inOf m c).g (inOf m c).wa (inOf m c).wq (inOf m c).wg (inOf m c).da
      (inOf m c).dq (inOf m c).dg (inOf m c).dy := by
  refine (final11 m c).trans (funext fun i => ?_)
  exact (ref_dx (inOf m c) (i 0) (i 1)).symm.trans (congrArg _ (ix2_eta i))

open Cert.Reference5Ideal.Read in
theorem ref12 (c : Dev nD) : (dats m 0 c).arrAt 12 cfg0.N
    = val_main_v87 (F := Ideal) (inOf m c).x (inOf m c).g (inOf m c).wa (inOf m c).wq (inOf m c).wg (inOf m c).da
      (inOf m c).dq (inOf m c).dg (inOf m c).dy (inOf m c).h (inOf m c).gp := by
  refine (final12 m c).trans (funext fun i => ?_)
  exact (ref_dh (inOf m c) (i 0) (i 1)).symm.trans (congrArg _ (ix2_eta i))

open Cert.Reference5Ideal.Read in
theorem ref13 (c : Dev nD) : (dats m 0 c).arrAt 13 cfg0.N
    = val_main_v34 (F := Ideal) (inOf m c).x (inOf m c).wa (inOf m c).wq (inOf m c).wg (inOf m c).da
      (inOf m c).dq (inOf m c).dg := by
  refine (final13 m c).trans (funext fun i => ?_)
  have hi : i = ix2 0 (i 1) := (ix2_eta i).symm.trans (ix2_ext (Nat.lt_one_iff.mp (i 0).isLt) rfl)
  exact (ref_gain (inOf m c) (i 1)).symm.trans (congrArg _ hi.symm)

end Cert.Kernel5Ideal.Mix
-- ==== Proof.Mix.Fwd.lean ====
/-
The projections' forward call: at each of its sixteen points a block of 256 tokens is normalised, and the block's three
projections are taken. Its four arrays are the reference's.
-/
module

public import proofs.«01_k».proof.Proof.Ffn.Spec
public import proofs.«01_k».proof.Proof.Gen.Kernel6Ideal.Value
public import proofs.«01_k».proof.Proof.Gen.Reference6Ideal.Read
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pipeline.FrameBody
public import Idealize.ShloMosaic.Lib.Pipeline.ReadBack
public import Idealize.ShloMosaic.Lib.Pointwise

@[expose] public section

set_option maxRecDepth 16384

noncomputable section

namespace Cert.Kernel6Ideal.Mix

open Cert.Kernel6Ideal Cert.Kernel6Ideal.Gen
open Idealize.ShloMosaic Idealize.ShloMosaic.TcCoe Idealize.ShloMosaic.Pipeline
open Cert.Kernel3Ideal.Ffn (c1024 ceps div1024)

/-! ### A block -/

theorem pay1_apply (x : Vec Ideal S256x1024 .f32) (g : Vec Ideal S1x1024 .f32) (r : Fin 256) (d : Fin 1024) :
    k0_pay1 (F := Ideal) x g (ix2 r d) = Cert.Kernel3Ideal.Ffn.norm (fun k => x (ix2 r k)) (fun k => g (ix2 0 k)) d := by
  unfold Cert.Kernel3Ideal.Ffn.norm c1024 ceps
  pointwise [k0_pay1]

theorem pay2_apply (x : Vec Ideal S256x1024 .f32) (g : Vec Ideal S1x1024 .f32) (w : Vec Ideal S640x1024 .bf16) (r : Fin 256)
    (f : Fin 640) : k0_pay2 (F := Ideal) x g w (ix2 r f) = ∑ d : Fin 1024, k0_pay1 (F := Ideal) x g (ix2 r d) * w (ix2 f d) := by
  pointwise [k0_pay2]

theorem pay3_apply (x : Vec Ideal S256x1024 .f32) (g : Vec Ideal S1x1024 .f32) (w : Vec Ideal S3072x1024 .bf16) (r : Fin 256)
    (f : Fin 3072) : k0_pay3 (F := Ideal) x g w (ix2 r f) = ∑ d : Fin 1024, k0_pay1 (F := Ideal) x g (ix2 r d) * w (ix2 f d) := by
  pointwise [k0_pay3]

theorem pay4_apply (x : Vec Ideal S256x1024 .f32) (g : Vec Ideal S1x1024 .f32) (w : Vec Ideal S1024x1024 .bf16) (r : Fin 256)
    (f : Fin 1024) : k0_pay4 (F := Ideal) x g w (ix2 r f) = ∑ d : Fin 1024, k0_pay1 (F := Ideal) x g (ix2 r d) * w (ix2 f d) := by
  pointwise [k0_pay4]

/-! ### The whole arrays -/

/-- The normalised token `r`. -/
def xn (x : S4096x1024.Idx → EReal) (g : S1x1024.Idx → EReal) (r : Fin 4096) (d : Fin 1024) : EReal :=
  Cert.Kernel3Ideal.Ffn.norm (fun k => x (ix2 r k)) (fun k => g (ix2 0 k)) d

/-- Row `f` of a weight against the normalised token `r`. -/
def proj {F : ℕ} (x : S4096x1024.Idx → EReal) (g : S1x1024.Idx → EReal) (w : (⟨2, ![F, 1024]⟩ : Shape).Idx → EReal) (r : Fin 4096)
    (f : Fin F) : EReal := ∑ d : Fin 1024, xn x g r d * w (ix2 f d)

section
open Cert.Reference6Ideal.Read

variable (x : S4096x1024.Idx → EReal) (g : S1x1024.Idx → EReal)

theorem ref_hn (r : Fin 4096) (d : Fin 1024) : val_main_v12 (F := Ideal) x g (ix2 r d) = xn x g r d := by
  unfold xn Cert.Kernel3Ideal.Ffn.norm ceps
  rw [← div1024]
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem ref_xn (r : Fin 4096) (d : Fin 1024) : val_main_v24 (F := Ideal) x g (ix2 r d) = xn x g r d := by
  unfold xn Cert.Kernel3Ideal.Ffn.norm ceps
  rw [← div1024]
  pointwise [val_main_v24, val_main_v23, val_main_v22, val_main_v21, val_main_v20, val_main_v19, val_main_v18, val_main_v17,
    val_main_v16, val_main_v15, val_main_v14, val_main_v13, val_main_cst_2, val_main_cst_3, val_main_cst_4]

theorem ref_a (w : S640x1024.Idx → EReal) (r : Fin 4096) (f : Fin 640) :
    val_main_v27 (F := Ideal) x g w (ix2 r f) = proj x g w r f := by
  unfold proj
  simp only [← ref_xn]
  pointwise [val_main_v27, val_main_v26, val_main_v25]

theorem ref_q (w : S3072x1024.Idx → EReal) (r : Fin 4096) (f : Fin 3072) :
    val_main_v30 (F := Ideal) x g w (ix2 r f) = proj x g w r f := by
  unfold proj
  simp only [← ref_xn]
  pointwise [val_main_v30, val_main_v29, val_main_v28]

theorem ref_g (w : S1024x1024.Idx → EReal) (r : Fin 4096) (f : Fin 1024) :
    val_main_v33 (F := Ideal) x g w (ix2 r f) = proj x g w r f := by
  unfold proj
  simp only [← ref_xn]
  pointwise [val_main_v33, val_main_v32, val_main_v31]
end

variable (m : (ℓ : Loc nD τ sig) → Buf (Elt Ideal) ℓ)

theorem pt_lt (t : Fin cfg0.N) : t.val < 16 := lt_of_lt_of_eq t.isLt N_0

/-- The token at place `q` of a point's block. -/
def row (t : Fin cfg0.N) (q : Fin 256) : Fin 4096 := ⟨256 * t.val + q.val, by have := pt_lt t; omega⟩

/-- The block indices of the operands at a point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] := by
  decide +kernel

/-- The tokens, the gain and the three weights the call is given. -/
abbrev a0 (c : Dev nD) : S4096x1024.Idx → EReal := m ((c.tc : Thread nD τ).loc main_arg0)
abbrev a1 (c : Dev nD) : S1x1024.Idx → EReal := m ((c.tc : Thread nD τ).loc main_arg1)
abbrev a2 (c : Dev nD) : S640x1024.Idx → EReal := m ((c.tc : Thread nD τ).loc main_arg2)
abbrev a3 (c : Dev nD) : S3072x1024.Idx → EReal := m ((c.tc : Thread nD τ).loc main_arg3)
abbrev a4 (c : Dev nD) : S1024x1024.Idx → EReal := m ((c.tc : Thread nD τ).loc main_arg4)

theorem blk0 (c : Dev nD) (t : Fin cfg0.N) (q : Fin 256) (d : Fin 1024) :
    iblk m c 0 t (ix2 q d) = a0 m c (ix2 (row t q) d) := by
  unfold a0 row
  blk_ext [iblk, V, idx t]

theorem blk1 (c : Dev nD) (t : Fin cfg0.N) (d : Fin 1024) : iblk m c 1 t (ix2 0 d) = a1 m c (ix2 0 d) := by
  unfold a1
  blk_ext [iblk, V, idx t]

theorem blk2 (c : Dev nD) (t : Fin cfg0.N) (k : Fin 640) (d : Fin 1024) : iblk m c 2 t (ix2 k d) = a2 m c (ix2 k d) := by
  unfold a2
  blk_ext [iblk, V, idx t]

theorem blk3 (c : Dev nD) (t : Fin cfg0.N) (k : Fin 3072) (d : Fin 1024) : iblk m c 3 t (ix2 k d) = a3 m c (ix2 k d) := by
  unfold a3
  blk_ext [iblk, V, idx t]

theorem blk4 (c : Dev nD) (t : Fin cfg0.N) (k : Fin 1024) (d : Fin 1024) : iblk m c 4 t (ix2 k d) = a4 m c (ix2 k d) := by
  unfold a4
  blk_ext [iblk, V, idx t]

theorem hn_blk (c : Dev nD) (t : Fin cfg0.N) (q : Fin 256) (d : Fin 1024) :
    k0_pay1 (F := Ideal) (iblk m c 0 t) (iblk m c 1 t) (ix2 q d) = xn (a0 m c) (a1 m c) (row t q) d := by
  refine (pay1_apply _ _ q d).trans ?_
  unfold xn
  simp only [blk0, blk1]

theorem final5 (c : Dev nD) : (dats m 0 c).arrAt 5 cfg0.N
    = fun i : S4096x1024.Idx => xn (a0 m c) (a1 m c) (i 0) (i 1) := by
  refine (dats m 0 c).arrAt_eq_of_covers 5 _ (by decide +kernel) fun t _ y => ?_
  let q : Fin 256 := ⟨(y 0).val, (y 0).isLt⟩
  let d : Fin 1024 := ⟨(y 1).val, (y 1).isLt⟩
  have hq : q.val = (y 0).val := rfl
  have hd : d.val = (y 1).val := rfl
  have hy : (y : S256x1024.Idx) = ix2 q d := (ix2_eta (y : S256x1024.Idx)).symm
  have eb : ((cfg0.win 5).blk t).view.emb y = ix2 (row t q) d := by
    unfold row
    blk_ext [idx t]
    all_goals omega
  rw [eb]
  blk_simp
  rw [after0_5]
  unfold out0_5
  frame_out
  refine (congrArg _ hy).trans ?_
  exact hn_blk m c t q d

theorem final6 (c : Dev nD) : (dats m 0 c).arrAt 6 cfg0.N
    = fun i : S4096x640.Idx => proj (a0 m c) (a1 m c) (a2 m c) (i 0) (i 1) := by
  refine (dats m 0 c).arrAt_eq_of_covers 6 _ (by decide +kernel) fun t _ y => ?_
  let q : Fin 256 := ⟨(y 0).val, (y 0).isLt⟩
  let d : Fin 640 := ⟨(y 1).val, (y 1).isLt⟩
  have hq : q.val = (y 0).val := rfl
  have hd : d.val = (y 1).val := rfl
  have hy : (y : S256x640.Idx) = ix2 q d := (ix2_eta (y : S256x640.Idx)).symm
  have eb : ((cfg0.win 6).blk t).view.emb y = ix2 (row t q) d := by
    unfold row
    blk_ext [idx t]
    all_goals omega
  rw [eb]
  blk_simp
  rw [after0_6]
  unfold out0_6
  frame_out
  refine (congrArg _ hy).trans ?_
  refine (pay2_apply _ _ _ _ _).trans ?_
  unfold proj
  simp only [hn_blk, blk2]
  rfl

theorem final7 (c : Dev nD) : (dats m 0 c).arrAt 7 cfg0.N
    = fun i : S4096x3072.Idx => proj (a0 m c) (a1 m c) (a3 m c) (i 0) (i 1) := by
  refine (dats m 0 c).arrAt_eq_of_covers 7 _ (by decide +kernel) fun t _ y => ?_
  let q : Fin 256 := ⟨(y 0).val, (y 0).isLt⟩
  let d : Fin 3072 := ⟨(y 1).val, (y 1).isLt⟩
  have hq : q.val = (y 0).val := rfl
  have hd : d.val = (y 1).val := rfl
  have hy : (y : S256x3072.Idx) = ix2 q d := (ix2_eta (y : S256x3072.Idx)).symm
  have eb : ((cfg0.win 7).blk t).view.emb y = ix2 (row t q) d := by
    unfold row
    blk_ext [idx t]
    all_goals omega
  rw [eb]
  blk_simp
  rw [after0_7]
  unfold out0_7
  frame_out
  refine (congrArg _ hy).trans ?_
  refine (pay3_apply _ _ _ _ _).trans ?_
  unfold proj
  simp only [hn_blk, blk3]
  rfl

theorem final8 (c : Dev nD) : (dats m 0 c).arrAt 8 cfg0.N
    = fun i : S4096x1024.Idx => proj (a0 m c) (a1 m c) (a4 m c) (i 0) (i 1) := by
  refine (dats m 0 c).arrAt_eq_of_covers 8 _ (by decide +kernel) fun t _ y => ?_
  let q : Fin 256 := ⟨(y 0).val, (y 0).isLt⟩
  let d : Fin 1024 := ⟨(y 1).val, (y 1).isLt⟩
  have hq : q.val = (y 0).val := rfl
  have hd : d.val = (y 1).val := rfl
  have hy : (y : S256x1024.Idx) = ix2 q d := (ix2_eta (y : S256x1024.Idx)).symm
  have eb : ((cfg0.win 8).blk t).view.emb y = ix2 (row t q) d := by
    unfold row
    blk_ext [idx t]
    all_goals omega
  rw [eb]
  blk_simp
  rw [after0_8]
  unfold out0_8
  frame_out
  refine (congrArg _ hy).trans ?_
  refine (pay4_apply _ _ _ _ _).trans ?_
  unfold proj
  simp only [hn_blk, blk4]
  rfl

/-! ### The arrays are the reference's -/

open Cert.Reference6Ideal.Read

theorem ref5 (c : Dev nD) : (dats m 0 c).arrAt 5 cfg0.N = val_main_v12 (F := Ideal) (a0 m c) (a1 m c) := by
  refine (final5 m c).trans (funext fun i => ?_)
  exact (ref_hn _ _ (i 0) (i 1)).symm.trans (congrArg _ (ix2_eta i))

theorem ref6 (c : Dev nD) : (dats m 0 c).arrAt 6 cfg0.N = val_main_v27 (F := Ideal) (a0 m c) (a1 m c) (a2 m c) := by
  refine (final6 m c).trans (funext fun i => ?_)
  exact (ref_a _ _ _ (i 0) (i 1)).symm.trans (congrArg _ (ix2_eta i))

theorem ref7 (c : Dev nD) : (dats m 0 c).arrAt 7 cfg0.N = val_main_v30 (F := Ideal) (a0 m c) (a1 m c) (a3 m c) := by
  refine (final7 m c).trans (funext fun i => ?_)
  exact (ref_q _ _ _ (i 0) (i 1)).symm.trans (congrArg _ (ix2_eta i))

theorem ref8 (c : Dev nD) : (dats m 0 c).arrAt 8 cfg0.N = val_main_v33 (F := Ideal) (a0 m c) (a1 m c) (a4 m c) := by
  refine (final8 m c).trans (funext fun i => ?_)
  exact (ref_g _ _ _ (i 0) (i 1)).symm.trans (congrArg _ (ix2_eta i))

end Cert.Kernel6Ideal.Mix
-- ==== Proof.Mix.Join.lean ====
/-
The call that joins the mixer's two halves: at each of its sixteen points a block of 256 tokens. The attention's output is
normalised over its row, the delta rule's over each head's 128 lanes and gated, the two are put side by side and taken through the
output matrix, and the normalised product is added to the tokens. Its three arrays are the reference's.
-/
module

public import proofs.«01_k».proof.Proof.Ffn.Spec
public import proofs.«01_k».proof.Proof.Gen.Kernel13Ideal.Value
public import proofs.«01_k».proof.Proof.Gen.Reference13Ideal.Read
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Pipeline.FrameBody
public import Idealize.ShloMosaic.Lib.Pipeline.ReadBack
public import Idealize.ShloMosaic.Lib.Pointwise

@[expose] public section

set_option maxRecDepth 16384

noncomputable section

namespace Cert.Kernel13Ideal.Mix

open Cert.Kernel13Ideal Cert.Kernel13Ideal.Gen
open Idealize.ShloMosaic Idealize.ShloMosaic.TcCoe Idealize.ShloMosaic.Pipeline
open Cert.Kernel3Ideal.Ffn (c1024 ceps div1024 cone)

/-! ### A row -/

/-- The literals 1/512 and 1/64. -/
def c512 : EReal := Ideal.ofBits .f32 0x3B000000#32
def c64 : EReal := Ideal.ofBits .f32 0x3C800000#32

theorem c512_real : c512 = ((1 / 512 : ℝ) : EReal) := by
  unfold c512; simp [Ideal.ofBits, Ideal.ieee]; rw [← EReal.coe_mul]; norm_num

theorem c64_real : c64 = ((1 / 64 : ℝ) : EReal) := by
  unfold c64; simp [Ideal.ofBits, Ideal.ieee]; rw [← EReal.coe_mul]; norm_num

theorem lit512 : Ideal.ofBits .f32 0x44000000#32 = ((512 : ℝ) : EReal) := by
  simp [Ideal.ofBits, Ideal.ieee]; rw [← EReal.coe_mul]; norm_num

theorem lit64 : Ideal.ofBits .f32 0x42800000#32 = ((64 : ℝ) : EReal) := by
  simp [Ideal.ofBits, Ideal.ieee]; rw [← EReal.coe_mul]; norm_num

/-- Dividing by 512 is multiplying by the literal 1/512. -/
theorem div512 (s : EReal) : Ideal.div s (Ideal.ofBits .f32 0x44000000#32) = s * c512 := by
  rw [lit512, c512_real, Ideal.div, if_neg (by exact_mod_cast (by norm_num : (512 : ℝ) ≠ 0)), ← EReal.coe_inv]
  norm_num

/-- Dividing by 64 is multiplying by the literal 1/64. -/
theorem div64 (s : EReal) : Ideal.div s (Ideal.ofBits .f32 0x42800000#32) = s * c64 := by
  rw [lit64, c64_real, Ideal.div, if_neg (by exact_mod_cast (by norm_num : (64 : ℝ) ≠ 0)), ← EReal.coe_inv]
  norm_num

/-- The attention's row normalised over its 512 lanes in use, by its gain. -/
def mla (v g : Fin 1024 → EReal) (d : Fin 1024) : EReal :=
  v d * Ideal.rsqrt ((∑ k : Fin 1024, v k * v k) * c512 + ceps) * g d

/-- The squares of a lane's head, summed over the head's 128 lanes. -/
def heads (v : Fin 1024 → EReal) (d : Fin 1024) : EReal :=
  ∑ l : Fin 128, v ⟨d.val / 128 * 128 + l.val, by omega⟩ * v ⟨d.val / 128 * 128 + l.val, by omega⟩

/-- The delta rule's row normalised head by head over the 64 lanes in use, by its gain and by the gate's activation. -/
def gdn (o g t : Fin 1024 → EReal) (d : Fin 1024) : EReal :=
  o d * Ideal.rsqrt (heads o d * c64 + ceps) * g d * (t d * Ideal.div cone (cone + Ideal.exp (-(t d))))

/-- The two rows side by side. -/
def side (a b : Fin 1024 → EReal) (f : Fin 2048) : EReal :=
  if h : f.val < 1024 then a ⟨f.val, h⟩ else b ⟨f.val - 1024, by omega⟩

theorem ix2_ext {n p : ℕ} {a a' : Fin n} {b b' : Fin p} (ha : a.val = a'.val) (hb : b.val = b'.val) : ix2 a b = ix2 a' b' := by
  rw [Fin.ext ha, Fin.ext hb]

/-! ### A block -/

theorem pay2_apply (v : Vec Ideal S256x1024 .f32) (g : Vec Ideal S1x1024 .f32) (r : Fin 256) (d : Fin 1024) :
    k0_pay2 (F := Ideal) v g (ix2 r d) = mla (fun k => v (ix2 r k)) (fun k => g (ix2 0 k)) d := by
  unfold mla c512 ceps
  pointwise [k0_pay2]

theorem pay8_apply (v1 v2 : Vec Ideal S256x1024 .f32) (v5 : Vec Ideal S1x1024 .f32) (v19 : Vec Ideal S256x1024 .f32) (r : Fin 256)
    (f : Fin 2048) :
    k0_pay8 (F := Ideal) v1 v2 v5 v19 (k0_pay3 v1) (k0_pay4 v1) (k0_pay5 v1) (k0_pay6 v1) (k0_pay7 v1) (ix2 r f)
      = side (fun d => v19 (ix2 r d)) (gdn (fun k => v1 (ix2 r k)) (fun k => v5 (ix2 0 k)) (fun k => v2 (ix2 r k))) f := by
  unfold side gdn c64 ceps cone
  pointwise [k0_pay8, k0_pay3, k0_pay4, k0_pay5, k0_pay6, k0_pay7]
  by_cases hf : f.val < 1024
  · simp only [dif_pos hf]
  · simp only [dif_neg hf, sub_eq_add_neg (0 : EReal), zero_add]
    have hlt : f.val < 2048 := f.isLt
    congr 5
    unfold heads
    split_ifs
    all_goals
      refine congrArg (fun z : EReal => z * Ideal.ofBits FTy.f32 1015021568#32) (Finset.sum_congr rfl fun l _ => ?_)
      refine congrArg (fun z : EReal => z * z) (congrArg v1 (ix2_ext rfl ?_))
      dsimp only
      omega

theorem pay9_apply (v1 v2 : Vec Ideal S256x1024 .f32) (v5 : Vec Ideal S1x1024 .f32) (v6 : Vec Ideal S2048x1024 .bf16)
    (v19 v20 : FVec Ideal S256x1024 .f32) (v25 v30 v35 v36 : FVec Ideal S256x128 .f32) (r : Fin 256) (d : Fin 1024) :
    k0_pay9 (F := Ideal) v1 v2 v5 v6 v19 v20 v25 v30 v35 v36 (ix2 r d)
      = ∑ f : Fin 2048, k0_pay8 (F := Ideal) v1 v2 v5 v19 v20 v25 v30 v35 v36 (ix2 r f) * v6 (ix2 f d) := by
  pointwise [k0_pay9]

theorem pay10_apply (v1 v2 : Vec Ideal S256x1024 .f32) (v5 : Vec Ideal S1x1024 .f32) (v6 : Vec Ideal S2048x1024 .bf16)
    (v19 v20 : FVec Ideal S256x1024 .f32) (v25 v30 v35 v36 : FVec Ideal S256x128 .f32) (r : Fin 256) :
    k0_pay10 (F := Ideal) v1 v2 v5 v6 v19 v20 v25 v30 v35 v36 (ix2 r 0)
      = ∑ k : Fin 1024, k0_pay9 (F := Ideal) v1 v2 v5 v6 v19 v20 v25 v30 v35 v36 (ix2 r k)
          * k0_pay9 (F := Ideal) v1 v2 v5 v6 v19 v20 v25 v30 v35 v36 (ix2 r k) := by
  pointwise [k0_pay10]

theorem pay1_apply (v3 : Vec Ideal S256x1024 .f32) (v7 : Vec Ideal S1x1024 .f32) (v81 : FVec Ideal S256x1024 .f32)
    (v84 : FVec Ideal S256x1 .f32) (r : Fin 256) (d : Fin 1024) :
    k0_pay1 (F := Ideal) v3 v7 v81 v84 (ix2 r d)
      = v3 (ix2 r d) + v81 (ix2 r d) * Ideal.rsqrt (v84 (ix2 r 0) * c1024 + ceps) * v7 (ix2 0 d) := by
  unfold c1024 ceps
  pointwise [k0_pay1]

/-! ### The whole arrays -/

/-- The arrays the call reads: the two halves' outputs, the gate, the tokens, the gains, the output matrix, the gain after. -/
structure In where
  om : S4096x1024.Idx → EReal
  og : S4096x1024.Idx → EReal
  gt : S4096x1024.Idx → EReal
  x : S4096x1024.Idx → EReal
  gm : S1x1024.Idx → EReal
  gg : S1x1024.Idx → EReal
  wo : S2048x1024.Idx → EReal
  gp : S1x1024.Idx → EReal

/-- Row `r` of the two halves joined. -/
def cat (a : In) (r : Fin 4096) (f : Fin 2048) : EReal :=
  side (mla (fun k => a.om (ix2 r k)) (fun k => a.gm (ix2 0 k)))
    (gdn (fun k => a.og (ix2 r k)) (fun k => a.gg (ix2 0 k)) (fun k => a.gt (ix2 r k))) f

/-- Its product with the output matrix. -/
def mixed (a : In) (r : Fin 4096) (d : Fin 1024) : EReal := ∑ f : Fin 2048, cat a r f * a.wo (ix2 f d)

/-- The tokens with the normalised product added. -/
def out (a : In) (r : Fin 4096) (d : Fin 1024) : EReal :=
  a.x (ix2 r d) + Cert.Kernel3Ideal.Ffn.norm (fun k => mixed a r k) (fun k => a.gp (ix2 0 k)) d

section
open Cert.Reference13Ideal.Read

variable (a : In)

theorem ref_mla (r : Fin 4096) (d : Fin 1024) : val_main_v11 (F := Ideal) a.om a.gm (ix2 r d)
    = mla (fun k => a.om (ix2 r k)) (fun k => a.gm (ix2 0 k)) d := by
  unfold mla ceps
  rw [← div512]
  pointwise [val_main_v11, val_main_v10, val_main_v9, val_main_v8, val_main_v7, val_main_v6, val_main_v5, val_main_v4,
    val_main_v3, val_main_v2, val_main_v1, val_main_v0, val_main_cst, val_main_cst_0, val_main_cst_1]

theorem ref_gdn (r : Fin 4096) (d : Fin 1024) : val_main_v29 (F := Ideal) a.og a.gt a.gg (ix2 r d)
    = gdn (fun k => a.og (ix2 r k)) (fun k => a.gg (ix2 0 k)) (fun k => a.gt (ix2 r k)) d := by
  unfold gdn heads ceps cone
  rw [← div64]
  pointwise [val_main_v29, val_main_v28, val_main_v27, val_main_v26, val_main_v25, val_main_v24, val_main_v23, val_main_v22,
    val_main_v21, val_main_v20, val_main_v19, val_main_v18, val_main_v17, val_main_v16, val_main_v15, val_main_v14,
    val_main_v13, val_main_v12, val_main_call0_v5, val_main_call0_v4, val_main_call0_v3, val_main_call0_v2,
    val_main_call0_v1, val_main_call0_v0, val_main_call0_cst, val_main_call0_cst_0, val_main_cst_2, val_main_cst_3,
    val_main_cst_4]

theorem ref_side (r : Fin 4096) (f : Fin 2048) : val_main_v30 (F := Ideal) a.om a.og a.gt a.gm a.gg (ix2 r f) = cat a r f := by
  unfold cat side
  simp only [← ref_mla, ← ref_gdn]
  pointwise [val_main_v30]

theorem ref_cat (r : Fin 4096) (f : Fin 2048) : val_main_v33 (F := Ideal) a.om a.og a.gt a.gm a.gg (ix2 r f) = cat a r f := by
  rw [← ref_side]
  pointwise [val_main_v33]

theorem ref_mixed (r : Fin 4096) (d : Fin 1024) : val_main_v32 (F := Ideal) a.om a.og a.gt a.gm a.gg a.wo (ix2 r d) = mixed a r d := by
  unfold mixed
  simp only [← ref_side]
  pointwise [val_main_v32, val_main_v31]

theorem ref_out (r : Fin 4096) (d : Fin 1024) :
    val_main_v46 (F := Ideal) a.om a.og a.gt a.x a.gm a.gg a.wo a.gp (ix2 r d) = out a r d := by
  unfold out Cert.Kernel3Ideal.Ffn.norm ceps
  rw [← div1024]
  simp only [← ref_mixed]
  pointwise [val_main_v46, val_main_v45, val_main_v44, val_main_v43, val_main_v42, val_main_v41, val_main_v40, val_main_v39,
    val_main_v38, val_main_v37, val_main_v36, val_main_v35, val_main_v34, val_main_cst_5, val_main_cst_6, val_main_cst_7]
end

variable (m : (ℓ : Loc nD τ sig) → Buf (Elt Ideal) ℓ)

theorem pt_lt (t : Fin cfg0.N) : t.val < 16 := lt_of_lt_of_eq t.isLt N_0

/-- The token at place `q` of a point's block. -/
def row (t : Fin cfg0.N) (q : Fin 256) : Fin 4096 := ⟨256 * t.val + q.val, by have := pt_lt t; omega⟩

/-- The block indices of the operands at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] := by
  decide +kernel

/-- The arrays the call is given. -/
abbrev arr (c : Dev nD) : In :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7)⟩

theorem blk0 (c : Dev nD) (t : Fin cfg0.N) (q : Fin 256) (d : Fin 1024) :
    iblk m c 0 t (ix2 q d) = (arr m c).om (ix2 (row t q) d) := by
  unfold arr row
  blk_ext [iblk, V, idx t]

theorem blk1 (c : Dev nD) (t : Fin cfg0.N) (q : Fin 256) (d : Fin 1024) :
    iblk m c 1 t (ix2 q d) = (arr m c).og (ix2 (row t q) d) := by
  unfold arr row
  blk_ext [iblk, V, idx t]

theorem blk2 (c : Dev nD) (t : Fin cfg0.N) (q : Fin 256) (d : Fin 1024) :
    iblk m c 2 t (ix2 q d) = (arr m c).gt (ix2 (row t q) d) := by
  unfold arr row
  blk_ext [iblk, V, idx t]

theorem blk3 (c : Dev nD) (t : Fin cfg0.N) (q : Fin 256) (d : Fin 1024) :
    iblk m c 3 t (ix2 q d) = (arr m c).x (ix2 (row t q) d) := by
  unfold arr row
  blk_ext [iblk, V, idx t]

theorem blk4 (c : Dev nD) (t : Fin cfg0.N) (d : Fin 1024) : iblk m c 4 t (ix2 0 d) = (arr m c).gm (ix2 0 d) := by
  unfold arr
  blk_ext [iblk, V, idx t]

theorem blk5 (c : Dev nD) (t : Fin cfg0.N) (d : Fin 1024) : iblk m c 5 t (ix2 0 d) = (arr m c).gg (ix2 0 d) := by
  unfold arr
  blk_ext [iblk, V, idx t]

theorem blk7 (c : Dev nD) (t : Fin cfg0.N) (d : Fin 1024) : iblk m c 7 t (ix2 0 d) = (arr m c).gp (ix2 0 d) := by
  unfold arr
  blk_ext [iblk, V, idx t]

theorem blk6 (c : Dev nD) (t : Fin cfg0.N) (f : Fin 2048) (d : Fin 1024) : iblk m c 6 t (ix2 f d) = (arr m c).wo (ix2 f d) := by
  unfold arr
  blk_ext [iblk, V, idx t]

theorem cat_blk (c : Dev nD) (t : Fin cfg0.N) (q : Fin 256) (f : Fin 2048) :
    k0_pay8 (F := Ideal) (iblk m c 1 t) (iblk m c 2 t) (iblk m c 5 t) (k0_pay2 (iblk m c 0 t) (iblk m c 4 t)) (k0_pay3 (iblk m c 1 t))
      (k0_pay4 (iblk m c 1 t)) (k0_pay5 (iblk m c 1 t)) (k0_pay6 (iblk m c 1 t)) (k0_pay7 (iblk m c 1 t)) (ix2 q f)
      = cat (arr m c) (row t q) f := by
  refine (pay8_apply _ _ _ _ q f).trans ?_
  unfold cat
  simp only [pay2_apply, blk0, blk1, blk2, blk4, blk5]

theorem mixed_blk (c : Dev nD) (t : Fin cfg0.N) (q : Fin 256) (d : Fin 1024) :
    k0_pay9 (F := Ideal) (iblk m c 1 t) (iblk m c 2 t) (iblk m c 5 t) (iblk m c 6 t) (k0_pay2 (iblk m c 0 t) (iblk m c 4 t))
      (k0_pay3 (iblk m c 1 t)) (k0_pay4 (iblk m c 1 t)) (k0_pay5 (iblk m c 1 t)) (k0_pay6 (iblk m c 1 t)) (k0_pay7 (iblk m c 1 t))
      (ix2 q d) = mixed (arr m c) (row t q) d := by
  refine (pay9_apply _ _ _ _ _ _ _ _ _ _ q d).trans ?_
  unfold mixed
  simp only [cat_blk, blk6]

theorem final8 (c : Dev nD) : (dats m 0 c).arrAt 8 cfg0.N = fun i : S4096x2048.Idx => cat (arr m c) (i 0) (i 1) := by
  refine (dats m 0 c).arrAt_eq_of_covers 8 _ (by decide +kernel) fun t _ y => ?_
  let q : Fin 256 := ⟨(y 0).val, (y 0).isLt⟩
  let d : Fin 2048 := ⟨(y 1).val, (y 1).isLt⟩
  have hq : q.val = (y 0).val := rfl
  have hd : d.val = (y 1).val := rfl
  have hy : (y : S256x2048.Idx) = ix2 q d := (ix2_eta (y : S256x2048.Idx)).symm
  have eb : ((cfg0.win 8).blk t).view.emb y = ix2 (row t q) d := by
    unfold row
    blk_ext [idx t]
    all_goals omega
  rw [eb]
  blk_simp
  rw [after0_8]
  unfold_out out0_8
  frame_out
  refine (congrArg _ hy).trans ?_
  exact cat_blk m c t q d

theorem final9 (c : Dev nD) : (dats m 0 c).arrAt 9 cfg0.N = fun i : S4096x1024.Idx => mixed (arr m c) (i 0) (i 1) := by
  refine (dats m 0 c).arrAt_eq_of_covers 9 _ (by decide +kernel) fun t _ y => ?_
  let q : Fin 256 := ⟨(y 0).val, (y 0).isLt⟩
  let d : Fin 1024 := ⟨(y 1).val, (y 1).isLt⟩
  have hq : q.val = (y 0).val := rfl
  have hd : d.val = (y 1).val := rfl
  have hy : (y : S256x1024.Idx) = ix2 q d := (ix2_eta (y : S256x1024.Idx)).symm
  have eb : ((cfg0.win 9).blk t).view.emb y = ix2 (row t q) d := by
    unfold row
    blk_ext [idx t]
    all_goals omega
  rw [eb]
  blk_simp
  rw [after0_9]
  unfold_out out0_9
  frame_out
  refine (congrArg _ hy).trans ?_
  exact mixed_blk m c t q d

theorem final10 (c : Dev nD) : (dats m 0 c).arrAt 10 cfg0.N = fun i : S4096x1024.Idx => out (arr m c) (i 0) (i 1) := by
  refine (dats m 0 c).arrAt_eq_of_covers 10 _ (by decide +kernel) fun t _ y => ?_
  let q : Fin 256 := ⟨(y 0).val, (y 0).isLt⟩
  let d : Fin 1024 := ⟨(y 1).val, (y 1).isLt⟩
  have hq : q.val = (y 0).val := rfl
  have hd : d.val = (y 1).val := rfl
  have hy : (y : S256x1024.Idx) = ix2 q d := (ix2_eta (y : S256x1024.Idx)).symm
  have eb : ((cfg0.win 10).blk t).view.emb y = ix2 (row t q) d := by
    unfold row
    blk_ext [idx t]
    all_goals omega
  rw [eb]
  blk_simp
  rw [after0_10]
  unfold_out out0_10
  frame_out
  refine (congrArg _ hy).trans ?_
  refine (pay1_apply _ _ _ _ q d).trans ?_
  unfold out Cert.Kernel3Ideal.Ffn.norm
  simp only [pay10_apply, mixed_blk, blk3, blk7]
  rfl

/-! ### The arrays are the reference's -/

open Cert.Reference13Ideal.Read

theorem ref8 (c : Dev nD) : (dats m 0 c).arrAt 8 cfg0.N
    = val_main_v33 (F := Ideal) (arr m c).om (arr m c).og (arr m c).gt (arr m c).gm (arr m c).gg := by
  refine (final8 m c).trans (funext fun i => ?_)
  exact (ref_cat (arr m c) (i 0) (i 1)).symm.trans (congrArg _ (ix2_eta i))

theorem ref9 (c : Dev nD) : (dats m 0 c).arrAt 9 cfg0.N
    = val_main_v32 (F := Ideal) (arr m c).om (arr m c).og (arr m c).gt (arr m c).gm (arr m c).gg (arr m c).wo := by
  refine (final9 m c).trans (funext fun i => ?_)
  exact (ref_mixed (arr m c) (i 0) (i 1)).symm.trans (congrArg _ (ix2_eta i))

theorem ref10 (c : Dev nD) : (dats m 0 c).arrAt 10 cfg0.N
    = val_main_v46 (F := Ideal) (arr m c).om (arr m c).og (arr m c).gt (arr m c).x (arr m c).gm (arr m c).gg (arr m c).wo (arr m c).gp := by
  refine (final10 m c).trans (funext fun i => ?_)
  exact (ref_out (arr m c) (i 0) (i 1)).symm.trans (congrArg _ (ix2_eta i))

end Cert.Kernel13Ideal.Mix
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Ref
public import proofs.«01_k».proof.Proof.Launch
public import proofs.«01_k».proof.Proof.Bits.Launch
public import proofs.«01_k».proof.Proof.Values
public import proofs.«01_k».proof.Proof.Gen.Kernel2.Frame
public import proofs.«01_k».proof.Proof.Gen.Kernel2Ideal.Value
public import proofs.«01_k».proof.Proof.Gen.Reference2Ideal.Run
public import proofs.«01_k».proof.Proof.Dw.Value
public import proofs.«01_k».proof.Proof.Gen.Kernel3.Frame
public import proofs.«01_k».proof.Proof.Gen.Kernel3Ideal.Value
public import proofs.«01_k».proof.Proof.Gen.Reference3Ideal.Run
public import proofs.«01_k».proof.Proof.Ffn.Value
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import Idealize.ShloMosaic.Adequacy
public import Idealize.ShloMosaic.Init
public import proofs.«01_k».proof.Proof.Dw.Up
public import proofs.«01_k».proof.Proof.Dw.Qkv
public import proofs.«01_k».proof.Proof.Dw.Out
public import proofs.«01_k».proof.Proof.Dw.Gate
public import proofs.«01_k».proof.Proof.Dw.Kv
public import proofs.«01_k».proof.Proof.Dw.Uq
public import proofs.«01_k».proof.Proof.Dw.Lat
public import proofs.«01_k».proof.Proof.Mix.Value
public import proofs.«01_k».proof.Proof.Mix.Fwd
public import proofs.«01_k».proof.Proof.Mix.Join

@[expose] public section

noncomputable section

namespace Cert.Proof

open Idealize.ShloMosaic Idealize.SL.Sem

/-- The kernel at words: every run ends, its arguments unchanged and every semaphore at zero. -/
theorem frame_kernel : Cert.quiescent_Kernel := fun m g _ => Cert.Kernel.Attn.frame m g

/-- The same of the idealized kernel. -/
theorem frame_kernelIdeal : Cert.quiescent_KernelIdeal := fun m g _ => Cert.KernelIdeal.Attn.frame m g

/-- The reference runs and keeps its arguments; it declares no semaphore. -/
theorem frame_reference : Cert.quiescent_ReferenceIdeal := fun m g _ =>
  (θ_run Cert.ReferenceIdeal.defs _ _).mono
    (fun r h => ⟨fun c => ⟨(h c).2.2.2.1, (h c).2.2.2.2.1, (h c).2.2.2.2.2.1, (h c).2.2.2.2.2.2⟩,
      sem_eq_zero_of_no_sems (by decide) r.2⟩)
    (Cert.ReferenceIdeal.Value.run (F := Ideal) m g)

/-- The one rewrite: the mask's word read as −∞. -/
theorem preserves : Cert.preserves_Kernel_KernelIdeal :=
  IdealRules.named_const.statement Cert.KernelIdeal.κ "mask" .f32 0xF149F2CA#32 ⊥ rfl

/-- The precondition's own side conditions. -/
instance pre_facts : Cert.Pre_finite.Facts where
  bitsLt_bf16_f32 := by decide
  bcast_S_S4096x1024 := by decide
  reducesTo_S4096x1024_S_d0_1 := by decide
  h_S_ := by decide

/-- Under the precondition the two frames are the same runs. -/
theorem frame_kernelIdeal_pre : Cert.quiescent_KernelIdeal_pre_finite := fun m g _ => Cert.KernelIdeal.Attn.frame m g
theorem frame_reference_pre : Cert.quiescent_ReferenceIdeal_pre_finite := fun m g _ => frame_reference m g trivial

/-- The kernel's three gradients are the reference's, on finite arguments. -/
theorem algebraic : Cert.algebraic_KernelIdeal_ReferenceIdeal_pre_finite := by
  intro m g m' g' hpre hargs
  have hf := fun c => Cert.Pre_finite.all_fin _ _ _ _ (hpre c)
  refine ⟨_, _, _, Cert.KernelIdeal.Attn.run_out m g _ _ _ (Cert.KernelIdeal.Attn.out_dq m hf)
    (Cert.KernelIdeal.Attn.out_dk m hf) (Cert.KernelIdeal.Attn.out_dv m hf), ?_⟩
  refine (θ_run Cert.ReferenceIdeal.defs _ _).mono (fun r h c => ?_) (Cert.ReferenceIdeal.Value.run (F := Ideal) m' g')
  obtain ⟨h0, h1, h2, h3⟩ := hargs c
  obtain ⟨e0, e1, e2, hr⟩ := h c
  rw [Cert.ReferenceIdeal.Read.val_main_v75_eq, h0, h1, h2, h3] at e0
  rw [Cert.ReferenceIdeal.Read.val_main_v76_eq, h0, h1, h2, h3] at e1
  rw [Cert.ReferenceIdeal.Read.val_main_v77_eq, h0, h1, h3] at e2
  exact ⟨e0, e1, e2, hr⟩

/-- The weight gradient's product at words, and idealized: every run ends, the arguments unchanged, the semaphores at zero. -/
theorem frame_kernel2 : Cert.quiescent_Kernel2 := fun m g _ => Cert.Kernel2.Gen.frame m g
theorem frame_kernel2Ideal : Cert.quiescent_Kernel2Ideal := fun m g _ => Cert.Kernel2Ideal.Gen.frame m g

/-- Its reference runs and keeps its arguments; it declares no semaphore. -/
theorem frame_reference2 : Cert.quiescent_Reference2Ideal := fun m g _ =>
  (θ_run Cert.Reference2Ideal.defs _ _).mono
    (fun r h => ⟨fun c => (h c).2, sem_eq_zero_of_no_sems (by decide) r.2⟩)
    (Cert.Reference2Ideal.Value.run (F := Ideal) m g)

/-- The weight gradient's product is the reference's gradient. -/
theorem algebraic2 : Cert.algebraic_Kernel2Ideal_Reference2Ideal := by
  intro m g m' g' _ hargs
  refine ⟨_, Cert.Kernel2Ideal.Value.run m g, ?_⟩
  refine (θ_run Cert.Reference2Ideal.defs _ _).mono (fun r h c => ?_) (Cert.Reference2Ideal.Value.run (F := Ideal) m' g')
  obtain ⟨h0, h1⟩ := hargs c
  obtain ⟨e, hr⟩ := h c
  rw [Cert.Reference2Ideal.Read.val_main_v7_eq, h0, h1] at e
  exact ⟨e.trans (Cert.Kernel2Ideal.Dw.final_ref m c).symm, hr⟩

/-- The last feed-forward step with the loss, at words and idealized: every run ends, the arguments unchanged, the
semaphores at zero. -/
theorem frame_kernel3 : Cert.quiescent_Kernel3 := fun m g _ => Cert.Kernel3.Gen.frame m g
theorem frame_kernel3Ideal : Cert.quiescent_Kernel3Ideal := fun m g _ => Cert.Kernel3Ideal.Gen.frame m g

/-- Its reference runs and keeps its arguments; it declares no semaphore. -/
theorem frame_reference3 : Cert.quiescent_Reference3Ideal := fun m g _ =>
  (θ_run Cert.Reference3Ideal.defs _ _).mono
    (fun r h => ⟨fun c => (h c).2.2.2.2.2.2, sem_eq_zero_of_no_sems (by decide) r.2⟩)
    (Cert.Reference3Ideal.Value.run (F := Ideal) m g)

/-- The step's six results are the reference's. -/
theorem algebraic3 : Cert.algebraic_Kernel3Ideal_Reference3Ideal := by
  intro m g m' g' _ hargs
  refine ⟨_, _, _, _, _, _, Cert.Kernel3Ideal.Value.run m g, ?_⟩
  refine (θ_run Cert.Reference3Ideal.defs _ _).mono (fun r h c => ?_) (Cert.Reference3Ideal.Value.run (F := Ideal) m' g')
  obtain ⟨h0, h1, h2, h3, h4⟩ := hargs c
  obtain ⟨e0, e1, e2, e3, e4, e5, hr⟩ := h c
  rw [Cert.Reference3Ideal.Read.val_main_v30_eq, h0, h1, h2] at e0
  rw [Cert.Reference3Ideal.Read.val_main_v70_eq, h0, h1, h2, h3, h4] at e1
  rw [Cert.Reference3Ideal.Read.val_main_v71_eq, h0, h1, h2] at e2
  rw [Cert.Reference3Ideal.Read.val_main_v72_eq, h0, h1, h2] at e3
  rw [Cert.Reference3Ideal.Read.val_main_v73_eq, h0, h1, h2] at e4
  rw [Cert.Reference3Ideal.Read.val_main_v55_eq, h0, h1, h2, h3, h4] at e5
  exact ⟨e0.trans (Cert.Kernel3Ideal.Ffn.ref7 m c).symm, e1.trans (Cert.Kernel3Ideal.Ffn.ref8 m c).symm,
    e2.trans (Cert.Kernel3Ideal.Ffn.ref9 m c).symm, e3.trans (Cert.Kernel3Ideal.Ffn.ref10 m c).symm,
    e4.trans (Cert.Kernel3Ideal.Ffn.ref11 m c).symm, e5.trans (Cert.Kernel3Ideal.Ffn.ref12 m c).symm, hr⟩

/-- The first feed-forward half's up gradient, at words and idealized: every run ends, the arguments unchanged, the semaphores at zero. -/
theorem frame_kernel4 : Cert.quiescent_Kernel4 := fun m g _ => Cert.Kernel4.Gen.frame m g
theorem frame_kernel4Ideal : Cert.quiescent_Kernel4Ideal := fun m g _ => Cert.Kernel4Ideal.Gen.frame m g

/-- Its reference runs and keeps its arguments; it declares no semaphore. -/
theorem frame_reference4 : Cert.quiescent_Reference4Ideal := fun m g _ =>
  (θ_run Cert.Reference4Ideal.defs _ _).mono
    (fun r h => ⟨fun c => (h c).2, sem_eq_zero_of_no_sems (by decide) r.2⟩)
    (Cert.Reference4Ideal.Value.run (F := Ideal) m g)

/-- The first feed-forward half's up gradient: the result is the reference's. -/
theorem algebraic4 : Cert.algebraic_Kernel4Ideal_Reference4Ideal := by
  intro m g m' g' _ hargs
  refine ⟨_, Cert.Kernel4Ideal.Value.run_blocks m g, ?_⟩
  refine (θ_run Cert.Reference4Ideal.defs _ _).mono (fun r h c => ?_) (Cert.Reference4Ideal.Value.run (F := Ideal) m' g')
  obtain ⟨h0, h1, h2⟩ := hargs c
  obtain ⟨e, hr⟩ := h c
  rw [Cert.Reference4Ideal.Read.val_main_v7_eq, h0, h1] at e
  exact ⟨e.trans (Cert.Kernel4Ideal.Dw.final_ref m c).symm, hr⟩

/-- The projections' backward call, at words and idealized: every run ends, the arguments unchanged, the semaphores at zero. -/
theorem frame_kernel5 : Cert.quiescent_Kernel5 := fun m g _ => Cert.Kernel5.Gen.frame m g
theorem frame_kernel5Ideal : Cert.quiescent_Kernel5Ideal := fun m g _ => Cert.Kernel5Ideal.Gen.frame m g

/-- Its reference runs and keeps its arguments; it declares no semaphore. -/
theorem frame_reference5 : Cert.quiescent_Reference5Ideal := fun m g _ =>
  (θ_run Cert.Reference5Ideal.defs _ _).mono
    (fun r h => ⟨fun c => (h c).2.2.2, sem_eq_zero_of_no_sems (by decide) r.2⟩)
    (Cert.Reference5Ideal.Value.run (F := Ideal) m g)

/-- The projections' backward call: the results are the reference's. -/
theorem algebraic5 : Cert.algebraic_Kernel5Ideal_Reference5Ideal := by
  intro m g m' g' _ hargs
  refine ⟨_, _, _, Cert.Kernel5Ideal.Value.run_blocks m g, ?_⟩
  refine (θ_run Cert.Reference5Ideal.defs _ _).mono (fun r h c => ?_) (Cert.Reference5Ideal.Value.run (F := Ideal) m' g')
  obtain ⟨h0, h1, h2, h3, h4, h5, h6, h7, h8, h9, h10⟩ := hargs c
  obtain ⟨e0, e1, e2, hr⟩ := h c
  rw [Cert.Reference5Ideal.Read.val_main_v51_eq, h0, h1, h2, h3, h4, h5, h6, h7, h8] at e0
  rw [Cert.Reference5Ideal.Read.val_main_v87_eq, h0, h1, h2, h3, h4, h5, h6, h7, h8, h9, h10] at e1
  rw [Cert.Reference5Ideal.Read.val_main_v34_eq, h0, h2, h3, h4, h5, h6, h7] at e2
  exact ⟨e0.trans (Cert.Kernel5Ideal.Mix.ref11 m c).symm,
    e1.trans (Cert.Kernel5Ideal.Mix.ref12 m c).symm,
    e2.trans (Cert.Kernel5Ideal.Mix.ref13 m c).symm, hr⟩

/-- The projections' forward call, at words and idealized: every run ends, the arguments unchanged, the semaphores at zero. -/
theorem frame_kernel6 : Cert.quiescent_Kernel6 := fun m g _ => Cert.Kernel6.Gen.frame m g
theorem frame_kernel6Ideal : Cert.quiescent_Kernel6Ideal := fun m g _ => Cert.Kernel6Ideal.Gen.frame m g

/-- Its reference runs and keeps its arguments; it declares no semaphore. -/
theorem frame_reference6 : Cert.quiescent_Reference6Ideal := fun m g _ =>
  (θ_run Cert.Reference6Ideal.defs _ _).mono
    (fun r h => ⟨fun c => (h c).2.2.2.2, sem_eq_zero_of_no_sems (by decide) r.2⟩)
    (Cert.Reference6Ideal.Value.run (F := Ideal) m g)

/-- The projections' forward call: the results are the reference's. -/
theorem algebraic6 : Cert.algebraic_Kernel6Ideal_Reference6Ideal := by
  intro m g m' g' _ hargs
  refine ⟨_, _, _, _, Cert.Kernel6Ideal.Value.run_blocks m g, ?_⟩
  refine (θ_run Cert.Reference6Ideal.defs _ _).mono (fun r h c => ?_) (Cert.Reference6Ideal.Value.run (F := Ideal) m' g')
  obtain ⟨h0, h1, h2, h3, h4⟩ := hargs c
  obtain ⟨e0, e1, e2, e3, hr⟩ := h c
  rw [Cert.Reference6Ideal.Read.val_main_v12_eq, h0, h1] at e0
  rw [Cert.Reference6Ideal.Read.val_main_v27_eq, h0, h1, h2] at e1
  rw [Cert.Reference6Ideal.Read.val_main_v30_eq, h0, h1, h3] at e2
  rw [Cert.Reference6Ideal.Read.val_main_v33_eq, h0, h1, h4] at e3
  exact ⟨e0.trans (Cert.Kernel6Ideal.Mix.ref5 m c).symm,
    e1.trans (Cert.Kernel6Ideal.Mix.ref6 m c).symm,
    e2.trans (Cert.Kernel6Ideal.Mix.ref7 m c).symm,
    e3.trans (Cert.Kernel6Ideal.Mix.ref8 m c).symm, hr⟩

/-- The qkv projection's weight gradient, at words and idealized: every run ends, the arguments unchanged, the semaphores at zero. -/
theorem frame_kernel7 : Cert.quiescent_Kernel7 := fun m g _ => Cert.Kernel7.Gen.frame m g
theorem frame_kernel7Ideal : Cert.quiescent_Kernel7Ideal := fun m g _ => Cert.Kernel7Ideal.Gen.frame m g

/-- Its reference runs and keeps its arguments; it declares no semaphore. -/
theorem frame_reference7 : Cert.quiescent_Reference7Ideal := fun m g _ =>
  (θ_run Cert.Reference7Ideal.defs _ _).mono
    (fun r h => ⟨fun c => (h c).2, sem_eq_zero_of_no_sems (by decide) r.2⟩)
    (Cert.Reference7Ideal.Value.run (F := Ideal) m g)

/-- The qkv projection's weight gradient: the result is the reference's. -/
theorem algebraic7 : Cert.algebraic_Kernel7Ideal_Reference7Ideal := by
  intro m g m' g' _ hargs
  refine ⟨_, Cert.Kernel7Ideal.Value.run m g, ?_⟩
  refine (θ_run Cert.Reference7Ideal.defs _ _).mono (fun r h c => ?_) (Cert.Reference7Ideal.Value.run (F := Ideal) m' g')
  obtain ⟨h0, h1⟩ := hargs c
  obtain ⟨e, hr⟩ := h c
  rw [Cert.Reference7Ideal.Read.val_main_v7_eq, h0, h1] at e
  exact ⟨e.trans (Cert.Kernel7Ideal.Dw.final_ref m c).symm, hr⟩

/-- The mixer's output matrix's gradient, at words and idealized: every run ends, the arguments unchanged, the semaphores at zero. -/
theorem frame_kernel8 : Cert.quiescent_Kernel8 := fun m g _ => Cert.Kernel8.Gen.frame m g
theorem frame_kernel8Ideal : Cert.quiescent_Kernel8Ideal := fun m g _ => Cert.Kernel8Ideal.Gen.frame m g

/-- Its reference runs and keeps its arguments; it declares no semaphore. -/
theorem frame_reference8 : Cert.quiescent_Reference8Ideal := fun m g _ =>
  (θ_run Cert.Reference8Ideal.defs _ _).mono
    (fun r h => ⟨fun c => (h c).2, sem_eq_zero_of_no_sems (by decide) r.2⟩)
    (Cert.Reference8Ideal.Value.run (F := Ideal) m g)

/-- The mixer's output matrix's gradient: the result is the reference's. -/
theorem algebraic8 : Cert.algebraic_Kernel8Ideal_Reference8Ideal := by
  intro m g m' g' _ hargs
  refine ⟨_, Cert.Kernel8Ideal.Value.run m g, ?_⟩
  refine (θ_run Cert.Reference8Ideal.defs _ _).mono (fun r h c => ?_) (Cert.Reference8Ideal.Value.run (F := Ideal) m' g')
  obtain ⟨h0, h1⟩ := hargs c
  obtain ⟨e, hr⟩ := h c
  rw [Cert.Reference8Ideal.Read.val_main_v7_eq, h0, h1] at e
  exact ⟨e.trans (Cert.Kernel8Ideal.Dw.final_ref m c).symm, hr⟩

/-- The gate projection's weight gradient, at words and idealized: every run ends, the arguments unchanged, the semaphores at zero. -/
theorem frame_kernel9 : Cert.quiescent_Kernel9 := fun m g _ => Cert.Kernel9.Gen.frame m g
theorem frame_kernel9Ideal : Cert.quiescent_Kernel9Ideal := fun m g _ => Cert.Kernel9Ideal.Gen.frame m g

/-- Its reference runs and keeps its arguments; it declares no semaphore. -/
theorem frame_reference9 : Cert.quiescent_Reference9Ideal := fun m g _ =>
  (θ_run Cert.Reference9Ideal.defs _ _).mono
    (fun r h => ⟨fun c => (h c).2, sem_eq_zero_of_no_sems (by decide) r.2⟩)
    (Cert.Reference9Ideal.Value.run (F := Ideal) m g)

/-- The gate projection's weight gradient: the result is the reference's. -/
theorem algebraic9 : Cert.algebraic_Kernel9Ideal_Reference9Ideal := by
  intro m g m' g' _ hargs
  refine ⟨_, Cert.Kernel9Ideal.Value.run m g, ?_⟩
  refine (θ_run Cert.Reference9Ideal.defs _ _).mono (fun r h c => ?_) (Cert.Reference9Ideal.Value.run (F := Ideal) m' g')
  obtain ⟨h0, h1⟩ := hargs c
  obtain ⟨e, hr⟩ := h c
  rw [Cert.Reference9Ideal.Read.val_main_v7_eq, h0, h1] at e
  exact ⟨e.trans (Cert.Kernel9Ideal.Dw.final_ref m c).symm, hr⟩

/-- The latent projections' weight gradient, at words and idealized: every run ends, the arguments unchanged, the semaphores at zero. -/
theorem frame_kernel10 : Cert.quiescent_Kernel10 := fun m g _ => Cert.Kernel10.Gen.frame m g
theorem frame_kernel10Ideal : Cert.quiescent_Kernel10Ideal := fun m g _ => Cert.Kernel10Ideal.Gen.frame m g

/-- Its reference runs and keeps its arguments; it declares no semaphore. -/
theorem frame_reference10 : Cert.quiescent_Reference10Ideal := fun m g _ =>
  (θ_run Cert.Reference10Ideal.defs _ _).mono
    (fun r h => ⟨fun c => (h c).2, sem_eq_zero_of_no_sems (by decide) r.2⟩)
    (Cert.Reference10Ideal.Value.run (F := Ideal) m g)

/-- The latent projections' weight gradient: the result is the reference's. -/
theorem algebraic10 : Cert.algebraic_Kernel10Ideal_Reference10Ideal := by
  intro m g m' g' _ hargs
  refine ⟨_, Cert.Kernel10Ideal.Value.run m g, ?_⟩
  refine (θ_run Cert.Reference10Ideal.defs _ _).mono (fun r h c => ?_) (Cert.Reference10Ideal.Value.run (F := Ideal) m' g')
  obtain ⟨h0, h1⟩ := hargs c
  obtain ⟨e, hr⟩ := h c
  rw [Cert.Reference10Ideal.Read.val_main_v7_eq, h0, h1] at e
  exact ⟨e.trans (Cert.Kernel10Ideal.Dw.final_ref m c).symm, hr⟩

/-- The query up-projection's weight gradient, at words and idealized: every run ends, the arguments unchanged, the semaphores at zero. -/
theorem frame_kernel11 : Cert.quiescent_Kernel11 := fun m g _ => Cert.Kernel11.Gen.frame m g
theorem frame_kernel11Ideal : Cert.quiescent_Kernel11Ideal := fun m g _ => Cert.Kernel11Ideal.Gen.frame m g

/-- Its reference runs and keeps its arguments; it declares no semaphore. -/
theorem frame_reference11 : Cert.quiescent_Reference11Ideal := fun m g _ =>
  (θ_run Cert.Reference11Ideal.defs _ _).mono
    (fun r h => ⟨fun c => (h c).2, sem_eq_zero_of_no_sems (by decide) r.2⟩)
    (Cert.Reference11Ideal.Value.run (F := Ideal) m g)

/-- The query up-projection's weight gradient: the result is the reference's. -/
theorem algebraic11 : Cert.algebraic_Kernel11Ideal_Reference11Ideal := by
  intro m g m' g' _ hargs
  refine ⟨_, Cert.Kernel11Ideal.Value.run m g, ?_⟩
  refine (θ_run Cert.Reference11Ideal.defs _ _).mono (fun r h c => ?_) (Cert.Reference11Ideal.Value.run (F := Ideal) m' g')
  obtain ⟨h0, h1⟩ := hargs c
  obtain ⟨e, hr⟩ := h c
  rw [Cert.Reference11Ideal.Read.val_main_v7_eq, h0, h1] at e
  exact ⟨e.trans (Cert.Kernel11Ideal.Dw.final_ref m c).symm, hr⟩

/-- The key and value up-projection's weight gradient, at words and idealized: every run ends, the arguments unchanged, the semaphores at zero. -/
theorem frame_kernel12 : Cert.quiescent_Kernel12 := fun m g _ => Cert.Kernel12.Gen.frame m g
theorem frame_kernel12Ideal : Cert.quiescent_Kernel12Ideal := fun m g _ => Cert.Kernel12Ideal.Gen.frame m g

/-- Its reference runs and keeps its arguments; it declares no semaphore. -/
theorem frame_reference12 : Cert.quiescent_Reference12Ideal := fun m g _ =>
  (θ_run Cert.Reference12Ideal.defs _ _).mono
    (fun r h => ⟨fun c => (h c).2, sem_eq_zero_of_no_sems (by decide) r.2⟩)
    (Cert.Reference12Ideal.Value.run (F := Ideal) m g)

/-- The key and value up-projection's weight gradient: the result is the reference's. -/
theorem algebraic12 : Cert.algebraic_Kernel12Ideal_Reference12Ideal := by
  intro m g m' g' _ hargs
  refine ⟨_, Cert.Kernel12Ideal.Value.run m g, ?_⟩
  refine (θ_run Cert.Reference12Ideal.defs _ _).mono (fun r h c => ?_) (Cert.Reference12Ideal.Value.run (F := Ideal) m' g')
  obtain ⟨h0, h1⟩ := hargs c
  obtain ⟨e, hr⟩ := h c
  rw [Cert.Reference12Ideal.Read.val_main_v7_eq, h0, h1] at e
  exact ⟨e.trans (Cert.Kernel12Ideal.Dw.final_ref m c).symm, hr⟩

/-- The mixer's joining call, at words and idealized: every run ends, the arguments unchanged, the semaphores at zero. -/
theorem frame_kernel13 : Cert.quiescent_Kernel13 := fun m g _ => Cert.Kernel13.Gen.frame m g
theorem frame_kernel13Ideal : Cert.quiescent_Kernel13Ideal := fun m g _ => Cert.Kernel13Ideal.Gen.frame m g

/-- Its reference runs and keeps its arguments; it declares no semaphore. -/
theorem frame_reference13 : Cert.quiescent_Reference13Ideal := fun m g _ =>
  (θ_run Cert.Reference13Ideal.defs _ _).mono
    (fun r h => ⟨fun c => (h c).2.2.2, sem_eq_zero_of_no_sems (by decide) r.2⟩)
    (Cert.Reference13Ideal.Value.run (F := Ideal) m g)

/-- The mixer's joining call: the results are the reference's. -/
theorem algebraic13 : Cert.algebraic_Kernel13Ideal_Reference13Ideal := by
  intro m g m' g' _ hargs
  refine ⟨_, _, _, Cert.Kernel13Ideal.Value.run_blocks m g, ?_⟩
  refine (θ_run Cert.Reference13Ideal.defs _ _).mono (fun r h c => ?_) (Cert.Reference13Ideal.Value.run (F := Ideal) m' g')
  obtain ⟨h0, h1, h2, h3, h4, h5, h6, h7⟩ := hargs c
  obtain ⟨e0, e1, e2, hr⟩ := h c
  rw [Cert.Reference13Ideal.Read.val_main_v33_eq, h0, h1, h2, h4, h5] at e0
  rw [Cert.Reference13Ideal.Read.val_main_v32_eq, h0, h1, h2, h4, h5, h6] at e1
  rw [Cert.Reference13Ideal.Read.val_main_v46_eq, h0, h1, h2, h3, h4, h5, h6, h7] at e2
  exact ⟨e0.trans (Cert.Kernel13Ideal.Mix.ref8 m c).symm,
    e1.trans (Cert.Kernel13Ideal.Mix.ref9 m c).symm,
    e2.trans (Cert.Kernel13Ideal.Mix.ref10 m c).symm, hr⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    pre_facts,
    frame_kernel, frame_kernelIdeal, frame_kernelIdeal_pre, frame_reference, frame_reference_pre,
    frame_kernel2, frame_kernel2Ideal, frame_reference2, frame_kernel3, frame_kernel3Ideal, frame_reference3,
    frame_kernel4, frame_kernel4Ideal, frame_reference4,
    frame_kernel5, frame_kernel5Ideal, frame_reference5,
    frame_kernel6, frame_kernel6Ideal, frame_reference6,
    frame_kernel7, frame_kernel7Ideal, frame_reference7,
    frame_kernel8, frame_kernel8Ideal, frame_reference8,
    frame_kernel9, frame_kernel9Ideal, frame_reference9,
    frame_kernel10, frame_kernel10Ideal, frame_reference10,
    frame_kernel11, frame_kernel11Ideal, frame_reference11,
    frame_kernel12, frame_kernel12Ideal, frame_reference12,
    frame_kernel13, frame_kernel13Ideal, frame_reference13,
    preserves, algebraic, trivial, algebraic2, trivial, algebraic3, trivial, algebraic4, trivial, algebraic5,
    trivial, algebraic6, trivial, algebraic7, trivial, algebraic8, trivial, algebraic9,
    trivial, algebraic10, trivial, algebraic11, trivial, algebraic12, trivial, algebraic13⟩

end Cert.Proof

end
